-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gates [hPre_finite_gates : Cert.Pre_finite_gates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gates [hPre_finite_gates : Cert.Pre_finite_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_gates [hKernelIdeal : Cert.KernelIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_gates [hReferenceIdeal : Cert.ReferenceIdeal.Facts] [hPre_finite_gates : Cert.Pre_finite_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_finite_gates [hKernelIdeal : Cert.KernelIdeal.Facts] [hReferenceIdeal : Cert.ReferenceIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_v31) = v2 c
          ∧ r.2.mem ((c.tc : Thread Cert.Reference3Ideal.nD Cert.Reference3Ideal.τ).loc Cert.Reference3Ideal.main_v34) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v24_0)) (v1 : (c : Dev Cert.Kernel4Ideal.nD) → Buf (Elt Ideal) ((c.tc : Thread Cert.Kernel4Ideal.nD Cert.Kernel4Ideal.τ).loc Cert.Kernel4Ideal.main_v24_1)) (v2 : (c : Dev Cert.Kernel4Ideal.nD) → Buf (Elt Ideal) ((c.tc : Thread Cert.Kernel4Ideal.nD Cert.Kernel4Ideal.τ).loc Cert.Kernel4Ideal.main_v24_2)) (v3 : (c : Dev Cert.Kernel4Ideal.nD) → Buf (Elt Ideal) ((c.tc : Thread Cert.Kernel4Ideal.nD Cert.Kernel4Ideal.τ).loc Cert.Kernel4Ideal.main_v24_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24_0) = v0 c
          ∧ r.2.mem ((c.tc : Thread Cert.Kernel4Ideal.nD Cert.Kernel4Ideal.τ).loc Cert.Kernel4Ideal.main_v24_1) = v1 c
          ∧ r.2.mem ((c.tc : Thread Cert.Kernel4Ideal.nD Cert.Kernel4Ideal.τ).loc Cert.Kernel4Ideal.main_v24_2) = v2 c
          ∧ r.2.mem ((c.tc : Thread Cert.Kernel4Ideal.nD Cert.Kernel4Ideal.τ).loc Cert.Kernel4Ideal.main_v24_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v117) = v0 c
          ∧ r.2.mem ((c.tc : Thread Cert.Reference4Ideal.nD Cert.Reference4Ideal.τ).loc Cert.Reference4Ideal.main_v118) = v1 c
          ∧ r.2.mem ((c.tc : Thread Cert.Reference4Ideal.nD Cert.Reference4Ideal.τ).loc Cert.Reference4Ideal.main_v122) = v2 c
          ∧ r.2.mem ((c.tc : Thread Cert.Reference4Ideal.nD Cert.Reference4Ideal.τ).loc Cert.Reference4Ideal.main_v18) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_gates : Cert.Pre_finite_gates.Facts),
    quiescent_Kernel (hKernel := hKernel)
    ∧ quiescent_KernelIdeal (hKernelIdeal := hKernelIdeal)
    ∧ quiescent_KernelIdeal_pre_finite_gates (hKernelIdeal := hKernelIdeal) (hPre_finite_gates := hPre_finite_gates)
    ∧ quiescent_ReferenceIdeal (hReferenceIdeal := hReferenceIdeal)
    ∧ quiescent_ReferenceIdeal_pre_finite_gates (hReferenceIdeal := hReferenceIdeal) (hPre_finite_gates := hPre_finite_gates)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_gates (hKernelIdeal := hKernelIdeal) (hReferenceIdeal := hReferenceIdeal) (hPre_finite_gates := hPre_finite_gates)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_gates.lean ====
abbrev S2x8192x1280 : Shape := ⟨3, ![2, 8192, 1280]⟩
abbrev S256 : Shape := ⟨1, ![256]⟩
abbrev S64 : Shape := ⟨1, ![64]⟩
abbrev S4x64x64 : Shape := ⟨3, ![4, 64, 64]⟩
abbrev S_ : Shape := ⟨0, ![]⟩
abbrev S2x8192x256 : Shape := ⟨3, ![2, 8192, 256]⟩

class Facts : Prop where
  bcast_S_S2x8192x1280 : S_.BroadcastsInDim S2x8192x1280 (![] : Fin 0 → Fin S2x8192x1280.rank)
  slices_S2x8192x1280_S2x8192x256_0_0_512 : S2x8192x1280.Slices ![0, 0, 512] S2x8192x256
  bcast_S_S2x8192x256 : S_.BroadcastsInDim S2x8192x256 (![] : Fin 0 → Fin S2x8192x256.rank)
  bcast_S_S256 : S_.BroadcastsInDim S256 (![] : Fin 0 → Fin S256.rank)

variable [Facts]

def fn {F : FTy → Type} [FloatOps F] (main_arg0 : FVec F S2x8192x1280 .f32) (main_arg1 : FVec F S256 .f32) (main_arg2 : FVec F S64 .f32) (main_arg3 : FVec F S4x64x64 .f32) (main_arg4 : FVec F S256 .f32) : IVec S2x8192x1280 1 × IVec S2x8192x256 1 × IVec S256 1 × IVec S256 1 :=
  let main_v0 : FVec F S2x8192x1280 .f32 := Host.absf main_arg0
  let main_cst : FVec F S_ .f32 := constant S_ .f32 0x7F800000#32
  let main_v1 : FVec F S2x8192x1280 .f32 := broadcastInDim S2x8192x1280 ![] bcast_S_S2x8192x1280 main_cst
  let main_v2 : IVec S2x8192x1280 1 := cmpf .olt main_v0 main_v1
  let main_v3 : FVec F S2x8192x256 .f32 := (extractStridedSlice S2x8192x256 ![0, 0, 512] · slices_S2x8192x1280_S2x8192x256_0_0_512) main_arg0
  let main_cst_0 : FVec F S_ .f32 := constant S_ .f32 0x42200000#32
  let main_v4 : FVec F S2x8192x256 .f32 := broadcastInDim S2x8192x256 ![] bcast_S_S2x8192x256 main_cst_0
  let main_v5 : IVec S2x8192x256 1 := cmpf .ole main_v3 main_v4
  let main_cst_1 : FVec F S_ .f32 := constant S_ .f32 0x00000000#32
  let main_v6 : FVec F S256 .f32 := broadcastInDim S256 ![] bcast_S_S256 main_cst_1
  let main_v7 : IVec S256 1 := cmpf .oge main_arg1 main_v6
  let main_cst_2 : FVec F S_ .f32 := constant S_ .f32 0x3F800000#32
  let main_v8 : FVec F S256 .f32 := broadcastInDim S256 ![] bcast_S_S256 main_cst_2
  let main_v9 : IVec S256 1 := cmpf .olt main_arg1 main_v8
  (main_v2, main_v5, main_v7, main_v9)
-- ==== Kernel.lean ====
abbrev S2x8192x1280 : Shape := ⟨3, ![2, 8192, 1280]⟩
abbrev S256 : Shape := ⟨1, ![256]⟩
abbrev S64 : Shape := ⟨1, ![64]⟩
abbrev S4x64x64 : Shape := ⟨3, ![4, 64, 64]⟩
abbrev S1x256 : Shape := ⟨2, ![1, 256]⟩
abbrev S1x64 : Shape := ⟨2, ![1, 64]⟩
abbrev S4x64 : Shape := ⟨2, ![4, 64]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S256x1 : Shape := ⟨2, ![256, 1]⟩
abbrev S2x8192x512 : Shape := ⟨3, ![2, 8192, 512]⟩
abbrev S2x128x1280 : Shape := ⟨3, ![2, 128, 1280]⟩
abbrev S2x128x512 : Shape := ⟨3, ![2, 128, 512]⟩
abbrev S2x256x256 : Shape := ⟨3, ![2, 256, 256]⟩
abbrev S2x16x256 : Shape := ⟨3, ![2, 16, 256]⟩
abbrev S1x128x256 : Shape := ⟨3, ![1, 128, 256]⟩
abbrev S128x256 : Shape := ⟨2, ![128, 256]⟩
abbrev S1x16x256 : Shape := ⟨3, ![1, 16, 256]⟩
abbrev S16x256 : Shape := ⟨2, ![16, 256]⟩
abbrev S144x256 : Shape := ⟨2, ![144, 256]⟩
abbrev S8x256 : Shape := ⟨2, ![8, 256]⟩
abbrev S1x256x256 : Shape := ⟨3, ![1, 256, 256]⟩
abbrev S192x256 : Shape := ⟨2, ![192, 256]⟩

abbrev nBuf : Space → Nat
  | .hbm => 123
  | .vmem => 13
  | .smem => 0
  | _ => 0

abbrev bufTy : (tb : Table) → Fin (tcTables nBuf tb) → BufTy
  | .hbm, ⟨0, _⟩ => ⟨S2x8192x1280, .f32⟩
  | .hbm, ⟨1, _⟩ => ⟨S256, .f32⟩
  | .hbm, ⟨2, _⟩ => ⟨S64, .f32⟩
  | .hbm, ⟨3, _⟩ => ⟨S4x64x64, .f32⟩
  | .hbm, ⟨4, _⟩ => ⟨S256, .f32⟩
  | .hbm, ⟨5, _⟩ => ⟨S1x256, .f32⟩
  | .hbm, ⟨6, _⟩ => ⟨S1x64, .f32⟩
  | .hbm, ⟨7, _⟩ => ⟨S4x64, .f32⟩
  | .hbm, ⟨8, _⟩ => ⟨S256, .f32⟩
  | .hbm, ⟨9, _⟩ => ⟨S1x256, .f32⟩
  | .hbm, ⟨10, _⟩ => ⟨S_, .f32⟩
  | .hbm, ⟨11, _⟩ => ⟨S256x256, .f32⟩
  | .hbm, ⟨12, _⟩ => ⟨S1x64x64, .f32⟩
  | .hbm, ⟨13, _⟩ => ⟨S64x64, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S256x256, .f32⟩
  | .hbm, ⟨20, _⟩ => ⟨S1x64x64, .f32⟩
  | .hbm, ⟨21, _⟩ => ⟨S64x64, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S256x256, .f32⟩
  | .hbm, ⟨28, _⟩ => ⟨S1x64x64, .f32⟩
  | .hbm, ⟨29, _⟩ => ⟨S64x64, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S256x256, .f32⟩
  | .hbm, ⟨36, _⟩ => ⟨S1x64x64, .f32⟩
  | .hbm, ⟨37, _⟩ => ⟨S64x64, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S256x256, .f32⟩
  | .hbm, ⟨44, _⟩ => ⟨S256x256, .bf16⟩
  | .hbm, ⟨45, _⟩ => ⟨S1x256, .f32⟩
  | .hbm, ⟨46, _⟩ => ⟨S128, .i32⟩
  | .hbm, ⟨47, _⟩ => ⟨S128x1, .i32⟩
  | .hbm, ⟨48, _⟩ => ⟨S_, .i32⟩
  | .hbm, ⟨49, _⟩ => ⟨S_, .i32⟩
  | .hbm, ⟨50, _⟩ => ⟨S128x1, .i32⟩
  | .hbm, ⟨51, _⟩ => ⟨S128x1, .i32⟩
  | .hbm, ⟨52, _⟩ => ⟨S128x1, .i32⟩
  | .hbm, ⟨53, _⟩ => ⟨S_, .i32⟩
  | .hbm, ⟨54, _⟩ => ⟨S128x1, .i32⟩
  | .hbm, ⟨55, _⟩ => ⟨S128x1, .i1⟩
  | .hbm, ⟨56, _⟩ => ⟨S128x1, .i32⟩
  | .hbm, ⟨57, _⟩ => ⟨S128x1, .i32⟩
  | .hbm, ⟨58, _⟩ => ⟨S_, .i32⟩
  | .hbm, ⟨59, _⟩ => ⟨S128x1, .i32⟩
  | .hbm, ⟨60, _⟩ => ⟨S128x1, .i1⟩
  | .hbm, ⟨61, _⟩ => ⟨S128x1, .i1⟩
  | .hbm, ⟨62, _⟩ => ⟨S_, .i32⟩
  | .hbm, ⟨63, _⟩ => ⟨S128x1, .i32⟩
  | .hbm, ⟨64, _⟩ => ⟨S128x1, .i32⟩
  | .hbm, ⟨65, _⟩ => ⟨S128x1, .i32⟩
  | .hbm, ⟨66, _⟩ => ⟨S1x128, .i32⟩
  | .hbm, ⟨67, _⟩ => ⟨S_, .i32⟩
  | .hbm, ⟨68, _⟩ => ⟨S_, .i32⟩
  | .hbm, ⟨69, _⟩ => ⟨S1x128, .i32⟩
  | .hbm, ⟨70, _⟩ => ⟨S1x128, .i32⟩
  | .hbm, ⟨71, _⟩ => ⟨S1x128, .i32⟩
  | .hbm, ⟨72, _⟩ => ⟨S_, .i32⟩
  | .hbm, ⟨73, _⟩ => ⟨S1x128, .i32⟩
  | .hbm, ⟨74, _⟩ => ⟨S1x128, .i1⟩
  | .hbm, ⟨75, _⟩ => ⟨S1x128, .i32⟩
  | .hbm, ⟨76, _⟩ => ⟨S1x128, .i32⟩
  | .hbm, ⟨77, _⟩ => ⟨S_, .i32⟩
  | .hbm, ⟨78, _⟩ => ⟨S1x128, .i32⟩
  | .hbm, ⟨79, _⟩ => ⟨S1x128, .i1⟩
  | .hbm, ⟨80, _⟩ => ⟨S1x128, .i1⟩
  | .hbm, ⟨81, _⟩ => ⟨S_, .i32⟩
  | .hbm, ⟨82, _⟩ => ⟨S1x128, .i32⟩
  | .hbm, ⟨83, _⟩ => ⟨S1x128, .i32⟩
  | .hbm, ⟨84, _⟩ => ⟨S1x128, .i32⟩
  | .hbm, ⟨85, _⟩ => ⟨S128x128, .i32⟩
  | .hbm, ⟨86, _⟩ => ⟨S128x128, .i32⟩
  | .hbm, ⟨87, _⟩ => ⟨S128x128, .i1⟩
  | .hbm, ⟨88, _⟩ => ⟨S1x128, .i32⟩
  | .hbm, ⟨89, _⟩ => ⟨S128x1, .i32⟩
  | .hbm, ⟨90, _⟩ => ⟨S128x128, .i32⟩
  | .hbm, ⟨91, _⟩ => ⟨S128x128, .i32⟩
  | .hbm, ⟨92, _⟩ => ⟨S128x128, .i1⟩
  | .hbm, ⟨93, _⟩ => ⟨S128x128, .i1⟩
  | .hbm, ⟨94, _⟩ => ⟨S128x128, .f32⟩
  | .hbm, ⟨95, _⟩ => ⟨S256, .i32⟩
  | .hbm, ⟨96, _⟩ => ⟨S_, .i32⟩
  | .hbm, ⟨97, _⟩ => ⟨S_, .i32⟩
  | .hbm, ⟨98, _⟩ => ⟨S256, .i32⟩
  | .hbm, ⟨99, _⟩ => ⟨S256, .i32⟩
  | .hbm, ⟨100, _⟩ => ⟨S256, .i32⟩
  | .hbm, ⟨101, _⟩ => ⟨S_, .i32⟩
  | .hbm, ⟨102, _⟩ => ⟨S256, .i32⟩
  | .hbm, ⟨103, _⟩ => ⟨S256, .i1⟩
  | .hbm, ⟨104, _⟩ => ⟨S256, .i32⟩
  | .hbm, ⟨105, _⟩ => ⟨S256, .i32⟩
  | .hbm, ⟨106, _⟩ => ⟨S_, .i32⟩
  | .hbm, ⟨107, _⟩ => ⟨S256, .i32⟩
  | .hbm, ⟨108, _⟩ => ⟨S256, .i1⟩
  | .hbm, ⟨109, _⟩ => ⟨S256, .i1⟩
  | .hbm, ⟨110, _⟩ => ⟨S_, .i32⟩
  | .hbm, ⟨111, _⟩ => ⟨S256, .i32⟩
  | .hbm, ⟨112, _⟩ => ⟨S256, .i32⟩
  | .hbm, ⟨113, _⟩ => ⟨S256, .i32⟩
  | .hbm, ⟨114, _⟩ => ⟨S256x1, .i32⟩
  | .hbm, ⟨115, _⟩ => ⟨S1x256, .i32⟩
  | .hbm, ⟨116, _⟩ => ⟨S256x256, .i32⟩
  | .hbm, ⟨117, _⟩ => ⟨S256x256, .i32⟩
  | .hbm, ⟨118, _⟩ => ⟨S256x256, .i1⟩
  | .hbm, ⟨119, _⟩ => ⟨S256x256, .f32⟩
  | .hbm, ⟨120, _⟩ => ⟨S128x128, .bf16⟩
  | .hbm, ⟨121, _⟩ => ⟨S256x256, .bf16⟩
  | .hbm, ⟨122, _⟩ => ⟨S2x8192x512, .bf16⟩
  | .local _ .vmem, ⟨0, _⟩ => ⟨S2x128x1280, .f32⟩
  | .local _ .vmem, ⟨1, _⟩ => ⟨S2x128x1280, .f32⟩
  | .local _ .vmem, ⟨2, _⟩ => ⟨S1x256, .f32⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S128x128, .bf16⟩
  | .local _ .vmem, ⟨7, _⟩ => ⟨S256x256, .bf16⟩
  | .local _ .vmem, ⟨8, _⟩ => ⟨S256x256, .f32⟩
  | .local _ .vmem, ⟨9, _⟩ => ⟨S2x128x512, .bf16⟩
  | .local _ .vmem, ⟨10, _⟩ => ⟨S2x128x512, .bf16⟩
  | .local _ .vmem, ⟨11, _⟩ => ⟨S2x256x256, .f32⟩
  | .local _ .vmem, ⟨12, _⟩ => ⟨S2x16x256, .f32⟩
  | _, _ => ⟨S2x8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_7 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_c : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_0 : Ref sig .tc := ⟨.hbm, 62, rfl⟩
abbrev main_call0_v12 : Ref sig .tc := ⟨.hbm, 63, rfl⟩
abbrev main_call0_v13 : Ref sig .tc := ⟨.hbm, 64, rfl⟩
abbrev main_v34 : Ref sig .tc := ⟨.hbm, 65, rfl⟩
abbrev main_v35 : Ref sig .tc := ⟨.hbm, 66, rfl⟩
abbrev main_c_8 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_c : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_0 : Ref sig .tc := ⟨.hbm, 81, rfl⟩
abbrev main_call1_v12 : Ref sig .tc := ⟨.hbm, 82, rfl⟩
abbrev main_call1_v13 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_c_9 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_c : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_c_0 : Ref sig .tc := ⟨.hbm, 110, rfl⟩
abbrev main_call2_v12 : Ref sig .tc := ⟨.hbm, 111, rfl⟩
abbrev main_call2_v13 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x128x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S2x8192x1280 : Shape := ⟨3, ![2, 8192, 1280]⟩
abbrev S256 : Shape := ⟨1, ![256]⟩
abbrev S64 : Shape := ⟨1, ![64]⟩
abbrev S4x64x64 : Shape := ⟨3, ![4, 64, 64]⟩
abbrev S2x8192x256 : Shape := ⟨3, ![2, 8192, 256]⟩
abbrev S_ : Shape := ⟨0, ![]⟩
abbrev S2x8193x256 : Shape := ⟨3, ![2, 8193, 256]⟩
abbrev S8192 : Shape := ⟨1, ![8192]⟩
abbrev S2x8193x64 : Shape := ⟨3, ![2, 8193, 64]⟩
abbrev S2x8191x64 : Shape := ⟨3, ![2, 8191, 64]⟩
abbrev S2x8192x64 : Shape := ⟨3, ![2, 8192, 64]⟩
abbrev S1x8192x1 : Shape := ⟨3, ![1, 8192, 1]⟩
abbrev S2x8189x64 : Shape := ⟨3, ![2, 8189, 64]⟩
abbrev S2x8185x64 : Shape := ⟨3, ![2, 8185, 64]⟩
abbrev S2x8177x64 : Shape := ⟨3, ![2, 8177, 64]⟩
abbrev S2x8192x1x64 : Shape := ⟨4, ![2, 8192, 1, 64]⟩
abbrev S2x8192x4x64 : Shape := ⟨4, ![2, 8192, 4, 64]⟩
abbrev S4x64x2x8192 : Shape := ⟨4, ![4, 64, 2, 8192]⟩
abbrev S1x1x256 : Shape := ⟨3, ![1, 1, 256]⟩
abbrev S8192x1 : Shape := ⟨2, ![8192, 1]⟩
abbrev S1x8192 : Shape := ⟨2, ![1, 8192]⟩
abbrev S8192x8192 : Shape := ⟨2, ![8192, 8192]⟩
abbrev S8192x8192x1 : Shape := ⟨3, ![8192, 8192, 1]⟩
abbrev S2x4x8192x64 : Shape := ⟨4, ![2, 4, 8192, 64]⟩
abbrev S2x4x8192x1x64 : Shape := ⟨5, ![2, 4, 8192, 1, 64]⟩
abbrev S2x4x1x8192x64 : Shape := ⟨5, ![2, 4, 1, 8192, 64]⟩
abbrev S2x4x8192x8192x64 : Shape := ⟨5, ![2, 4, 8192, 8192, 64]⟩
abbrev S2x4x8192x8192 : Shape := ⟨4, ![2, 4, 8192, 8192]⟩
abbrev S2x8192x4 : Shape := ⟨3, ![2, 8192, 4]⟩
abbrev S2x8192x4x1 : Shape := ⟨4, ![2, 8192, 4, 1]⟩
abbrev S1x1x1x64 : Shape := ⟨4, ![1, 1, 1, 64]⟩
abbrev S2x8192x512 : Shape := ⟨3, ![2, 8192, 512]⟩

abbrev nBuf : Space → Nat
  | .hbm => 229
  | .vmem => 0
  | .smem => 0
  | _ => 0

abbrev hbmTy0_0 (i : Nat) : BufTy := match i % 128 with
  | 0 => ⟨S2x8192x1280, .f32⟩
  | 1 => ⟨S256, .f32⟩
  | 2 => ⟨S64, .f32⟩
  | 3 => ⟨S4x64x64, .f32⟩
  | 4 => ⟨S256, .f32⟩
  | 5 => ⟨S2x8192x256, .f32⟩
  | 6 => ⟨S2x8192x256, .f32⟩
  | 7 => ⟨S2x8192x256, .f32⟩
  | 8 => ⟨S2x8192x256, .f32⟩
  | 9 => ⟨S2x8192x256, .f32⟩
  | 10 => ⟨S_, .f32⟩
  | 11 => ⟨S_, .f32⟩
  | 12 => ⟨S2x8192x256, .f32⟩
  | 13 => ⟨S_, .i32⟩
  | 14 => ⟨S_, .f32⟩
  | 15 => ⟨S2x8193x256, .f32⟩
  | 16 => ⟨S8192, .f32⟩
  | 17 => ⟨S_, .f32⟩
  | 18 => ⟨S8192, .f32⟩
  | 19 => ⟨S8192, .f32⟩
  | 20 => ⟨S2x8193x64, .f32⟩
  | 21 => ⟨S2x8191x64, .f32⟩
  | 22 => ⟨S_, .i32⟩
  | 23 => ⟨S_, .f32⟩
  | 24 => ⟨S2x8192x64, .f32⟩
  | 25 => ⟨S2x8192x64, .f32⟩
  | 26 => ⟨S2x8192x64, .f32⟩
  | 27 => ⟨S_, .f32⟩
  | 28 => ⟨S8192, .f32⟩
  | 29 => ⟨S8192, .f32⟩
  | 30 => ⟨S1x8192x1, .f32⟩
  | 31 => ⟨S2x8192x64, .f32⟩
  | 32 => ⟨S2x8192x64, .f32⟩
  | 33 => ⟨S2x8192x64, .f32⟩
  | 34 => ⟨S2x8192x64, .f32⟩
  | 35 => ⟨S2x8193x64, .f32⟩
  | 36 => ⟨S2x8189x64, .f32⟩
  | 37 => ⟨S_, .i32⟩
  | 38 => ⟨S_, .f32⟩
  | 39 => ⟨S2x8192x64, .f32⟩
  | 40 => ⟨S2x8192x64, .f32⟩
  | 41 => ⟨S2x8192x64, .f32⟩
  | 42 => ⟨S_, .f32⟩
  | 43 => ⟨S8192, .f32⟩
  | 44 => ⟨S8192, .f32⟩
  | 45 => ⟨S1x8192x1, .f32⟩
  | 46 => ⟨S2x8192x64, .f32⟩
  | 47 => ⟨S2x8192x64, .f32⟩
  | 48 => ⟨S2x8192x64, .f32⟩
  | 49 => ⟨S2x8192x64, .f32⟩
  | 50 => ⟨S2x8193x64, .f32⟩
  | 51 => ⟨S2x8185x64, .f32⟩
  | 52 => ⟨S_, .i32⟩
  | 53 => ⟨S_, .f32⟩
  | 54 => ⟨S2x8192x64, .f32⟩
  | 55 => ⟨S2x8192x64, .f32⟩
  | 56 => ⟨S2x8192x64, .f32⟩
  | 57 => ⟨S_, .f32⟩
  | 58 => ⟨S8192, .f32⟩
  | 59 => ⟨S8192, .f32⟩
  | 60 => ⟨S1x8192x1, .f32⟩
  | 61 => ⟨S2x8192x64, .f32⟩
  | 62 => ⟨S2x8192x64, .f32⟩
  | 63 => ⟨S2x8192x64, .f32⟩
  | 64 => ⟨S2x8192x64, .f32⟩
  | 65 => ⟨S2x8193x64, .f32⟩
  | 66 => ⟨S2x8177x64, .f32⟩
  | 67 => ⟨S_, .i32⟩
  | 68 => ⟨S_, .f32⟩
  | 69 => ⟨S2x8192x64, .f32⟩
  | 70 => ⟨S2x8192x64, .f32⟩
  | 71 => ⟨S2x8192x64, .f32⟩
  | 72 => ⟨S_, .f32⟩
  | 73 => ⟨S8192, .f32⟩
  | 74 => ⟨S8192, .f32⟩
  | 75 => ⟨S1x8192x1, .f32⟩
  | 76 => ⟨S2x8192x64, .f32⟩
  | 77 => ⟨S2x8192x64, .f32⟩
  | 78 => ⟨S2x8192x64, .f32⟩
  | 79 => ⟨S2x8192x64, .f32⟩
  | 80 => ⟨S2x8192x1x64, .f32⟩
  | 81 => ⟨S2x8192x1x64, .f32⟩
  | 82 => ⟨S2x8192x1x64, .f32⟩
  | 83 => ⟨S2x8192x1x64, .f32⟩
  | 84 => ⟨S2x8192x4x64, .f32⟩
  | 85 => ⟨S4x64x2x8192, .f32⟩
  | 86 => ⟨S2x8192x4x64, .f32⟩
  | 87 => ⟨S2x8192x256, .f32⟩
  | 88 => ⟨S1x1x256, .f32⟩
  | 89 => ⟨S2x8192x256, .f32⟩
  | 90 => ⟨S2x8192x256, .f32⟩
  | 91 => ⟨S_, .f32⟩
  | 92 => ⟨S256, .f32⟩
  | 93 => ⟨S256, .f32⟩
  | 94 => ⟨S256, .f32⟩
  | 95 => ⟨S256, .f32⟩
  | 96 => ⟨S256, .f32⟩
  | 97 => ⟨S2x8192x256, .f32⟩
  | 98 => ⟨S_, .f32⟩
  | 99 => ⟨S2x8192x256, .f32⟩
  | 100 => ⟨S2x8192x256, .f32⟩
  | 101 => ⟨S2x8192x256, .f32⟩
  | 102 => ⟨S2x8192x256, .f32⟩
  | 103 => ⟨S2x8192x256, .i1⟩
  | 104 => ⟨S2x8192x256, .f32⟩
  | 105 => ⟨S2x8192x256, .f32⟩
  | 106 => ⟨S2x8192x256, .f32⟩
  | 107 => ⟨S2x8192x256, .f32⟩
  | 108 => ⟨S2x8192x256, .f32⟩
  | 109 => ⟨S2x8192x256, .f32⟩
  | 110 => ⟨S2x8192x256, .f32⟩
  | 111 => ⟨S2x8192x256, .f32⟩
  | 112 => ⟨S2x8192x256, .f32⟩
  | 113 => ⟨S1x1x256, .f32⟩
  | 114 => ⟨S2x8192x256, .f32⟩
  | 115 => ⟨S2x8192x256, .f32⟩
  | 116 => ⟨S1x1x256, .f32⟩
  | 117 => ⟨S2x8192x256, .f32⟩
  | 118 => ⟨S2x8192x256, .f32⟩
  | 119 => ⟨S2x8192x256, .f32⟩
  | 120 => ⟨S2x8192x256, .f32⟩
  | 121 => ⟨S2x8192x256, .i1⟩
  | 122 => ⟨S2x8192x256, .f32⟩
  | 123 => ⟨S2x8192x256, .f32⟩
  | 124 => ⟨S2x8192x256, .f32⟩
  | 125 => ⟨S2x8192x256, .f32⟩
  | 126 => ⟨S2x8192x256, .f32⟩
  | 127 => ⟨S2x8192x256, .f32⟩
  | _ => ⟨S2x8192x1280, .f32⟩

abbrev hbmTy0_1 (i : Nat) : BufTy := match i % 128 with
  | 0 => ⟨S2x8192x256, .f32⟩
  | 1 => ⟨S2x8192x256, .f32⟩
  | 2 => ⟨S_, .f32⟩
  | 3 => ⟨S256, .f32⟩
  | 4 => ⟨S256, .f32⟩
  | 5 => ⟨S2x8192x256, .f32⟩
  | 6 => ⟨S2x8192x256, .f32⟩
  | 7 => ⟨S2x8192x256, .f32⟩
  | 8 => ⟨S_, .f32⟩
  | 9 => ⟨S2x8192x256, .f32⟩
  | 10 => ⟨S2x8192x256, .f32⟩
  | 11 => ⟨S_, .f32⟩
  | 12 => ⟨S2x8192x256, .f32⟩
  | 13 => ⟨S2x8192x256, .f32⟩
  | 14 => ⟨S1x1x256, .f32⟩
  | 15 => ⟨S2x8192x256, .f32⟩
  | 16 => ⟨S2x8192x256, .f32⟩
  | 17 => ⟨S2x8192x256, .f32⟩
  | 18 => ⟨S2x8192x256, .f32⟩
  | 19 => ⟨S_, .f32⟩
  | 20 => ⟨S2x8192x256, .f32⟩
  | 21 => ⟨S2x8192x256, .f32⟩
  | 22 => ⟨S_, .f32⟩
  | 23 => ⟨S2x8192x256, .f32⟩
  | 24 => ⟨S2x8192x256, .f32⟩
  | 25 => ⟨S2x8192x256, .f32⟩
  | 26 => ⟨S_, .f32⟩
  | 27 => ⟨S2x8192x256, .f32⟩
  | 28 => ⟨S2x8192x256, .f32⟩
  | 29 => ⟨S8192, .i32⟩
  | 30 => ⟨S8192x1, .i32⟩
  | 31 => ⟨S1x8192, .i32⟩
  | 32 => ⟨S8192x8192, .i32⟩
  | 33 => ⟨S8192x8192, .i32⟩
  | 34 => ⟨S8192x8192, .i1⟩
  | 35 => ⟨S8192x8192x1, .i1⟩
  | 36 => ⟨S2x8192x4x64, .f32⟩
  | 37 => ⟨S2x4x8192x64, .f32⟩
  | 38 => ⟨S2x8192x4x64, .f32⟩
  | 39 => ⟨S2x4x8192x64, .f32⟩
  | 40 => ⟨S2x8192x4x64, .f32⟩
  | 41 => ⟨S2x4x8192x64, .f32⟩
  | 42 => ⟨S2x8192x4x64, .f32⟩
  | 43 => ⟨S2x4x8192x64, .f32⟩
  | 44 => ⟨S_, .f32⟩
  | 45 => ⟨S_, .f32⟩
  | 46 => ⟨S2x4x8192x64, .f32⟩
  | 47 => ⟨S2x4x8192x1x64, .f32⟩
  | 48 => ⟨S2x4x1x8192x64, .f32⟩
  | 49 => ⟨S2x4x8192x8192x64, .f32⟩
  | 50 => ⟨S2x4x8192x8192x64, .f32⟩
  | 51 => ⟨S2x4x8192x8192x64, .f32⟩
  | 52 => ⟨S_, .f32⟩
  | 53 => ⟨S2x4x8192x8192x64, .f32⟩
  | 54 => ⟨S2x4x8192x8192x64, .f32⟩
  | 55 => ⟨S2x4x8192x8192x64, .f32⟩
  | 56 => ⟨S_, .f32⟩
  | 57 => ⟨S_, .f32⟩
  | 58 => ⟨S2x4x8192x8192x64, .i1⟩
  | 59 => ⟨S2x4x8192x8192x64, .f32⟩
  | 60 => ⟨S2x4x8192x8192x64, .f32⟩
  | 61 => ⟨S2x4x8192x1x64, .f32⟩
  | 62 => ⟨S2x4x1x8192x64, .f32⟩
  | 63 => ⟨S2x4x8192x8192x64, .f32⟩
  | 64 => ⟨S2x4x8192x8192x64, .f32⟩
  | 65 => ⟨S2x4x8192x8192x64, .f32⟩
  | 66 => ⟨S2x4x8192x8192x64, .f32⟩
  | 67 => ⟨S_, .f32⟩
  | 68 => ⟨S2x4x8192x8192, .f32⟩
  | 69 => ⟨S2x4x8192x64, .f32⟩
  | 70 => ⟨S2x8192x4x64, .f32⟩
  | 71 => ⟨S2x8192x4x64, .f32⟩
  | 72 => ⟨S2x8192x4x64, .f32⟩
  | 73 => ⟨S_, .f32⟩
  | 74 => ⟨S2x8192x4, .f32⟩
  | 75 => ⟨S2x8192x4x1, .f32⟩
  | 76 => ⟨S_, .f32⟩
  | 77 => ⟨S2x8192x4x1, .f32⟩
  | 78 => ⟨S2x8192x4x1, .f32⟩
  | 79 => ⟨S_, .f32⟩
  | 80 => ⟨S2x8192x4x1, .f32⟩
  | 81 => ⟨S2x8192x4x1, .f32⟩
  | 82 => ⟨S2x8192x4x1, .f32⟩
  | 83 => ⟨S2x8192x4x64, .f32⟩
  | 84 => ⟨S2x8192x4x64, .f32⟩
  | 85 => ⟨S1x1x1x64, .f32⟩
  | 86 => ⟨S2x8192x4x64, .f32⟩
  | 87 => ⟨S2x8192x4x64, .f32⟩
  | 88 => ⟨S2x8192x4x64, .f32⟩
  | 89 => ⟨S2x8192x4x64, .f32⟩
  | 90 => ⟨S_, .f32⟩
  | 91 => ⟨S2x8192x4x64, .f32⟩
  | 92 => ⟨S2x8192x4x64, .f32⟩
  | 93 => ⟨S_, .f32⟩
  | 94 => ⟨S2x8192x4x64, .f32⟩
  | 95 => ⟨S2x8192x4x64, .f32⟩
  | 96 => ⟨S2x8192x4x64, .f32⟩
  | 97 => ⟨S2x8192x4x64, .f32⟩
  | 98 => ⟨S2x8192x256, .f32⟩
  | 99 => ⟨S2x8192x512, .f32⟩
  | 100 => ⟨S2x8192x512, .bf16⟩
  | _ => ⟨S2x8192x1280, .f32⟩

abbrev hbmTy (i : Nat) : BufTy := match i / 128 with
  | 0 => hbmTy0_0 i
  | 1 => hbmTy0_1 i
  | _ => ⟨S2x8192x1280, .f32⟩

abbrev bufTy : (tb : Table) → Fin (tcTables nBuf tb) → BufTy
  | .hbm, ⟨i, _⟩ => hbmTy i
  | _, _ => ⟨S2x8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_call0_cst : Ref sig .tc := ⟨.hbm, 10, rfl⟩
abbrev main_call0_call0_v0 : Ref sig .tc := ⟨.hbm, 11, rfl⟩
abbrev main_v5 : Ref sig .tc := ⟨.hbm, 12, rfl⟩
abbrev main_c : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_call2_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_call3_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_call4_v0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_6 : Ref sig .tc := ⟨.hbm, 67, rfl⟩
abbrev main_call5_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_8 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_call6_v0 : Ref sig .tc := ⟨.hbm, 97, rfl⟩
abbrev main_call6_call0_cst : Ref sig .tc := ⟨.hbm, 98, rfl⟩
abbrev main_call6_call0_v0 : Ref sig .tc := ⟨.hbm, 99, rfl⟩
abbrev main_call6_call0_v1 : Ref sig .tc := ⟨.hbm, 100, rfl⟩
abbrev main_call6_call0_v2 : Ref sig .tc := ⟨.hbm, 101, rfl⟩
abbrev main_call6_call0_v3 : Ref sig .tc := ⟨.hbm, 102, rfl⟩
abbrev main_call6_call0_v4 : Ref sig .tc := ⟨.hbm, 103, rfl⟩
abbrev main_call6_call0_v5 : Ref sig .tc := ⟨.hbm, 104, rfl⟩
abbrev main_call6_call0_v6 : Ref sig .tc := ⟨.hbm, 105, rfl⟩
abbrev main_call6_call0_v7 : Ref sig .tc := ⟨.hbm, 106, rfl⟩
abbrev main_call6_call0_v8 : Ref sig .tc := ⟨.hbm, 107, rfl⟩
abbrev main_call6_call0_v9 : Ref sig .tc := ⟨.hbm, 108, rfl⟩
abbrev main_call6_call0_v10 : Ref sig .tc := ⟨.hbm, 109, rfl⟩
abbrev main_call6_call0_v11 : Ref sig .tc := ⟨.hbm, 110, rfl⟩
abbrev main_call6_v1 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_9 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_10 : Ref sig .tc := ⟨.hbm, 136, rfl⟩
abbrev main_v97 : Ref sig .tc := ⟨.hbm, 137, rfl⟩
abbrev main_v98 : Ref sig .tc := ⟨.hbm, 138, rfl⟩
abbrev main_cst_11 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_call7_v0 : Ref sig .tc := ⟨.hbm, 145, rfl⟩
abbrev main_call7_v1 : Ref sig .tc := ⟨.hbm, 146, rfl⟩
abbrev main_call7_cst : Ref sig .tc := ⟨.hbm, 147, rfl⟩
abbrev main_call7_v2 : Ref sig .tc := ⟨.hbm, 148, rfl⟩
abbrev main_call7_v3 : Ref sig .tc := ⟨.hbm, 149, rfl⟩
abbrev main_call7_cst_0 : Ref sig .tc := ⟨.hbm, 150, rfl⟩
abbrev main_call7_v4 : Ref sig .tc := ⟨.hbm, 151, rfl⟩
abbrev main_call7_v5 : Ref sig .tc := ⟨.hbm, 152, rfl⟩
abbrev main_v104 : Ref sig .tc := ⟨.hbm, 153, rfl⟩
abbrev main_cst_12 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_call8_call0_cst : Ref sig .tc := ⟨.hbm, 172, rfl⟩
abbrev main_call8_call0_v0 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_cst_13 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_14 : Ref sig .tc := ⟨.hbm, 184, rfl⟩
abbrev main_call9_v0 : Ref sig .tc := ⟨.hbm, 185, rfl⟩
abbrev main_call9_v1 : Ref sig .tc := ⟨.hbm, 186, rfl⟩
abbrev main_call9_v2 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_cst_15 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_cst_16 : Ref sig .tc := ⟨.hbm, 201, rfl⟩
abbrev main_v143 : Ref sig .tc := ⟨.hbm, 202, rfl⟩
abbrev main_v144 : Ref sig .tc := ⟨.hbm, 203, rfl⟩
abbrev main_cst_17 : Ref sig .tc := ⟨.hbm, 204, rfl⟩
abbrev main_v145 : Ref sig .tc := ⟨.hbm, 205, rfl⟩
abbrev main_v146 : Ref sig .tc := ⟨.hbm, 206, rfl⟩
abbrev main_cst_18 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_call10_v0 : Ref sig .tc := ⟨.hbm, 216, rfl⟩
abbrev main_call10_v1 : Ref sig .tc := ⟨.hbm, 217, rfl⟩
abbrev main_call10_cst : Ref sig .tc := ⟨.hbm, 218, rfl⟩
abbrev main_call10_v2 : Ref sig .tc := ⟨.hbm, 219, rfl⟩
abbrev main_call10_v3 : Ref sig .tc := ⟨.hbm, 220, rfl⟩
abbrev main_call10_cst_0 : Ref sig .tc := ⟨.hbm, 221, rfl⟩
abbrev main_call10_v4 : Ref sig .tc := ⟨.hbm, 222, rfl⟩
abbrev main_call10_v5 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S4x1024x1024 : Shape := ⟨3, ![4, 1024, 1024]⟩
abbrev S4x1024 : Shape := ⟨2, ![4, 1024]⟩
abbrev S1024x2816 : Shape := ⟨2, ![1024, 2816]⟩
abbrev S2816x1024 : Shape := ⟨2, ![2816, 1024]⟩
abbrev S4x1x1024 : Shape := ⟨3, ![4, 1, 1024]⟩
abbrev S1024x1024 : Shape := ⟨2, ![1024, 1024]⟩
abbrev S1024x512 : Shape := ⟨2, ![1024, 512]⟩
abbrev S1x1024x1024 : Shape := ⟨3, ![1, 1024, 1024]⟩
abbrev S1x1x1024 : Shape := ⟨3, ![1, 1, 1024]⟩
abbrev S1x512x1024 : Shape := ⟨3, ![1, 512, 1024]⟩
abbrev S512x1024 : Shape := ⟨2, ![512, 1024]⟩
abbrev S1x1024 : Shape := ⟨2, ![1, 1024]⟩
abbrev S1024 : Shape := ⟨1, ![1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S4x1024x1024, .f32⟩
  | .hbm, ⟨4, _⟩ => ⟨S4x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S4x1x1024, .f32⟩
  | .hbm, ⟨9, _⟩ => ⟨S4x1024x1024, .bf16⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024x1024, .bf16⟩
  | .local _ .vmem, ⟨7, _⟩ => ⟨S1x1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1024x1024, .f32⟩
  | .local _ .vmem, ⟨12, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S16384x1024 : Shape := ⟨2, ![16384, 1024]⟩
abbrev S16384x512 : Shape := ⟨2, ![16384, 512]⟩
abbrev S4x1024x1024 : Shape := ⟨3, ![4, 1024, 1024]⟩
abbrev S4x1024 : Shape := ⟨2, ![4, 1024]⟩
abbrev S1024x2816 : Shape := ⟨2, ![1024, 2816]⟩
abbrev S2816x1024 : Shape := ⟨2, ![2816, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S4x1024x1024, .f32⟩
  | .hbm, ⟨4, _⟩ => ⟨S4x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S16384x512, .f32⟩
  | .hbm, ⟨9, _⟩ => ⟨S16384x512, .f32⟩
  | .hbm, ⟨10, _⟩ => ⟨S16384x1024, .f32⟩
  | .hbm, ⟨11, _⟩ => ⟨S1x1024x1024, .f32⟩
  | .hbm, ⟨12, _⟩ => ⟨S1024x1024, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S1024x2816, .f32⟩
  | .hbm, ⟨34, _⟩ => ⟨S1024x2816, .f32⟩
  | .hbm, ⟨35, _⟩ => ⟨S2816x1024, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S_, .f32⟩
  | .hbm, ⟨40, _⟩ => ⟨S16384x2816, .f32⟩
  | .hbm, ⟨41, _⟩ => ⟨S16384x2816, .f32⟩
  | .hbm, ⟨42, _⟩ => ⟨S_, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel3.lean ====
abbrev S16384x1024 : Shape := ⟨2, ![16384, 1024]⟩
abbrev S4x1024 : Shape := ⟨2, ![4, 1024]⟩
abbrev S1024x2816 : Shape := ⟨2, ![1024, 2816]⟩
abbrev S2816x1024 : Shape := ⟨2, ![2816, 1024]⟩
abbrev S4x1024x2816 : Shape := ⟨3, ![4, 1024, 2816]⟩
abbrev S4x2816x1024 : Shape := ⟨3, ![4, 2816, 1024]⟩
abbrev S4x1x1024 : Shape := ⟨3, ![4, 1, 1024]⟩
abbrev S1024x1024 : Shape := ⟨2, ![1024, 1024]⟩
abbrev S1x1x1024 : Shape := ⟨3, ![1, 1, 1024]⟩
abbrev S1x64x2816 : Shape := ⟨3, ![1, 64, 2816]⟩
abbrev S1x176x1024 : Shape := ⟨3, ![1, 176, 1024]⟩
abbrev S64x2816 : Shape := ⟨2, ![64, 2816]⟩
abbrev S176x1024 : Shape := ⟨2, ![176, 1024]⟩
abbrev S1x1024 : Shape := ⟨2, ![1, 1024]⟩
abbrev S1024 : Shape := ⟨1, ![1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 13
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S4x1x1024, .f32⟩
  | .hbm, ⟨9, _⟩ => ⟨S16384x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x64x2816, .f32⟩
  | .local _ .vmem, ⟨7, _⟩ => ⟨S1x64x2816, .f32⟩
  | .local _ .vmem, ⟨8, _⟩ => ⟨S1x64x2816, .f32⟩
  | .local _ .vmem, ⟨9, _⟩ => ⟨S1x64x2816, .f32⟩
  | .local _ .vmem, ⟨10, _⟩ => ⟨S1x176x1024, .f32⟩
  | .local _ .vmem, ⟨11, _⟩ => ⟨S1x176x1024, .f32⟩
  | .local _ .vmem, ⟨12, _⟩ => ⟨S1024x1024, .f32⟩
  | .local _ .vmem, ⟨13, _⟩ => ⟨S1024x1024, .f32⟩
  | .local _ .vmem, ⟨14, _⟩ => ⟨S64x2816, .bf16⟩
  | .local _ .vmem, ⟨15, _⟩ => ⟨S64x2816, .bf16⟩
  | .local _ .vmem, ⟨16, _⟩ => ⟨S64x2816, .bf16⟩
  | .local _ .vmem, ⟨17, _⟩ => ⟨S64x2816, .bf16⟩
  | .local _ .vmem, ⟨18, _⟩ => ⟨S176x1024, .bf16⟩
  | .local _ .vmem, ⟨19, _⟩ => ⟨S176x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let c0_i32_5 : BitVec 32 := 0#32
  let c0_i32_6 : BitVec 32 := 0#32
  ![c3_i32.toNat, v16.toNat, c0_i32_5.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let c0_i32_5 : BitVec 32 := 0#32
  let c0_i32_6 : BitVec 32 := 0#32
  ![c3_i32.toNat, v16.toNat, c0_i32_5.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let c0_i32_5 : BitVec 32 := 0#32
  let c0_i32_6 : BitVec 32 := 0#32
  ![c3_i32.toNat, v16.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_10 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_11 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16384x1024 : Shape := ⟨2, ![16384, 1024]⟩
abbrev S4x1024 : Shape := ⟨2, ![4, 1024]⟩
abbrev S1024x2816 : Shape := ⟨2, ![1024, 2816]⟩
abbrev S2816x1024 : Shape := ⟨2, ![2816, 1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S1x1024x2816 : Shape := ⟨3, ![1, 1024, 2816]⟩
abbrev S1x2816x1024 : Shape := ⟨3, ![1, 2816, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1x1024, .f32⟩
  | .hbm, ⟨9, _⟩ => ⟨S1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S1024x2816, .f32⟩
  | .hbm, ⟨27, _⟩ => ⟨S1024x2816, .f32⟩
  | .hbm, ⟨28, _⟩ => ⟨S2816x1024, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S1x1024x2816, .f32⟩
  | .hbm, ⟨47, _⟩ => ⟨S1024x2816, .f32⟩
  | .hbm, ⟨48, _⟩ => ⟨S1024x2816, .bf16⟩
  | .hbm, ⟨49, _⟩ => ⟨S1x1024x2816, .f32⟩
  | .hbm, ⟨50, _⟩ => ⟨S1024x2816, .f32⟩
  | .hbm, ⟨51, _⟩ => ⟨S1024x2816, .bf16⟩
  | .hbm, ⟨52, _⟩ => ⟨S1x2816x1024, .f32⟩
  | .hbm, ⟨53, _⟩ => ⟨S2816x1024, .f32⟩
  | .hbm, ⟨54, _⟩ => ⟨S2816x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel4.lean ====
abbrev S2x8192x1024 : Shape := ⟨3, ![2, 8192, 1024]⟩
abbrev S1024 : Shape := ⟨1, ![1024]⟩
abbrev S1024x2816 : Shape := ⟨2, ![1024, 2816]⟩
abbrev S64 : Shape := ⟨1, ![64]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S32x8192 : Shape := ⟨2, ![32, 8192]⟩
abbrev S1024x1536 : Shape := ⟨2, ![1024, 1536]⟩
abbrev S1536x1024 : Shape := ⟨2, ![1536, 1024]⟩
abbrev S1024x1280 : Shape := ⟨2, ![1024, 1280]⟩
abbrev S1x1024 : Shape := ⟨2, ![1, 1024]⟩
abbrev S64x1 : Shape := ⟨2, ![64, 1]⟩
abbrev S2x4x32x128x256 : Shape := ⟨5, ![2, 4, 32, 128, 256]⟩
abbrev S2x8192x512 : Shape := ⟨3, ![2, 8192, 512]⟩
abbrev S2x8192x1280 : Shape := ⟨3, ![2, 8192, 1280]⟩
abbrev S1x512x1024 : Shape := ⟨3, ![1, 512, 1024]⟩
abbrev S32x512 : Shape := ⟨2, ![32, 512]⟩
abbrev S1x4x2x128x256 : Shape := ⟨5, ![1, 4, 2, 128, 256]⟩
abbrev S1x512x512 : Shape := ⟨3, ![1, 512, 512]⟩
abbrev S1x512x1280 : Shape := ⟨3, ![1, 512, 1280]⟩
abbrev S512x1024 : Shape := ⟨2, ![512, 1024]⟩
abbrev S512 : Shape := ⟨1, ![512]⟩
abbrev S512x1 : Shape := ⟨2, ![512, 1]⟩
abbrev S512x1280 : Shape := ⟨2, ![512, 1280]⟩
abbrev S1536x512 : Shape := ⟨2, ![1536, 512]⟩
abbrev S64x512 : Shape := ⟨2, ![64, 512]⟩
abbrev S1x512 : Shape := ⟨2, ![1, 512]⟩
abbrev S128x512 : Shape := ⟨2, ![128, 512]⟩
abbrev S512x128 : Shape := ⟨2, ![512, 128]⟩
abbrev S1x512x128 : Shape := ⟨3, ![1, 512, 128]⟩
abbrev S128x256 : Shape := ⟨2, ![128, 256]⟩
abbrev S1x1x1x128x256 : Shape := ⟨5, ![1, 1, 1, 128, 256]⟩

abbrev nBuf : Space → Nat
  | .hbm => 35
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S64, .f32⟩
  | .hbm, ⟨4, _⟩ => ⟨S64, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S8192, .i32⟩
  | .hbm, ⟨14, _⟩ => ⟨S8192, .f32⟩
  | .hbm, ⟨15, _⟩ => ⟨S8192x1, .f32⟩
  | .hbm, ⟨16, _⟩ => ⟨S1x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S32x8192, .f32⟩
  | .hbm, ⟨22, _⟩ => ⟨S8192x32, .f32⟩
  | .hbm, ⟨23, _⟩ => ⟨S32x8192, .f32⟩
  | .hbm, ⟨24, _⟩ => ⟨S1024x2816, .bf16⟩
  | .hbm, ⟨25, _⟩ => ⟨S1024x1536, .bf16⟩
  | .hbm, ⟨26, _⟩ => ⟨S1536x1024, .bf16⟩
  | .hbm, ⟨27, _⟩ => ⟨S1024x1280, .bf16⟩
  | .hbm, ⟨28, _⟩ => ⟨S1x1024, .f32⟩
  | .hbm, ⟨29, _⟩ => ⟨S64x1, .f32⟩
  | .hbm, ⟨30, _⟩ => ⟨S64x1, .f32⟩
  | .hbm, ⟨31, _⟩ => ⟨S2x4x32x128x256, .f32⟩
  | .hbm, ⟨32, _⟩ => ⟨S2x8192x512, .bf16⟩
  | .hbm, ⟨33, _⟩ => ⟨S2x4x32x128x256, .bf16⟩
  | .hbm, ⟨34, _⟩ => ⟨S2x8192x1280, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1536x1024, .bf16⟩
  | .local _ .vmem, ⟨4, _⟩ => ⟨S1024x1280, .bf16⟩
  | .local _ .vmem, ⟨5, _⟩ => ⟨S64x1, .f32⟩
  | .local _ .vmem, ⟨6, _⟩ => ⟨S64x1, .f32⟩
  | .local _ .vmem, ⟨7, _⟩ => ⟨S32x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S1x4x2x128x256, .f32⟩
  | .local _ .vmem, ⟨12, _⟩ => ⟨S1x4x2x128x256, .f32⟩
  | .local _ .vmem, ⟨13, _⟩ => ⟨S1x512x512, .bf16⟩
  | .local _ .vmem, ⟨14, _⟩ => ⟨S1x512x512, .bf16⟩
  | .local _ .vmem, ⟨15, _⟩ => ⟨S1x4x2x128x256, .bf16⟩
  | .local _ .vmem, ⟨16, _⟩ => ⟨S1x4x2x128x256, .bf16⟩
  | .local _ .vmem, ⟨17, _⟩ => ⟨S1x512x1280, .f32⟩
  | .local _ .vmem, ⟨18, _⟩ => ⟨S1x512x1280, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24_0 : Ref sig .tc := ⟨.hbm, 31, rfl⟩
abbrev main_v24_1 : Ref sig .tc := ⟨.hbm, 32, rfl⟩
abbrev main_v24_2 : Ref sig .tc := ⟨.hbm, 33, rfl⟩
abbrev main_v24_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x4x2x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x2x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1280 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S2x8192x1024 : Shape := ⟨3, ![2, 8192, 1024]⟩
abbrev S1024 : Shape := ⟨1, ![1024]⟩
abbrev S1024x2816 : Shape := ⟨2, ![1024, 2816]⟩
abbrev S64 : Shape := ⟨1, ![64]⟩
abbrev S8192 : Shape := ⟨1, ![8192]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S2x8192x512 : Shape := ⟨3, ![2, 8192, 512]⟩
abbrev S2x8192x1280 : Shape := ⟨3, ![2, 8192, 1280]⟩
abbrev S2x8192x8x64 : Shape := ⟨4, ![2, 8192, 8, 64]⟩
abbrev S2x8x8192x64 : Shape := ⟨4, ![2, 8, 8192, 64]⟩
abbrev S2x8x8192 : Shape := ⟨3, ![2, 8, 8192]⟩
abbrev S2x8x8192x1 : Shape := ⟨4, ![2, 8, 8192, 1]⟩
abbrev S1x1x1x64 : Shape := ⟨4, ![1, 1, 1, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S2x8x8192x32 : Shape := ⟨4, ![2, 8, 8192, 32]⟩
abbrev S1x1x8192x32 : Shape := ⟨4, ![1, 1, 8192, 32]⟩
abbrev S2x4x2x32x256x64 : Shape := ⟨6, ![2, 4, 2, 32, 256, 64]⟩
abbrev S2x4x32x2x64x256 : Shape := ⟨6, ![2, 4, 32, 2, 64, 256]⟩
abbrev S2x4x32x128x256 : Shape := ⟨5, ![2, 4, 32, 128, 256]⟩

abbrev nBuf : Space → Nat
  | .hbm => 141
  | .vmem => 0
  | .smem => 0
  | _ => 0

abbrev hbmTy0_0 (i : Nat) : BufTy := match i % 128 with
  | 0 => ⟨S2x8192x1024, .f32⟩
  | 1 => ⟨S1024, .f32⟩
  | 2 => ⟨S1024x2816, .f32⟩
  | 3 => ⟨S64, .f32⟩
  | 4 => ⟨S64, .f32⟩
  | 5 => ⟨S8192, .i32⟩
  | 6 => ⟨S2x8192x1024, .f32⟩
  | 7 => ⟨S_, .f32⟩
  | 8 => ⟨S2x8192, .f32⟩
  | 9 => ⟨S2x8192x1, .f32⟩
  | 10 => ⟨S_, .f32⟩
  | 11 => ⟨S2x8192x1, .f32⟩
  | 12 => ⟨S2x8192x1, .f32⟩
  | 13 => ⟨S_, .f32⟩
  | 14 => ⟨S2x8192x1, .f32⟩
  | 15 => ⟨S2x8192x1, .f32⟩
  | 16 => ⟨S2x8192x1, .f32⟩
  | 17 => ⟨S2x8192x1024, .f32⟩
  | 18 => ⟨S2x8192x1024, .f32⟩
  | 19 => ⟨S1x1x1024, .f32⟩
  | 20 => ⟨S2x8192x1024, .f32⟩
  | 21 => ⟨S2x8192x1024, .f32⟩
  | 22 => ⟨S2x8192x2816, .f32⟩
  | 23 => ⟨S2x8192x512, .f32⟩
  | 24 => ⟨S2x8192x512, .f32⟩
  | 25 => ⟨S2x8192x512, .f32⟩
  | 26 => ⟨S2x8192x1280, .f32⟩
  | 27 => ⟨S2x8192x8x64, .f32⟩
  | 28 => ⟨S2x8x8192x64, .f32⟩
  | 29 => ⟨S2x8x8192x64, .f32⟩
  | 30 => ⟨S_, .f32⟩
  | 31 => ⟨S2x8x8192, .f32⟩
  | 32 => ⟨S2x8x8192x1, .f32⟩
  | 33 => ⟨S_, .f32⟩
  | 34 => ⟨S2x8x8192x1, .f32⟩
  | 35 => ⟨S2x8x8192x1, .f32⟩
  | 36 => ⟨S_, .f32⟩
  | 37 => ⟨S2x8x8192x1, .f32⟩
  | 38 => ⟨S2x8x8192x1, .f32⟩
  | 39 => ⟨S2x8x8192x1, .f32⟩
  | 40 => ⟨S2x8x8192x64, .f32⟩
  | 41 => ⟨S2x8x8192x64, .f32⟩
  | 42 => ⟨S1x1x1x64, .f32⟩
  | 43 => ⟨S2x8x8192x64, .f32⟩
  | 44 => ⟨S2x8x8192x64, .f32⟩
  | 45 => ⟨S32, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S8192, .f32⟩
  | 54 => ⟨S8192x1, .f32⟩
  | 55 => ⟨S1x32, .f32⟩
  | 56 => ⟨S8192x32, .f32⟩
  | 57 => ⟨S8192x32, .f32⟩
  | 58 => ⟨S8192x32, .f32⟩
  | 59 => ⟨S8192x32, .f32⟩
  | 60 => ⟨S8192x32, .f32⟩
  | 61 => ⟨S2x8x8192x32, .f32⟩
  | 62 => ⟨S2x8x8192x32, .f32⟩
  | 63 => ⟨S1x1x8192x32, .f32⟩
  | 64 => ⟨S2x8x8192x32, .f32⟩
  | 65 => ⟨S2x8x8192x32, .f32⟩
  | 66 => ⟨S1x1x8192x32, .f32⟩
  | 67 => ⟨S2x8x8192x32, .f32⟩
  | 68 => ⟨S2x8x8192x32, .f32⟩
  | 69 => ⟨S2x8x8192x32, .f32⟩
  | 70 => ⟨S1x1x8192x32, .f32⟩
  | 71 => ⟨S2x8x8192x32, .f32⟩
  | 72 => ⟨S2x8x8192x32, .f32⟩
  | 73 => ⟨S1x1x8192x32, .f32⟩
  | 74 => ⟨S2x8x8192x32, .f32⟩
  | 75 => ⟨S2x8x8192x32, .f32⟩
  | 76 => ⟨S2x8x8192x32, .f32⟩
  | 77 => ⟨S2x8x8192x64, .f32⟩
  | 78 => ⟨S2x8192x8x64, .f32⟩
  | 79 => ⟨S2x8x8192x64, .f32⟩
  | 80 => ⟨S2x8x8192x64, .f32⟩
  | 81 => ⟨S_, .f32⟩
  | 82 => ⟨S2x8x8192, .f32⟩
  | 83 => ⟨S2x8x8192x1, .f32⟩
  | 84 => ⟨S_, .f32⟩
  | 85 => ⟨S2x8x8192x1, .f32⟩
  | 86 => ⟨S2x8x8192x1, .f32⟩
  | 87 => ⟨S_, .f32⟩
  | 88 => ⟨S2x8x8192x1, .f32⟩
  | 89 => ⟨S2x8x8192x1, .f32⟩
  | 90 => ⟨S2x8x8192x1, .f32⟩
  | 91 => ⟨S2x8x8192x64, .f32⟩
  | 92 => ⟨S2x8x8192x64, .f32⟩
  | 93 => ⟨S1x1x1x64, .f32⟩
  | 94 => ⟨S2x8x8192x64, .f32⟩
  | 95 => ⟨S2x8x8192x64, .f32⟩
  | 96 => ⟨S32, .f32⟩
  | 97 => ⟨S32, .f32⟩
  | 98 => ⟨S_, .f32⟩
  | 99 => ⟨S32, .f32⟩
  | 100 => ⟨S32, .f32⟩
  | 101 => ⟨S_, .f32⟩
  | 102 => ⟨S32, .f32⟩
  | 103 => ⟨S32, .f32⟩
  | 104 => ⟨S8192, .f32⟩
  | 105 => ⟨S8192x1, .f32⟩
  | 106 => ⟨S1x32, .f32⟩
  | 107 => ⟨S8192x32, .f32⟩
  | 108 => ⟨S8192x32, .f32⟩
  | 109 => ⟨S8192x32, .f32⟩
  | 110 => ⟨S8192x32, .f32⟩
  | 111 => ⟨S8192x32, .f32⟩
  | 112 => ⟨S2x8x8192x32, .f32⟩
  | 113 => ⟨S2x8x8192x32, .f32⟩
  | 114 => ⟨S1x1x8192x32, .f32⟩
  | 115 => ⟨S2x8x8192x32, .f32⟩
  | 116 => ⟨S2x8x8192x32, .f32⟩
  | 117 => ⟨S1x1x8192x32, .f32⟩
  | 118 => ⟨S2x8x8192x32, .f32⟩
  | 119 => ⟨S2x8x8192x32, .f32⟩
  | 120 => ⟨S2x8x8192x32, .f32⟩
  | 121 => ⟨S1x1x8192x32, .f32⟩
  | 122 => ⟨S2x8x8192x32, .f32⟩
  | 123 => ⟨S2x8x8192x32, .f32⟩
  | 124 => ⟨S1x1x8192x32, .f32⟩
  | 125 => ⟨S2x8x8192x32, .f32⟩
  | 126 => ⟨S2x8x8192x32, .f32⟩
  | 127 => ⟨S2x8x8192x32, .f32⟩
  | _ => ⟨S2x8192x1024, .f32⟩

abbrev hbmTy0_1 (i : Nat) : BufTy := match i % 128 with
  | 0 => ⟨S2x8x8192x64, .f32⟩
  | 1 => ⟨S2x8192x8x64, .f32⟩
  | 2 => ⟨S2x8x8192x64, .f32⟩
  | 3 => ⟨S2x8192x8x64, .f32⟩
  | 4 => ⟨S2x8192x512, .f32⟩
  | 5 => ⟨S2x4x2x32x256x64, .f32⟩
  | 6 => ⟨S2x4x32x2x64x256, .f32⟩
  | 7 => ⟨S2x4x32x128x256, .f32⟩
  | 8 => ⟨S2x8192x512, .bf16⟩
  | 9 => ⟨S2x4x2x32x256x64, .f32⟩
  | 10 => ⟨S2x4x32x2x64x256, .f32⟩
  | 11 => ⟨S2x4x32x128x256, .f32⟩
  | 12 => ⟨S2x4x32x128x256, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_7 : Ref sig .tc := ⟨.hbm, 81, rfl⟩
abbrev main_v68 : Ref sig .tc := ⟨.hbm, 82, rfl⟩
abbrev main_v69 : Ref sig .tc := ⟨.hbm, 83, rfl⟩
abbrev main_cst_8 : Ref sig .tc := ⟨.hbm, 84, rfl⟩
abbrev main_v70 : Ref sig .tc := ⟨.hbm, 85, rfl⟩
abbrev main_v71 : Ref sig .tc := ⟨.hbm, 86, rfl⟩
abbrev main_cst_9 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_10 : Ref sig .tc := ⟨.hbm, 98, rfl⟩
abbrev main_v82 : Ref sig .tc := ⟨.hbm, 99, rfl⟩
abbrev main_v83 : Ref sig .tc := ⟨.hbm, 100, rfl⟩
abbrev main_cst_11 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩

abbrev nD : Nat := 1
abbrev τ : Topo := Topo.v7x

variable {F : FTy → Type} [FloatOps F]
-- ==== Proof.Row.lean ====
/- One row of the feed-forward layer over the extended reals, and the sum over its 2816 hidden units as the eleven
   sums over 256 of them that the kernel adds one after another. -/
module

public import Idealize.ShloMosaic.Lib.Pipeline.ValueKit
public import Idealize.ShloMosaic.Lib.Pointwise
public import Idealize.ShloMosaic.Lib.Tactic

@[expose] public section

noncomputable section

open Idealize.ShloMosaic

namespace Cert.Row

/-- The gated unit: `a · σ(a) · b`. -/
def act (a b : EReal) : EReal := a * Ideal.logistic a * b

/-- A row of 1024 entries, divided by its root mean square (with the small constant added) and scaled by the gain. -/
def norm (x gain : Fin 1024 → EReal) (l : Fin 1024) : EReal :=
  x l * Ideal.rsqrt (Ideal.div (∑ k, x k * x k) (Ideal.ofBits .f32 0x44800000#32) + Ideal.ofBits .f32 0x358637BD#32) * gain l

/-- What hidden unit `k` adds to entry `j` of the row. -/
def term (h : Fin 1024 → EReal) (g u : Fin 1024 → Fin 2816 → EReal) (d : Fin 2816 → Fin 1024 → EReal) (j : Fin 1024) (k : Fin 2816) : EReal :=
  act (∑ l, h l * g l k) (∑ l, h l * u l k) * d k j

/-- The row after the layer: the row plus half of the gated units' sum. -/
def ffn (x gain : Fin 1024 → EReal) (g u : Fin 1024 → Fin 2816 → EReal) (d : Fin 2816 → Fin 1024 → EReal) (j : Fin 1024) : EReal :=
  x j + Ideal.ofBits .f32 0x3F000000#32 * ∑ k, term (norm x gain) g u d j k

/-- The row with both mixers' results projected back and added. -/
def proj (x : Fin 1024 → EReal) (p q : Fin 512 → EReal) (w : Fin 1024 → Fin 1024 → EReal) (l : Fin 1024) : EReal :=
  x l + (∑ k : Fin 512, p k * w ⟨k, by omega⟩ l) + ∑ k : Fin 512, q k * w ⟨512 + k, by omega⟩ l

/-- A sum over eleven indices, added from the left. -/
theorem sum_eleven (s : Fin 11 → EReal) :
    ∑ c, s c = s 0 + s 1 + s 2 + s 3 + s 4 + s 5 + s 6 + s 7 + s 8 + s 9 + s 10 := by
  rw [Fin.sum_univ_castSucc, Fin.sum_univ_castSucc, Fin.sum_univ_castSucc, Fin.sum_univ_eight]
  rfl

/-- Sums over eleven runs of 256 indices, added from the left, are the sum over all 2816. -/
theorem sum_chunks (f : Fin 2816 → EReal) :
    (∑ k : Fin 256, f ⟨k, by omega⟩) + (∑ k : Fin 256, f ⟨256 + k, by omega⟩) + (∑ k : Fin 256, f ⟨512 + k, by omega⟩)
      + (∑ k : Fin 256, f ⟨768 + k, by omega⟩) + (∑ k : Fin 256, f ⟨1024 + k, by omega⟩) + (∑ k : Fin 256, f ⟨1280 + k, by omega⟩)
      + (∑ k : Fin 256, f ⟨1536 + k, by omega⟩) + (∑ k : Fin 256, f ⟨1792 + k, by omega⟩) + (∑ k : Fin 256, f ⟨2048 + k, by omega⟩)
      + (∑ k : Fin 256, f ⟨2304 + k, by omega⟩) + (∑ k : Fin 256, f ⟨2560 + k, by omega⟩) = ∑ k, f k := by
  have h : ∑ k, f k = ∑ c : Fin 11, ∑ k : Fin 256, f ⟨c.val * 256 + k.val, by omega⟩ :=
    (Fin.sum_mul_add_fin 11 256 f).symm
  have e : ∀ (c : Fin 11) (o : ℕ) (ho : o = c.val * 256), (∑ k : Fin 256, f ⟨o + k.val, by omega⟩) = ∑ k : Fin 256, f ⟨c.val * 256 + k.val, by omega⟩ :=
    fun c o ho => by subst ho; rfl
  have z : (∑ k : Fin 256, f ⟨k.val, by omega⟩) = ∑ k : Fin 256, f ⟨0 + k.val, by omega⟩ :=
    Finset.sum_congr rfl fun k _ => congrArg f (Fin.ext (Nat.zero_add _).symm)
  rw [h, sum_eleven, z, e 0 0 (by decide), e 1 256 (by decide), e 2 512 (by decide), e 3 768 (by decide), e 4 1024 (by decide),
    e 5 1280 (by decide), e 6 1536 (by decide), e 7 1792 (by decide), e 8 2048 (by decide), e 9 2304 (by decide), e 10 2560 (by decide)]

end Cert.Row
-- ==== Proof.Ffn2.lean ====
/- The second feed-forward call: the output projection added to the row, then the feed-forward layer. -/
module

public import proofs.«01_k».proof.Defs
public import proofs.«01_k».proof.Proof.Row
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Pipeline.Value
public import Idealize.ShloMosaic.Lib.Claim
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel2Ideal.Block

open Cert.Kernel2Ideal Cert.Kernel2Ideal.Gen

/-- One slice of 256 hidden units added to the accumulator. -/
def chunk {F : FTy → Type} [FloatOps F] (h : FVec F S1024x1024 .bf16) (acc : FVec F S1024x1024 .f32) (g u : Vec F S1024x256 .bf16) (d : Vec F S256x1024 .bf16) : FVec F S1024x1024 .f32 :=
  addf acc (matmul dot_S1024x256_S256x1024_S1024x1024_1_0_0_1_n_n none
    (truncf .bf16 (mulf (mulf (matmul dot_S1024x1024_S1024x256_S1024x256_1_0_0_1_n_n none h g (constant S1024x256 .f32 0x00000000#32))
      (logistic (matmul dot_S1024x1024_S1024x256_S1024x256_1_0_0_1_n_n none h g (constant S1024x256 .f32 0x00000000#32))))
      (matmul dot_S1024x1024_S1024x256_S1024x256_1_0_0_1_n_n none h u (constant S1024x256 .f32 0x00000000#32))) bitsLt_bf16_f32)
    d (constant S1024x1024 .f32 0x00000000#32))

/-- The eleven slices in order, from zero. -/
def chunks {F : FTy → Type} [FloatOps F] (h : FVec F S1024x1024 .bf16) (g u : Vec F S1024x2816 .bf16) (d : Vec F S2816x1024 .bf16) : FVec F S1024x1024 .f32 :=
  chunk h (chunk h (chunk h (chunk h (chunk h (chunk h (chunk h (chunk h (chunk h (chunk h (chunk h (broadcast S1024x1024 (Scalar.ofBits .f32 0x00000000#32))
    (View.ld g r0_5) (View.ld u r0_5) (View.ld d r0_6)) (View.ld g r0_7) (View.ld u r0_7) (View.ld d r0_8))
    (View.ld g r0_9) (View.ld u r0_9) (View.ld d r0_10)) (View.ld g r0_11) (View.ld u r0_11) (View.ld d r0_12))
    (View.ld g r0_13) (View.ld u r0_13) (View.ld d r0_14)) (View.ld g r0_15) (View.ld u r0_15) (View.ld d r0_16))
    (View.ld g r0_17) (View.ld u r0_17) (View.ld d r0_18)) (View.ld g r0_19) (View.ld u r0_19) (View.ld d r0_20))
    (View.ld g r0_21) (View.ld u r0_21) (View.ld d r0_22)) (View.ld g r0_23) (View.ld u r0_23) (View.ld d r0_24))
    (View.ld g r0_25) (View.ld u r0_25) (View.ld d r0_26)

/-- A slice at one entry. -/
theorem chunk_apply (h : FVec Ideal S1024x1024 .bf16) (acc : FVec Ideal S1024x1024 .f32) (g u : Vec Ideal S1024x256 .bf16) (d : Vec Ideal S256x1024 .bf16) (j : S1024x1024.Idx) :
    chunk h acc g u d j = acc j + ∑ k : Fin 256, Row.act (∑ l : Fin 1024, h (ix2 (j 0) l) * g (ix2 l k)) (∑ l : Fin 1024, h (ix2 (j 0) l) * u (ix2 l k)) * d (ix2 k (j 1)) := by
  unfold chunk Row.act
  pointwise!

/-- The slices together at one entry: the sum over all the hidden units. -/
theorem chunks_apply (h : FVec Ideal S1024x1024 .bf16) (g u : Vec Ideal S1024x2816 .bf16) (d : Vec Ideal S2816x1024 .bf16) (j : S1024x1024.Idx) :
    chunks h g u d j = ∑ k, Row.term (fun l => h (ix2 (j 0) l)) (fun l k => g (ix2 l k)) (fun l k => u (ix2 l k)) (fun k l => d (ix2 k l)) (j 1) k := by
  rw [← Row.sum_chunks]
  unfold chunks Row.term
  simp only [chunk_apply]
  pointwise

/-- The row the block holds after the norm. -/
theorem normed_apply (v0 : Vec Ideal S1024x1024 .f32) (v1 : Vec Ideal S1024x512 .bf16) (v2 : Vec Ideal S1x512x1024 .bf16) (v6 : Vec Ideal S1024x512 .bf16) (v7 : Vec Ideal S1x512x1024 .bf16) (v11 : Vec Ideal S1x1x1024 .f32) (j : S1024x1024.Idx) :
    k0_pay3 v0 v1 v2 v6 v7 v11 j = Row.norm (fun l => k0_pay2 v0 v1 v2 v6 v7 (ix2 (j 0) l)) (fun l => v11 (ix3 0 0 l)) (j 1) := by
  unfold k0_pay3 Row.norm
  generalize k0_pay2 v0 v1 v2 v6 v7 = x
  pointwise

/-- The row before the norm: the row and the output projection of both mixers' results. -/
theorem x1_apply (x0 : Vec Ideal S1024x1024 .f32) (x1 x2 : Vec Ideal S1024x512 .bf16) (x3 : Vec Ideal S1x1024x1024 .bf16) (j : S1024x1024.Idx) :
    k0_pay2 x0 x1 (View.ld x3 r0_2) x2 (View.ld x3 r0_3) j
      = Row.proj (fun l => x0 (ix2 (j 0) l)) (fun k => x1 (ix2 (j 0) k)) (fun k => x2 (ix2 (j 0) k)) (fun k l => x3 (ix3 0 k l)) (j 1) := by
  unfold k0_pay2 Row.proj
  pointwise

/-- What the body leaves in its block, in the slices. -/
theorem out_eq {F : FTy → Type} [FloatOps F] (x0 : Vec F S1024x1024 .f32) (x1 x2 : Vec F S1024x512 .bf16) (x3 : Vec F S1x1024x1024 .bf16) (x4 : Vec F S1x1x1024 .f32) (x5 x6 : Vec F S1024x2816 .bf16) (x7 : Vec F S2816x1024 .bf16) :
    out0_8 x0 x1 x2 x3 x4 x5 x6 x7 = View.canon [⟨r0_0, addf (k0_pay2 (View.ld x0 r0_0) (View.ld x1 r0_1) (View.ld x3 r0_2) (View.ld x2 r0_1) (View.ld x3 r0_3))
      (mulf (broadcast S1024x1024 (Scalar.ofBits .f32 0x3F000000#32))
        (chunks (k0_pay3 (View.ld x0 r0_0) (View.ld x1 r0_1) (View.ld x3 r0_2) (View.ld x2 r0_1) (View.ld x3 r0_3) (View.ld x4 r0_4)) x5 x6 x7))⟩] := rfl

/-- The block at one entry. -/
theorem out_apply (x0 : Vec Ideal S1024x1024 .f32) (x1 x2 : Vec Ideal S1024x512 .bf16) (x3 : Vec Ideal S1x1024x1024 .bf16) (x4 : Vec Ideal S1x1x1024 .f32) (x5 x6 : Vec Ideal S1024x2816 .bf16) (x7 : Vec Ideal S2816x1024 .bf16) (j : S1024x1024.Idx) :
    out0_8 x0 x1 x2 x3 x4 x5 x6 x7 j = Row.ffn (Row.proj (fun l => x0 (ix2 (j 0) l)) (fun k => x1 (ix2 (j 0) k)) (fun k => x2 (ix2 (j 0) k)) (fun k l => x3 (ix3 0 k l)))
      (fun l => x4 (ix3 0 0 l)) (fun l k => x5 (ix2 l k)) (fun l k => x6 (ix2 l k)) (fun k l => x7 (ix2 k l)) (j 1) := by
  rw [out_eq]
  frame_out
  have e : ∀ a b : EReal, ∀ c d : EReal, a = c → b = d → a + Ideal.ofBits .f32 0x3F000000#32 * b = c + Ideal.ofBits .f32 0x3F000000#32 * d := by
    rintro a b c d rfl rfl; rfl
  refine (e _ _ _ _ ?_ ?_ : _ = _)
  · exact x1_apply ..
  · rw [chunks_apply]
    refine Finset.sum_congr rfl fun k _ => congrArg (fun h => Row.term h _ _ _ _ k) (funext fun l => ?_)
    rw [normed_apply]
    exact congrArg (fun x => Row.norm x _ l) (funext fun l => x1_apply ..)

end Cert.Kernel2Ideal.Block

namespace Cert.Kernel2Ideal.RefValue

open Cert.Kernel2Ideal Cert.Kernel2Ideal.Gen

variable (m : (ℓ : Loc nD τ sig) → Buf (Elt Ideal) ℓ)

/-- Every window's block index at point `t`. -/
theorem idx : ∀ t : Fin cfg0.N, win0_0.index t = ![t.val, 0] ∧ win0_1.index t = ![t.val, 0] ∧ win0_2.index t = ![t.val, 0]
    ∧ win0_3.index t = ![3, 0, 0] ∧ win0_4.index t = ![3, 0, 0] ∧ win0_5.index t = ![0, 0] ∧ win0_6.index t = ![0, 0]
    ∧ win0_7.index t = ![0, 0] ∧ win0_8.index t = ![t.val, 0] :=
  (by decide +kernel : ∀ t : Fin grid0.N, _)

/-- The result array, of the arguments. -/
def res (a0 : Vec Ideal S16384x1024 .f32) (a1 a2 : Vec Ideal S16384x512 .bf16) (a3 : Vec Ideal S4x1024x1024 .f32) (a4 : Vec Ideal S4x1024 .f32)
    (a5 a6 : Vec Ideal S1024x2816 .bf16) (a7 : Vec Ideal S2816x1024 .bf16) : Vec Ideal S16384x1024 .f32 := fun j =>
  Row.ffn (Row.proj (fun l => a0 (ix2 (j 0) l)) (fun k => a1 (ix2 (j 0) k)) (fun k => a2 (ix2 (j 0) k)) (fun k l => a3 (ix3 3 k l)))
    (fun l => a4 (ix2 3 l)) (fun l k => a5 (ix2 l k)) (fun l k => a6 (ix2 l k)) (fun k l => a7 (ix2 k l)) (j 1)

/-- The kernel's result array after the run. -/
theorem final (c : Dev nD) : (dats m 0 c).arrAt 8 cfg0.N = res (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) := by
  refine (dats m 0 c).arrAt_eq_of_covers 8 _ (by decide +kernel) fun t hf y => ?_
  blk_simp
  rw [after0_8, Block.out_apply]
  unfold res
  congr 1
  · congr 1
    · funext; blk_ext! [iblk, V, idx t]
    · funext; blk_ext! [iblk, V, idx t]
    · funext; blk_ext! [iblk, V, idx t]
    · funext; blk_ext! [iblk, V, idx t]
  · funext; blk_ext! [iblk, V, idx t]
  · funext; blk_ext! [iblk, V, idx t]
  · funext; blk_ext! [iblk, V, idx t]
  · funext; blk_ext! [iblk, V, idx t]
  · refine Fin.ext ?_
    blk_simp
    simp [idx t]

end Cert.Kernel2Ideal.RefValue

namespace Cert.Reference2Ideal.RefValue

open Cert.Reference2Ideal Cert.Reference2Ideal.Gen Cert.Reference2Ideal.Value

variable (m : (ℓ : Loc nD τ sig) → Buf (Elt Ideal) ℓ)

/-- The reference's row before the norm. -/
def x1 (a0 : Vec Ideal S16384x1024 .f32) (a1 a2 : Vec Ideal S16384x512 .bf16) (a3 : Vec Ideal S4x1024x1024 .f32) : FVec Ideal S16384x1024 .f32 :=
  addf a0 (Host.dotGeneral (φ₂ := .f32) dot_S16384x1024_S1024x1024_S16384x1024_1_0_0_1_n_n none (concatenate S16384x1024 1 [⟨S16384x512, (extf .f32 a1 bitsLt_bf16_f32)⟩, ⟨S16384x512, (extf .f32 a2 bitsLt_bf16_f32)⟩] concatenates_S16384x512_S16384x512_S16384x1024_d1) (shapeCast _ (extractStridedSlice S1x1024x1024 ![3, 0, 0] a3 slices_S4x1024x1024_S1x1024x1024_3_0_0) shapeCasts_S1x1024x1024_S1024x1024))

/-- The reference's norm of the rows. -/
def hn (x : FVec Ideal S16384x1024 .f32) (a4 : Vec Ideal S4x1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1024 ![3, 0] a4 slices_S4x1024_S1x1024_3_0) shapeCasts_S1x1024_S1024)))

/-- A product with one of the two wide weights. -/
def wide (h : FVec Ideal S16384x1024 .f32) (w : Vec Ideal S1024x2816 .bf16) : FVec Ideal S16384x2816 .f32 :=
  Host.dotGeneral dot_S16384x1024_S1024x2816_S16384x2816_1_0_0_1_n_n none h (extf .f32 w bitsLt_bf16_f32)

/-- The reference's layer. -/
def layer (x h : FVec Ideal S16384x1024 .f32) (a5 a6 : Vec Ideal S1024x2816 .bf16) (a7 : Vec Ideal S2816x1024 .bf16) : FVec Ideal S16384x1024 .f32 :=
  addf x (mulf (broadcastInDim S16384x1024 ![] bcast_S_S16384x1024 (constant S_ .f32 0x3F000000#32)) (Host.dotGeneral dot_S16384x2816_S2816x1024_S16384x1024_1_0_0_1_n_n none (mulf (mulf (wide h a5) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (wide h a5)))))) (wide h a6)) (extf .f32 a7 bitsLt_bf16_f32)))

/-- That row at one entry. -/
theorem x1_apply (a0 : Vec Ideal S16384x1024 .f32) (a1 a2 : Vec Ideal S16384x512 .bf16) (a3 : Vec Ideal S4x1024x1024 .f32) (j : S16384x1024.Idx) :
    x1 a0 a1 a2 a3 j = Row.proj (fun l => a0 (ix2 (j 0) l)) (fun k => a1 (ix2 (j 0) k)) (fun k => a2 (ix2 (j 0) k)) (fun k l => a3 (ix3 3 k l)) (j 1) := by
  unfold x1 Row.proj
  pointwise
  exact (add_assoc _ _ _).symm

/-- The norm at one entry. -/
theorem hn_apply (x : FVec Ideal S16384x1024 .f32) (a4 : Vec Ideal S4x1024 .f32) (j : S16384x1024.Idx) :
    hn x a4 j = Row.norm (fun l => x (ix2 (j 0) l)) (fun l => a4 (ix2 3 l)) (j 1) := by
  unfold hn Row.norm
  pointwise

/-- The layer at one entry. -/
theorem layer_apply (x h : FVec Ideal S16384x1024 .f32) (a5 a6 : Vec Ideal S1024x2816 .bf16) (a7 : Vec Ideal S2816x1024 .bf16) (j : S16384x1024.Idx) :
    layer x h a5 a6 a7 j = x j + Ideal.ofBits .f32 0x3F000000#32 * ∑ k, Row.term (fun l => h (ix2 (j 0) l)) (fun l k => a5 (ix2 l k)) (fun l k => a6 (ix2 l k)) (fun k l => a7 (ix2 k l)) (j 1) k := by
  unfold layer Row.term Row.act Ideal.logistic wide
  pointwise

/-- The reference's result array is the kernel's. -/
theorem res_eq (c : Dev nD) : res_main_v32 m c = Cert.Kernel2Ideal.RefValue.res (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) := by
  funext j
  generalize e : Cert.Kernel2Ideal.RefValue.res _ _ _ _ _ _ _ _ j = r
  show layer (x1 (m ((c.tc : Thread nD τ).loc main_arg0)) (m ((c.tc : Thread nD τ).loc main_arg1)) (m ((c.tc : Thread nD τ).loc main_arg2)) (m ((c.tc : Thread nD τ).loc main_arg3)))
    (hn (x1 (m ((c.tc : Thread nD τ).loc main_arg0)) (m ((c.tc : Thread nD τ).loc main_arg1)) (m ((c.tc : Thread nD τ).loc main_arg2)) (m ((c.tc : Thread nD τ).loc main_arg3)))
      (m ((c.tc : Thread nD τ).loc main_arg4))) (m ((c.tc : Thread nD τ).loc main_arg5)) (m ((c.tc : Thread nD τ).loc main_arg6)) (m ((c.tc : Thread nD τ).loc main_arg7)) j = r
  rw [layer_apply, x1_apply]
  simp only [hn_apply, x1_apply]
  rw [← e]
  rfl

end Cert.Reference2Ideal.RefValue

namespace Cert.Proof.Ffn2

/-- Over the extended reals the kernel's result array is the reference's. -/
theorem algebraic : Cert.algebraic_Kernel2Ideal_Reference2Ideal := by
  pair_intro
  · run_from Cert.Kernel2Ideal.Value.run_blocks m g
  · run_from Cert.Reference2Ideal.Value.run m' g'
    rw [Cert.Kernel2Ideal.RefValue.final m c]
    obtain ⟨h0, h1, h2, h3, h4, h5, h6, h7⟩ := hagree c
    refine (Cert.Reference2Ideal.RefValue.res_eq m' c).trans ?_
    rw [h0, h1, h2, h3, h4, h5, h6, h7]

end Cert.Proof.Ffn2
-- ==== Proof.Ffn3.lean ====
/- The first feed-forward call: the layer, and the three weights it copies for the second call in their narrow format. -/
module

public import proofs.«01_k».proof.Proof.Ffn2
public import proofs.«01_k».proof.Proof.Gen.Kernel3Ideal.Value
public import proofs.«01_k».proof.Proof.Gen.Reference3Ideal.Run

@[expose] public section

set_option maxRecDepth 16384

noncomputable section

open Idealize.ShloMosaic Idealize.ShloMosaic.TcCoe Idealize.SL.Sem
open Idealize.ShloMosaic.Pipeline (Dat)

namespace Cert.Kernel3Ideal.Block

open Cert.Kernel3Ideal Cert.Kernel3Ideal.Gen

/-- The row the block holds after the norm. -/
theorem normed_apply (x : Vec Ideal S1024x1024 .f32) (g : Vec Ideal S1x1x1024 .f32) (j : S1024x1024.Idx) :
    k0_pay5 x g j = Row.norm (fun l => x (ix2 (j 0) l)) (fun l => g (ix3 0 0 l)) (j 1) := by
  unfold k0_pay5 Row.norm
  pointwise

/-- What the body leaves in its block, in the slices. -/
theorem out_eq {F : FTy → Type} [FloatOps F] (x0 : Vec F S1024x1024 .f32) (x1 : Vec F S1x1x1024 .f32) (x2 x3 : Vec F S1024x2816 .bf16) (x4 : Vec F S2816x1024 .bf16)
    (x5 x6 : Vec F S1x64x2816 .f32) (x7 : Vec F S1x176x1024 .f32) :
    out0_8 x0 x1 x2 x3 x4 x5 x6 x7 = View.canon [⟨r0_0, addf (View.ld x0 r0_0)
      (mulf (broadcast S1024x1024 (Scalar.ofBits .f32 0x3F000000#32))
        (Cert.Kernel2Ideal.Block.chunks (k0_pay5 (View.ld x0 r0_0) (View.ld x1 r0_1)) x2 x3 x4))⟩] := rfl

/-- The block at one entry. -/
theorem out_apply (x0 : Vec Ideal S1024x1024 .f32) (x1 : Vec Ideal S1x1x1024 .f32) (x2 x3 : Vec Ideal S1024x2816 .bf16) (x4 : Vec Ideal S2816x1024 .bf16)
    (x5 x6 : Vec Ideal S1x64x2816 .f32) (x7 : Vec Ideal S1x176x1024 .f32) (j : S1024x1024.Idx) :
    out0_8 x0 x1 x2 x3 x4 x5 x6 x7 j = Row.ffn (fun l => x0 (ix2 (j 0) l)) (fun l => x1 (ix3 0 0 l)) (fun l k => x2 (ix2 l k)) (fun l k => x3 (ix2 l k)) (fun k l => x4 (ix2 k l)) (j 1) := by
  rw [out_eq]
  frame_out
  have e : ∀ a b : EReal, ∀ c d : EReal, a = c → b = d → a + Ideal.ofBits .f32 0x3F000000#32 * b = c + Ideal.ofBits .f32 0x3F000000#32 * d := by
    rintro a b c d rfl rfl; rfl
  refine (e _ _ _ _ ?_ ?_ : _ = _)
  · pointwise
  · refine (Cert.Kernel2Ideal.Block.chunks_apply _ _ _ _ _).trans ?_
    refine Finset.sum_congr rfl fun k _ => congrArg (fun h => Row.term h _ _ _ _ k) (funext fun l => ?_)
    exact normed_apply ..

end Cert.Kernel3Ideal.Block

namespace Cert.Kernel3Ideal.RefValue

open Cert.Kernel3Ideal Cert.Kernel3Ideal.Gen

variable (m : (ℓ : Loc nD τ sig) → Buf (Elt Ideal) ℓ)

/-- Every window's block index at point `t`. -/
theorem idx : ∀ t : Fin cfg0.N, win0_0.index t = ![t.val, 0] ∧ win0_1.index t = ![3, 0, 0] ∧ win0_2.index t = ![0, 0]
    ∧ win0_3.index t = ![0, 0] ∧ win0_4.index t = ![0, 0] ∧ win0_5.index t = ![3, t.val, 0] ∧ win0_6.index t = ![3, t.val, 0]
    ∧ win0_7.index t = ![3, t.val, 0] ∧ win0_8.index t = ![t.val, 0] ∧ win0_9.index t = ![t.val, 0] ∧ win0_10.index t = ![t.val, 0]
    ∧ win0_11.index t = ![t.val, 0] :=
  (by decide +kernel : ∀ t : Fin grid0.N, _)

/-- The result array, of the arguments. -/
def res (a0 : Vec Ideal S16384x1024 .f32) (a1 : Vec Ideal S4x1024 .f32) (a2 a3 : Vec Ideal S1024x2816 .bf16) (a4 : Vec Ideal S2816x1024 .bf16) :
    Vec Ideal S16384x1024 .f32 := fun j =>
  Row.ffn (fun l => a0 (ix2 (j 0) l)) (fun l => a1 (ix2 3 l)) (fun l k => a2 (ix2 l k)) (fun l k => a3 (ix2 l k)) (fun k l => a4 (ix2 k l)) (j 1)

/-- The kernel's first result array after the run. -/
theorem final (c : Dev nD) : (dats m 0 c).arrAt 8 cfg0.N = res (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8, Block.out_apply]
  unfold res
  congr 1
  · funext; blk_ext! [iblk, V, idx t]
  · funext; blk_ext! [iblk, V, idx t]
  · funext; blk_ext! [iblk, V, idx t]
  · funext; blk_ext! [iblk, V, idx t]
  · funext; blk_ext! [iblk, V, idx t]
  · refine Fin.ext ?_
    blk_simp
    simp [idx t]

/-- The copy of the next gate weight. -/
theorem final9 (c : Dev nD) : (dats m 0 c).arrAt 9 cfg0.N = ((fun j => m ((c : Thread nD τ).loc main_arg5) (ix3 3 (j 0) (j 1))) : Vec Ideal S1024x2816 .bf16) := by
  refine (dats m 0 c).arrAt_eq_of_covers 9 _ (by decide +kernel) fun t hf y => ?_
  blk_simp
  rw [after0_9]
  frame_out
  unfold k0_pay2
  pointwise
  blk_ext! [iblk, V, idx t]

/-- The copy of the next second weight. -/
theorem final10 (c : Dev nD) : (dats m 0 c).arrAt 10 cfg0.N = ((fun j => m ((c : Thread nD τ).loc main_arg6) (ix3 3 (j 0) (j 1))) : Vec Ideal S1024x2816 .bf16) := by
  refine (dats m 0 c).arrAt_eq_of_covers 10 _ (by decide +kernel) fun t hf y => ?_
  blk_simp
  rw [after0_10]
  frame_out
  unfold k0_pay3
  pointwise
  blk_ext! [iblk, V, idx t]

/-- The copy of the next third weight. -/
theorem final11 (c : Dev nD) : (dats m 0 c).arrAt 11 cfg0.N = ((fun j => m ((c : Thread nD τ).loc main_arg7) (ix3 3 (j 0) (j 1))) : Vec Ideal S2816x1024 .bf16) := by
  refine (dats m 0 c).arrAt_eq_of_covers 11 _ (by decide +kernel) fun t hf y => ?_
  blk_simp
  rw [after0_11]
  frame_out
  unfold k0_pay4
  pointwise
  blk_ext! [iblk, V, idx t]

end Cert.Kernel3Ideal.RefValue

namespace Cert.Proof.Ffn3

open Cert.Reference3Ideal in
/-- The reference's first result, in the other call's definitions. -/
theorem ref_eq (a0 : Vec Ideal S16384x1024 .f32) (a1 : Vec Ideal S4x1024 .f32) (a2 a3 : Vec Ideal S1024x2816 .bf16) (a4 : Vec Ideal S2816x1024 .bf16) :
    Cert.Reference2Ideal.RefValue.layer a0 (Cert.Reference2Ideal.RefValue.hn a0 a1) a2 a3 a4 = Cert.Kernel3Ideal.RefValue.res a0 a1 a2 a3 a4 := by
  funext j
  rw [Cert.Reference2Ideal.RefValue.layer_apply]
  simp only [Cert.Reference2Ideal.RefValue.hn_apply]
  obtain ⟨r, l, rfl⟩ : ∃ r l, j = ix2 r l := ⟨j 0, j 1, by funext k; fin_cases k <;> rfl⟩
  rfl

/-- Over the extended reals the kernel's four result arrays are the reference's. -/
theorem algebraic : Cert.algebraic_Kernel3Ideal_Reference3Ideal := by
  pair_intro
  · run_from Cert.Kernel3Ideal.Value.run_blocks m g
  · run_from Cert.Reference3Ideal.Value.run m' g'
    · rw [Cert.Kernel3Ideal.RefValue.final m c]
      exact ref_eq ..
    · rw [Cert.Kernel3Ideal.RefValue.final9 m c]
      funext j
      pointwise
    · rw [Cert.Kernel3Ideal.RefValue.final10 m c]
      funext j
      pointwise
    · rw [Cert.Kernel3Ideal.RefValue.final11 m c]
      funext j
      pointwise

end Cert.Proof.Ffn3
-- ==== Proof.MixBody.lean ====
/- What one grid point of the multi-scale pool and HGRN2 computes for one batch, as functions of the values it reads. -/
module

public import proofs.«01_k».proof.Proof.Gen.KernelIdeal.Value
public import Idealize.ShloMosaic.Lib.Pipeline.ValueKit
public import Idealize.ShloMosaic.Lib.Pointwise
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.KernelIdeal.Mix

open Cert.KernelIdeal Cert.KernelIdeal.Gen

variable {F : FTy → Type} [FloatOps F] [Named F]

/-- The log of the sigmoid. -/
def logSig (z : FVec F S128x256 .f32) : FVec F S128x256 .f32 :=
  subf (minimumf z (broadcast S128x256 (Scalar.ofBits .f32 0x00000000#32))) (log1p (exp (subf (broadcast S128x256 (Scalar.ofBits .f32 0x00000000#32)) (absf z))))

/-- The log of the floored lower bound. -/
def aTerm (lb : FVec F S1x256 .f32) : FVec F S128x256 .f32 :=
  broadcastTo S128x256 (log (maximumf lb (broadcast S1x256 (Scalar.ofBits .f32 0x1E3CE508#32)))) broadcasts_S1x256_S128x256

/-- The log of what the gate adds to the lower bound. -/
def bTerm (z : FVec F S128x256 .f32) (lb : FVec F S1x256 .f32) : FVec F S128x256 .f32 :=
  addf (broadcastTo S128x256 (log1p (subf (broadcast S1x256 (Scalar.ofBits .f32 0x00000000#32)) lb)) broadcasts_S1x256_S128x256) (logSig z)

/-- The log of the sum of two exponentials. -/
def lae (a b : FVec F S128x256 .f32) : FVec F S128x256 .f32 :=
  addf (maximumf a b) (log1p (exp (subf (broadcast S128x256 (Scalar.ofBits .f32 0x00000000#32)) (absf (subf a b)))))

/-- The log of the forget gate. -/
def logF (z : FVec F S128x256 .f32) (lb : FVec F S1x256 .f32) : FVec F S128x256 .f32 := lae (aTerm lb) (bTerm z lb)

/-- The key. -/
def keyF (z : FVec F S128x256 .f32) (lb : FVec F S1x256 .f32) : FVec F S128x256 .f32 :=
  mulf (broadcastTo S128x256 (subf (broadcast S1x256 (Scalar.ofBits .f32 0x3F800000#32)) lb) broadcasts_S1x256_S128x256)
    (logistic (subf (broadcast S128x256 (Scalar.ofBits .f32 0x00000000#32)) z))

/-- The query. -/
def queryF (q : FVec F S128x256 .f32) : FVec F S128x256 .f32 :=
  mulf (mulf q (logistic q)) (broadcast S128x256 (Scalar.ofBits .f32 0x3E000000#32))

/-- The product of the 0/1 matrix of 16-row triangles with the three parts of a value. -/
def triSum (tri : FVec F S128x128 .bf16) (f : FVec F S128x256 .f32) : FVec F S128x256 .f32 :=
  addf (addf (matmul dot_S128x128_S128x256_S128x256_1_0_0_1_n_n none tri (truncf .bf16 f bitsLt_bf16_f32) (constant S128x256 .f32 0x00000000#32))
    (matmul dot_S128x128_S128x256_S128x256_1_0_0_1_n_n none tri (truncf .bf16 (subf f (extf .f32 (truncf .bf16 f bitsLt_bf16_f32) bitsLt_bf16_f32)) bitsLt_bf16_f32) (constant S128x256 .f32 0x00000000#32)))
    (matmul dot_S128x128_S128x256_S128x256_1_0_0_1_n_n none tri (truncf .bf16 (subf (subf f (extf .f32 (truncf .bf16 f bitsLt_bf16_f32) bitsLt_bf16_f32))
      (extf .f32 (truncf .bf16 (subf f (extf .f32 (truncf .bf16 f bitsLt_bf16_f32) bitsLt_bf16_f32)) bitsLt_bf16_f32) bitsLt_bf16_f32)) bitsLt_bf16_f32) (constant S128x256 .f32 0x00000000#32))

/-- The sums of the logs over each 16-row stretch so far, times the log of e to base 2. -/
def cumF (tri : FVec F S128x128 .bf16) (f : FVec F S128x256 .f32) : FVec F S128x256 .f32 :=
  mulf (triSum tri f) (broadcast S128x256 (Named.named κ "log2_e" 0x3FB8AA3B#32))

/-- The last row of stretch 0. -/
def last0 (c : FVec F S128x256 .f32) : FVec F S1x256 .f32 := extractStridedSlice S1x256 ![15, 0] c slices_S128x256_o15_0_S1x256

/-- The last row of stretch 1. -/
def last1 (c : FVec F S128x256 .f32) : FVec F S1x256 .f32 := extractStridedSlice S1x256 ![31, 0] c slices_S128x256_o31_0_S1x256

/-- The last row of stretch 2. -/
def last2 (c : FVec F S128x256 .f32) : FVec F S1x256 .f32 := extractStridedSlice S1x256 ![47, 0] c slices_S128x256_o47_0_S1x256

/-- The last row of stretch 3. -/
def last3 (c : FVec F S128x256 .f32) : FVec F S1x256 .f32 := extractStridedSlice S1x256 ![63, 0] c slices_S128x256_o63_0_S1x256

/-- The last row of stretch 4. -/
def last4 (c : FVec F S128x256 .f32) : FVec F S1x256 .f32 := extractStridedSlice S1x256 ![79, 0] c slices_S128x256_o79_0_S1x256

/-- The last row of stretch 5. -/
def last5 (c : FVec F S128x256 .f32) : FVec F S1x256 .f32 := extractStridedSlice S1x256 ![95, 0] c slices_S128x256_o95_0_S1x256

/-- The last row of stretch 6. -/
def last6 (c : FVec F S128x256 .f32) : FVec F S1x256 .f32 := extractStridedSlice S1x256 ![111, 0] c slices_S128x256_o111_0_S1x256

/-- The last row of stretch 7. -/
def last7 (c : FVec F S128x256 .f32) : FVec F S1x256 .f32 := extractStridedSlice S1x256 ![127, 0] c slices_S128x256_o127_0_S1x256

/-- A row, sixteen times. -/
def rep (r : FVec F S1x256 .f32) : FVec F S16x256 .f32 := broadcastTo S16x256 (shapeCast S1x256 r shapeCasts_S1x256_S1x256) broadcasts_S1x256_S16x256

/-- Each stretch's last row, over the stretch. -/
def tot (c : FVec F S128x256 .f32) : FVec F S128x256 .f32 :=
  concatenate S128x256 0 [⟨S16x256, rep (last0 c)⟩, ⟨S16x256, rep (last1 c)⟩, ⟨S16x256, rep (last2 c)⟩, ⟨S16x256, rep (last3 c)⟩, ⟨S16x256, rep (last4 c)⟩, ⟨S16x256, rep (last5 c)⟩, ⟨S16x256, rep (last6 c)⟩, ⟨S16x256, rep (last7 c)⟩] concatenates_S16x256_S16x256_S16x256_S16x256_S16x256_S16x256_S16x256_S16x256_S128x256_d0

/-- The keys, decayed to the end of their stretch. -/
def kdec (k c : FVec F S128x256 .f32) : FVec F S128x256 .bf16 := truncf .bf16 (mulf k (exp2 (subf (tot c) c))) bitsLt_bf16_f32

/-- The queries, decayed from the start of their stretch. -/
def qdec (q c : FVec F S128x256 .f32) : FVec F S128x256 .bf16 := truncf .bf16 (mulf q (exp2 c)) bitsLt_bf16_f32

/-- The products of one key with the sixteen queries, decayed, where the query is not before the key. -/
def pTop (s : ℕ) (h : S16x256.Slices ![s, 0] S1x256) (c q k : FVec F S16x256 .f32) : FVec F S16x256 .f32 :=
  select (cmpi .sge (iota .tc S16x256 32 [0] iota_S16x256_d0_w32) (broadcast S16x256 (BitVec.ofNat 32 s)))
    (mulf (exp2 (minimumf (subf c (broadcastTo S16x256 (extractStridedSlice S1x256 ![s, 0] c h) broadcasts_S1x256_S16x256)) (broadcast S16x256 (Scalar.ofBits .f32 0x00000000#32))))
      (mulf q (broadcastTo S16x256 (extractStridedSlice S1x256 ![s, 0] k h) broadcasts_S1x256_S16x256))) (broadcast S16x256 (Scalar.ofBits .f32 0x00000000#32))

/-- The same with the last eight queries. -/
def pBot (s : ℕ) (h : S16x256.Slices ![s, 0] S1x256) (c q k : FVec F S16x256 .f32) : FVec F S8x256 .f32 :=
  select (cmpi .sge (addi (iota .tc S8x256 32 [0] iota_S8x256_d0_w32) (broadcast S8x256 8#32)) (broadcast S8x256 (BitVec.ofNat 32 s)))
    (mulf (exp2 (minimumf (subf (extractStridedSlice S8x256 ![8, 0] c slices_S16x256_o8_0_S8x256) (broadcastTo S8x256 (extractStridedSlice S1x256 ![s, 0] c h) broadcasts_S1x256_S8x256)) (broadcast S8x256 (Scalar.ofBits .f32 0x00000000#32))))
      (mulf (extractStridedSlice S8x256 ![8, 0] q slices_S16x256_o8_0_S8x256) (broadcastTo S8x256 (extractStridedSlice S1x256 ![s, 0] k h) broadcasts_S1x256_S8x256))) (broadcast S8x256 (Scalar.ofBits .f32 0x00000000#32))

/-- The sixteen keys' products, one over the other. -/
def eAll (c q k : FVec F S16x256 .f32) : FVec F S192x256 .f32 :=
  concatenate S192x256 0 [⟨S16x256, pTop 0 slices_S16x256_o0_0_S1x256 c q k⟩,
    ⟨S16x256, pTop 1 slices_S16x256_o1_0_S1x256 c q k⟩,
    ⟨S16x256, pTop 2 slices_S16x256_o2_0_S1x256 c q k⟩,
    ⟨S16x256, pTop 3 slices_S16x256_o3_0_S1x256 c q k⟩,
    ⟨S16x256, pTop 4 slices_S16x256_o4_0_S1x256 c q k⟩,
    ⟨S16x256, pTop 5 slices_S16x256_o5_0_S1x256 c q k⟩,
    ⟨S16x256, pTop 6 slices_S16x256_o6_0_S1x256 c q k⟩,
    ⟨S16x256, pTop 7 slices_S16x256_o7_0_S1x256 c q k⟩,
    ⟨S8x256, pBot 8 slices_S16x256_o8_0_S1x256 c q k⟩,
    ⟨S8x256, pBot 9 slices_S16x256_o9_0_S1x256 c q k⟩,
    ⟨S8x256, pBot 10 slices_S16x256_o10_0_S1x256 c q k⟩,
    ⟨S8x256, pBot 11 slices_S16x256_o11_0_S1x256 c q k⟩,
    ⟨S8x256, pBot 12 slices_S16x256_o12_0_S1x256 c q k⟩,
    ⟨S8x256, pBot 13 slices_S16x256_o13_0_S1x256 c q k⟩,
    ⟨S8x256, pBot 14 slices_S16x256_o14_0_S1x256 c q k⟩,
    ⟨S8x256, pBot 15 slices_S16x256_o15_0_S1x256 c q k⟩]
    concatenates_S16x256_S16x256_S16x256_S16x256_S16x256_S16x256_S16x256_S16x256_S8x256_S8x256_S8x256_S8x256_S8x256_S8x256_S8x256_S8x256_S192x256_d0

/-- The products summed over each head. -/
def scores (ho : FVec F S256x256 .bf16) (c q k : FVec F S16x256 .f32) : FVec F S192x256 .f32 :=
  matmul dot_S192x256_S256x256_S192x256_1_0_0_1_n_n none (truncf .bf16 (eAll c q k) bitsLt_bf16_f32) ho (constant S192x256 .f32 0x00000000#32)

/-- One value, weighted by eight rows of the scores. -/
def term (o s : ℕ) (ho : S192x256.Slices ![o, 0] S8x256) (h : S16x256.Slices ![s, 0] S1x256) (sc : FVec F S192x256 .f32) (v : FVec F S16x256 .f32) : FVec F S8x256 .f32 :=
  mulf (extractStridedSlice S8x256 ![o, 0] sc ho) (broadcastTo S8x256 (extractStridedSlice S1x256 ![s, 0] v h) broadcasts_S1x256_S8x256)

/-- The first eight rows' own sums. -/
def oTop (sc : FVec F S192x256 .f32) (v : FVec F S16x256 .f32) : FVec F S8x256 .f32 :=
  (addf (addf (addf (addf (addf (addf (addf (addf (broadcast S8x256 (Scalar.ofBits .f32 0x00000000#32))
    (term 0 0 slices_S192x256_o0_0_S8x256 slices_S16x256_o0_0_S1x256 sc v))
    (term 16 1 slices_S192x256_o16_0_S8x256 slices_S16x256_o1_0_S1x256 sc v))
    (term 32 2 slices_S192x256_o32_0_S8x256 slices_S16x256_o2_0_S1x256 sc v))
    (term 48 3 slices_S192x256_o48_0_S8x256 slices_S16x256_o3_0_S1x256 sc v))
    (term 64 4 slices_S192x256_o64_0_S8x256 slices_S16x256_o4_0_S1x256 sc v))
    (term 80 5 slices_S192x256_o80_0_S8x256 slices_S16x256_o5_0_S1x256 sc v))
    (term 96 6 slices_S192x256_o96_0_S8x256 slices_S16x256_o6_0_S1x256 sc v))
    (term 112 7 slices_S192x256_o112_0_S8x256 slices_S16x256_o7_0_S1x256 sc v))

/-- The last eight rows' own sums. -/
def oBot (sc : FVec F S192x256 .f32) (v : FVec F S16x256 .f32) : FVec F S8x256 .f32 :=
  (addf (addf (addf (addf (addf (addf (addf (addf (addf (addf (addf (addf (addf (addf (addf (addf (broadcast S8x256 (Scalar.ofBits .f32 0x00000000#32))
    (term 8 0 slices_S192x256_o8_0_S8x256 slices_S16x256_o0_0_S1x256 sc v))
    (term 24 1 slices_S192x256_o24_0_S8x256 slices_S16x256_o1_0_S1x256 sc v))
    (term 40 2 slices_S192x256_o40_0_S8x256 slices_S16x256_o2_0_S1x256 sc v))
    (term 56 3 slices_S192x256_o56_0_S8x256 slices_S16x256_o3_0_S1x256 sc v))
    (term 72 4 slices_S192x256_o72_0_S8x256 slices_S16x256_o4_0_S1x256 sc v))
    (term 88 5 slices_S192x256_o88_0_S8x256 slices_S16x256_o5_0_S1x256 sc v))
    (term 104 6 slices_S192x256_o104_0_S8x256 slices_S16x256_o6_0_S1x256 sc v))
    (term 120 7 slices_S192x256_o120_0_S8x256 slices_S16x256_o7_0_S1x256 sc v))
    (term 128 8 slices_S192x256_o128_0_S8x256 slices_S16x256_o8_0_S1x256 sc v))
    (term 136 9 slices_S192x256_o136_0_S8x256 slices_S16x256_o9_0_S1x256 sc v))
    (term 144 10 slices_S192x256_o144_0_S8x256 slices_S16x256_o10_0_S1x256 sc v))
    (term 152 11 slices_S192x256_o152_0_S8x256 slices_S16x256_o11_0_S1x256 sc v))
    (term 160 12 slices_S192x256_o160_0_S8x256 slices_S16x256_o12_0_S1x256 sc v))
    (term 168 13 slices_S192x256_o168_0_S8x256 slices_S16x256_o13_0_S1x256 sc v))
    (term 176 14 slices_S192x256_o176_0_S8x256 slices_S16x256_o14_0_S1x256 sc v))
    (term 184 15 slices_S192x256_o184_0_S8x256 slices_S16x256_o15_0_S1x256 sc v))

/-- What sixteen rows take from one another. -/
def intra (ho : FVec F S256x256 .bf16) (c q k v : FVec F S16x256 .f32) : FVec F S16x256 .f32 :=
  concatenate S16x256 0 [⟨S8x256, oTop (scores ho c q k) v⟩, ⟨S8x256, oBot (scores ho c q k) v⟩] concatenates_S8x256_S8x256_S16x256_d0

/-- What sixteen rows take from the state. -/
def inter (qd : FVec F S16x256 .bf16) (st : FVec F S256x256 .f32) : FVec F S16x256 .f32 :=
  matmul dot_S16x256_S256x256_S16x256_1_1_0_0_n_n none qd (truncf .bf16 st bitsLt_bf16_f32) (constant S16x256 .f32 0x00000000#32)

/-- The state after sixteen rows. -/
def upd (hm : FVec F S256x256 .f32) (l : FVec F S1x256 .f32) (vb kd : FVec F S16x256 .bf16) (st : FVec F S256x256 .f32) : FVec F S256x256 .f32 :=
  addf (mulf (broadcastTo S256x256 (exp2 l) broadcasts_S1x256_S256x256) st)
    (mulf (matmul dot_S16x256_S16x256_S256x256_0_0_1_1_n_n none vb kd (constant S256x256 .f32 0x00000000#32)) hm)

/-- The output of stretch 0, before the norm. -/
def out0 (ho : FVec F S256x256 .bf16) (c q k v : FVec F S128x256 .f32) (st : FVec F S256x256 .f32) : FVec F S16x256 .f32 :=
  addf (inter (extractStridedSlice S16x256 ![0, 0] (qdec q c) slices_S128x256_o0_0_S16x256) st) (intra ho (extractStridedSlice S16x256 ![0, 0] c slices_S128x256_o0_0_S16x256) (extractStridedSlice S16x256 ![0, 0] q slices_S128x256_o0_0_S16x256) (extractStridedSlice S16x256 ![0, 0] k slices_S128x256_o0_0_S16x256) (extractStridedSlice S16x256 ![0, 0] v slices_S128x256_o0_0_S16x256))

/-- The state after stretch 0. -/
def st0 (hm : FVec F S256x256 .f32) (c k v : FVec F S128x256 .f32) (st : FVec F S256x256 .f32) : FVec F S256x256 .f32 :=
  upd hm (last0 c) (extractStridedSlice S16x256 ![0, 0] (truncf .bf16 v bitsLt_bf16_f32) slices_S128x256_o0_0_S16x256) (extractStridedSlice S16x256 ![0, 0] (kdec k c) slices_S128x256_o0_0_S16x256) st

/-- The output of stretch 1, before the norm. -/
def out1 (ho : FVec F S256x256 .bf16) (c q k v : FVec F S128x256 .f32) (st : FVec F S256x256 .f32) : FVec F S16x256 .f32 :=
  addf (inter (extractStridedSlice S16x256 ![16, 0] (qdec q c) slices_S128x256_o16_0_S16x256) st) (intra ho (extractStridedSlice S16x256 ![16, 0] c slices_S128x256_o16_0_S16x256) (extractStridedSlice S16x256 ![16, 0] q slices_S128x256_o16_0_S16x256) (extractStridedSlice S16x256 ![16, 0] k slices_S128x256_o16_0_S16x256) (extractStridedSlice S16x256 ![16, 0] v slices_S128x256_o16_0_S16x256))

/-- The state after stretch 1. -/
def st1 (hm : FVec F S256x256 .f32) (c k v : FVec F S128x256 .f32) (st : FVec F S256x256 .f32) : FVec F S256x256 .f32 :=
  upd hm (last1 c) (extractStridedSlice S16x256 ![16, 0] (truncf .bf16 v bitsLt_bf16_f32) slices_S128x256_o16_0_S16x256) (extractStridedSlice S16x256 ![16, 0] (kdec k c) slices_S128x256_o16_0_S16x256) st

/-- The output of stretch 2, before the norm. -/
def out2 (ho : FVec F S256x256 .bf16) (c q k v : FVec F S128x256 .f32) (st : FVec F S256x256 .f32) : FVec F S16x256 .f32 :=
  addf (inter (extractStridedSlice S16x256 ![32, 0] (qdec q c) slices_S128x256_o32_0_S16x256) st) (intra ho (extractStridedSlice S16x256 ![32, 0] c slices_S128x256_o32_0_S16x256) (extractStridedSlice S16x256 ![32, 0] q slices_S128x256_o32_0_S16x256) (extractStridedSlice S16x256 ![32, 0] k slices_S128x256_o32_0_S16x256) (extractStridedSlice S16x256 ![32, 0] v slices_S128x256_o32_0_S16x256))

/-- The state after stretch 2. -/
def st2 (hm : FVec F S256x256 .f32) (c k v : FVec F S128x256 .f32) (st : FVec F S256x256 .f32) : FVec F S256x256 .f32 :=
  upd hm (last2 c) (extractStridedSlice S16x256 ![32, 0] (truncf .bf16 v bitsLt_bf16_f32) slices_S128x256_o32_0_S16x256) (extractStridedSlice S16x256 ![32, 0] (kdec k c) slices_S128x256_o32_0_S16x256) st

/-- The output of stretch 3, before the norm. -/
def out3 (ho : FVec F S256x256 .bf16) (c q k v : FVec F S128x256 .f32) (st : FVec F S256x256 .f32) : FVec F S16x256 .f32 :=
  addf (inter (extractStridedSlice S16x256 ![48, 0] (qdec q c) slices_S128x256_o48_0_S16x256) st) (intra ho (extractStridedSlice S16x256 ![48, 0] c slices_S128x256_o48_0_S16x256) (extractStridedSlice S16x256 ![48, 0] q slices_S128x256_o48_0_S16x256) (extractStridedSlice S16x256 ![48, 0] k slices_S128x256_o48_0_S16x256) (extractStridedSlice S16x256 ![48, 0] v slices_S128x256_o48_0_S16x256))

/-- The state after stretch 3. -/
def st3 (hm : FVec F S256x256 .f32) (c k v : FVec F S128x256 .f32) (st : FVec F S256x256 .f32) : FVec F S256x256 .f32 :=
  upd hm (last3 c) (extractStridedSlice S16x256 ![48, 0] (truncf .bf16 v bitsLt_bf16_f32) slices_S128x256_o48_0_S16x256) (extractStridedSlice S16x256 ![48, 0] (kdec k c) slices_S128x256_o48_0_S16x256) st

/-- The output of stretch 4, before the norm. -/
def out4 (ho : FVec F S256x256 .bf16) (c q k v : FVec F S128x256 .f32) (st : FVec F S256x256 .f32) : FVec F S16x256 .f32 :=
  addf (inter (extractStridedSlice S16x256 ![64, 0] (qdec q c) slices_S128x256_o64_0_S16x256) st) (intra ho (extractStridedSlice S16x256 ![64, 0] c slices_S128x256_o64_0_S16x256) (extractStridedSlice S16x256 ![64, 0] q slices_S128x256_o64_0_S16x256) (extractStridedSlice S16x256 ![64, 0] k slices_S128x256_o64_0_S16x256) (extractStridedSlice S16x256 ![64, 0] v slices_S128x256_o64_0_S16x256))

/-- The state after stretch 4. -/
def st4 (hm : FVec F S256x256 .f32) (c k v : FVec F S128x256 .f32) (st : FVec F S256x256 .f32) : FVec F S256x256 .f32 :=
  upd hm (last4 c) (extractStridedSlice S16x256 ![64, 0] (truncf .bf16 v bitsLt_bf16_f32) slices_S128x256_o64_0_S16x256) (extractStridedSlice S16x256 ![64, 0] (kdec k c) slices_S128x256_o64_0_S16x256) st

/-- The output of stretch 5, before the norm. -/
def out5 (ho : FVec F S256x256 .bf16) (c q k v : FVec F S128x256 .f32) (st : FVec F S256x256 .f32) : FVec F S16x256 .f32 :=
  addf (inter (extractStridedSlice S16x256 ![80, 0] (qdec q c) slices_S128x256_o80_0_S16x256) st) (intra ho (extractStridedSlice S16x256 ![80, 0] c slices_S128x256_o80_0_S16x256) (extractStridedSlice S16x256 ![80, 0] q slices_S128x256_o80_0_S16x256) (extractStridedSlice S16x256 ![80, 0] k slices_S128x256_o80_0_S16x256) (extractStridedSlice S16x256 ![80, 0] v slices_S128x256_o80_0_S16x256))

/-- The state after stretch 5. -/
def st5 (hm : FVec F S256x256 .f32) (c k v : FVec F S128x256 .f32) (st : FVec F S256x256 .f32) : FVec F S256x256 .f32 :=
  upd hm (last5 c) (extractStridedSlice S16x256 ![80, 0] (truncf .bf16 v bitsLt_bf16_f32) slices_S128x256_o80_0_S16x256) (extractStridedSlice S16x256 ![80, 0] (kdec k c) slices_S128x256_o80_0_S16x256) st

/-- The output of stretch 6, before the norm. -/
def out6 (ho : FVec F S256x256 .bf16) (c q k v : FVec F S128x256 .f32) (st : FVec F S256x256 .f32) : FVec F S16x256 .f32 :=
  addf (inter (extractStridedSlice S16x256 ![96, 0] (qdec q c) slices_S128x256_o96_0_S16x256) st) (intra ho (extractStridedSlice S16x256 ![96, 0] c slices_S128x256_o96_0_S16x256) (extractStridedSlice S16x256 ![96, 0] q slices_S128x256_o96_0_S16x256) (extractStridedSlice S16x256 ![96, 0] k slices_S128x256_o96_0_S16x256) (extractStridedSlice S16x256 ![96, 0] v slices_S128x256_o96_0_S16x256))

/-- The state after stretch 6. -/
def st6 (hm : FVec F S256x256 .f32) (c k v : FVec F S128x256 .f32) (st : FVec F S256x256 .f32) : FVec F S256x256 .f32 :=
  upd hm (last6 c) (extractStridedSlice S16x256 ![96, 0] (truncf .bf16 v bitsLt_bf16_f32) slices_S128x256_o96_0_S16x256) (extractStridedSlice S16x256 ![96, 0] (kdec k c) slices_S128x256_o96_0_S16x256) st

/-- The output of stretch 7, before the norm. -/
def out7 (ho : FVec F S256x256 .bf16) (c q k v : FVec F S128x256 .f32) (st : FVec F S256x256 .f32) : FVec F S16x256 .f32 :=
  addf (inter (extractStridedSlice S16x256 ![112, 0] (qdec q c) slices_S128x256_o112_0_S16x256) st) (intra ho (extractStridedSlice S16x256 ![112, 0] c slices_S128x256_o112_0_S16x256) (extractStridedSlice S16x256 ![112, 0] q slices_S128x256_o112_0_S16x256) (extractStridedSlice S16x256 ![112, 0] k slices_S128x256_o112_0_S16x256) (extractStridedSlice S16x256 ![112, 0] v slices_S128x256_o112_0_S16x256))

/-- The state after stretch 7. -/
def st7 (hm : FVec F S256x256 .f32) (c k v : FVec F S128x256 .f32) (st : FVec F S256x256 .f32) : FVec F S256x256 .f32 :=
  upd hm (last7 c) (extractStridedSlice S16x256 ![112, 0] (truncf .bf16 v bitsLt_bf16_f32) slices_S128x256_o112_0_S16x256) (extractStridedSlice S16x256 ![112, 0] (kdec k c) slices_S128x256_o112_0_S16x256) st

/-- The output before the norm, of the states before each stretch. -/
def oCat (ho : FVec F S256x256 .bf16) (c q k v : FVec F S128x256 .f32) (s0 s1 s2 s3 s4 s5 s6 s7 : FVec F S256x256 .f32) : FVec F S128x256 .f32 :=
  concatenate S128x256 0 [⟨S16x256, out0 ho c q k v s0⟩, ⟨S16x256, out1 ho c q k v s1⟩, ⟨S16x256, out2 ho c q k v s2⟩, ⟨S16x256, out3 ho c q k v s3⟩, ⟨S16x256, out4 ho c q k v s4⟩, ⟨S16x256, out5 ho c q k v s5⟩, ⟨S16x256, out6 ho c q k v s6⟩, ⟨S16x256, out7 ho c q k v s7⟩] concatenates_S16x256_S16x256_S16x256_S16x256_S16x256_S16x256_S16x256_S16x256_S128x256_d0

/-- The norm, the gain and the gate. -/
def fin (ho : FVec F S256x256 .bf16) (o : FVec F S128x256 .f32) (g : FVec F S1x256 .f32) (og : FVec F S128x256 .f32) : FVec F S128x256 .f32 :=
  mulf (mulf (mulf o (rsqrt (addf (mulf (addf (matmul dot_S128x256_S256x256_S128x256_1_0_0_1_n_n none (truncf .bf16 (mulf o o) bitsLt_bf16_f32) ho (constant S128x256 .f32 0x00000000#32))
    (matmul dot_S128x256_S256x256_S128x256_1_0_0_1_n_n none (truncf .bf16 (subf (mulf o o) (extf .f32 (truncf .bf16 (mulf o o) bitsLt_bf16_f32) bitsLt_bf16_f32)) bitsLt_bf16_f32) ho (constant S128x256 .f32 0x00000000#32)))
    (broadcast S128x256 (Scalar.ofBits .f32 0x3C800000#32))) (broadcast S128x256 (Scalar.ofBits .f32 0x358637BD#32)))))
    (broadcastTo S128x256 g broadcasts_S1x256_S128x256)) (mulf og (logistic og))

/-- A tile with the sixteen rows before it. -/
def ext (p : FVec F S16x256 .f32) (u : FVec F S128x256 .f32) : FVec F S144x256 .f32 :=
  concatenate S144x256 0 [⟨S16x256, p⟩, ⟨S128x256, u⟩] concatenates_S16x256_S128x256_S144x256_d0

/-- A tile with itself some rows down. -/
def roll (n : BitVec 32) (x : FVec F S144x256 .f32) : FVec F S144x256 .f32 := addf x (dynamicRotate 0 n none x rotates_S144x256_d0)

/-- All but the first sixteen rows. -/
def body (x : FVec F S144x256 .f32) : FVec F S128x256 .f32 := extractStridedSlice S128x256 ![16, 0] x slices_S144x256_o16_0_S128x256

/-- Lanes before `n`. -/
def before (n : BitVec 32) : IVec S128x256 1 := cmpi .slt (iota .tc S128x256 32 [1] iota_S128x256_d1_w32) (broadcast S128x256 n)

/-- The window's rows, counted. -/
def count (t : BitVec 32) : IVec S128x256 32 :=
  minsi (addi (addi (broadcast S128x256 (Scalar.muli t 128#32)) (iota .tc S128x256 32 [0] iota_S128x256_d0_w32)) (broadcast S128x256 1#32))
    (select (before 64#32) (broadcast S128x256 2#32) (select (before 128#32) (broadcast S128x256 4#32) (select (before 192#32) (broadcast S128x256 8#32) (broadcast S128x256 16#32))))

/-- The window's sum. -/
def winSum (p : FVec F S16x256 .f32) (u : FVec F S128x256 .f32) : FVec F S128x256 .f32 :=
  select (before 64#32) (body (roll 1#32 (ext p u))) (select (before 128#32) (body (roll 2#32 (roll 1#32 (ext p u))))
    (select (before 192#32) (body (roll 4#32 (roll 2#32 (roll 1#32 (ext p u))))) (body (roll 8#32 (roll 4#32 (roll 2#32 (roll 1#32 (ext p u))))))))

/-- The pool. -/
def pool (t : BitVec 32) (p : FVec F S16x256 .f32) (u : FVec F S128x256 .f32) (w : FVec F S256x256 .bf16) (s : FVec F S1x256 .f32) : FVec F S128x256 .f32 :=
  mulf (matmul dot_S128x256_S256x256_S128x256_1_0_0_1_n_n none (truncf .bf16 (subf (divf (winSum p u) (sitofp .f32 (count t))) u) bitsLt_bf16_f32) w (constant S128x256 .f32 0x00000000#32))
    (broadcastTo S128x256 s broadcasts_S1x256_S128x256)

end Cert.KernelIdeal.Mix
-- ==== Proof.MixStep.lean ====
/- One grid point of the multi-scale pool and HGRN2: the blocks it stores, as functions of the blocks it reads. -/
module

public import proofs.«01_k».proof.Proof.MixBody

@[expose] public section

set_option maxRecDepth 16384

noncomputable section

open Idealize.ShloMosaic Idealize.ShloMosaic.TcCoe Idealize.SL.Sem

namespace Cert.KernelIdeal.Mix

open Cert.KernelIdeal Cert.KernelIdeal.Gen

/-- One of the five column groups of one batch's rows. -/
def cut (b : Fin 2) (s : Fin 5) (x : Vec Ideal S2x128x1280 .f32) : FVec Ideal S128x256 .f32 :=
  fun j => x (ix3 b (j 0) ⟨256 * s.val + (j 1).val, by have := (j 1).isLt; have := s.isLt; simp at *; omega⟩)

/-- One batch's state. -/
def slab (b : Fin 2) (x : Vec Ideal S2x256x256 .f32) : FVec Ideal S256x256 .f32 := fun j => x (ix3 b (j 0) (j 1))

/-- One batch's rows before the tile. -/
def halo (b : Fin 2) (x : Vec Ideal S2x16x256 .f32) : FVec Ideal S16x256 .f32 := fun j => x (ix3 b (j 0) (j 1))

theorem at_emb {s : Shape} {off size : Fin s.rank → ℕ} (inb : ∀ a, off a + size a ≤ s.size a) (x : (Rect.unit off size inb).shape.Idx) (a : Fin s.rank) (n : ℕ) (h : off a + (x a).val = n) :
    ((Rect.unit off size inb).emb x a).val = n := by
  rw [← h]; simp [Rect.emb, Rect.unit]

theorem row_eq (x : FVec Ideal S1x256 .f32) (j : S1x256.Idx) : x (ix2 0 (j 1)) = x j := by
  congr 1; funext a; refine Fin.ext ?_; fin_cases a
  · have := (j 0).isLt; simp at *
    try omega
  · rfl

section
variable {F : FTy → Type} [FloatOps F] [Named F]

/-- What stretch `a` makes of the state. -/
def stStep (hm : FVec F S256x256 .f32) (c k v : FVec F S128x256 .f32) (st : FVec F S256x256 .f32) : ℕ → FVec F S256x256 .f32
  | 0 => st0 hm c k v st
  | 1 => st1 hm c k v st
  | 2 => st2 hm c k v st
  | 3 => st3 hm c k v st
  | 4 => st4 hm c k v st
  | 5 => st5 hm c k v st
  | 6 => st6 hm c k v st
  | _ => st7 hm c k v st

/-- The state after the first `a` stretches. -/
def stAt (hm : FVec F S256x256 .f32) (c k v : FVec F S128x256 .f32) (st : FVec F S256x256 .f32) : ℕ → FVec F S256x256 .f32
  | 0 => st
  | a + 1 => stStep hm c k v (stAt hm c k v st a) a

/-- The outputs before the norm. -/
def oAll (ho : FVec F S256x256 .bf16) (hm : FVec F S256x256 .f32) (c q k v : FVec F S128x256 .f32) (st : FVec F S256x256 .f32) : FVec F S128x256 .f32 :=
  oCat ho c q k v (stAt hm c k v st 0) (stAt hm c k v st 1) (stAt hm c k v st 2) (stAt hm c k v st 3) (stAt hm c k v st 4) (stAt hm c k v st 5) (stAt hm c k v st 6) (stAt hm c k v st 7)
end

/-- What a point stores of the pool. -/
def stepPool (t : BitVec 32) (x0 : Vec Ideal S2x128x1280 .f32) (x3 : Vec Ideal S256x256 .bf16) (x4 : Vec Ideal S1x256 .f32) (s1 : Vec Ideal S2x16x256 .f32) (b : Fin 2) : FVec Ideal S128x256 .f32 :=
  pool t (halo b s1) (cut b 0 x0) x3 x4

/-- What a point stores of the recurrence. -/
def stepHg (x0 : Vec Ideal S2x128x1280 .f32) (x1 x2 : Vec Ideal S1x256 .f32)
    (x5 : Vec Ideal S128x128 .bf16) (x6 : Vec Ideal S256x256 .bf16) (x7 : Vec Ideal S256x256 .f32) (s0 : Vec Ideal S2x256x256 .f32) (b : Fin 2) : FVec Ideal S128x256 .f32 :=
  fin x6 (oAll x6 x7 (cumF x5 (logF (cut b 2 x0) x1)) (queryF (cut b 1 x0)) (keyF (cut b 2 x0) x1) (cut b 3 x0) (slab b s0)) x2 (cut b 4 x0)

/-- What a point leaves of the state. -/
def stepSt (x0 : Vec Ideal S2x128x1280 .f32) (x1 : Vec Ideal S1x256 .f32) (x5 : Vec Ideal S128x128 .bf16) (x7 : Vec Ideal S256x256 .f32) (s0 : Vec Ideal S2x256x256 .f32) (b : Fin 2) : FVec Ideal S256x256 .f32 :=
  stAt x7 (cumF x5 (logF (cut b 2 x0) x1)) (keyF (cut b 2 x0) x1) (cut b 3 x0) (slab b s0) 8

theorem lift_apply (v : FVec Ideal S128x256 .f32) (x : S1x128x256.Idx) : shapeCast S1x128x256 (truncf .bf16 v bitsLt_bf16_f32) shapeCasts_S128x256_S1x128x256 x = v (ix2 (x 1) (x 2)) := by
  pointwise

theorem lift_st_apply (v : FVec Ideal S256x256 .f32) (x : S1x256x256.Idx) : shapeCast S1x256x256 v shapeCasts_S256x256_S1x256x256 x = v (ix2 (x 1) (x 2)) := by
  pointwise

/-- The results of a point at an index. -/
def stepOut (t : BitVec 32) (x0 : Vec Ideal S2x128x1280 .f32) (x1 x2 : Vec Ideal S1x256 .f32) (x3 : Vec Ideal S256x256 .bf16) (x4 : Vec Ideal S1x256 .f32)
    (x5 : Vec Ideal S128x128 .bf16) (x6 : Vec Ideal S256x256 .bf16) (x7 : Vec Ideal S256x256 .f32) (s0 : Vec Ideal S2x256x256 .f32) (s1 : Vec Ideal S2x16x256 .f32) (y : S2x128x512.Idx) : EReal :=
  if h : (y 2).val < 256 then stepPool t x0 x3 x4 s1 (y 0) (ix2 (y 1) ⟨(y 2).val, h⟩)
  else stepHg x0 x1 x2 x5 x6 x7 s0 (y 0) (ix2 (y 1) ⟨(y 2).val - 256, by have := (y 2).isLt; simp at *; omega⟩)

theorem pool_at {t : BitVec 32} {x0 : Vec Ideal S2x128x1280 .f32} {x3 : Vec Ideal S256x256 .bf16} {x4 : Vec Ideal S1x256 .f32} {s1 : Vec Ideal S2x16x256 .f32}
    (x1 x2 : Vec Ideal S1x256 .f32) (x5 : Vec Ideal S128x128 .bf16) (x6 : Vec Ideal S256x256 .bf16) (x7 : Vec Ideal S256x256 .f32) (s0 : Vec Ideal S2x256x256 .f32)
    (b : Fin 2) (r : Fin 128) (k : Fin 256) (y : S2x128x512.Idx) (h0 : (y 0).val = b.val) (h1 : (y 1).val = r.val) (h2 : (y 2).val = k.val) :
    stepPool t x0 x3 x4 s1 b (ix2 r k) = stepOut t x0 x1 x2 x3 x4 x5 x6 x7 s0 s1 y := by
  unfold stepOut
  have hb : y 0 = b := Fin.ext h0
  have hr : y 1 = r := Fin.ext h1
  rw [dif_pos (by omega : (y 2).val < 256), hb, hr]
  congr 2
  exact Fin.ext h2.symm

theorem hg_at {x0 : Vec Ideal S2x128x1280 .f32} {x1 x2 : Vec Ideal S1x256 .f32} {x5 : Vec Ideal S128x128 .bf16} {x6 : Vec Ideal S256x256 .bf16} {x7 : Vec Ideal S256x256 .f32} {s0 : Vec Ideal S2x256x256 .f32}
    (t : BitVec 32) (x3 : Vec Ideal S256x256 .bf16) (x4 : Vec Ideal S1x256 .f32) (s1 : Vec Ideal S2x16x256 .f32)
    (b : Fin 2) (r : Fin 128) (k : Fin 256) (y : S2x128x512.Idx) (h0 : (y 0).val = b.val) (h1 : (y 1).val = r.val) (h2 : (y 2).val = 256 + k.val) :
    stepHg x0 x1 x2 x5 x6 x7 s0 b (ix2 r k) = stepOut t x0 x1 x2 x3 x4 x5 x6 x7 s0 s1 y := by
  unfold stepOut
  have hb : y 0 = b := Fin.ext h0
  have hr : y 1 = r := Fin.ext h1
  rw [dif_neg (by omega : ¬ (y 2).val < 256), hb, hr]
  congr 2
  exact Fin.ext (by simp only []; omega)

theorem st_at {x0 : Vec Ideal S2x128x1280 .f32} {x1 : Vec Ideal S1x256 .f32} {x5 : Vec Ideal S128x128 .bf16} {x7 : Vec Ideal S256x256 .f32} {s0 : Vec Ideal S2x256x256 .f32}
    (b : Fin 2) (r k : Fin 256) (y : S2x256x256.Idx) (h0 : (y 0).val = b.val) (h1 : (y 1).val = r.val) (h2 : (y 2).val = k.val) :
    stepSt x0 x1 x5 x7 s0 b (ix2 r k) = stepSt x0 x1 x5 x7 s0 (y 0) (ix2 (y 1) (y 2)) := by
  have hb : y 0 = b := Fin.ext h0
  have hr : y 1 = r := Fin.ext h1
  have hk : y 2 = k := Fin.ext h2
  rw [hb, hr, hk]

theorem halo_at (x0 : Vec Ideal S2x128x1280 .f32) (b : Fin 2) (r : Fin 16) (k : Fin 256) (y : S2x16x256.Idx) (h0 : (y 0).val = b.val) (h1 : (y 1).val = r.val) (h2 : (y 2).val = k.val) :
    cut b 0 x0 (ix2 ⟨112 + r.val, by omega⟩ k) = cut (y 0) 0 x0 (ix2 ⟨112 + (y 1).val, by have := (y 1).isLt; simp at *; omega⟩ (y 2)) := by
  have hb : y 0 = b := Fin.ext h0
  have hr : y 1 = r := Fin.ext h1
  have hk : y 2 = k := Fin.ext h2
  simp only [hb, hr, hk]

end Cert.KernelIdeal.Mix
-- ==== Proof.MixHost.lean ====
/- What the host operations before the region leave in the buffers the windows read. -/
module

public import proofs.«01_k».proof.Proof.MixStep
public import Idealize.ShloMosaic.Lib.Routing.OpsOne

@[expose] public section

set_option maxRecDepth 16384

noncomputable section

open Idealize.ShloMosaic Idealize.ShloMosaic.TcCoe Idealize.SL.Sem

namespace Cert.KernelIdeal.Mix

open Cert.KernelIdeal Cert.KernelIdeal.Gen Cert.KernelIdeal.Value

variable (m : (l : Loc nD τ sig) → Buf (Elt Ideal) l)

/-- The stretches of host operations, one after another. -/
theorem V_eq (c : Dev nD) (b : Ref sig .tc) : V m c b = StableHlo.after hostOps0_6 (StableHlo.after hostOps0_5 (StableHlo.after hostOps0_4 (StableHlo.after hostOps0_3 (StableHlo.after hostOps0_2 (StableHlo.after hostOps0_1 (StableHlo.after hostOps0 (fun b => m (c, b)))))))) (Proc.devRef .tc b) := by
  show StableHlo.after [hostOps0, hostOps0_1, hostOps0_2, hostOps0_3, hostOps0_4, hostOps0_5, hostOps0_6].flatten (fun b => m (c, b)) (Proc.devRef .tc b) = _
  rw [List.flatten_cons, List.flatten_cons, List.flatten_cons, List.flatten_cons, List.flatten_cons, List.flatten_cons, List.flatten_cons, List.flatten_nil, List.append_nil,
    StableHlo.after_append, StableHlo.after_append, StableHlo.after_append, StableHlo.after_append, StableHlo.after_append, StableHlo.after_append]

/-- Where a block of the scatter lands. -/
theorem lands (idx : IVec S2 32) (o : ℕ) (h0 : (idx (ix1 0)).toInt = o) (h1 : (idx (ix1 1)).toInt = o) (p q : Fin 64) (r c : Fin 256) :
    scatter_S256x256_S2_S64x64_01_n_01_0.resultIdx? (ix2 p q) idx = some (ix2 r c) ↔ o + p.val = r.val ∧ o + q.val = c.val := by
  have e := Routing.resultIdx?_ix2 (R := 256) (C := 256) scatter_S256x256_S2_S64x64_01_n_01_0 (ix2 p q) idx r c
  have s0 := Routing.start_pair (R := 256) (C := 256) scatter_S256x256_S2_S64x64_01_n_01_0 rfl rfl idx (ix2 p q) 0
  have s1 := Routing.start_pair (R := 256) (C := 256) scatter_S256x256_S2_S64x64_01_n_01_0 rfl rfl idx (ix2 p q) 1
  have w0 : scatter_S256x256_S2_S64x64_01_n_01_0.window (ix2 p q) 0 = p.val := rfl
  have w1 : scatter_S256x256_S2_S64x64_01_n_01_0.window (ix2 p q) 1 = q.val := rfl
  refine e.trans ?_
  have s0' := s0.trans h0
  have s1' := s1.trans h1
  constructor
  · rintro ⟨a, b⟩
    have a' : (o : Int) + (p.val : Int) = r.val := by rw [← a]; exact (congrArg₂ (fun x y : Int => x + y) s0' (by rw [w0])).symm
    have b' : (o : Int) + (q.val : Int) = c.val := by rw [← b]; exact (congrArg₂ (fun x y : Int => x + y) s1' (by rw [w1])).symm
    omega
  · rintro ⟨a, b⟩
    refine ⟨(congrArg₂ (fun x y : Int => x + y) s0' (congrArg Nat.cast w0)).trans ?_, (congrArg₂ (fun x y : Int => x + y) s1' (congrArg Nat.cast w1)).trans ?_⟩ <;> push_cast <;> omega

/-- A block written into a square. -/
theorem block (x0 : Vec Ideal S256x256 .f32) (idx : IVec S2 32) (upd : Vec Ideal S64x64 .f32) (o : ℕ) (h0 : (idx (ix1 0)).toInt = o) (h1 : (idx (ix1 1)).toInt = o) (r c : Fin 256) :
    (Host.scatter scatter_S256x256_S2_S64x64_01_n_01_0 (fun _ b => b) x0 idx upd : Vec Ideal S256x256 .f32) (ix2 r c)
      = if h : (o ≤ r.val ∧ r.val < o + 64) ∧ (o ≤ c.val ∧ c.val < o + 64) then upd (ix2 (⟨r.val - o, by omega⟩ : Fin 64) (⟨c.val - o, by omega⟩ : Fin 64)) else x0 (ix2 r c) := by
  by_cases h : (o ≤ r.val ∧ r.val < o + 64) ∧ (o ≤ c.val ∧ c.val < o + 64)
  · rw [dif_pos h]
    refine Routing.scatter_set_hit _ x0 idx upd (ix2 r c) _ (fun k hk => ?_) (ix2 (⟨r.val - o, by omega⟩ : Fin 64) (⟨c.val - o, by omega⟩ : Fin 64)) ?_
    · rw [← ix2_eta k] at hk
      have := (lands idx o h0 h1 (k 0) (k 1) r c).1 hk
      refine (congrArg upd (ix2_eta k)).symm.trans (congrArg upd ?_)
      refine congrArg₂ (fun (a b : Fin 64) => (ix2 a b : S64x64.Idx)) (Fin.ext ?_) (Fin.ext ?_)
      · show (k 0).val = r.val - o; omega
      · show (k 1).val = c.val - o; omega
    · exact (lands idx o h0 h1 _ _ r c).2 ⟨by show o + (r.val - o) = _; omega, by show o + (c.val - o) = _; omega⟩
  · rw [dif_neg h]
    refine Routing.scatter_set_miss _ x0 idx upd (ix2 r c) (fun k hk => h ?_)
    rw [← ix2_eta k] at hk
    have := (lands idx o h0 h1 (k 0) (k 1) r c).1 hk
    have := (k 0).isLt
    have := (k 1).isLt
    simp at *
    omega

section

variable (W : Valuation τ sig (Elt Ideal))

/-- The floor of a quotient, as the host takes it. -/
def fdiv {s : Shape} (hb : S_.BroadcastsInDim s (![] : Fin 0 → Fin s.rank)) (x : IVec s 32) (n : IVec S_ 32) : IVec s 32 :=
  select (andi (cmpi .ne (signi x) (broadcastInDim s ![] hb (signi n))) (cmpi .ne (Host.remsi x (broadcastInDim s ![] hb n)) (broadcastInDim s ![] hb (constantI S_ 32 0#32))))
    (subi (Host.divsi x (broadcastInDim s ![] hb n)) (broadcastInDim s ![] hb (constantI S_ 32 1#32))) (Host.divsi x (broadcastInDim s ![] hb n))

set_option maxHeartbeats 4000000

theorem a1_34 : StableHlo.after hostOps0_1 W (Proc.devRef .tc main_v34) = fdiv bcast_S_S128x1 (W (Proc.devRef .tc main_v33)) (W (Proc.devRef .tc main_c_7)) := by
  entry_read
  rfl
theorem a3_36 : StableHlo.after hostOps0_3 W (Proc.devRef .tc main_v36) = fdiv bcast_S_S1x128 (W (Proc.devRef .tc main_v35)) (W (Proc.devRef .tc main_c_8)) := by
  entry_read
  rfl
theorem a5_48 : StableHlo.after hostOps0_5 W (Proc.devRef .tc main_v48) = fdiv bcast_S_S256 (W (Proc.devRef .tc main_v47)) (W (Proc.devRef .tc main_c_9)) := by
  entry_read
  rfl
theorem a0_33 : StableHlo.after hostOps0 W (Proc.devRef .tc main_v33) = fun j => BitVec.ofNat 32 (j 0).val := by
  entry_read
  funext j
  pointwise
theorem a0_32 : StableHlo.after hostOps0 W (Proc.devRef .tc main_v32) = fun j => BitVec.ofNat 32 (j 0).val := by
  entry_read
  funext j
  pointwise
theorem a0_7 : StableHlo.after hostOps0 W (Proc.devRef .tc main_c_7) = fun _ => 16#32 := by
  entry_read
  rfl
theorem a2_8 : StableHlo.after hostOps0_2 W (Proc.devRef .tc main_c_8) = fun _ => 16#32 := by
  entry_read
  rfl
theorem a2_35 : StableHlo.after hostOps0_2 W (Proc.devRef .tc main_v35) = fun j => (W (Proc.devRef .tc main_v32) : IVec S128 32) (ix1 (j 1)) := by
  entry_read
  funext j
  pointwise
theorem a4_47 : StableHlo.after hostOps0_4 W (Proc.devRef .tc main_v47) = fun j => BitVec.ofNat 32 (j 0).val := by
  entry_read
  funext j
  pointwise
theorem a4_9 : StableHlo.after hostOps0_4 W (Proc.devRef .tc main_c_9) = fun _ => 64#32 := by
  entry_read
  rfl
theorem a0_0 : StableHlo.after hostOps0 W (Proc.devRef .tc main_v0) = fun j => (W (Proc.devRef .tc main_arg1) : FVec Ideal S256 .f32) (ix1 (j 1)) := by
  entry_read
  funext j
  pointwise
theorem a0_31 : StableHlo.after hostOps0 W (Proc.devRef .tc main_v31) = fun j => (W (Proc.devRef .tc main_arg4) : FVec Ideal S256 .f32) (ix1 (j 1)) := by
  entry_read
  funext j
  pointwise
theorem a0_4 : StableHlo.after hostOps0 W (Proc.devRef .tc main_v4) = fun j => (W (Proc.devRef .tc main_arg2) : FVec Ideal S64 .f32) (ix1 (⟨(j 1).val % 64, by omega⟩ : Fin 64)) := by
  entry_read
  funext j
  have := (j 1).isLt
  pointwise

theorem f34 : ∀ i : Fin 128, fdiv bcast_S_S128x1 (fun j => BitVec.ofNat 32 (j 0).val) (fun _ => 16#32) (ix2 i 0) = BitVec.ofNat 32 (i.val / 16) := by decide +kernel
theorem f36 : ∀ i : Fin 128, fdiv bcast_S_S1x128 (fun j => BitVec.ofNat 32 (j 1).val) (fun _ => 16#32) (ix2 0 i) = BitVec.ofNat 32 (i.val / 16) := by decide +kernel
theorem f48 : ∀ i : Fin 256, fdiv bcast_S_S256 (fun j => BitVec.ofNat 32 (j 0).val) (fun _ => 64#32) (ix1 i) = BitVec.ofNat 32 (i.val / 64) := by decide +kernel

end

end Cert.KernelIdeal.Mix
-- ==== Proof.MixHost2.lean ====
/- The windows' arrays, entry by entry. -/
module

public import proofs.«01_k».proof.Proof.MixHost

@[expose] public section

set_option maxRecDepth 16384

noncomputable section

open Idealize.ShloMosaic Idealize.ShloMosaic.TcCoe Idealize.SL.Sem

namespace Cert.KernelIdeal.Mix

open Cert.KernelIdeal Cert.KernelIdeal.Gen Cert.KernelIdeal.Value

section

variable (W : Valuation τ sig (Elt Ideal))

set_option maxHeartbeats 4000000

theorem k1_v0 : StableHlo.after hostOps0_1 W (Proc.devRef .tc main_v0) = W (Proc.devRef .tc main_v0) := by
  entry_read
  rfl
theorem k2_v0 : StableHlo.after hostOps0_2 W (Proc.devRef .tc main_v0) = W (Proc.devRef .tc main_v0) := by
  entry_read
  rfl
theorem k3_v0 : StableHlo.after hostOps0_3 W (Proc.devRef .tc main_v0) = W (Proc.devRef .tc main_v0) := by
  entry_read
  rfl
theorem k4_v0 : StableHlo.after hostOps0_4 W (Proc.devRef .tc main_v0) = W (Proc.devRef .tc main_v0) := by
  entry_read
  rfl
theorem k5_v0 : StableHlo.after hostOps0_5 W (Proc.devRef .tc main_v0) = W (Proc.devRef .tc main_v0) := by
  entry_read
  rfl
theorem k6_v0 : StableHlo.after hostOps0_6 W (Proc.devRef .tc main_v0) = W (Proc.devRef .tc main_v0) := by
  entry_read
  rfl
theorem k1_v4 : StableHlo.after hostOps0_1 W (Proc.devRef .tc main_v4) = W (Proc.devRef .tc main_v4) := by
  entry_read
  rfl
theorem k2_v4 : StableHlo.after hostOps0_2 W (Proc.devRef .tc main_v4) = W (Proc.devRef .tc main_v4) := by
  entry_read
  rfl
theorem k3_v4 : StableHlo.after hostOps0_3 W (Proc.devRef .tc main_v4) = W (Proc.devRef .tc main_v4) := by
  entry_read
  rfl
theorem k4_v4 : StableHlo.after hostOps0_4 W (Proc.devRef .tc main_v4) = W (Proc.devRef .tc main_v4) := by
  entry_read
  rfl
theorem k5_v4 : StableHlo.after hostOps0_5 W (Proc.devRef .tc main_v4) = W (Proc.devRef .tc main_v4) := by
  entry_read
  rfl
theorem k6_v4 : StableHlo.after hostOps0_6 W (Proc.devRef .tc main_v4) = W (Proc.devRef .tc main_v4) := by
  entry_read
  rfl
theorem k1_v30 : StableHlo.after hostOps0_1 W (Proc.devRef .tc main_v30) = W (Proc.devRef .tc main_v30) := by
  entry_read
  rfl
theorem k2_v30 : StableHlo.after hostOps0_2 W (Proc.devRef .tc main_v30) = W (Proc.devRef .tc main_v30) := by
  entry_read
  rfl
theorem k3_v30 : StableHlo.after hostOps0_3 W (Proc.devRef .tc main_v30) = W (Proc.devRef .tc main_v30) := by
  entry_read
  rfl
theorem k4_v30 : StableHlo.after hostOps0_4 W (Proc.devRef .tc main_v30) = W (Proc.devRef .tc main_v30) := by
  entry_read
  rfl
theorem k5_v30 : StableHlo.after hostOps0_5 W (Proc.devRef .tc main_v30) = W (Proc.devRef .tc main_v30) := by
  entry_read
  rfl
theorem k6_v30 : StableHlo.after hostOps0_6 W (Proc.devRef .tc main_v30) = W (Proc.devRef .tc main_v30) := by
  entry_read
  rfl
theorem k1_v31 : StableHlo.after hostOps0_1 W (Proc.devRef .tc main_v31) = W (Proc.devRef .tc main_v31) := by
  entry_read
  rfl
theorem k2_v31 : StableHlo.after hostOps0_2 W (Proc.devRef .tc main_v31) = W (Proc.devRef .tc main_v31) := by
  entry_read
  rfl
theorem k3_v31 : StableHlo.after hostOps0_3 W (Proc.devRef .tc main_v31) = W (Proc.devRef .tc main_v31) := by
  entry_read
  rfl
theorem k4_v31 : StableHlo.after hostOps0_4 W (Proc.devRef .tc main_v31) = W (Proc.devRef .tc main_v31) := by
  entry_read
  rfl
theorem k5_v31 : StableHlo.after hostOps0_5 W (Proc.devRef .tc main_v31) = W (Proc.devRef .tc main_v31) := by
  entry_read
  rfl
theorem k6_v31 : StableHlo.after hostOps0_6 W (Proc.devRef .tc main_v31) = W (Proc.devRef .tc main_v31) := by
  entry_read
  rfl
theorem k5_v46 : StableHlo.after hostOps0_5 W (Proc.devRef .tc main_v46) = W (Proc.devRef .tc main_v46) := by
  entry_read
  rfl
theorem k3_v34 : StableHlo.after hostOps0_3 W (Proc.devRef .tc main_v34) = W (Proc.devRef .tc main_v34) := by
  entry_read
  rfl
theorem k2_v34 : StableHlo.after hostOps0_2 W (Proc.devRef .tc main_v34) = W (Proc.devRef .tc main_v34) := by
  entry_read
  rfl
theorem k3_v32 : StableHlo.after hostOps0_3 W (Proc.devRef .tc main_v32) = W (Proc.devRef .tc main_v32) := by
  entry_read
  rfl
theorem k2_v32 : StableHlo.after hostOps0_2 W (Proc.devRef .tc main_v32) = W (Proc.devRef .tc main_v32) := by
  entry_read
  rfl
theorem k1_v32 : StableHlo.after hostOps0_1 W (Proc.devRef .tc main_v32) = W (Proc.devRef .tc main_v32) := by
  entry_read
  rfl

/-- One block of the square written from the weights. -/
def wr (o : BitVec 32) (u : Vec Ideal S64x64 .f32) (x : Vec Ideal S256x256 .f32) : Vec Ideal S256x256 .f32 :=
  Host.scatter scatter_S256x256_S2_S64x64_01_n_01_0 (fun _ b => b) x
    (concatenate S2 0 [⟨S1, (broadcastInDim S1 ![] bcast_S_S1 (constantI S_ 32 o) : IVec S1 32)⟩, ⟨S1, (broadcastInDim S1 ![] bcast_S_S1 (constantI S_ 32 o) : IVec S1 32)⟩] concatenates_S1_S1_S2_d0 : IVec S2 32) u

theorem a0_30 : StableHlo.after hostOps0 W (Proc.devRef .tc main_v30) =
    (truncf .bf16 (wr 192#32 (shapeCast S64x64 (extractStridedSlice S1x64x64 ![3, 0, 0] (W (Proc.devRef .tc main_arg3) : FVec Ideal S4x64x64 .f32) slices_S4x64x64_S1x64x64_3_0_0) shapeCasts_S1x64x64_S64x64)
      (wr 128#32 (shapeCast S64x64 (extractStridedSlice S1x64x64 ![2, 0, 0] (W (Proc.devRef .tc main_arg3) : FVec Ideal S4x64x64 .f32) slices_S4x64x64_S1x64x64_2_0_0) shapeCasts_S1x64x64_S64x64)
      (wr 64#32 (shapeCast S64x64 (extractStridedSlice S1x64x64 ![1, 0, 0] (W (Proc.devRef .tc main_arg3) : FVec Ideal S4x64x64 .f32) slices_S4x64x64_S1x64x64_1_0_0) shapeCasts_S1x64x64_S64x64)
      (wr 0#32 (shapeCast S64x64 (extractStridedSlice S1x64x64 ![0, 0, 0] (W (Proc.devRef .tc main_arg3) : FVec Ideal S4x64x64 .f32) slices_S4x64x64_S1x64x64_0_0_0) shapeCasts_S1x64x64_S64x64)
        (broadcastInDim S256x256 ![] bcast_S_S256x256 (constant S_ .f32 0x00000000#32 : FVec Ideal S_ .f32)))))  : FVec Ideal S256x256 .f32) bitsLt_bf16_f32 : FVec Ideal S256x256 .bf16) := by
  entry_read
  rfl

theorem a6_55 : StableHlo.after hostOps0_6 W (Proc.devRef .tc main_v55) = (truncf .bf16 (W (Proc.devRef .tc main_v46) : FVec Ideal S128x128 .f32) bitsLt_bf16_f32 : FVec Ideal S128x128 .bf16) := by
  entry_read
  rfl

end

end Cert.KernelIdeal.Mix
-- ==== Proof.MixHost3.lean ====
/- The windows' arrays, number by number. -/
module

public import proofs.«01_k».proof.Proof.MixHost2

@[expose] public section

set_option maxRecDepth 16384

noncomputable section

open Idealize.ShloMosaic Idealize.ShloMosaic.TcCoe Idealize.SL.Sem

namespace Cert.KernelIdeal.Mix

open Cert.KernelIdeal Cert.KernelIdeal.Gen Cert.KernelIdeal.Value

section

/-- A bit as a number. -/
def num (b : BitVec 1) : EReal := uitofp (F := Ideal) .f32 (fun _ : S1.Idx => b) (ix1 0)

theorem num_one : num 1#1 = ((1 : ℝ) : EReal) := by
  show (((1#1 : BitVec 1).toNat : ℝ) : EReal) = _
  simp

theorem num_zero : num 0#1 = ((0 : ℝ) : EReal) := by
  show (((0#1 : BitVec 1).toNat : ℝ) : EReal) = _
  simp

variable (W : Valuation τ sig (Elt Ideal))

set_option maxHeartbeats 4000000

theorem a6_54 (i j : Fin 256) : (StableHlo.after hostOps0_6 W (Proc.devRef .tc main_v54) : FVec Ideal S256x256 .f32) (ix2 i j)
    = num (IntOp.cmpi .eq ((W (Proc.devRef .tc main_v48) : IVec S256 32) (ix1 i)) ((W (Proc.devRef .tc main_v48) : IVec S256 32) (ix1 j))) := by
  entry_read
  unfold num
  pointwise

theorem a6_56 (i j : Fin 256) : (StableHlo.after hostOps0_6 W (Proc.devRef .tc main_v56) : FVec Ideal S256x256 .bf16) (ix2 i j)
    = num (IntOp.cmpi .eq ((W (Proc.devRef .tc main_v48) : IVec S256 32) (ix1 i)) ((W (Proc.devRef .tc main_v48) : IVec S256 32) (ix1 j))) := by
  entry_read
  unfold num
  pointwise

theorem a4_46 (i j : Fin 128) : (StableHlo.after hostOps0_4 W (Proc.devRef .tc main_v46) : FVec Ideal S128x128 .f32) (ix2 i j)
    = num (IntOp.andi (IntOp.cmpi .eq ((W (Proc.devRef .tc main_v34) : IVec S128x1 32) (ix2 i 0)) ((W (Proc.devRef .tc main_v36) : IVec S1x128 32) (ix2 0 j)))
      (IntOp.cmpi .sle ((W (Proc.devRef .tc main_v32) : IVec S128 32) (ix1 j)) ((W (Proc.devRef .tc main_v32) : IVec S128 32) (ix1 i)))) := by
  entry_read
  unfold num
  pointwise

end

theorem bits128 : ∀ i j : Fin 128, IntOp.andi (IntOp.cmpi .eq (BitVec.ofNat 32 (i.val / 16)) (BitVec.ofNat 32 (j.val / 16))) (IntOp.cmpi .sle (BitVec.ofNat 32 j.val) (BitVec.ofNat 32 i.val))
    = if j.val / 16 = i.val / 16 ∧ j.val ≤ i.val then 1#1 else 0#1 := by decide +kernel

theorem bits4 : ∀ i j : Fin 4, IntOp.cmpi .eq (BitVec.ofNat 32 i.val) (BitVec.ofNat 32 j.val) = if i.val = j.val then 1#1 else 0#1 := by decide +kernel

/-- The four blocks on the diagonal. -/
theorem wr_at (o : BitVec 32) (n : ℕ) (ho : ∀ k : Fin 2, ((concatenate S2 0 [⟨S1, (broadcastInDim S1 ![] bcast_S_S1 (constantI S_ 32 o) : IVec S1 32)⟩, ⟨S1, (broadcastInDim S1 ![] bcast_S_S1 (constantI S_ 32 o) : IVec S1 32)⟩] concatenates_S1_S1_S2_d0 : IVec S2 32) (ix1 k)).toInt = n)
    (u : Vec Ideal S64x64 .f32) (x : Vec Ideal S256x256 .f32) (r c : Fin 256) :
    wr o u x (ix2 r c) = if h : (n ≤ r.val ∧ r.val < n + 64) ∧ (n ≤ c.val ∧ c.val < n + 64) then u (ix2 (⟨r.val - n, by omega⟩ : Fin 64) (⟨c.val - n, by omega⟩ : Fin 64)) else x (ix2 r c) :=
  block x _ u n (ho 0) (ho 1) r c

theorem ho0 : ∀ k : Fin 2, ((concatenate S2 0 [⟨S1, (broadcastInDim S1 ![] bcast_S_S1 (constantI S_ 32 0#32) : IVec S1 32)⟩, ⟨S1, (broadcastInDim S1 ![] bcast_S_S1 (constantI S_ 32 0#32) : IVec S1 32)⟩] concatenates_S1_S1_S2_d0 : IVec S2 32) (ix1 k)).toInt = (0 : ℕ) := by decide +kernel
theorem ho1 : ∀ k : Fin 2, ((concatenate S2 0 [⟨S1, (broadcastInDim S1 ![] bcast_S_S1 (constantI S_ 32 64#32) : IVec S1 32)⟩, ⟨S1, (broadcastInDim S1 ![] bcast_S_S1 (constantI S_ 32 64#32) : IVec S1 32)⟩] concatenates_S1_S1_S2_d0 : IVec S2 32) (ix1 k)).toInt = (64 : ℕ) := by decide +kernel
theorem ho2 : ∀ k : Fin 2, ((concatenate S2 0 [⟨S1, (broadcastInDim S1 ![] bcast_S_S1 (constantI S_ 32 128#32) : IVec S1 32)⟩, ⟨S1, (broadcastInDim S1 ![] bcast_S_S1 (constantI S_ 32 128#32) : IVec S1 32)⟩] concatenates_S1_S1_S2_d0 : IVec S2 32) (ix1 k)).toInt = (128 : ℕ) := by decide +kernel
theorem ho3 : ∀ k : Fin 2, ((concatenate S2 0 [⟨S1, (broadcastInDim S1 ![] bcast_S_S1 (constantI S_ 32 192#32) : IVec S1 32)⟩, ⟨S1, (broadcastInDim S1 ![] bcast_S_S1 (constantI S_ 32 192#32) : IVec S1 32)⟩] concatenates_S1_S1_S2_d0 : IVec S2 32) (ix1 k)).toInt = (192 : ℕ) := by decide +kernel

theorem up0 (w : FVec Ideal S4x64x64 .f32) (p q : Fin 64) : (shapeCast S64x64 (extractStridedSlice S1x64x64 ![0, 0, 0] w slices_S4x64x64_S1x64x64_0_0_0) shapeCasts_S1x64x64_S64x64 : FVec Ideal S64x64 .f32) (ix2 p q) = w (ix3 0 p q) := by
  pointwise
theorem up1 (w : FVec Ideal S4x64x64 .f32) (p q : Fin 64) : (shapeCast S64x64 (extractStridedSlice S1x64x64 ![1, 0, 0] w slices_S4x64x64_S1x64x64_1_0_0) shapeCasts_S1x64x64_S64x64 : FVec Ideal S64x64 .f32) (ix2 p q) = w (ix3 1 p q) := by
  pointwise
theorem up2 (w : FVec Ideal S4x64x64 .f32) (p q : Fin 64) : (shapeCast S64x64 (extractStridedSlice S1x64x64 ![2, 0, 0] w slices_S4x64x64_S1x64x64_2_0_0) shapeCasts_S1x64x64_S64x64 : FVec Ideal S64x64 .f32) (ix2 p q) = w (ix3 2 p q) := by
  pointwise
theorem up3 (w : FVec Ideal S4x64x64 .f32) (p q : Fin 64) : (shapeCast S64x64 (extractStridedSlice S1x64x64 ![3, 0, 0] w slices_S4x64x64_S1x64x64_3_0_0) shapeCasts_S1x64x64_S64x64 : FVec Ideal S64x64 .f32) (ix2 p q) = w (ix3 3 p q) := by
  pointwise

/-- Narrowing is free. -/
theorem trunc_at (x : FVec Ideal S256x256 .f32) (j : S256x256.Idx) : (truncf .bf16 x bitsLt_bf16_f32 : FVec Ideal S256x256 .bf16) j = x j := by
  pointwise

theorem trunc_at' (x : FVec Ideal S128x128 .f32) (j : S128x128.Idx) : (truncf .bf16 x bitsLt_bf16_f32 : FVec Ideal S128x128 .bf16) j = x j := by
  pointwise

theorem diag (w : FVec Ideal S4x64x64 .f32) (r c : Fin 256) :
    (truncf .bf16 (wr 192#32 (shapeCast S64x64 (extractStridedSlice S1x64x64 ![3, 0, 0] w slices_S4x64x64_S1x64x64_3_0_0) shapeCasts_S1x64x64_S64x64)
      (wr 128#32 (shapeCast S64x64 (extractStridedSlice S1x64x64 ![2, 0, 0] w slices_S4x64x64_S1x64x64_2_0_0) shapeCasts_S1x64x64_S64x64)
      (wr 64#32 (shapeCast S64x64 (extractStridedSlice S1x64x64 ![1, 0, 0] w slices_S4x64x64_S1x64x64_1_0_0) shapeCasts_S1x64x64_S64x64)
      (wr 0#32 (shapeCast S64x64 (extractStridedSlice S1x64x64 ![0, 0, 0] w slices_S4x64x64_S1x64x64_0_0_0) shapeCasts_S1x64x64_S64x64)
        (broadcastInDim S256x256 ![] bcast_S_S256x256 (constant S_ .f32 0x00000000#32 : FVec Ideal S_ .f32)))))  : FVec Ideal S256x256 .f32) bitsLt_bf16_f32 : FVec Ideal S256x256 .bf16) (ix2 r c)
      = if r.val / 64 = c.val / 64 then w (ix3 (⟨c.val / 64, by omega⟩ : Fin 4) (⟨r.val % 64, by omega⟩ : Fin 64) (⟨c.val % 64, by omega⟩ : Fin 64)) else (0 : EReal) := by
  have hr := r.isLt
  have hc := c.isLt
  refine (trunc_at _ _).trans ?_
  rw [wr_at _ 192 ho3, wr_at _ 128 ho2, wr_at _ 64 ho1, wr_at _ 0 ho0]
  have z : (broadcastInDim S256x256 ![] bcast_S_S256x256 (constant S_ .f32 0x00000000#32 : FVec Ideal S_ .f32) : FVec Ideal S256x256 .f32) (ix2 r c) = (0 : EReal) := by
    pointwise
  rw [z]
  by_cases h : r.val / 64 = c.val / 64
  · rw [if_pos h]
    have hq : c.val / 64 = 3 ∨ c.val / 64 = 2 ∨ c.val / 64 = 1 ∨ c.val / 64 = 0 := by omega
    rcases hq with q | q | q | q
    · rw [dif_pos (by omega), up3]
      exact congrArg w (congr (congrArg₂ (fun (a : Fin 4) (b c : Fin 64) => (ix3 a b c : S4x64x64.Idx)) (Fin.ext (by show 3 = c.val / 64; omega)) (Fin.ext (by show r.val - 192 = r.val % 64; omega))) (Fin.ext (by show c.val - 192 = c.val % 64; omega)))
    · rw [dif_neg (by omega), dif_pos (by omega), up2]
      exact congrArg w (congr (congrArg₂ (fun (a : Fin 4) (b c : Fin 64) => (ix3 a b c : S4x64x64.Idx)) (Fin.ext (by show 2 = c.val / 64; omega)) (Fin.ext (by show r.val - 128 = r.val % 64; omega))) (Fin.ext (by show c.val - 128 = c.val % 64; omega)))
    · rw [dif_neg (by omega), dif_neg (by omega), dif_pos (by omega), up1]
      exact congrArg w (congr (congrArg₂ (fun (a : Fin 4) (b c : Fin 64) => (ix3 a b c : S4x64x64.Idx)) (Fin.ext (by show 1 = c.val / 64; omega)) (Fin.ext (by show r.val - 64 = r.val % 64; omega))) (Fin.ext (by show c.val - 64 = c.val % 64; omega)))
    · rw [dif_neg (by omega), dif_neg (by omega), dif_neg (by omega), dif_pos (by omega), up0]
      exact congrArg w (congr (congrArg₂ (fun (a : Fin 4) (b c : Fin 64) => (ix3 a b c : S4x64x64.Idx)) (Fin.ext (by show 0 = c.val / 64; omega)) (Fin.ext (by show r.val - 0 = r.val % 64; omega))) (Fin.ext (by show c.val - 0 = c.val % 64; omega)))
  · rw [if_neg h, dif_neg (by omega), dif_neg (by omega), dif_neg (by omega), dif_neg (by omega)]

end Cert.KernelIdeal.Mix
-- ==== Proof.MixReal.lean ====
module

public import proofs.«01_k».proof.Proof.MixStep

@[expose] public section

set_option maxRecDepth 16384

noncomputable section

open Idealize.ShloMosaic Idealize.ShloMosaic.TcCoe Idealize.SL.Sem

namespace Cert.KernelIdeal.Mix

open Cert.KernelIdeal Cert.KernelIdeal.Gen

/-- A real sum, read as an extended real. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The reciprocal of the natural log of two. -/
def ell : ℝ := (Real.log 2)⁻¹

/-- Two to the power of a natural log in base two. -/
theorem exp2_ell (x : ℝ) : (FloatOps.exp2 (F := Ideal) (φ := .f32) (((x * ell : ℝ) : EReal)) : EReal) = ((Real.exp x : ℝ) : EReal) := by
  show Ideal.exp2 _ = _
  rw [Ideal.exp2_coe]
  congr 1
  show (2 : ℝ) ^ (x * ell) = _
  rw [Real.rpow_def_of_pos (by norm_num)]
  congr 1
  have : Real.log 2 ≠ 0 := (Real.log_pos (by norm_num)).ne'
  unfold ell; field_simp

/-- One where two lanes are of one head, zero elsewhere. -/
def same (x n : Fin 256) : ℝ := if x.val / 64 = n.val / 64 then 1 else 0

/-- The state before row `T`. -/
def ST (P K V : ℕ → Fin 256 → ℝ) (T : ℕ) (n x : Fin 256) : ℝ :=
  same x n * ∑ s ∈ Finset.range T, V s n * K s x * Real.exp (P T x - P (s + 1) x)

/-- The output of row `t`, before the norm. -/
def OT (P Q K V : ℕ → Fin 256 → ℝ) (t : ℕ) (n : Fin 256) : ℝ :=
  ∑ s ∈ Finset.range (t + 1), (∑ x, Q t x * K s x * Real.exp (P (t + 1) x - P (s + 1) x) * same x n) * V s n

theorem ST_zero (P K V : ℕ → Fin 256 → ℝ) (n x : Fin 256) : ST P K V 0 n x = 0 := by
  simp [ST]

theorem ST_step (P K V : ℕ → Fin 256 → ℝ) (T : ℕ) (n x : Fin 256) :
    ST P K V (T + 16) n x = Real.exp (P (T + 16) x - P T x) * ST P K V T n x
      + (∑ j : Fin 16, V (T + j.val) n * (K (T + j.val) x * Real.exp (P (T + 16) x - P (T + j.val + 1) x))) * same x n := by
  unfold ST
  rw [Finset.sum_range_add, mul_add, Finset.sum_range (fun j => V (T + j) n * K (T + j) x * Real.exp (P (T + 16) x - P (T + j + 1) x))]
  congr 1
  · rw [mul_left_comm]
    congr 1
    rw [Finset.mul_sum]
    refine Finset.sum_congr rfl fun s _ => ?_
    rw [mul_left_comm (Real.exp _), ← Real.exp_add]
    congr 2; ring
  · rw [mul_comm]
    congr 1
    refine Finset.sum_congr rfl fun j _ => ?_
    ring

theorem OT_split (P Q K V : ℕ → Fin 256 → ℝ) (T : ℕ) (i : Fin 16) (n : Fin 256) :
    (∑ x, Q (T + i.val) x * Real.exp (P (T + i.val + 1) x - P T x) * ST P K V T n x)
      + ∑ s ∈ Finset.range 16, (∑ x, (if s ≤ i.val then Real.exp (P (T + i.val + 1) x - P (T + s + 1) x) * (Q (T + i.val) x * K (T + s) x) else 0) * same x n) * V (T + s) n
    = OT P Q K V (T + i.val) n := by
  unfold OT
  rw [add_assoc T i.val 1, Finset.sum_range_add]
  congr 1
  · unfold ST
    simp only [Finset.mul_sum, Finset.sum_mul]
    rw [Finset.sum_comm]
    refine Finset.sum_congr rfl fun s _ => Finset.sum_congr rfl fun x _ => ?_
    have e : Real.exp (P (T + (i.val + 1)) x - P (s + 1) x) = Real.exp (P (T + (i.val + 1)) x - P T x) * Real.exp (P T x - P (s + 1) x) := by
      rw [← Real.exp_add]; congr 1; ring
    rw [e]; ring
  · have hsub : Finset.range (i.val + 1) ⊆ Finset.range 16 := Finset.range_mono i.isLt
    refine (Finset.sum_subset hsub ?_).symm.trans ?_
    · intro s _ hs
      have hs' : ¬ s ≤ i.val := by simpa [Nat.lt_succ_iff] using hs
      simp [hs']
    · refine Finset.sum_congr rfl fun s hs => ?_
      have hs' : s ≤ i.val := by simpa [Nat.lt_succ_iff] using hs
      congr 1
      refine Finset.sum_congr rfl fun x _ => ?_
      rw [if_pos hs']; ring

end Cert.KernelIdeal.Mix
-- ==== Proof.MixStretch.lean ====
module

public import proofs.«01_k».proof.Proof.MixReal

@[expose] public section

set_option maxRecDepth 16384

noncomputable section

open Idealize.ShloMosaic Idealize.ShloMosaic.TcCoe Idealize.SL.Sem

namespace Cert.KernelIdeal.Mix

open Cert.KernelIdeal Cert.KernelIdeal.Gen

/-- One key's product with one query, decayed, where the query is not before the key. -/
def E (P Q K : ℕ → Fin 256 → ℝ) (T s r : ℕ) (x : Fin 256) : ℝ :=
  if s ≤ r then Real.exp (P (T + r + 1) x - P (T + s + 1) x) * (Q (T + r) x * K (T + s) x) else 0

/-- The products summed over a head. -/
def SC (P Q K : ℕ → Fin 256 → ℝ) (T s r : ℕ) (n : Fin 256) : ℝ := ∑ x, E P Q K T s r x * same x n

variable {P Q K V : ℕ → Fin 256 → ℝ} {T : ℕ}

theorem sel_le (s r : ℕ) (hs : s < 256) (hr : r < 256) (a b : EReal) :
    Scalar.select (IntOp.cmpi CmpIPredicate.sge (BitVec.ofNat 32 r) (BitVec.ofNat 32 s)) a b = if s ≤ r then a else b := by
  have h : (BitVec.sle (BitVec.ofNat 32 s) (BitVec.ofNat 32 r)) = decide (s ≤ r) := by
    rw [BitVec.sle_eq_decide]
    have hn : ∀ n : ℕ, n < 256 → (BitVec.ofNat 32 n).toInt = (n : ℤ) := fun n hn => by
      have e : (BitVec.ofNat 32 n).toNat = n := by rw [BitVec.toNat_ofNat]; exact Nat.mod_eq_of_lt (by omega)
      rw [BitVec.toInt_eq_toNat_of_lt (by rw [e]; omega), e]
    rw [hn s hs, hn r hr]
    simp
  unfold Scalar.select IntOp.cmpi
  simp only [h]
  by_cases hsr : s ≤ r <;> simp [hsr]

theorem E_coe (hP : Antitone P) (s r : ℕ) (x : Fin 256) (c q k : EReal) (c' k' : EReal)
    (hc : c = (((P (T + r + 1) x - P T x) * ell : ℝ) : EReal)) (hc' : c' = (((P (T + s + 1) x - P T x) * ell : ℝ) : EReal)) (hq : q = ((Q (T + r) x : ℝ) : EReal)) (hk : k' = ((K (T + s) x : ℝ) : EReal)) :
    (if s ≤ r then FloatOps.exp2 (F := Ideal) (φ := .f32) (min (c - c') (0 : EReal)) * (q * k') else (0 : EReal)) = ((E P Q K T s r x : ℝ) : EReal) := by
  unfold E
  split_ifs with h
  · have hle : P (T + r + 1) x - P (T + s + 1) x ≤ 0 := by
      have := hP (show T + s + 1 ≤ T + r + 1 by omega) x
      linarith
    have hel : 0 ≤ ell := by
      unfold ell; exact inv_nonneg.mpr (Real.log_nonneg (by norm_num))
    have e : (c - c' : EReal) = (((P (T + r + 1) x - P (T + s + 1) x) * ell : ℝ) : EReal) := by
      rw [hc, hc', ← EReal.coe_sub]; congr 1; ring
    have hm : min (c - c') (0 : EReal) = (((P (T + r + 1) x - P (T + s + 1) x) * ell : ℝ) : EReal) := by
      rw [e]; exact min_eq_left (by exact_mod_cast mul_nonpos_of_nonpos_of_nonneg hle hel)
    rw [hm, exp2_ell, hq, hk, ← EReal.coe_mul, ← EReal.coe_mul]
  · rfl

/-- What the sixteen rows of a stretch read. -/
structure Rows (P Q K V : ℕ → Fin 256 → ℝ) (T : ℕ) (c q k v : FVec Ideal S16x256 .f32) : Prop where
  c : ∀ (i : Fin 16) (x : Fin 256), c (ix2 i x) = (((P (T + i.val + 1) x - P T x) * ell : ℝ) : EReal)
  q : ∀ (i : Fin 16) (x : Fin 256), q (ix2 i x) = ((Q (T + i.val) x : ℝ) : EReal)
  k : ∀ (i : Fin 16) (x : Fin 256), k (ix2 i x) = ((K (T + i.val) x : ℝ) : EReal)
  v : ∀ (i : Fin 16) (x : Fin 256), v (ix2 i x) = ((V (T + i.val) x : ℝ) : EReal)

variable {c q k v : FVec Ideal S16x256 .f32}

theorem pTop_real (hP : Antitone P) (h : Rows P Q K V T c q k v) (s : ℕ) (hs : s < 16) (hsl : S16x256.Slices ![s, 0] S1x256) (i : Fin 16) (x : Fin 256) :
    pTop s hsl c q k (ix2 i x) = ((E P Q K T s i.val x : ℝ) : EReal) := by
  refine Eq.trans ?_ (E_coe (T := T) (Q := Q) (K := K) hP s i.val x _ _ (k (ix2 i x)) _ _ (h.c i x) (h.c ⟨s, hs⟩ x) (h.q i x) (h.k ⟨s, hs⟩ x))
  rw [← sel_le s i.val (by omega) (by omega)]
  unfold pTop; pointwise

theorem pBot_real (hP : Antitone P) (h : Rows P Q K V T c q k v) (s : ℕ) (hs : s < 16) (hsl : S16x256.Slices ![s, 0] S1x256) (i : Fin 8) (x : Fin 256) :
    pBot s hsl c q k (ix2 i x) = ((E P Q K T s (8 + i.val) x : ℝ) : EReal) := by
  refine Eq.trans ?_ (E_coe (T := T) (Q := Q) (K := K) hP s (8 + i.val) x _ _ (k (ix2 ⟨8 + i.val, by omega⟩ x)) _ _ (h.c ⟨8 + i.val, by omega⟩ x) (h.c ⟨s, hs⟩ x) (h.q ⟨8 + i.val, by omega⟩ x) (h.k ⟨s, hs⟩ x))
  rw [← sel_le s (8 + i.val) (by omega) (by omega)]
  have e : BitVec.ofNat 32 (8 + i.val) = IntOp.addi (BitVec.ofNat 32 i.val) 8#32 := by
    show _ = BitVec.ofNat 32 i.val + BitVec.ofNat 32 8
    rw [← BitVec.ofNat_add, Nat.add_comm]
  rw [e]
  unfold pBot; pointwise

/-- The pieces of a column of blocks, from row `o` on, are the values of `G` at their rows, in column `x`. -/
def Matches (x : ℕ) (G : ℕ → EReal) : List ((s : Shape) × (s.Idx → EReal)) → ℕ → Prop
  | [], _ => True
  | p :: xs, o => ∃ hr : p.1.rank = 2, (∀ j : p.1.Idx, (j (Fin.cast hr.symm 1)).val = x → p.2 j = G (o + (j (Fin.cast hr.symm 0)).val))
      ∧ Matches x G xs (o + p.1.size (Fin.cast hr.symm 0))

theorem catAt_eq (x : ℕ) (G : ℕ → EReal) (t : Shape) (ht : t.rank = 2) (j : t.Idx) (hj : (j (Fin.cast ht.symm 1)).val = x) :
    ∀ (xs : List ((s : Shape) × (s.Idx → EReal))) (hs : ∀ s ∈ xs.map (·.1), s.FitsOff t (Fin.cast ht.symm 0)) (c : ℕ) (hc : c < (axisSizes t (Fin.cast ht.symm 0) xs).sum) (o : ℕ),
      Matches x G xs o → concatenateAt t (Fin.cast ht.symm 0) j xs hs c hc = G (o + c)
  | [], _, _, hc, _, _ => absurd hc (Nat.not_lt_zero _)
  | [p], hs, c, hc, o, hm => by
    obtain ⟨hr, h, _⟩ := hm
    rw [concatenateAt]
    refine (h _ ?_).trans ?_
    · rw [Shape.Idx.norm_def]; simpa using hj
    · rw [Shape.Idx.norm_def]; simp
  | p :: q :: xs, hs, c, hc, o, hm => by
    obtain ⟨hr, h, hm'⟩ := hm
    rw [concatenateAt]
    split_ifs with hlt
    · refine (h _ ?_).trans ?_
      · rw [Shape.Idx.norm_def]; simpa using hj
      · rw [Shape.Idx.norm_def]; simp
    · refine (catAt_eq x G t ht j hj (q :: xs) _ _ _ _ hm').trans ?_
      congr 1
      have : p.1.size (Fin.cast hr.symm 0) = p.1.size ((Fin.cast ht.symm 0).cast (hs p.1 List.mem_cons_self).rank_eq.symm) := rfl
      omega

theorem ix2_eta {a b : ℕ} (y : Shape.Idx ⟨2, ![a, b]⟩) : y = ix2 (y 0) (y 1) := by
  funext k; fin_cases k <;> rfl

theorem eAll_real (hP : Antitone P) (h : Rows P Q K V T c q k v) (i : Fin 192) (x : Fin 256) :
    eAll c q k (ix2 i x) = (((if i.val < 128 then E P Q K T (i.val / 16) (i.val % 16) x else E P Q K T (8 + (i.val - 128) / 8) (8 + (i.val - 128) % 8) x) : ℝ) : EReal) := by
  have top : ∀ (s : ℕ) (hs : s < 8) (hsl : S16x256.Slices ![s, 0] S1x256) (y : S16x256.Idx), (y 1).val = x.val →
      pTop s hsl c q k y = (((if 16 * s + (y 0).val < 128 then E P Q K T ((16 * s + (y 0).val) / 16) ((16 * s + (y 0).val) % 16) x else E P Q K T (8 + (16 * s + (y 0).val - 128) / 8) (8 + (16 * s + (y 0).val - 128) % 8) x) : ℝ) : EReal) := fun s hs hsl y hy => by
    have h0 : (y 0).val < 16 := (y 0).isLt
    have hx : y 1 = x := Fin.ext hy
    rw [if_pos (by omega), show (16 * s + (y 0).val) / 16 = s by omega, show (16 * s + (y 0).val) % 16 = (y 0).val by omega, ← hx]
    exact (congrArg _ (ix2_eta y)).trans (pTop_real hP h s (by omega) hsl (y 0) (y 1))
  have bot : ∀ (s : ℕ) (hs : s < 8) (hsl : S16x256.Slices ![8 + s, 0] S1x256) (y : S8x256.Idx), (y 1).val = x.val →
      pBot (8 + s) hsl c q k y = (((if 128 + 8 * s + (y 0).val < 128 then E P Q K T ((128 + 8 * s + (y 0).val) / 16) ((128 + 8 * s + (y 0).val) % 16) x else E P Q K T (8 + (128 + 8 * s + (y 0).val - 128) / 8) (8 + (128 + 8 * s + (y 0).val - 128) % 8) x) : ℝ) : EReal) := fun s hs hsl y hy => by
    have h0 : (y 0).val < 8 := (y 0).isLt
    have hx : y 1 = x := Fin.ext hy
    rw [if_neg (by omega), show 8 + (128 + 8 * s + (y 0).val - 128) / 8 = 8 + s by omega, show (128 + 8 * s + (y 0).val - 128) % 8 = (y 0).val by omega, ← hx]
    exact (congrArg _ (ix2_eta y)).trans (pBot_real hP h (8 + s) (by omega) hsl (y 0) (y 1))
  refine (concatenate_apply ..).trans ?_
  refine (catAt_eq x.val (fun i => (((if i < 128 then E P Q K T (i / 16) (i % 16) x else E P Q K T (8 + (i - 128) / 8) (8 + (i - 128) % 8) x) : ℝ) : EReal)) S192x256 rfl (ix2 i x) rfl _ _ _ _ 0 ?_).trans ?_
  · exact ⟨rfl, top 0 (by omega) _, rfl, top 1 (by omega) _, rfl, top 2 (by omega) _, rfl, top 3 (by omega) _, rfl, top 4 (by omega) _, rfl, top 5 (by omega) _, rfl, top 6 (by omega) _, rfl, top 7 (by omega) _,
      rfl, bot 0 (by omega) _, rfl, bot 1 (by omega) _, rfl, bot 2 (by omega) _, rfl, bot 3 (by omega) _, rfl, bot 4 (by omega) _, rfl, bot 5 (by omega) _, rfl, bot 6 (by omega) _, rfl, bot 7 (by omega) _, trivial⟩
  · have e : 0 + (ix2 i x 0).val = i.val := Nat.zero_add _
    simp only [e]

/-- Scores of one row. -/
theorem scores_real (hP : Antitone P) (h : Rows P Q K V T c q k v) (ho : FVec Ideal S256x256 .bf16) (hho : ∀ x n : Fin 256, ho (ix2 x n) = ((same x n : ℝ) : EReal)) (i : Fin 192) (n : Fin 256) :
    scores ho c q k (ix2 i n) = (((if i.val < 128 then SC P Q K T (i.val / 16) (i.val % 16) n else SC P Q K T (8 + (i.val - 128) / 8) (8 + (i.val - 128) % 8) n) : ℝ) : EReal) := by
  have e : scores ho c q k (ix2 i n) = ∑ x, eAll c q k (ix2 i x) * ho (ix2 x n) := by unfold scores; pointwise
  rw [e]
  split_ifs with hi
  · unfold SC; rw [coe_sum]
    refine Finset.sum_congr rfl fun x _ => ?_
    rw [eAll_real hP h, if_pos hi, hho, EReal.coe_mul]
  · unfold SC; rw [coe_sum]
    refine Finset.sum_congr rfl fun x _ => ?_
    rw [eAll_real hP h, if_neg hi, hho, EReal.coe_mul]

/-- One value, weighted. -/
theorem term_real (hP : Antitone P) (h : Rows P Q K V T c q k v) (ho : FVec Ideal S256x256 .bf16) (hho : ∀ x n : Fin 256, ho (ix2 x n) = ((same x n : ℝ) : EReal))
    (o s r : ℕ) (i : Fin 8) (n : Fin 256) (hs : s < 16) (hr : (r = i.val ∧ o = 16 * s ∧ s < 8) ∨ (r = 8 + i.val ∧ o = 16 * s + 8 ∧ s < 8) ∨ (r = 8 + i.val ∧ o = 64 + 8 * s ∧ 8 ≤ s))
    (h1 : S192x256.Slices ![o, 0] S8x256) (h2 : S16x256.Slices ![s, 0] S1x256) :
    term o s h1 h2 (scores ho c q k) v (ix2 i n) = ((SC P Q K T s r n * V (T + s) n : ℝ) : EReal) := by
  have hi := i.isLt
  have e : term o s h1 h2 (scores ho c q k) v (ix2 i n) = scores ho c q k (ix2 ⟨o + i.val, by omega⟩ n) * v (ix2 ⟨s, hs⟩ n) := by unfold term; pointwise
  rw [e, scores_real hP h ho hho, h.v, EReal.coe_mul]
  congr 2
  simp only []
  rcases hr with ⟨rfl, rfl, h8⟩ | ⟨rfl, rfl, h8⟩ | ⟨rfl, rfl, h8⟩
  · rw [if_pos (by omega), show (16 * s + i.val) / 16 = s by omega, show (16 * s + i.val) % 16 = i.val by omega]
  · rw [if_pos (by omega), show (16 * s + 8 + i.val) / 16 = s by omega, show (16 * s + 8 + i.val) % 16 = 8 + i.val by omega]
  · rw [if_neg (by omega), show 8 + (64 + 8 * s + i.val - 128) / 8 = s by omega, show (64 + 8 * s + i.val - 128) % 8 = i.val by omega]

/-- What a row takes from its stretch. -/
theorem intra_real (hP : Antitone P) (h : Rows P Q K V T c q k v) (ho : FVec Ideal S256x256 .bf16) (hho : ∀ x n : Fin 256, ho (ix2 x n) = ((same x n : ℝ) : EReal)) (i : Fin 16) (n : Fin 256) :
    intra ho c q k v (ix2 i n) = ((∑ s ∈ Finset.range 16, SC P Q K T s i.val n * V (T + s) n : ℝ) : EReal) := by
  have hi := i.isLt
  by_cases h8 : i.val < 8
  · have e : intra ho c q k v (ix2 i n) = oTop (scores ho c q k) v (ix2 ⟨i.val, h8⟩ n) := by unfold intra; pointwise; rw [dif_pos h8]
    have z : ∀ s, 8 ≤ s → SC P Q K T s i.val n = 0 := fun s hs => by
      unfold SC E
      refine Finset.sum_eq_zero fun x _ => ?_
      rw [if_neg (by omega), zero_mul]
    have e2 : oTop (scores ho c q k) v (ix2 ⟨i.val, h8⟩ n) = (0 : EReal) + ((SC P Q K T 0 i.val n * V (T + 0) n : ℝ) : EReal) + ((SC P Q K T 1 i.val n * V (T + 1) n : ℝ) : EReal)
        + ((SC P Q K T 2 i.val n * V (T + 2) n : ℝ) : EReal) + ((SC P Q K T 3 i.val n * V (T + 3) n : ℝ) : EReal) + ((SC P Q K T 4 i.val n * V (T + 4) n : ℝ) : EReal)
        + ((SC P Q K T 5 i.val n * V (T + 5) n : ℝ) : EReal) + ((SC P Q K T 6 i.val n * V (T + 6) n : ℝ) : EReal) + ((SC P Q K T 7 i.val n * V (T + 7) n : ℝ) : EReal) := by
      have t : ∀ (o s : ℕ) (hs : s < 8) (ho' : o = 16 * s) (h1 : S192x256.Slices ![o, 0] S8x256) (h2 : S16x256.Slices ![s, 0] S1x256),
          term o s h1 h2 (scores ho c q k) v (ix2 ⟨i.val, h8⟩ n) = ((SC P Q K T s i.val n * V (T + s) n : ℝ) : EReal) :=
        fun o s hs ho' h1 h2 => term_real hP h ho hho o s i.val ⟨i.val, h8⟩ n (by omega) (Or.inl ⟨rfl, ho', hs⟩) h1 h2
      rw [← t 0 0 (by omega) rfl slices_S192x256_o0_0_S8x256 slices_S16x256_o0_0_S1x256, ← t 16 1 (by omega) rfl slices_S192x256_o16_0_S8x256 slices_S16x256_o1_0_S1x256,
        ← t 32 2 (by omega) rfl slices_S192x256_o32_0_S8x256 slices_S16x256_o2_0_S1x256, ← t 48 3 (by omega) rfl slices_S192x256_o48_0_S8x256 slices_S16x256_o3_0_S1x256,
        ← t 64 4 (by omega) rfl slices_S192x256_o64_0_S8x256 slices_S16x256_o4_0_S1x256, ← t 80 5 (by omega) rfl slices_S192x256_o80_0_S8x256 slices_S16x256_o5_0_S1x256,
        ← t 96 6 (by omega) rfl slices_S192x256_o96_0_S8x256 slices_S16x256_o6_0_S1x256, ← t 112 7 (by omega) rfl slices_S192x256_o112_0_S8x256 slices_S16x256_o7_0_S1x256]
      unfold oTop
      generalize scores ho c q k = sc
      pointwise
      all_goals (try simp only [zero_add])
      all_goals (try rfl)
    rw [e, e2]
    simp only [Finset.sum_range_succ, Finset.sum_range_zero, zero_add, z 8 (by omega), z 9 (by omega), z 10 (by omega), z 11 (by omega), z 12 (by omega), z 13 (by omega), z 14 (by omega), z 15 (by omega), zero_mul, add_zero, EReal.coe_add]
  · have e : intra ho c q k v (ix2 i n) = oBot (scores ho c q k) v (ix2 ⟨i.val - 8, by omega⟩ n) := by unfold intra; pointwise; rw [dif_neg h8]
    have t : ∀ (o s : ℕ) (hs : s < 16) (ho' : (o = 16 * s + 8 ∧ s < 8) ∨ (o = 64 + 8 * s ∧ 8 ≤ s)) (h1 : S192x256.Slices ![o, 0] S8x256) (h2 : S16x256.Slices ![s, 0] S1x256),
        term o s h1 h2 (scores ho c q k) v (ix2 ⟨i.val - 8, by omega⟩ n) = ((SC P Q K T s i.val n * V (T + s) n : ℝ) : EReal) :=
      fun o s hs ho' h1 h2 => term_real hP h ho hho o s i.val ⟨i.val - 8, by omega⟩ n hs (by simp only []; omega) h1 h2
    rw [e]
    simp only [Finset.sum_range_succ, Finset.sum_range_zero, zero_add, EReal.coe_add]
    rw [← t 8 0 (by omega) (by omega) slices_S192x256_o8_0_S8x256 slices_S16x256_o0_0_S1x256, ← t 24 1 (by omega) (by omega) slices_S192x256_o24_0_S8x256 slices_S16x256_o1_0_S1x256, ← t 40 2 (by omega) (by omega) slices_S192x256_o40_0_S8x256 slices_S16x256_o2_0_S1x256, ← t 56 3 (by omega) (by omega) slices_S192x256_o56_0_S8x256 slices_S16x256_o3_0_S1x256, ← t 72 4 (by omega) (by omega) slices_S192x256_o72_0_S8x256 slices_S16x256_o4_0_S1x256, ← t 88 5 (by omega) (by omega) slices_S192x256_o88_0_S8x256 slices_S16x256_o5_0_S1x256, ← t 104 6 (by omega) (by omega) slices_S192x256_o104_0_S8x256 slices_S16x256_o6_0_S1x256, ← t 120 7 (by omega) (by omega) slices_S192x256_o120_0_S8x256 slices_S16x256_o7_0_S1x256, ← t 128 8 (by omega) (by omega) slices_S192x256_o128_0_S8x256 slices_S16x256_o8_0_S1x256, ← t 136 9 (by omega) (by omega) slices_S192x256_o136_0_S8x256 slices_S16x256_o9_0_S1x256, ← t 144 10 (by omega) (by omega) slices_S192x256_o144_0_S8x256 slices_S16x256_o10_0_S1x256, ← t 152 11 (by omega) (by omega) slices_S192x256_o152_0_S8x256 slices_S16x256_o11_0_S1x256, ← t 160 12 (by omega) (by omega) slices_S192x256_o160_0_S8x256 slices_S16x256_o12_0_S1x256, ← t 168 13 (by omega) (by omega) slices_S192x256_o168_0_S8x256 slices_S16x256_o13_0_S1x256, ← t 176 14 (by omega) (by omega) slices_S192x256_o176_0_S8x256 slices_S16x256_o14_0_S1x256, ← t 184 15 (by omega) (by omega) slices_S192x256_o184_0_S8x256 slices_S16x256_o15_0_S1x256]
    unfold oBot
    generalize scores ho c q k = sc
    pointwise
    all_goals (try simp only [zero_add])
    all_goals (try rfl)

end Cert.KernelIdeal.Mix
-- ==== Proof.MixTile.lean ====
module

public import proofs.«01_k».proof.Proof.MixStretch

@[expose] public section

set_option maxRecDepth 16384

noncomputable section

open Idealize.ShloMosaic Idealize.ShloMosaic.TcCoe Idealize.SL.Sem

namespace Cert.KernelIdeal.Mix

open Cert.KernelIdeal Cert.KernelIdeal.Gen

variable {P Q K V : ℕ → Fin 256 → ℝ} {T : ℕ}

/-- A tile's rows: the sums of the logs over their stretch, the queries, the keys and the values. -/
structure Tile (P Q K V : ℕ → Fin 256 → ℝ) (T : ℕ) (c q k v : FVec Ideal S128x256 .f32) : Prop where
  c : ∀ (i : Fin 128) (x : Fin 256), c (ix2 i x) = (((P (T + i.val + 1) x - P (T + 16 * (i.val / 16)) x) * ell : ℝ) : EReal)
  q : ∀ (i : Fin 128) (x : Fin 256), q (ix2 i x) = ((Q (T + i.val) x : ℝ) : EReal)
  k : ∀ (i : Fin 128) (x : Fin 256), k (ix2 i x) = ((K (T + i.val) x : ℝ) : EReal)
  v : ∀ (i : Fin 128) (x : Fin 256), v (ix2 i x) = ((V (T + i.val) x : ℝ) : EReal)

variable {c q k v : FVec Ideal S128x256 .f32}

theorem rows_of (h : Tile P Q K V T c q k v) (a : ℕ) (ha : a < 8) (hs : S128x256.Slices ![16 * a, 0] S16x256) :
    Rows P Q K V (T + 16 * a) (extractStridedSlice S16x256 ![16 * a, 0] c hs) (extractStridedSlice S16x256 ![16 * a, 0] q hs) (extractStridedSlice S16x256 ![16 * a, 0] k hs) (extractStridedSlice S16x256 ![16 * a, 0] v hs) := by
  have e : ∀ (z : FVec Ideal S128x256 .f32) (i : Fin 16) (x : Fin 256), extractStridedSlice S16x256 ![16 * a, 0] z hs (ix2 i x) = z (ix2 ⟨16 * a + i.val, by omega⟩ x) := fun z i x => by pointwise
  refine ⟨fun i x => ?_, fun i x => ?_, fun i x => ?_, fun i x => ?_⟩
  · rw [e, h.c, show T + (16 * a + i.val) + 1 = T + 16 * a + i.val + 1 by omega, show 16 * ((16 * a + i.val) / 16) = 16 * a by omega]
  · rw [e, h.q]; simp only [Nat.add_assoc]
  · rw [e, h.k]; simp only [Nat.add_assoc]
  · rw [e, h.v]; simp only [Nat.add_assoc]

theorem tot_real (c : FVec Ideal S128x256 .f32) (i : Fin 128) (x : Fin 256) : tot c (ix2 i x) = c (ix2 ⟨16 * (i.val / 16) + 15, by omega⟩ x) := by
  have hi := i.isLt
  unfold tot rep last0 last1 last2 last3 last4 last5 last6 last7; pointwise
  split_ifs <;> exact congrArg c (congrArg (ix2 · x) (Fin.ext (by simp only [Fin.val_ofNat]; omega)))

/-- The output of one stretch, before the norm. -/
def outG (o : ℕ) (hs : S128x256.Slices ![o, 0] S16x256) (ho : FVec Ideal S256x256 .bf16) (c q k v : FVec Ideal S128x256 .f32) (st : FVec Ideal S256x256 .f32) : FVec Ideal S16x256 .f32 :=
  addf (inter (extractStridedSlice S16x256 ![o, 0] (qdec q c) hs) st) (intra ho (extractStridedSlice S16x256 ![o, 0] c hs) (extractStridedSlice S16x256 ![o, 0] q hs) (extractStridedSlice S16x256 ![o, 0] k hs) (extractStridedSlice S16x256 ![o, 0] v hs))

theorem out_real (hP : Antitone P) (h : Tile P Q K V T c q k v) (ho : FVec Ideal S256x256 .bf16) (hho : ∀ x n : Fin 256, ho (ix2 x n) = ((same x n : ℝ) : EReal))
    (a : ℕ) (ha : a < 8) (hs : S128x256.Slices ![16 * a, 0] S16x256) (st : FVec Ideal S256x256 .f32) (hst : ∀ n x : Fin 256, st (ix2 n x) = ((ST P K V (T + 16 * a) n x : ℝ) : EReal)) (i : Fin 16) (n : Fin 256) :
    outG (16 * a) hs ho c q k v st (ix2 i n) = ((OT P Q K V (T + 16 * a + i.val) n : ℝ) : EReal) := by
  have e : outG (16 * a) hs ho c q k v st (ix2 i n) = inter (extractStridedSlice S16x256 ![16 * a, 0] (qdec q c) hs) st (ix2 i n)
    + intra ho (extractStridedSlice S16x256 ![16 * a, 0] c hs) (extractStridedSlice S16x256 ![16 * a, 0] q hs) (extractStridedSlice S16x256 ![16 * a, 0] k hs) (extractStridedSlice S16x256 ![16 * a, 0] v hs) (ix2 i n) := rfl
  have e2 : inter (extractStridedSlice S16x256 ![16 * a, 0] (qdec q c) hs) st (ix2 i n) = ∑ x, q (ix2 ⟨16 * a + i.val, by omega⟩ x) * (FloatOps.exp2 (F := Ideal) (φ := .f32) (c (ix2 ⟨16 * a + i.val, by omega⟩ x))) * st (ix2 n x) := by
    unfold inter qdec; pointwise
  have hi := i.isLt
  rw [e, intra_real hP (rows_of h a ha hs) ho hho, e2, ← OT_split, EReal.coe_add]
  refine congrArg₂ (· + ·) ?_ rfl
  rw [coe_sum]
  refine Finset.sum_congr rfl fun x _ => ?_
  rw [h.q, h.c, exp2_ell, hst, EReal.coe_mul, EReal.coe_mul]
  simp only []
  rw [show T + (16 * a + i.val) + 1 = T + 16 * a + i.val + 1 by omega, show 16 * ((16 * a + i.val) / 16) = 16 * a by omega, show T + (16 * a + i.val) = T + 16 * a + i.val by omega]

/-- The state after one stretch. -/
def stG (o l : ℕ) (hs : S128x256.Slices ![o, 0] S16x256) (hl : S128x256.Slices ![l, 0] S1x256) (hm : FVec Ideal S256x256 .f32) (c k v : FVec Ideal S128x256 .f32) (st : FVec Ideal S256x256 .f32) : FVec Ideal S256x256 .f32 :=
  upd hm (extractStridedSlice S1x256 ![l, 0] c hl) (extractStridedSlice S16x256 ![o, 0] (truncf .bf16 v bitsLt_bf16_f32) hs) (extractStridedSlice S16x256 ![o, 0] (kdec k c) hs) st

theorem st_real (h : Tile P Q K V T c q k v) (hm : FVec Ideal S256x256 .f32) (hhm : ∀ n x : Fin 256, hm (ix2 n x) = ((same x n : ℝ) : EReal))
    (a : ℕ) (ha : a < 8) (l : ℕ) (hl' : l = 16 * a + 15) (hs : S128x256.Slices ![16 * a, 0] S16x256) (hl : S128x256.Slices ![l, 0] S1x256) (st : FVec Ideal S256x256 .f32) (hst : ∀ n x : Fin 256, st (ix2 n x) = ((ST P K V (T + 16 * a) n x : ℝ) : EReal)) (n x : Fin 256) :
    stG (16 * a) l hs hl hm c k v st (ix2 n x) = ((ST P K V (T + 16 * (a + 1)) n x : ℝ) : EReal) := by
  subst hl'
  have e : stG (16 * a) (16 * a + 15) hs hl hm c k v st (ix2 n x) = (FloatOps.exp2 (F := Ideal) (φ := .f32) (c (ix2 ⟨16 * a + 15, by omega⟩ x))) * st (ix2 n x)
      + (∑ j : Fin 16, v (ix2 ⟨16 * a + j.val, by omega⟩ n) * (k (ix2 ⟨16 * a + j.val, by omega⟩ x) * (FloatOps.exp2 (F := Ideal) (φ := .f32) (tot c (ix2 ⟨16 * a + j.val, by omega⟩ x) - c (ix2 ⟨16 * a + j.val, by omega⟩ x))))) * hm (ix2 n x) := by
    unfold stG upd kdec
    generalize tot c = tc
    pointwise
  rw [e, show T + 16 * (a + 1) = T + 16 * a + 16 by omega, ST_step, EReal.coe_add, EReal.coe_mul, EReal.coe_mul, coe_sum, hhm, hst, h.c, exp2_ell]
  congr 2
  · simp only []
    rw [show T + (16 * a + 15) + 1 = T + 16 * a + 16 by omega, show 16 * ((16 * a + 15) / 16) = 16 * a by omega]
  · refine Finset.sum_congr rfl fun j _ => ?_
    have hj := j.isLt
    rw [tot_real, h.c, h.c, h.v, h.k, ← EReal.coe_sub]
    simp only []
    rw [← sub_mul, exp2_ell, EReal.coe_mul, EReal.coe_mul, show T + (16 * a + j.val) = T + 16 * a + j.val by omega,
      show (16 * ((16 * a + j.val) / 16) + 15) / 16 = a by omega, show (16 * a + j.val) / 16 = a by omega, show T + (16 * a + 15) + 1 = T + 16 * a + 16 by omega]
    congr 4
    ring

theorem stAt_real (h : Tile P Q K V T c q k v) (hm : FVec Ideal S256x256 .f32) (hhm : ∀ n x : Fin 256, hm (ix2 n x) = ((same x n : ℝ) : EReal))
    (st : FVec Ideal S256x256 .f32) (hst : ∀ n x : Fin 256, st (ix2 n x) = ((ST P K V T n x : ℝ) : EReal)) :
    ∀ (a : ℕ) (_ : a ≤ 8) (n x : Fin 256), stAt hm c k v st a (ix2 n x) = ((ST P K V (T + 16 * a) n x : ℝ) : EReal)
  | 0, _, n, x => hst n x
  | 1, _, n, x => st_real h hm hhm 0 (by omega) 15 rfl slices_S128x256_o0_0_S16x256 slices_S128x256_o15_0_S1x256 _ (stAt_real h hm hhm st hst 0 (by omega)) n x
  | 2, _, n, x => st_real h hm hhm 1 (by omega) 31 rfl slices_S128x256_o16_0_S16x256 slices_S128x256_o31_0_S1x256 _ (stAt_real h hm hhm st hst 1 (by omega)) n x
  | 3, _, n, x => st_real h hm hhm 2 (by omega) 47 rfl slices_S128x256_o32_0_S16x256 slices_S128x256_o47_0_S1x256 _ (stAt_real h hm hhm st hst 2 (by omega)) n x
  | 4, _, n, x => st_real h hm hhm 3 (by omega) 63 rfl slices_S128x256_o48_0_S16x256 slices_S128x256_o63_0_S1x256 _ (stAt_real h hm hhm st hst 3 (by omega)) n x
  | 5, _, n, x => st_real h hm hhm 4 (by omega) 79 rfl slices_S128x256_o64_0_S16x256 slices_S128x256_o79_0_S1x256 _ (stAt_real h hm hhm st hst 4 (by omega)) n x
  | 6, _, n, x => st_real h hm hhm 5 (by omega) 95 rfl slices_S128x256_o80_0_S16x256 slices_S128x256_o95_0_S1x256 _ (stAt_real h hm hhm st hst 5 (by omega)) n x
  | 7, _, n, x => st_real h hm hhm 6 (by omega) 111 rfl slices_S128x256_o96_0_S16x256 slices_S128x256_o111_0_S1x256 _ (stAt_real h hm hhm st hst 6 (by omega)) n x
  | 8, _, n, x => st_real h hm hhm 7 (by omega) 127 rfl slices_S128x256_o112_0_S16x256 slices_S128x256_o127_0_S1x256 _ (stAt_real h hm hhm st hst 7 (by omega)) n x

theorem oAll_real (hP : Antitone P) (h : Tile P Q K V T c q k v) (ho : FVec Ideal S256x256 .bf16) (hho : ∀ x n : Fin 256, ho (ix2 x n) = ((same x n : ℝ) : EReal))
    (hm : FVec Ideal S256x256 .f32) (hhm : ∀ n x : Fin 256, hm (ix2 n x) = ((same x n : ℝ) : EReal))
    (st : FVec Ideal S256x256 .f32) (hst : ∀ n x : Fin 256, st (ix2 n x) = ((ST P K V T n x : ℝ) : EReal)) (i : Fin 128) (n : Fin 256) :
    oAll ho hm c q k v st (ix2 i n) = ((OT P Q K V (T + i.val) n : ℝ) : EReal) := by
  have top : ∀ (a : ℕ) (ha : a < 8) (hs : S128x256.Slices ![16 * a, 0] S16x256) (y : S16x256.Idx), (y 1).val = n.val →
      outG (16 * a) hs ho c q k v (stAt hm c k v st a) y = ((OT P Q K V (T + (16 * a + (y 0).val)) n : ℝ) : EReal) := fun a ha hs y hy => by
    have hx : y 1 = n := Fin.ext hy
    rw [← hx, ← Nat.add_assoc]
    exact (congrArg _ (ix2_eta y)).trans (out_real hP h ho hho a ha hs _ (stAt_real h hm hhm st hst a (by omega)) (y 0) (y 1))
  unfold oAll oCat
  refine (concatenate_apply ..).trans ?_
  refine (catAt_eq n.val (fun i => ((OT P Q K V (T + i) n : ℝ) : EReal)) S128x256 rfl (ix2 i n) rfl _ _ _ _ 0 ?_).trans ?_
  · exact ⟨rfl, top 0 (by omega) slices_S128x256_o0_0_S16x256, rfl, top 1 (by omega) slices_S128x256_o16_0_S16x256, rfl, top 2 (by omega) slices_S128x256_o32_0_S16x256, rfl, top 3 (by omega) slices_S128x256_o48_0_S16x256, rfl, top 4 (by omega) slices_S128x256_o64_0_S16x256, rfl, top 5 (by omega) slices_S128x256_o80_0_S16x256, rfl, top 6 (by omega) slices_S128x256_o96_0_S16x256, rfl, top 7 (by omega) slices_S128x256_o112_0_S16x256, trivial⟩
  · have e : 0 + (ix2 i n 0).val = i.val := Nat.zero_add _
    simp only [e]

end Cert.KernelIdeal.Mix
-- ==== Proof.MixGate.lean ====
module

public import proofs.«01_k».proof.Proof.MixTile

@[expose] public section

set_option maxRecDepth 16384

noncomputable section

open Idealize.ShloMosaic Idealize.ShloMosaic.TcCoe Idealize.SL.Sem

namespace Cert.KernelIdeal.Mix

open Cert.KernelIdeal Cert.KernelIdeal.Gen

/-- The log of the sum of two exponentials, of reals. -/
def lse (a b : ℝ) : ℝ := max a b + Real.log (1 + Real.exp (-|a - b|))

/-- The floor of the lower bound. -/
def flr : ℝ := 12379400 * (2 : ℝ) ^ (-90 : ℤ)

/-- The log of the forget gate, of reals. -/
def gate (lb z : ℝ) : ℝ := lse (Real.log (max lb flr)) (Real.log (1 - lb) + -lse (-z) 0)

theorem lse_eq (a b : ℝ) : lse a b = Real.log (Real.exp a + Real.exp b) := by
  have key : ∀ a b : ℝ, b ≤ a → lse a b = Real.log (Real.exp a + Real.exp b) := fun a b h => by
    unfold lse
    rw [max_eq_left h, abs_of_nonneg (sub_nonneg.2 h)]
    have e : Real.exp a + Real.exp b = Real.exp a * (1 + Real.exp (-(a - b))) := by
      rw [mul_add, mul_one, ← Real.exp_add]; congr 2; ring
    rw [e, Real.log_mul (Real.exp_pos _).ne' (by positivity), Real.log_exp]
  rcases le_total b a with h | h
  · exact key a b h
  · have := key b a h
    unfold lse at *
    rw [max_comm, abs_sub_comm, this, add_comm]

theorem flr_pos : 0 < flr := by unfold flr; positivity

theorem gate_eq {lb z : ℝ} (h0 : 0 ≤ lb) (h1 : lb < 1) : gate lb z = Real.log (max lb flr + (1 - lb) * (1 + Real.exp (-z))⁻¹) := by
  have hp : 0 < max lb flr := lt_max_of_lt_right flr_pos
  unfold gate
  rw [lse_eq, lse_eq, Real.exp_log hp, Real.exp_add, Real.exp_log (by linarith), Real.exp_neg, Real.exp_log (by positivity), Real.exp_zero, add_comm (Real.exp (-z))]

theorem exp_one_le : Real.exp 1 ≤ 3 := by
  have h : (7 / 8 : ℝ) ≤ Real.exp (-(1 / 8)) := by have := Real.add_one_le_exp (-(1 / 8) : ℝ); linarith
  have h2 : Real.exp (1 / 8) ≤ 8 / 7 := by
    rw [Real.exp_neg] at h
    have hp := Real.exp_pos (1 / 8)
    have := mul_le_mul_of_nonneg_right h hp.le
    rw [inv_mul_cancel₀ hp.ne'] at this
    linarith
  calc Real.exp 1 = Real.exp (1 / 8) ^ 8 := by rw [← Real.exp_nat_mul]; norm_num
    _ ≤ (8 / 7) ^ 8 := pow_le_pow_left₀ (Real.exp_pos _).le h2 8
    _ ≤ 3 := by norm_num

theorem gate_nonpos {lb z : ℝ} (h0 : 0 ≤ lb) (h1 : lb < 1) (hz : z ≤ 40) : gate lb z ≤ 0 := by
  rw [gate_eq h0 h1]
  have hp : 0 < max lb flr := lt_max_of_lt_right flr_pos
  have hs : (1 + Real.exp (-z))⁻¹ ≤ 1 := inv_le_one_of_one_le₀ (by linarith [Real.exp_pos (-z)])
  have hs0 : 0 ≤ (1 + Real.exp (-z))⁻¹ := by positivity
  refine Real.log_nonpos (add_nonneg hp.le (mul_nonneg (by linarith) hs0)) ?_
  rcases le_total flr lb with h | h
  · rw [max_eq_left h]
    nlinarith
  · rw [max_eq_right h]
    have h40 : Real.exp z ≤ 3 ^ 40 := by
      calc Real.exp z ≤ Real.exp 40 := Real.exp_le_exp.2 hz
        _ = Real.exp 1 ^ 40 := by rw [← Real.exp_nat_mul]; norm_num
        _ ≤ 3 ^ 40 := pow_le_pow_left₀ (Real.exp_pos 1).le exp_one_le 40
    have hf : flr * (1 + 3 ^ 40) ≤ 1 := by unfold flr; norm_num
    have hfz : flr * (1 + Real.exp z) ≤ 1 := le_trans (mul_le_mul_of_nonneg_left (by linarith) flr_pos.le) hf
    have e : (1 + Real.exp (-z))⁻¹ = Real.exp z / (1 + Real.exp z) := by
      rw [Real.exp_neg]; have := Real.exp_pos z; field_simp; ring
    have hle : flr ≤ 1 - Real.exp z / (1 + Real.exp z) := by
      have : 1 - Real.exp z / (1 + Real.exp z) = 1 / (1 + Real.exp z) := by have := Real.exp_pos z; field_simp; ring
      rw [this, le_div_iff₀ (by positivity)]; exact hfz
    rw [e] at *
    nlinarith

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

theorem floor_eq : Ideal.ofBits .f32 507307272#32 = ((flr : ℝ) : EReal) := by
  unfold flr
  simp [Ideal.ofBits, Ideal.ieee]

theorem log_of {r : ℝ} (h : 0 < r) : Ideal.log (r : EReal) = ((Real.log r : ℝ) : EReal) := by
  rw [Ideal.log_coe, if_neg (not_le.2 h)]

theorem log1p_of {r : ℝ} (h : 0 < 1 + r) : Ideal.log1p (r : EReal) = ((Real.log (1 + r) : ℝ) : EReal) := by
  unfold Ideal.log1p
  rw [← EReal.coe_one, ← EReal.coe_add, log_of h]

theorem absf_of (r : ℝ) : max (r : EReal) (-(r : EReal)) = ((|r| : ℝ) : EReal) := by
  rw [← EReal.coe_neg, ← coe_max]; rfl

/-- The log of the sum of two exponentials. -/
theorem lse_coe (a b : ℝ) : max (a : EReal) b + Ideal.log1p (Ideal.exp (-(max ((a : EReal) - b) (-((a : EReal) - b))))) = ((lse a b : ℝ) : EReal) := by
  rw [← EReal.coe_sub, absf_of, ← EReal.coe_neg, Ideal.exp_coe, log1p_of (by positivity), ← coe_max, ← EReal.coe_add]; rfl

theorem logF_real (z : FVec Ideal S128x256 .f32) (lb : FVec Ideal S1x256 .f32) (i : Fin 128) (k : Fin 256) (zr br : ℝ) (hz : z (ix2 i k) = ((zr : ℝ) : EReal)) (hb : lb (ix2 0 k) = ((br : ℝ) : EReal))
    (h0 : 0 ≤ br) (h1 : br < 1) : logF z lb (ix2 i k) = ((gate br zr : ℝ) : EReal) := by
  have e : logF z lb (ix2 i k) = max (Ideal.log (max (lb (ix2 0 k)) (Ideal.ofBits .f32 507307272#32)))
        (Ideal.log1p (-lb (ix2 0 k)) + (min (z (ix2 i k)) 0 - Ideal.log1p (Ideal.exp (-(max (z (ix2 i k)) (-z (ix2 i k)))))))
      + Ideal.log1p (Ideal.exp (-(max (Ideal.log (max (lb (ix2 0 k)) (Ideal.ofBits .f32 507307272#32)) - (Ideal.log1p (-lb (ix2 0 k)) + (min (z (ix2 i k)) 0 - Ideal.log1p (Ideal.exp (-(max (z (ix2 i k)) (-z (ix2 i k))))))))
        (-(Ideal.log (max (lb (ix2 0 k)) (Ideal.ofBits .f32 507307272#32)) - (Ideal.log1p (-lb (ix2 0 k)) + (min (z (ix2 i k)) 0 - Ideal.log1p (Ideal.exp (-(max (z (ix2 i k)) (-z (ix2 i k)))))))))))) := by
    unfold logF lae aTerm bTerm logSig
    pointwise
    simp only [zero_sub]
    rfl
  have l : min ((zr : ℝ) : EReal) 0 - Ideal.log1p (Ideal.exp (-(max ((zr : ℝ) : EReal) (-((zr : ℝ) : EReal))))) = ((-lse (-zr) 0 : ℝ) : EReal) := by
    rw [absf_of, ← EReal.coe_neg, Ideal.exp_coe, log1p_of (by positivity), ← EReal.coe_zero, ← coe_min, ← EReal.coe_sub]
    congr 1
    unfold lse
    rw [sub_zero, abs_neg, neg_add, ← min_neg_neg, neg_neg, neg_zero]; ring
  have hp : 0 < max br flr := lt_max_of_lt_right flr_pos
  rw [e, hz, hb, l, floor_eq, ← coe_max, log_of hp, ← EReal.coe_neg, log1p_of (by linarith), ← EReal.coe_add, lse_coe]
  rfl

/-- The key, of reals. -/
def keyR (lb z : ℝ) : ℝ := (1 - lb) * (1 + Real.exp z)⁻¹

/-- The query, of reals. -/
def queryR (q : ℝ) : ℝ := q * (1 + Real.exp (-q))⁻¹ * (1 / 8)

theorem eighth_eq : Ideal.ofBits .f32 1040187392#32 = ((1 / 8 : ℝ) : EReal) := by
  simp [Ideal.ofBits, Ideal.ieee]
  rw [← EReal.coe_mul]
  norm_num

theorem keyF_real (z : FVec Ideal S128x256 .f32) (lb : FVec Ideal S1x256 .f32) (i : Fin 128) (k : Fin 256) (zr br : ℝ) (hz : z (ix2 i k) = ((zr : ℝ) : EReal)) (hb : lb (ix2 0 k) = ((br : ℝ) : EReal)) :
    keyF z lb (ix2 i k) = ((keyR br zr : ℝ) : EReal) := by
  have e : keyF z lb (ix2 i k) = (1 - lb (ix2 0 k)) * Ideal.logistic (0 - z (ix2 i k)) := by unfold keyF; pointwise
  rw [e, hz, hb, zero_sub, ← EReal.coe_neg, Ideal.logistic_coe, ← EReal.coe_one, ← EReal.coe_sub, ← EReal.coe_mul, neg_neg]; rfl

theorem queryF_real (q : FVec Ideal S128x256 .f32) (i : Fin 128) (k : Fin 256) (qr : ℝ) (hq : q (ix2 i k) = ((qr : ℝ) : EReal)) :
    queryF q (ix2 i k) = ((queryR qr : ℝ) : EReal) := by
  have e : queryF q (ix2 i k) = q (ix2 i k) * Ideal.logistic (q (ix2 i k)) * Ideal.ofBits .f32 1040187392#32 := by unfold queryF; pointwise
  rw [e, hq, Ideal.logistic_coe, eighth_eq, ← EReal.coe_mul, ← EReal.coe_mul]; rfl

/-- The sums of the logs before row `n`. -/
def PS (L : ℕ → Fin 256 → ℝ) (n : ℕ) (x : Fin 256) : ℝ := ∑ s ∈ Finset.range n, L s x

theorem PS_anti {L : ℕ → Fin 256 → ℝ} (h : ∀ s x, L s x ≤ 0) : Antitone (PS L) := by
  refine antitone_nat_of_succ_le fun n x => ?_
  unfold PS
  rw [Finset.sum_range_succ]
  linarith [h n x]

theorem tri_sum (L : ℕ → Fin 256 → ℝ) (T : ℕ) (i : Fin 128) (x : Fin 256) :
    ∑ j : Fin 128, (if j.val / 16 = i.val / 16 ∧ j.val ≤ i.val then (1 : ℝ) else 0) * L (T + j.val) x = PS L (T + i.val + 1) x - PS L (T + 16 * (i.val / 16)) x := by
  have hi := i.isLt
  unfold PS
  rw [← Finset.sum_Ico_eq_sub _ (by omega)]
  have e1 : ∑ j : Fin 128, (if j.val / 16 = i.val / 16 ∧ j.val ≤ i.val then (1 : ℝ) else 0) * L (T + j.val) x
      = ∑ j ∈ Finset.range 128, (if j / 16 = i.val / 16 ∧ j ≤ i.val then (1 : ℝ) else 0) * L (T + j) x :=
    (Finset.sum_range (fun j => (if j / 16 = i.val / 16 ∧ j ≤ i.val then (1 : ℝ) else 0) * L (T + j) x)).symm
  have e2 : ∑ s ∈ Finset.Ico (T + 16 * (i.val / 16)) (T + i.val + 1), L s x = ∑ j ∈ Finset.Ico (16 * (i.val / 16)) (i.val + 1), L (T + j) x := by
    rw [Finset.sum_Ico_add (fun s => L s x), Nat.add_comm T (16 * _), show T + i.val + 1 = i.val + 1 + T by omega]
  rw [e1, e2]
  symm
  refine (Finset.sum_congr rfl fun j hj => ?_).trans (Finset.sum_subset (f := fun j => (if j / 16 = i.val / 16 ∧ j ≤ i.val then (1 : ℝ) else 0) * L (T + j) x) ?_ ?_)
  · rw [Finset.mem_Ico] at hj
    rw [if_pos (by omega), one_mul]
  · intro j hj
    rw [Finset.mem_Ico] at hj
    exact Finset.mem_range.2 (by omega)
  · intro j hj hn
    rw [Finset.mem_Ico] at hn
    rw [if_neg (by omega), zero_mul]

theorem cumF_real (tri : FVec Ideal S128x128 .bf16) (f : FVec Ideal S128x256 .f32) (L : ℕ → Fin 256 → ℝ) (T : ℕ)
    (ht : ∀ i j : Fin 128, tri (ix2 i j) = (((if j.val / 16 = i.val / 16 ∧ j.val ≤ i.val then (1 : ℝ) else 0) : ℝ) : EReal))
    (hf : ∀ (j : Fin 128) (x : Fin 256), f (ix2 j x) = ((L (T + j.val) x : ℝ) : EReal)) (i : Fin 128) (x : Fin 256) :
    cumF tri f (ix2 i x) = (((PS L (T + i.val + 1) x - PS L (T + 16 * (i.val / 16)) x) * ell : ℝ) : EReal) := by
  have e : cumF tri f (ix2 i x) = (∑ j, tri (ix2 i j) * f (ix2 j x) + ∑ j, tri (ix2 i j) * (f (ix2 j x) - f (ix2 j x)) + ∑ j, tri (ix2 i j) * (f (ix2 j x) - f (ix2 j x) - (f (ix2 j x) - f (ix2 j x)))) * ((ell : ℝ) : EReal) := by
    unfold cumF triSum; pointwise; rfl
  have z : ∀ r : ℝ, ((r : ℝ) : EReal) - r = 0 := fun r => by rw [← EReal.coe_sub, sub_self, EReal.coe_zero]
  rw [e]
  simp only [hf, z, sub_zero, mul_zero, Finset.sum_const_zero, add_zero, ht]
  rw [← tri_sum, EReal.coe_mul, coe_sum]
  simp only [EReal.coe_mul]

end Cert.KernelIdeal.Mix
-- ==== Proof.MixPool.lean ====
/- The kernel's pool, as sums of reals. -/
module

public import proofs.«01_k».proof.Proof.MixGate
public import proofs.«01_k».proof.Proof.MixStep

@[expose] public section

set_option maxRecDepth 16384

noncomputable section

open Idealize.ShloMosaic Idealize.ShloMosaic.TcCoe Idealize.SL.Sem

namespace Cert.KernelIdeal.Mix

open Cert.KernelIdeal Cert.KernelIdeal.Gen

theorem roll1 (a : FVec Ideal S144x256 .f32) (i : Fin 144) (k : Fin 256) (h : 1 ≤ i.val) : roll 1#32 a (ix2 i k) = a (ix2 i k) + a (ix2 ⟨i.val - 1, by omega⟩ k) := by
  unfold roll; pointwise; exact congrArg₂ (· + ·) rfl (congrArg a (congrArg (ix2 · k) (Fin.ext (by simp only; omega))))
theorem roll2 (a : FVec Ideal S144x256 .f32) (i : Fin 144) (k : Fin 256) (h : 2 ≤ i.val) : roll 2#32 a (ix2 i k) = a (ix2 i k) + a (ix2 ⟨i.val - 2, by omega⟩ k) := by
  unfold roll; pointwise; exact congrArg₂ (· + ·) rfl (congrArg a (congrArg (ix2 · k) (Fin.ext (by simp only; omega))))
theorem roll4 (a : FVec Ideal S144x256 .f32) (i : Fin 144) (k : Fin 256) (h : 4 ≤ i.val) : roll 4#32 a (ix2 i k) = a (ix2 i k) + a (ix2 ⟨i.val - 4, by omega⟩ k) := by
  unfold roll; pointwise; exact congrArg₂ (· + ·) rfl (congrArg a (congrArg (ix2 · k) (Fin.ext (by simp only; omega))))
theorem roll8 (a : FVec Ideal S144x256 .f32) (i : Fin 144) (k : Fin 256) (h : 8 ≤ i.val) : roll 8#32 a (ix2 i k) = a (ix2 i k) + a (ix2 ⟨i.val - 8, by omega⟩ k) := by
  unfold roll; pointwise; exact congrArg₂ (· + ·) rfl (congrArg a (congrArg (ix2 · k) (Fin.ext (by simp only; omega))))

/-- The sum of the `w` rows that end at row `r` of a tile with the sixteen rows before it. -/
def ws (L : ℕ → Fin 256 → ℝ) (T w r : ℕ) (k : Fin 256) : ℝ := PS L (T + r - 15) k - PS L (T + r - 15 - w) k

theorem ws_double (L : ℕ → Fin 256 → ℝ) (T w r : ℕ) (k : Fin 256) (h : w ≤ r) : ws L T w r k + ws L T w (r - w) k = ws L T (w + w) r k := by
  unfold ws
  rw [show T + (r - w) - 15 = T + r - 15 - w by omega, show T + r - 15 - (w + w) = T + r - 15 - w - w by omega]
  ring

variable {L : ℕ → Fin 256 → ℝ} {T : ℕ}

theorem ext_real (p : FVec Ideal S16x256 .f32) (u : FVec Ideal S128x256 .f32) (hp : ∀ (j : Fin 16) (k : Fin 256), p (ix2 j k) = (((if 16 ≤ T + j.val then L (T + j.val - 16) k else 0) : ℝ) : EReal))
    (hu : ∀ (i : Fin 128) (k : Fin 256), u (ix2 i k) = ((L (T + i.val) k : ℝ) : EReal)) (i : Fin 144) (k : Fin 256) : ext p u (ix2 i k) = ((ws L T 1 i.val k : ℝ) : EReal) := by
  have step : ∀ n, PS L (n + 1) k - PS L n k = L n k := fun n => by
    unfold PS; rw [Finset.sum_range_succ]; ring
  unfold ext; pointwise
  by_cases h : i.val < 16
  · rw [dif_pos h, hp]
    simp only []
    unfold ws
    split_ifs with h2
    · rw [show T + i.val - 15 = T + i.val - 16 + 1 by omega, Nat.add_sub_cancel, step]
    · rw [show T + i.val - 15 = 0 by omega, Nat.zero_sub, sub_self]
  · rw [dif_neg h, hu]
    simp only []
    unfold ws
    rw [show T + i.val - 15 = T + (i.val - 16) + 1 by omega, Nat.add_sub_cancel, step]

theorem sel_slt (n m : ℕ) (hn : n < 8192) (hm : m < 8192) (F : Type) (a b : F) :
    Scalar.select (IntOp.cmpi CmpIPredicate.slt (BitVec.ofNat 32 n) (BitVec.ofNat 32 m)) a b = if n < m then a else b := by
  have h : (BitVec.slt (BitVec.ofNat 32 n) (BitVec.ofNat 32 m)) = decide (n < m) := by
    rw [BitVec.slt_eq_decide]
    have hk : ∀ n : ℕ, n < 8192 → (BitVec.ofNat 32 n).toInt = (n : ℤ) := fun n hn => by
      have e : (BitVec.ofNat 32 n).toNat = n := by rw [BitVec.toNat_ofNat]; exact Nat.mod_eq_of_lt (by omega)
      rw [BitVec.toInt_eq_toNat_of_lt (by rw [e]; omega), e]
    rw [hk n hn, hk m hm]
    simp
  unfold Scalar.select IntOp.cmpi
  simp only [h]
  by_cases hsr : n < m <;> simp [hsr]

/-- A lane's window. -/
def wn (k : ℕ) : ℕ := if k < 64 then 2 else if k < 128 then 4 else if k < 192 then 8 else 16

theorem winSum_real (p : FVec Ideal S16x256 .f32) (u : FVec Ideal S128x256 .f32) (hp : ∀ (j : Fin 16) (k : Fin 256), p (ix2 j k) = (((if 16 ≤ T + j.val then L (T + j.val - 16) k else 0) : ℝ) : EReal))
    (hu : ∀ (i : Fin 128) (k : Fin 256), u (ix2 i k) = ((L (T + i.val) k : ℝ) : EReal)) (i : Fin 128) (k : Fin 256) :
    winSum p u (ix2 i k) = ((PS L (T + i.val + 1) k - PS L (T + i.val + 1 - wn k.val) k : ℝ) : EReal) := by
  have h0 := ext_real p u hp hu
  have h1 : ∀ (r : Fin 144), 1 ≤ r.val → roll 1#32 (ext p u) (ix2 r k) = ((ws L T 2 r.val k : ℝ) : EReal) := fun r hr => by
    rw [roll1 _ _ _ (by omega), h0, h0, ← EReal.coe_add, ws_double _ _ _ _ _ (by omega)]
  have h2 : ∀ (r : Fin 144), 3 ≤ r.val → roll 2#32 (roll 1#32 (ext p u)) (ix2 r k) = ((ws L T 4 r.val k : ℝ) : EReal) := fun r hr => by
    rw [roll2 _ _ _ (by omega), h1 _ (by omega), h1 _ (by simp only; omega), ← EReal.coe_add, ws_double _ _ _ _ _ (by omega)]
  have h4 : ∀ (r : Fin 144), 7 ≤ r.val → roll 4#32 (roll 2#32 (roll 1#32 (ext p u))) (ix2 r k) = ((ws L T 8 r.val k : ℝ) : EReal) := fun r hr => by
    rw [roll4 _ _ _ (by omega), h2 _ (by omega), h2 _ (by simp only; omega), ← EReal.coe_add, ws_double _ _ _ _ _ (by omega)]
  have h8 : ∀ (r : Fin 144), 15 ≤ r.val → roll 8#32 (roll 4#32 (roll 2#32 (roll 1#32 (ext p u)))) (ix2 r k) = ((ws L T 16 r.val k : ℝ) : EReal) := fun r hr => by
    rw [roll8 _ _ _ (by omega), h4 _ (by omega), h4 _ (by simp only; omega), ← EReal.coe_add, ws_double _ _ _ _ _ (by omega)]
  have hb : ∀ (z : FVec Ideal S144x256 .f32), body z (ix2 i k) = z (ix2 ⟨16 + i.val, by omega⟩ k) := fun z => by unfold body; pointwise
  have hs : ∀ (n : ℕ) (hn : n < 8192) (a b : FVec Ideal S128x256 .f32), select (before (BitVec.ofNat 32 n)) a b (ix2 i k) = if k.val < n then a (ix2 i k) else b (ix2 i k) := fun n hn a b => by
    have e : select (before (BitVec.ofNat 32 n)) a b (ix2 i k) = Scalar.select (IntOp.cmpi CmpIPredicate.slt (BitVec.ofNat 32 k.val) (BitVec.ofNat 32 n)) (a (ix2 i k)) (b (ix2 i k)) := by
      unfold before; pointwise
    rw [e, sel_slt _ _ (by omega) hn]
  have e : ∀ w, ws L T w (16 + i.val) k = PS L (T + i.val + 1) k - PS L (T + i.val + 1 - w) k := fun w => by
    unfold ws; rw [show T + (16 + i.val) - 15 = T + i.val + 1 by omega]
  unfold winSum
  refine (hs 64 (by omega) _ _).trans ?_
  unfold wn
  split_ifs with c1 c2 c3
  · rw [hb, h1 _ (by simp only; omega), e]
  · refine (hs 128 (by omega) _ _).trans ?_
    rw [if_pos c2, hb, h2 _ (by simp only; omega), e]
  · refine (hs 128 (by omega) _ _).trans ?_
    rw [if_neg c2]
    refine (hs 192 (by omega) _ _).trans ?_
    rw [if_pos c3, hb, h4 _ (by simp only; omega), e]
  · refine (hs 128 (by omega) _ _).trans ?_
    rw [if_neg c2]
    refine (hs 192 (by omega) _ _).trans ?_
    rw [if_neg c3, hb, h8 _ (by simp only; omega), e]

theorem toInt_small (n : ℕ) (hn : n < 16384) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

theorem minsi_small (a b : ℕ) (ha : a < 16384) (hb : b < 16384) : IntOp.minsi (BitVec.ofNat 32 a) (BitVec.ofNat 32 b) = BitVec.ofNat 32 (min a b) := by
  unfold IntOp.minsi
  simp only [BitVec.slt_eq_decide, BitVec.sle_eq_decide, toInt_small a ha, toInt_small b hb]
  rcases le_total a b with h | h
  · rw [min_eq_left h]; split_ifs with c
    · rfl
    · simp at c; rw [show a = b by omega]
  · rw [min_eq_right h]; split_ifs with c
    · simp at c; rw [show a = b by omega]
    · rfl

theorem count_real (t : ℕ) (ht : t < 64) (i : Fin 128) (k : Fin 256) :
    (FloatOps.sitofp (F := Ideal) FTy.f32 (count (BitVec.ofNat 32 t) (ix2 i k)) : EReal) = ((min (((128 * t + i.val : ℕ) : ℝ) + 1) (wn k.val) : ℝ) : EReal) := by
  have e : count (BitVec.ofNat 32 t) (ix2 i k) = IntOp.minsi (IntOp.addi (IntOp.addi (Scalar.muli (BitVec.ofNat 32 t) 128#32) (BitVec.ofNat 32 i.val)) 1#32)
      (Scalar.select (IntOp.cmpi CmpIPredicate.slt (BitVec.ofNat 32 k.val) (BitVec.ofNat 32 64)) (2#32)
        (Scalar.select (IntOp.cmpi CmpIPredicate.slt (BitVec.ofNat 32 k.val) (BitVec.ofNat 32 128)) (4#32)
          (Scalar.select (IntOp.cmpi CmpIPredicate.slt (BitVec.ofNat 32 k.val) (BitVec.ofNat 32 192)) 8#32 16#32))) := by
    unfold count before; pointwise
  have e1 : IntOp.addi (IntOp.addi (Scalar.muli (BitVec.ofNat 32 t) 128#32) (BitVec.ofNat 32 i.val)) 1#32 = BitVec.ofNat 32 (128 * t + i.val + 1) := by
    show BitVec.ofNat 32 t * BitVec.ofNat 32 128 + BitVec.ofNat 32 i.val + BitVec.ofNat 32 1 = _
    rw [← BitVec.ofNat_mul, ← BitVec.ofNat_add, ← BitVec.ofNat_add, Nat.mul_comm t]
  have hk := k.isLt
  have hi := i.isLt
  have hw : wn k.val < 16384 := by unfold wn; split_ifs <;> omega
  rw [e, e1, sel_slt _ _ (by omega) (by omega), sel_slt _ _ (by omega) (by omega), sel_slt _ _ (by omega) (by omega)]
  have e2 : (if k.val < 64 then 2#32 else if k.val < 128 then 4#32 else if k.val < 192 then 8#32 else 16#32) = BitVec.ofNat 32 (wn k.val) := by
    unfold wn; split_ifs <;> rfl
  rw [e2, minsi_small _ _ (by omega) hw]
  show (((BitVec.ofNat 32 (min (128 * t + i.val + 1) (wn k.val))).toInt : ℝ) : EReal) = _
  rw [toInt_small _ (lt_of_le_of_lt (min_le_right _ _) hw)]
  push_cast
  rfl

/-- A window's mean less the row. -/
def mean (L : ℕ → Fin 256 → ℝ) (w s : ℕ) (k : Fin 256) : ℝ := (PS L (s + 1) k - PS L (s + 1 - w) k) * (1 / min ((s : ℝ) + 1) w) - L s k

theorem pool_real (t : ℕ) (ht : t < 64) (p : FVec Ideal S16x256 .f32) (u : FVec Ideal S128x256 .f32)
    (hp : ∀ (j : Fin 16) (k : Fin 256), p (ix2 j k) = (((if 16 ≤ 128 * t + j.val then L (128 * t + j.val - 16) k else 0) : ℝ) : EReal))
    (hu : ∀ (i : Fin 128) (k : Fin 256), u (ix2 i k) = ((L (128 * t + i.val) k : ℝ) : EReal)) (w : FVec Ideal S256x256 .bf16) (s : FVec Ideal S1x256 .f32)
    (i : Fin 128) (n : Fin 256) :
    pool (BitVec.ofNat 32 t) p u w s (ix2 i n) = (∑ x : Fin 256, ((mean L (wn x.val) (128 * t + i.val) x : ℝ) : EReal) * w (ix2 x n)) * s (ix2 0 n) := by
  have hW := winSum_real p u hp hu i
  have hC := count_real t ht i
  unfold pool
  generalize winSum p u = W at hW ⊢
  generalize count (BitVec.ofNat 32 t) = C at hC ⊢
  pointwise
  refine congrArg₂ (· * ·) (Finset.sum_congr rfl fun x _ => congrArg₂ (· * ·) ?_ rfl) rfl
  have hw : 0 < wn x.val := by unfold wn; split_ifs <;> omega
  have hpos : (0 : ℝ) < min (((128 * t + i.val : ℕ) : ℝ) + 1) (wn x.val) := lt_min (by positivity) (by exact_mod_cast hw)
  rw [hW, hC, hu, Ideal.div_coe hpos.ne', ← EReal.coe_mul, ← EReal.coe_sub]
  rfl

end Cert.KernelIdeal.Mix
-- ==== Proof.MixRef.lean ====
/- The reference's running sums and recurrence, as sums of reals. -/
module

public import proofs.«01_k».proof.Proof.Gen.ReferenceIdeal.Run
public import proofs.«01_k».proof.Proof.MixGate

@[expose] public section

set_option maxRecDepth 16384
set_option maxHeartbeats 2000000

noncomputable section

open Idealize.ShloMosaic Idealize.ShloMosaic.TcCoe Idealize.SL.Sem

namespace Cert.ReferenceIdeal.RefValue

open Cert.ReferenceIdeal Cert.ReferenceIdeal.Gen Cert.ReferenceIdeal.Value
open Cert.KernelIdeal.Mix (gate keyR queryR PS OT same coe_sum lse_coe lse coe_max coe_min log_of log1p_of floor_eq eighth_eq flr_pos flr PS_anti)

theorem foldl_sum {N : ℕ} (f : Fin N → EReal) (v : EReal) : (List.finRange N).foldl (fun r n => r + f n) v = v + ∑ n, f n := by
  have key : ∀ (l : List (Fin N)) (v : EReal), l.foldl (fun r n => r + f n) v = v + (l.map f).sum := fun l => by
    induction l with
    | nil => intro v; simp
    | cons a l ih => intro v; rw [List.foldl_cons, ih, List.map_cons, List.sum_cons, add_assoc]
  rw [key, Fin.sum_univ_def]

theorem sum_window (L : ℕ → ℝ) (s : ℕ) (hs : s < 8192) : ∑ j : Fin 8192, (if 8191 ≤ s + j.val then ((L (s + j.val - 8191) : ℝ) : EReal) else 0) = ((∑ t ∈ Finset.range (s + 1), L t : ℝ) : EReal) := by
  refine (Finset.sum_range (fun j => if 8191 ≤ s + j then ((L (s + j - 8191) : ℝ) : EReal) else 0)).symm.trans ?_
  rw [show 8192 = (8191 - s) + (s + 1) by omega, Finset.sum_range_add, Finset.sum_eq_zero (fun j hj => ?_), zero_add, coe_sum]
  · refine Finset.sum_congr rfl fun j _ => ?_
    rw [if_pos (by omega), show s + (8191 - s + j) - 8191 = j by omega]
  · have := Finset.mem_range.1 hj
    rw [if_neg (by omega)]

theorem cum4 (x : FVec Ideal S2x4x8192x64 .f32) (v : FVec Ideal S_ .f32) (hv : v ix0 = 0) (b : Fin 2) (h : Fin 4) (d : Fin 64) (L : ℕ → ℝ) (hx : ∀ j : Fin 8192, x (ix4 b h j d) = ((L j.val : ℝ) : EReal)) (s : Fin 8192)
    (hr : S2x4x8192x64.ReduceWindows ![1, 1, 8192, 1] ![1, 1, 1, 1] ![0, 0, 8191, 0] ![0, 0, 0, 0] S2x4x8192x64) (hu : 0 < S_.numel) :
    Host.reduceWindowAdd ![1, 1, 8192, 1] ![1, 1, 1, 1] ![0, 0, 8191, 0] ![0, 0, 0, 0] x v hr hu (ix4 b h s d) = ((∑ t ∈ Finset.range (s.val + 1), L t : ℝ) : EReal) := by
  have hv' : v (Shape.Idx.first hu) = 0 := (congrArg v (funext fun a => a.elim0)).trans hv
  unfold Host.reduceWindowAdd
  rw [hv']
  rw [Ideal.hostReduceWindowAdd_def]
  unfold Ideal.hostReduceWindowAdd
  unfold Host.reduceWindow
  refine (foldl_sum _ _).trans ?_
  rw [zero_add, ← sum_window L s.val s.isLt]
  refine (Fintype.sum_bijective (fun j : Fin 8192 => (Shape.rowMajor ⟨4, ![1, 1, 8192, 1]⟩) (ix4 0 0 j 0 : Shape.Idx ⟨4, ![1, 1, 8192, 1]⟩)) ((Equiv.bijective _).comp ⟨fun i j e => congrFun e 2, fun w => ⟨w 2, ?_⟩⟩) _ _ fun j => ?_).symm
  · funext a
    fin_cases a
    · exact Subsingleton.elim (α := Fin 1) _ _
    · exact Subsingleton.elim (α := Fin 1) _ _
    · rfl
    · exact Subsingleton.elim (α := Fin 1) _ _
  · have hs := s.isLt
    have hj := j.isLt
    have hb := b.isLt
    have hh := h.isLt
    have hd := d.isLt
    simp only [Function.comp, Equiv.symm_apply_apply]
    by_cases c : 8191 ≤ s.val + j.val
    · have hin : ∀ a, (![0, 0, 8191, 0] : Fin 4 → ℕ) a ≤ ((ix4 b h s d : S2x4x8192x64.Idx) a).val * (![1, 1, 1, 1] : Fin 4 → ℕ) a + ((ix4 0 0 j 0 : Shape.Idx ⟨4, ![1, 1, 8192, 1]⟩) a).val ∧ ((ix4 b h s d : S2x4x8192x64.Idx) a).val * (![1, 1, 1, 1] : Fin 4 → ℕ) a + ((ix4 0 0 j 0 : Shape.Idx ⟨4, ![1, 1, 8192, 1]⟩) a).val - (![0, 0, 8191, 0] : Fin 4 → ℕ) a < S2x4x8192x64.size a := fun a => by
        fin_cases a
        · show 0 ≤ b.val * 1 + 0 ∧ b.val * 1 + 0 - 0 < 2; omega
        · show 0 ≤ h.val * 1 + 0 ∧ h.val * 1 + 0 - 0 < 4; omega
        · show 8191 ≤ s.val * 1 + j.val ∧ s.val * 1 + j.val - 8191 < 8192; omega
        · show 0 ≤ d.val * 1 + 0 ∧ d.val * 1 + 0 - 0 < 64; omega
      rw [if_pos c]
      refine Eq.trans ?_ (dif_pos hin).symm
      refine (hx ⟨s.val + j.val - 8191, by omega⟩).symm.trans (congrArg x (funext fun a => Fin.ext ?_))
      fin_cases a
      · show b.val = b.val * 1 + 0 - 0; omega
      · show h.val = h.val * 1 + 0 - 0; omega
      · show s.val + j.val - 8191 = s.val * 1 + j.val - 8191; omega
      · show d.val = d.val * 1 + 0 - 0; omega
    · rw [if_neg c, dif_neg]
      intro hin
      have := (hin 2).1
      change 8191 ≤ s.val * 1 + j.val at this
      omega

theorem cum3 (x : FVec Ideal S2x8192x256 .f32) (v : FVec Ideal S_ .f32) (hv : v ix0 = 0) (b : Fin 2) (d : Fin 256) (L : ℕ → ℝ) (hx : ∀ j : Fin 8192, x (ix3 b j d) = ((L j.val : ℝ) : EReal)) (s : Fin 8192)
    (hr : S2x8192x256.ReduceWindows ![1, 8192, 1] ![1, 1, 1] ![0, 8191, 0] ![0, 0, 0] S2x8192x256) (hu : 0 < S_.numel) :
    Host.reduceWindowAdd ![1, 8192, 1] ![1, 1, 1] ![0, 8191, 0] ![0, 0, 0] x v hr hu (ix3 b s d) = ((∑ t ∈ Finset.range (s.val + 1), L t : ℝ) : EReal) := by
  have hv' : v (Shape.Idx.first hu) = 0 := (congrArg v (funext fun a => a.elim0)).trans hv
  unfold Host.reduceWindowAdd
  rw [hv']
  rw [Ideal.hostReduceWindowAdd_def]
  unfold Ideal.hostReduceWindowAdd
  unfold Host.reduceWindow
  refine (foldl_sum _ _).trans ?_
  rw [zero_add, ← sum_window L s.val s.isLt]
  refine (Fintype.sum_bijective (fun j : Fin 8192 => (Shape.rowMajor ⟨3, ![1, 8192, 1]⟩) (ix3 0 j 0 : Shape.Idx ⟨3, ![1, 8192, 1]⟩)) ((Equiv.bijective _).comp ⟨fun i j e => congrFun e 1, fun w => ⟨w 1, ?_⟩⟩) _ _ fun j => ?_).symm
  · funext a
    fin_cases a
    · exact Subsingleton.elim (α := Fin 1) _ _
    · rfl
    · exact Subsingleton.elim (α := Fin 1) _ _
  · have hs := s.isLt
    have hj := j.isLt
    have hb := b.isLt
    have hd := d.isLt
    simp only [Function.comp, Equiv.symm_apply_apply]
    by_cases c : 8191 ≤ s.val + j.val
    · have hin : ∀ a, (![0, 8191, 0] : Fin 3 → ℕ) a ≤ ((ix3 b s d : S2x8192x256.Idx) a).val * (![1, 1, 1] : Fin 3 → ℕ) a + ((ix3 0 j 0 : Shape.Idx ⟨3, ![1, 8192, 1]⟩) a).val ∧ ((ix3 b s d : S2x8192x256.Idx) a).val * (![1, 1, 1] : Fin 3 → ℕ) a + ((ix3 0 j 0 : Shape.Idx ⟨3, ![1, 8192, 1]⟩) a).val - (![0, 8191, 0] : Fin 3 → ℕ) a < S2x8192x256.size a := fun a => by
        fin_cases a
        · show 0 ≤ b.val * 1 + 0 ∧ b.val * 1 + 0 - 0 < 2; omega
        · show 8191 ≤ s.val * 1 + j.val ∧ s.val * 1 + j.val - 8191 < 8192; omega
        · show 0 ≤ d.val * 1 + 0 ∧ d.val * 1 + 0 - 0 < 256; omega
      rw [if_pos c]
      refine Eq.trans ?_ (dif_pos hin).symm
      refine (hx ⟨s.val + j.val - 8191, by omega⟩).symm.trans (congrArg x (funext fun a => Fin.ext ?_))
      fin_cases a
      · show b.val = b.val * 1 + 0 - 0; omega
      · show s.val + j.val - 8191 = s.val * 1 + j.val - 8191; omega
      · show d.val = d.val * 1 + 0 - 0; omega
    · rw [if_neg c, dif_neg]
      intro hin
      have := (hin 1).1
      change 8191 ≤ s.val * 1 + j.val at this
      omega

/-- A column group of one batch's rows, from column `o`, of reals. -/
def sq (R : Fin 2 → Fin 8192 → Fin 1280 → ℝ) (b : Fin 2) (o : ℕ) (ho : o ≤ 1024) (t : ℕ) (x : Fin 256) : ℝ := if h : t < 8192 then R b ⟨t, h⟩ ⟨o + x.val, by omega⟩ else 0

variable (R : Fin 2 → Fin 8192 → Fin 1280 → ℝ) (B : Fin 256 → ℝ)

/-- The logs of the forget gates. -/
def gs (b : Fin 2) (t : ℕ) (x : Fin 256) : ℝ := gate (B x) (sq R b 512 (by omega) t x)

/-- The queries. -/
def qs (b : Fin 2) (t : ℕ) (x : Fin 256) : ℝ := queryR (sq R b 256 (by omega) t x)

/-- The keys. -/
def ks (b : Fin 2) (t : ℕ) (x : Fin 256) : ℝ := keyR (B x) (sq R b 512 (by omega) t x)

/-- The values. -/
def vs (b : Fin 2) (t : ℕ) (x : Fin 256) : ℝ := sq R b 768 (by omega) t x

/-- The recurrence's outputs, before the norm. -/
def os (b : Fin 2) (t : ℕ) (n : Fin 256) : ℝ := OT (PS (gs R B b)) (qs R b) (ks R B b) (vs R b) t n

theorem sq_at (b : Fin 2) (o : ℕ) (ho : o ≤ 1024) (t : Fin 8192) (x : Fin 256) : sq R b o ho t.val x = R b t ⟨o + x.val, by omega⟩ := by
  unfold sq; rw [dif_pos t.isLt]

/-- What is known of the arguments. -/
structure Args (V0 : Valuation τ sig (Elt Ideal)) : Prop where
  a0 : ∀ b s c, (V0 (Proc.devRef .tc main_arg0) : Vec Ideal S2x8192x1280 .f32) (ix3 b s c) = ((R b s c : ℝ) : EReal)
  a1 : ∀ k, (V0 (Proc.devRef .tc main_arg1) : Vec Ideal S256 .f32) (ix1 k) = ((B k : ℝ) : EReal)
  b0 : ∀ k, 0 ≤ B k
  b1 : ∀ k, B k < 1
  z : ∀ b s (k : Fin 256), R b s ⟨512 + k.val, by omega⟩ ≤ 40

variable {R B} {V0 : Valuation τ sig (Elt Ideal)}

theorem gs_nonpos (h : Args R B V0) (b : Fin 2) (t : ℕ) (x : Fin 256) : gs R B b t x ≤ 0 := by
  unfold gs
  refine Cert.KernelIdeal.Mix.gate_nonpos (h.b0 x) (h.b1 x) ?_
  unfold sq
  split_ifs with ht
  · exact h.z b ⟨t, ht⟩ x
  · norm_num

theorem slice2 (V0 : Valuation τ sig (Elt Ideal)) (b : Fin 2) (s : Fin 8192) (k : Fin 256) : (res_main_v2 V0 : Vec Ideal S2x8192x256 .f32) (ix3 b s k) = (V0 (Proc.devRef .tc main_arg0) : Vec Ideal S2x8192x1280 .f32) (ix3 b s ⟨512 + k.val, by omega⟩) := by
  unfold res_main_v2; pointwise
theorem slice1 (V0 : Valuation τ sig (Elt Ideal)) (b : Fin 2) (s : Fin 8192) (k : Fin 256) : (res_main_v1 V0 : Vec Ideal S2x8192x256 .f32) (ix3 b s k) = (V0 (Proc.devRef .tc main_arg0) : Vec Ideal S2x8192x1280 .f32) (ix3 b s ⟨256 + k.val, by omega⟩) := by
  unfold res_main_v1; pointwise
theorem slice0 (V0 : Valuation τ sig (Elt Ideal)) (b : Fin 2) (s : Fin 8192) (k : Fin 256) : (res_main_v0 V0 : Vec Ideal S2x8192x256 .f32) (ix3 b s k) = (V0 (Proc.devRef .tc main_arg0) : Vec Ideal S2x8192x1280 .f32) (ix3 b s ⟨k.val, by omega⟩) := by
  unfold res_main_v0; pointwise

theorem lse0 (z : ℝ) : max (-((z : ℝ) : EReal)) 0 + Ideal.log1p (Ideal.exp (-FloatOps.absf (F := Ideal) (φ := .f32) (-((z : ℝ) : EReal)))) = ((lse (-z) 0 : ℝ) : EReal) := by
  have := lse_coe (-z) 0
  rw [EReal.coe_zero, sub_zero, EReal.coe_neg] at this
  exact this

theorem v77_real (h : Args R B V0) (b : Fin 2) (s : Fin 8192) (k : Fin 256) :
    (res_main_v77 V0 : Vec Ideal S2x8192x256 .f32) (ix3 b s k) = ((Real.log (1 - B k) + -lse (-sq R b 512 (by omega) s.val k) 0 : ℝ) : EReal) := by
  have hz := (slice2 V0 b s k).trans (h.a0 b s _)
  have hb := h.a1 k
  have h1 := h.b1 k
  unfold res_main_v77 res_main_call6_call0_v3 res_main_call6_call0_cst res_main_call6_v0
  generalize res_main_v2 V0 = Z at hz ⊢
  generalize V0 (Proc.devRef .tc main_arg1) = A at hb ⊢
  pointwise
  rw [if_neg (not_not.2 rfl), sq_at]
  rw [hz, hb, lse0, ← EReal.coe_neg, log1p_of (by linarith), ← EReal.coe_neg, ← EReal.coe_add]; rfl

theorem v82_real (h : Args R B V0) (b : Fin 2) (s : Fin 8192) (k : Fin 256) :
    (res_main_v82 V0 : Vec Ideal S2x8192x256 .f32) (ix3 b s k) = ((Real.log (max (B k) flr) - (Real.log (1 - B k) + -lse (-sq R b 512 (by omega) s.val k) 0) : ℝ) : EReal) := by
  have hz := v77_real h b s k
  have hb := h.a1 k
  have hp : 0 < max (B k) flr := lt_max_of_lt_right flr_pos
  unfold res_main_v82 res_main_v78
  generalize res_main_v77 V0 = Z at hz ⊢
  generalize V0 (Proc.devRef .tc main_arg1) = A at hb ⊢
  pointwise
  rw [hz, hb, floor_eq, ← coe_max, log_of hp, ← EReal.coe_sub]

theorem v122_real (h : Args R B V0) (b : Fin 2) (g : Fin 4) (s : Fin 8192) (d : Fin 64) :
    (res_main_v122 V0 : Vec Ideal S2x4x8192x64 .f32) (ix4 b g s d) = ((PS (gs R B b) (s.val + 1) ⟨g.val * 64 + d.val, by omega⟩ : ℝ) : EReal) := by
  have hz := fun j => v77_real h b j ⟨g.val * 64 + d.val, by omega⟩
  have hy := fun j => v82_real h b j ⟨g.val * 64 + d.val, by omega⟩
  have hb := h.a1 ⟨g.val * 64 + d.val, by omega⟩
  have hp : 0 < max (B ⟨g.val * 64 + d.val, by omega⟩) flr := lt_max_of_lt_right flr_pos
  unfold res_main_v122 res_main_v78
  generalize res_main_v77 V0 = Z at hz ⊢
  generalize res_main_v82 V0 = Y at hy ⊢
  generalize V0 (Proc.devRef .tc main_arg1) = A at hb ⊢
  refine cum4 _ _ (by pointwise) b g d (fun t => gs R B b t ⟨g.val * 64 + d.val, by omega⟩) (fun j => ?_) s _ _
  pointwise
  rw [if_neg (not_not.2 rfl), hz, hy, hb, floor_eq, ← coe_max, log_of hp, EReal.coe_sub]
  exact lse_coe _ _

theorem sel_sge (s r : ℕ) (hs : s < 8192) (hr : r < 8192) (a b : EReal) :
    Scalar.select (IntOp.cmpi CmpIPredicate.sge (BitVec.ofNat 32 r) (BitVec.ofNat 32 s)) a b = if s ≤ r then a else b := by
  have h : (BitVec.sle (BitVec.ofNat 32 s) (BitVec.ofNat 32 r)) = decide (s ≤ r) := by
    rw [BitVec.sle_eq_decide]
    have hn : ∀ n : ℕ, n < 8192 → (BitVec.ofNat 32 n).toInt = (n : ℤ) := fun n hn => by
      have e : (BitVec.ofNat 32 n).toNat = n := by rw [BitVec.toNat_ofNat]; exact Nat.mod_eq_of_lt (by omega)
      rw [BitVec.toInt_eq_toNat_of_lt (by rw [e]; omega), e]
    rw [hn s hs, hn r hr]
    simp
  unfold Scalar.select IntOp.cmpi
  simp only [h]
  by_cases hsr : s ≤ r <;> simp [hsr]

/-- A sum over all lanes that keeps one head's is a sum over that head's. -/
theorem sum_head (f : Fin 256 → ℝ) (g : Fin 4) (d : Fin 64) : ∑ x : Fin 64, f ⟨g.val * 64 + x.val, by omega⟩ = ∑ x : Fin 256, f x * same x ⟨g.val * 64 + d.val, by omega⟩ := by
  refine Fintype.sum_of_injective (fun x : Fin 64 => (⟨g.val * 64 + x.val, by omega⟩ : Fin 256)) (fun x y e => Fin.ext ?_) _ _ (fun x hx => ?_) (fun x => ?_)
  · have := congrArg Fin.val e; simp only at this; omega
  · unfold same
    rw [if_neg, mul_zero]
    intro e
    simp only at e
    exact hx ⟨⟨x.val - g.val * 64, by omega⟩, Fin.ext (by simp only; omega)⟩
  · unfold same
    rw [if_pos (by simp only; omega), mul_one]

theorem sig_of (z : ℝ) : Ideal.div 1 (1 + Ideal.exp ((z : ℝ) : EReal)) = (((1 + Real.exp z)⁻¹ : ℝ) : EReal) := by
  have h : (1 + Real.exp z) ≠ 0 := by positivity
  rw [Ideal.exp_coe, ← EReal.coe_one, ← EReal.coe_add, Ideal.div_coe h, ← EReal.coe_mul, one_mul, one_div]

theorem v140_real (h : Args R B V0) (b : Fin 2) (g : Fin 4) (s : Fin 8192) (d : Fin 64) :
    (res_main_v140 V0 : Vec Ideal S2x8192x4x64 .f32) (ix4 b s g d) = ((os R B b s.val ⟨g.val * 64 + d.val, by omega⟩ : ℝ) : EReal) := by
  have hanti : Antitone (PS (gs R B b)) := PS_anti (gs_nonpos h b)
  have hp := fun s d => v122_real h b g s d
  have hq := fun s k => (slice1 V0 b s k).trans (h.a0 b s _)
  have hz := fun s k => (slice2 V0 b s k).trans (h.a0 b s _)
  have hb := h.a1
  have hv := h.a0
  have hi : ∀ s : Fin 8192, (res_main_v107 V0 : IVec S8192 32) (ix1 s) = BitVec.ofNat 32 s.val := fun s => by unfold res_main_v107; pointwise
  have z0 : id (constant S_ .f32 0#32 : FVec Ideal S_ .f32) ix0 = 0 := by
    show (constant S_ .f32 0#32 : FVec Ideal S_ .f32) ix0 = 0
    pointwise
  have s0 : (res_main_v140 V0 : Vec Ideal S2x8192x4x64 .f32) (ix4 b s g d) = ∑ x : Fin 8192, (((if x.val ≤ s.val then ∑ y : Fin 64, qs R b s.val ⟨g.val * 64 + y.val, by omega⟩ * ks R B b x.val ⟨g.val * 64 + y.val, by omega⟩
      * Real.exp (PS (gs R B b) (s.val + 1) ⟨g.val * 64 + y.val, by omega⟩ - PS (gs R B b) (x.val + 1) ⟨g.val * 64 + y.val, by omega⟩) else 0) * vs R b x.val ⟨g.val * 64 + d.val, by omega⟩ : ℝ) : EReal) := by
    unfold res_main_v140
    generalize res_main_v122 V0 = P at hp ⊢
    generalize res_main_v1 V0 = Q at hq ⊢
    generalize res_main_v2 V0 = Z at hz ⊢
    generalize res_main_v107 V0 = I at hi ⊢
    generalize V0 (Proc.devRef .tc main_arg1) = A at hb ⊢
    generalize V0 (Proc.devRef .tc main_arg0) = X at hv ⊢
    pointwise
    refine Finset.sum_congr (M := EReal) rfl fun x _ => ?_
    rw [EReal.coe_mul]
    refine congrArg₂ (fun a b : EReal => a * b) ?_ ?_
    · by_cases hx : x.val ≤ s.val
      · rw [if_pos hx, coe_sum]
        refine Finset.sum_congr (M := EReal) rfl fun y _ => ?_
        have hle := hanti (show x.val + 1 ≤ s.val + 1 by omega) (⟨g.val * 64 + y.val, by omega⟩ : Fin 256)
        rw [hi, hi, sel_sge _ _ x.isLt s.isLt, if_pos hx, hp, hp, hq, hz, hb, ← EReal.coe_neg, ← EReal.coe_neg, ← EReal.coe_neg, neg_neg, sig_of, sig_of, eighth_eq, ← EReal.coe_sub, ← EReal.coe_zero, ← coe_min, Ideal.exp_coe,
          min_eq_left (by linarith), ← EReal.coe_one, ← EReal.coe_sub, ← EReal.coe_mul, ← EReal.coe_mul, ← EReal.coe_mul, ← EReal.coe_mul, ← EReal.coe_mul]
        unfold qs ks queryR keyR
        rw [sq_at, sq_at]
      · rw [if_neg hx, EReal.coe_zero]
        refine Finset.sum_eq_zero (M := EReal) fun y _ => ?_
        rw [hi, hi, sel_sge _ _ x.isLt s.isLt, if_neg hx, z0, mul_zero]
    · rw [hv]; unfold vs; rw [sq_at]
  rw [s0, ← coe_sum]
  congr 1
  unfold os OT
  refine (Finset.sum_range (fun x => (if x ≤ s.val then ∑ y : Fin 64, qs R b s.val ⟨g.val * 64 + y.val, by omega⟩ * ks R B b x ⟨g.val * 64 + y.val, by omega⟩
      * Real.exp (PS (gs R B b) (s.val + 1) ⟨g.val * 64 + y.val, by omega⟩ - PS (gs R B b) (x + 1) ⟨g.val * 64 + y.val, by omega⟩) else 0) * vs R b x ⟨g.val * 64 + d.val, by omega⟩)).symm.trans ?_
  refine (Finset.sum_subset (Finset.range_mono (show s.val + 1 ≤ 8192 by omega)) (fun x _ hx => ?_)).symm.trans (Finset.sum_congr rfl fun x hx => ?_)
  · have : ¬ x ≤ s.val := fun e => hx (Finset.mem_range.2 (by omega))
    rw [if_neg this, zero_mul]
  · have := Finset.mem_range.1 hx
    rw [if_pos (by omega)]
    congr 1
    exact sum_head (fun y => qs R b s.val y * ks R B b x y * Real.exp (PS (gs R B b) (s.val + 1) y - PS (gs R B b) (x + 1) y)) g d

end Cert.ReferenceIdeal.RefValue
-- ==== Proof.MixRef2.lean ====
/- The reference's result, as sums of reals. -/
module

public import proofs.«01_k».proof.Proof.MixRef

@[expose] public section

set_option maxRecDepth 16384
set_option maxHeartbeats 2000000

noncomputable section

open Idealize.ShloMosaic Idealize.ShloMosaic.TcCoe Idealize.SL.Sem

namespace Cert.ReferenceIdeal.RefValue

open Cert.ReferenceIdeal Cert.ReferenceIdeal.Gen Cert.ReferenceIdeal.Value
open Cert.KernelIdeal.Mix (gate keyR queryR PS OT same coe_sum lse_coe lse coe_max coe_min log_of log1p_of floor_eq eighth_eq flr_pos flr PS_anti)

variable (R : Fin 2 → Fin 8192 → Fin 1280 → ℝ) (B : Fin 256 → ℝ)

/-- The pool's inputs. -/
def us (b : Fin 2) (t : ℕ) (x : Fin 256) : ℝ := sq R b 0 (by omega) t x

/-- A window's mean less the row, of a window of `w` rows. -/
def dw (b : Fin 2) (w s : ℕ) (k : Fin 256) : ℝ := (PS (us R b) (s + 1) k - PS (us R b) (s + 1 - w) k) * (1 / min ((s : ℝ) + 1) w) - us R b s k

/-- A lane's window. -/
def win (k : ℕ) : ℕ := if k < 64 then 2 else if k < 128 then 4 else if k < 192 then 8 else 16

/-- The norm of a head, the gain and the gate. -/
def hg (o : Fin 256 → ℝ) (gain og : EReal) (n : Fin 256) : EReal :=
  (o n : EReal) * Ideal.rsqrt (((∑ x, o x * o x * same x n) * (1 / 64) : ℝ) + Ideal.ofBits .f32 897988541#32) * gain * (og * Ideal.logistic og)

/-- The pool: each group of lanes of the window's means, times the group's matrix, times the lane's scale. -/
def poolOf (w3 : Vec Ideal S4x64x64 .f32) (w4 : Vec Ideal S256 .f32) (b : Fin 2) (s : ℕ) (n : Fin 256) : EReal :=
  (∑ x : Fin 64, (w3 (ix3 (⟨n.val / 64, by omega⟩ : Fin 4) x (⟨n.val % 64, by omega⟩ : Fin 64)) : EReal) * ((dw R b (win n.val) s (⟨n.val / 64 * 64 + x.val, by omega⟩ : Fin 256) : ℝ) : EReal)) * w4 (ix1 n)

variable {R B} {V0 : Valuation τ sig (Elt Ideal)}

theorem int0 : (FloatOps.sitofp (F := Ideal) FTy.f32 0#32 : EReal) = 0 := by
  show (((0#32 : BitVec 32).toInt : ℝ) : EReal) = 0
  simp

theorem intn (n : ℕ) (hn : n < 8192) : (FloatOps.sitofp (F := Ideal) FTy.f32 (BitVec.ofNat 32 n) : EReal) = ((n : ℝ) : EReal) := by
  show (((BitVec.ofNat 32 n).toInt : ℝ) : EReal) = _
  have e : (BitVec.ofNat 32 n).toNat = n := by rw [BitVec.toNat_ofNat]; exact Nat.mod_eq_of_lt (by omega)
  rw [BitVec.toInt_eq_toNat_of_lt (by rw [e]; omega), e]
  simp

theorem v9_real (V0 : Valuation τ sig (Elt Ideal)) (s : Fin 8192) : (res_main_v9 V0 : FVec Ideal S8192 .f32) (ix1 s) = (((s.val : ℝ) + 1 : ℝ) : EReal) := by
  unfold res_main_v9
  pointwise
  rw [intn _ s.isLt, ← EReal.coe_one, ← EReal.coe_add, add_comm]

theorem v6_real (h : Args R B V0) (b : Fin 2) (t : Fin 8193) (k : Fin 256) : (res_main_v6 V0 : FVec Ideal S2x8193x256 .f32) (ix3 b t k) = ((PS (us R b) t.val k : ℝ) : EReal) := by
  have hu : ∀ s, (res_main_v0 V0 : Vec Ideal S2x8192x256 .f32) (ix3 b s k) = ((us R b s.val k : ℝ) : EReal) := fun s => by
    rw [slice0, h.a0]; unfold us; rw [sq_at]; simp only [Nat.zero_add]
  have hc := fun s hr hu' => cum3 (res_main_v0 V0) (broadcastInDim S_ ![] bcast_S_S_ (constant S_ .f32 0x00000000#32)) (by pointwise) b k (fun t => us R b t k) hu s hr hu'
  have ht := t.isLt
  unfold res_main_v6
  generalize hX : Host.reduceWindowAdd (F := Ideal) (φ := .f32) _ _ _ _ _ _ _ _ = X
  pointwise
  subst hX
  split_ifs with h1
  · rw [hc]
    unfold PS
    simp only []
    rw [show t.val - 1 + 1 = t.val by omega]
  · rw [int0]
    unfold PS
    rw [show t.val = 0 by omega, Finset.range_zero, Finset.sum_empty, EReal.coe_zero]

theorem dw_real (b : Fin 2) (w : ℕ) (hw : 0 < w) (s : Fin 8192) (k : Fin 256) (c : EReal) (hc : c = ((w : ℝ) : EReal)) (lo : EReal) (hlo : lo = ((PS (us R b) (s.val + 1 - w) k : ℝ) : EReal)) :
    Ideal.div (((PS (us R b) (s.val + 1) k : ℝ) : EReal) - lo) (min ((((s.val : ℝ) + 1 : ℝ)) : EReal) c) - ((us R b s.val k : ℝ) : EReal) = ((dw R b w s.val k : ℝ) : EReal) := by
  have hp : (0 : ℝ) < min ((s.val : ℝ) + 1) w := lt_min (by positivity) (by exact_mod_cast hw)
  rw [hc, hlo, ← coe_min, ← EReal.coe_sub, Ideal.div_coe hp.ne', ← EReal.coe_mul, ← EReal.coe_sub]; rfl

theorem c2 : Ideal.ofBits .f32 1073741824#32 = (((2 : ℕ) : ℝ) : EReal) := by
  simp [Ideal.ofBits, Ideal.ieee]; rw [← EReal.coe_mul]; norm_num
theorem c4 : Ideal.ofBits .f32 1082130432#32 = (((4 : ℕ) : ℝ) : EReal) := by
  simp [Ideal.ofBits, Ideal.ieee]; rw [← EReal.coe_mul]; norm_num
theorem c8 : Ideal.ofBits .f32 1090519040#32 = (((8 : ℕ) : ℝ) : EReal) := by
  simp [Ideal.ofBits, Ideal.ieee]; rw [← EReal.coe_mul]; norm_num
theorem c16 : Ideal.ofBits .f32 1098907648#32 = (((16 : ℕ) : ℝ) : EReal) := by
  simp [Ideal.ofBits, Ideal.ieee]; rw [← EReal.coe_mul]; norm_num
theorem c64 : Ideal.ofBits .f32 1115684864#32 = ((64 : ℝ) : EReal) := by
  simp [Ideal.ofBits, Ideal.ieee]; rw [← EReal.coe_mul]; norm_num

theorem v158_real (h : Args R B V0) (b : Fin 2) (s : Fin 8192) (n : Fin 512) :
    (res_main_v158 V0 : FVec Ideal S2x8192x512 .f32) (ix3 b s n) = if hn : n.val < 256 then
      poolOf R (V0 (Proc.devRef .tc main_arg3)) (V0 (Proc.devRef .tc main_arg4)) b s.val ⟨n.val, hn⟩
      else hg (os R B b s.val) ((V0 (Proc.devRef .tc main_arg2) : Vec Ideal S64 .f32) (ix1 (⟨(n.val - 256) % 64, by omega⟩ : Fin 64)))
        ((V0 (Proc.devRef .tc main_arg0) : Vec Ideal S2x8192x1280 .f32) (ix3 b s (⟨1024 + (n.val - 256), by have := n.isLt; omega⟩ : Fin 1280))) ⟨n.val - 256, by have := n.isLt; omega⟩ := by
  have hn' := n.isLt
  have h10 : ∀ (t : Fin 8193) (x : Fin 64), (res_main_v10 V0 : FVec Ideal S2x8193x64 .f32) (ix3 b t x) = ((PS (us R b) t.val ⟨x.val, by omega⟩ : ℝ) : EReal) := fun t x => by
    rw [← v6_real h]; unfold res_main_v10; generalize res_main_v6 V0 = Z; pointwise
  have h22 : ∀ (t : Fin 8193) (x : Fin 64), (res_main_v22 V0 : FVec Ideal S2x8193x64 .f32) (ix3 b t x) = ((PS (us R b) t.val ⟨64 + x.val, by omega⟩ : ℝ) : EReal) := fun t x => by
    rw [← v6_real h]; unfold res_main_v22; generalize res_main_v6 V0 = Z; pointwise
  have h34 : ∀ (t : Fin 8193) (x : Fin 64), (res_main_v34 V0 : FVec Ideal S2x8193x64 .f32) (ix3 b t x) = ((PS (us R b) t.val ⟨128 + x.val, by omega⟩ : ℝ) : EReal) := fun t x => by
    rw [← v6_real h]; unfold res_main_v34; generalize res_main_v6 V0 = Z; pointwise
  have h46 : ∀ (t : Fin 8193) (x : Fin 64), (res_main_v46 V0 : FVec Ideal S2x8193x64 .f32) (ix3 b t x) = ((PS (us R b) t.val ⟨192 + x.val, by omega⟩ : ℝ) : EReal) := fun t x => by
    rw [← v6_real h]; unfold res_main_v46; generalize res_main_v6 V0 = Z; pointwise
  have h0 : ∀ (s : Fin 8192) (k : Fin 256), (res_main_v0 V0 : Vec Ideal S2x8192x256 .f32) (ix3 b s k) = ((us R b s.val k : ℝ) : EReal) := fun s k => by
    rw [slice0, h.a0]; unfold us; rw [sq_at]; simp only [Nat.zero_add]
  have h9 := v9_real V0
  have h140 := fun g d => v140_real h b g s d
  have h141 : ∀ (g : Fin 4) (d : Fin 64), (res_main_v141 V0 : FVec Ideal S2x8192x4x64 .f32) (ix4 b s g d) = (V0 (Proc.devRef .tc main_arg0) : Vec Ideal S2x8192x1280 .f32) (ix3 b s ⟨1024 + (g.val * 64 + d.val), by omega⟩) := fun g d => by
    unfold res_main_v141; generalize V0 (Proc.devRef .tc main_arg0) = Z; pointwise
  unfold res_main_v158
  generalize res_main_v140 V0 = P at h140 ⊢
  generalize res_main_v10 V0 = Q at h10 ⊢
  generalize res_main_v22 V0 = Q1 at h22 ⊢
  generalize res_main_v34 V0 = Q2 at h34 ⊢
  generalize res_main_v46 V0 = Q3 at h46 ⊢
  generalize res_main_v0 V0 = Q4 at h0 ⊢
  generalize res_main_v9 V0 = Q5 at h9 ⊢
  generalize res_main_v141 V0 = Q6 at h141 ⊢
  pointwise
  by_cases a1 : n.val < 256
  · rw [dif_pos a1, dif_pos a1]
    unfold poolOf
    refine congrArg₂ (fun a b : EReal => a * b) (Finset.sum_congr (M := EReal) rfl fun x _ => congrArg₂ (fun a b : EReal => a * b) rfl ?_) rfl
    have hx := x.isLt
    by_cases a2 : n.val / 64 < 1
    · rw [dif_pos a2]
      rw [h10, h0, h9, show win n.val = 2 by unfold win; rw [if_pos (by omega)]]
      refine Eq.trans ?_ (dw_real b 2 (by omega) s _ _ c2 _ rfl)
      simp only [show n.val / 64 * 64 + x.val = x.val by omega, Nat.add_comm 1]
      congr 3
      split_ifs with hh
      · rw [h10]; simp only [show s.val + 1 - 2 = s.val - 1 by omega]
      · rw [int0, show s.val + 1 - 2 = 0 by omega]; simp [PS]
    rw [dif_neg a2]
    by_cases a3 : n.val / 64 - 1 < 1
    · rw [dif_pos a3]
      rw [h22, h0, h9, show win n.val = 4 by unfold win; rw [if_neg (by omega), if_pos (by omega)]]
      refine Eq.trans ?_ (dw_real b 4 (by omega) s _ _ c4 _ rfl)
      simp only [show n.val / 64 * 64 + x.val = 64 + x.val by omega, Nat.add_comm 1]
      congr 3
      split_ifs with hh
      · rw [h22]; simp only [show s.val + 1 - 4 = s.val - 3 by omega]
      · rw [int0, show s.val + 1 - 4 = 0 by omega]; simp [PS]
    rw [dif_neg a3]
    by_cases a4 : n.val / 64 - 1 - 1 < 1
    · rw [dif_pos a4]
      rw [h34, h0, h9, show win n.val = 8 by unfold win; rw [if_neg (by omega), if_neg (by omega), if_pos (by omega)]]
      refine Eq.trans ?_ (dw_real b 8 (by omega) s _ _ c8 _ rfl)
      simp only [show n.val / 64 * 64 + x.val = 128 + x.val by omega, Nat.add_comm 1]
      congr 3
      split_ifs with hh
      · rw [h34]; simp only [show s.val + 1 - 8 = s.val - 7 by omega]
      · rw [int0, show s.val + 1 - 8 = 0 by omega]; simp [PS]
    rw [dif_neg a4]
    rw [h46, h0, h9, show win n.val = 16 by unfold win; rw [if_neg (by omega), if_neg (by omega), if_neg (by omega)]]
    refine Eq.trans ?_ (dw_real b 16 (by omega) s _ _ c16 _ rfl)
    simp only [show n.val / 64 * 64 + x.val = 192 + x.val by omega, Nat.add_comm 1]
    congr 3
    split_ifs with hh
    · rw [h46]; simp only [show s.val + 1 - 16 = s.val - 15 by omega]
    · rw [int0, show s.val + 1 - 16 = 0 by omega]; simp [PS]
  · rw [dif_neg a1, dif_neg a1]
    have en : (⟨n.val - 256, by omega⟩ : Fin 256) = ⟨(n.val - 256) / 64 * 64 + (n.val - 256) % 64, by omega⟩ := Fin.ext (by simp only; omega)
    have hs := sum_head (fun x => os R B b s.val x * os R B b s.val x) ⟨(n.val - 256) / 64, by omega⟩ ⟨(n.val - 256) % 64, by omega⟩
    simp only at hs
    refine Eq.trans ?_ (congrArg (hg _ _ _) en).symm
    unfold hg
    rw [← hs]
    simp only [h140, h141, c64]
    rw [Ideal.div_coe (by norm_num), EReal.coe_mul, coe_sum]
    simp only [EReal.coe_mul]
    have eo : (1024 + ((n.val - 256) / 64 * 64 + (n.val - 256) % 64)) = 1024 + (n.val - 256) := by omega
    exact congrArg₂ (fun a b : EReal => a * b) rfl (congrArg (fun z : EReal => z * Ideal.logistic z)
      (congrArg (V0 (Proc.devRef .tc main_arg0) : Vec Ideal S2x8192x1280 .f32) (congrArg (ix3 b s) (Fin.ext eo))))

end Cert.ReferenceIdeal.RefValue
-- ==== Proof.MixPoint.lean ====
/- One grid point of the pool and recurrence, given what its blocks hold. -/
module

public import proofs.«01_k».proof.Proof.MixTile
public import proofs.«01_k».proof.Proof.MixPool
public import proofs.«01_k».proof.Proof.MixRef2

@[expose] public section

set_option maxRecDepth 16384

noncomputable section

open Idealize.ShloMosaic Idealize.ShloMosaic.TcCoe Idealize.SL.Sem

namespace Cert.KernelIdeal.Mix

open Cert.KernelIdeal Cert.KernelIdeal.Gen
open Cert.ReferenceIdeal.RefValue (gs qs ks vs os us dw win hg poolOf)

variable {R : Fin 2 → Fin 8192 → Fin 1280 → ℝ} {B : Fin 256 → ℝ} {t : ℕ}

/-- What the blocks of point `t` hold. -/
structure Ins (R : Fin 2 → Fin 8192 → Fin 1280 → ℝ) (B : Fin 256 → ℝ) (t : ℕ) (w2 : Vec Ideal S64 .f32) (w3 : Vec Ideal S4x64x64 .f32) (w4 : Vec Ideal S256 .f32)
    (x0 : Vec Ideal S2x128x1280 .f32) (x1 x2 : Vec Ideal S1x256 .f32) (x3 : Vec Ideal S256x256 .bf16) (x4 : Vec Ideal S1x256 .f32)
    (x5 : Vec Ideal S128x128 .bf16) (x6 : Vec Ideal S256x256 .bf16) (x7 : Vec Ideal S256x256 .f32) : Prop where
  b0 : ∀ k, 0 ≤ B k
  b1 : ∀ k, B k < 1
  z : ∀ b s (k : Fin 256), R b s ⟨512 + k.val, by omega⟩ ≤ 40
  ht : t < 64
  x0 : ∀ (b : Fin 2) (i : Fin 128) (k : Fin 1280) (s : Fin 8192), s.val = 128 * t + i.val → x0 (ix3 b i k) = ((R b s k : ℝ) : EReal)
  x1 : ∀ k, x1 (ix2 0 k) = ((B k : ℝ) : EReal)
  x2 : ∀ n : Fin 256, x2 (ix2 0 n) = w2 (ix1 (⟨n.val % 64, by omega⟩ : Fin 64))
  x3 : ∀ x n : Fin 256, x3 (ix2 x n) = if x.val / 64 = n.val / 64 then w3 (ix3 (⟨n.val / 64, by omega⟩ : Fin 4) (⟨x.val % 64, by omega⟩ : Fin 64) (⟨n.val % 64, by omega⟩ : Fin 64)) else (0 : EReal)
  x4 : ∀ n : Fin 256, x4 (ix2 0 n) = w4 (ix1 n)
  x5 : ∀ i j : Fin 128, x5 (ix2 i j) = (((if j.val / 16 = i.val / 16 ∧ j.val ≤ i.val then (1 : ℝ) else 0) : ℝ) : EReal)
  x6 : ∀ x n : Fin 256, x6 (ix2 x n) = ((same x n : ℝ) : EReal)
  x7 : ∀ n x : Fin 256, x7 (ix2 n x) = ((same x n : ℝ) : EReal)

variable {w2 : Vec Ideal S64 .f32} {w3 : Vec Ideal S4x64x64 .f32} {w4 : Vec Ideal S256 .f32}
    {x0 : Vec Ideal S2x128x1280 .f32} {x1 x2 : Vec Ideal S1x256 .f32} {x3 : Vec Ideal S256x256 .bf16} {x4 : Vec Ideal S1x256 .f32}
    {x5 : Vec Ideal S128x128 .bf16} {x6 : Vec Ideal S256x256 .bf16} {x7 : Vec Ideal S256x256 .f32}

theorem cut_real (h : Ins R B t w2 w3 w4 x0 x1 x2 x3 x4 x5 x6 x7) (b : Fin 2) (s : Fin 5) (o : ℕ) (ho : o ≤ 1024) (e : o = 256 * s.val) (i : Fin 128) (k : Fin 256) :
    cut b s x0 (ix2 i k) = ((Cert.ReferenceIdeal.RefValue.sq R b o ho (128 * t + i.val) k : ℝ) : EReal) := by
  have ht := h.ht
  have hi := i.isLt
  subst e
  unfold Cert.ReferenceIdeal.RefValue.sq
  rw [dif_pos (by omega)]
  exact h.x0 b i _ ⟨128 * t + i.val, by omega⟩ rfl

theorem gs_neg (h : Ins R B t w2 w3 w4 x0 x1 x2 x3 x4 x5 x6 x7) (b : Fin 2) (s : ℕ) (x : Fin 256) : gs R B b s x ≤ 0 := by
  unfold gs
  refine gate_nonpos (h.b0 x) (h.b1 x) ?_
  unfold Cert.ReferenceIdeal.RefValue.sq
  split_ifs with hs
  · exact h.z b ⟨s, hs⟩ x
  · norm_num

theorem tile (h : Ins R B t w2 w3 w4 x0 x1 x2 x3 x4 x5 x6 x7) (b : Fin 2) :
    Tile (PS (gs R B b)) (qs R b) (ks R B b) (vs R b) (128 * t) (cumF x5 (logF (cut b 2 x0) x1)) (queryF (cut b 1 x0)) (keyF (cut b 2 x0) x1) (cut b 3 x0) where
  c := cumF_real x5 _ (gs R B b) (128 * t) h.x5 fun j x => logF_real _ _ j x _ _ (cut_real h b 2 512 (by omega) rfl j x) (h.x1 x) (h.b0 x) (h.b1 x)
  q i x := queryF_real _ i x _ (cut_real h b 1 256 (by omega) rfl i x)
  k i x := keyF_real _ _ i x _ _ (cut_real h b 2 512 (by omega) rfl i x) (h.x1 x)
  v i x := cut_real h b 3 768 (by omega) rfl i x

/-- What the scratch holds before point `t`. -/
structure Carried (R : Fin 2 → Fin 8192 → Fin 1280 → ℝ) (B : Fin 256 → ℝ) (t : ℕ) (s0 : Vec Ideal S2x256x256 .f32) (s1 : Vec Ideal S2x16x256 .f32) : Prop where
  st : ∀ (b : Fin 2) (n x : Fin 256), s0 (ix3 b n x) = ((ST (PS (gs R B b)) (ks R B b) (vs R b) (128 * t) n x : ℝ) : EReal)
  halo : ∀ (b : Fin 2) (j : Fin 16) (k : Fin 256), s1 (ix3 b j k) = (((if 16 ≤ 128 * t + j.val then us R b (128 * t + j.val - 16) k else 0) : ℝ) : EReal)

theorem carried_zero : Carried R B 0 (fun _ => (0 : EReal)) (fun _ => (0 : EReal)) where
  st b n x := by rw [ST_zero, EReal.coe_zero]
  halo b j k := by rw [if_neg (by omega), EReal.coe_zero]

variable {s0 : Vec Ideal S2x256x256 .f32} {s1 : Vec Ideal S2x16x256 .f32}

theorem stepSt_real (h : Ins R B t w2 w3 w4 x0 x1 x2 x3 x4 x5 x6 x7) (hc : Carried R B t s0 s1) (b : Fin 2) (n x : Fin 256) :
    stepSt x0 x1 x5 x7 s0 b (ix2 n x) = ((ST (PS (gs R B b)) (ks R B b) (vs R b) (128 * (t + 1)) n x : ℝ) : EReal) :=
  stAt_real (tile h b) x7 h.x7 (slab b s0) (fun n x => hc.st b n x) 8 (by omega) n x

theorem halo_real (h : Ins R B t w2 w3 w4 x0 x1 x2 x3 x4 x5 x6 x7) (b : Fin 2) (j : Fin 16) (k : Fin 256) :
    cut b 0 x0 (ix2 ⟨112 + j.val, by omega⟩ k) = (((if 16 ≤ 128 * (t + 1) + j.val then us R b (128 * (t + 1) + j.val - 16) k else 0) : ℝ) : EReal) := by
  rw [cut_real h b 0 0 (by omega) rfl, if_pos (by omega), show 128 * (t + 1) + j.val - 16 = 128 * t + (112 + j.val) by omega]
  rfl

theorem c64' : Ideal.ofBits .f32 1015021568#32 = ((1 / 64 : ℝ) : EReal) := by
  simp [Ideal.ofBits, Ideal.ieee]; rw [← EReal.coe_mul]; norm_num

theorem stepHg_real (h : Ins R B t w2 w3 w4 x0 x1 x2 x3 x4 x5 x6 x7) (hc : Carried R B t s0 s1) (b : Fin 2) (i : Fin 128) (n : Fin 256) (og : EReal) (hog : cut b 4 x0 (ix2 i n) = og) :
    stepHg x0 x1 x2 x5 x6 x7 s0 b (ix2 i n) = hg (os R B b (128 * t + i.val)) (w2 (ix1 (⟨n.val % 64, by omega⟩ : Fin 64))) og n := by
  have ho := oAll_real (PS_anti (gs_neg h b)) (tile h b) x6 h.x6 x7 h.x7 (slab b s0) (fun n x => hc.st b n x) i
  unfold stepHg
  generalize oAll (F := Ideal) x6 x7 _ _ _ _ _ = O at ho ⊢
  unfold fin
  generalize cut b 4 x0 = C at hog ⊢
  pointwise
  rw [hog, h.x2]
  unfold hg
  have e1 : (∑ x, O (ix2 i x) * O (ix2 i x) * x6 (ix2 x n) : EReal) = ((∑ x, os R B b (128 * t + i.val) x * os R B b (128 * t + i.val) x * same x n : ℝ) : EReal) := by
    rw [coe_sum]
    refine Finset.sum_congr rfl fun x _ => ?_
    rw [ho, h.x6, ← EReal.coe_mul, ← EReal.coe_mul]; rfl
  have e2 : (∑ x, (O (ix2 i x) * O (ix2 i x) - O (ix2 i x) * O (ix2 i x)) * x6 (ix2 x n) : EReal) = 0 := by
    refine Finset.sum_eq_zero fun x _ => ?_
    rw [ho, ← EReal.coe_mul, ← EReal.coe_sub, sub_self, EReal.coe_zero, zero_mul]
  rw [e1, e2, add_zero, c64', ho, ← EReal.coe_mul]
  rfl

theorem sum_group (F : Fin 256 → EReal) (g : Fin 4) : ∑ x : Fin 256, (if x.val / 64 = g.val then F x else 0) = ∑ x : Fin 64, F ⟨g.val * 64 + x.val, by omega⟩ := by
  symm
  refine Fintype.sum_of_injective (fun x : Fin 64 => (⟨g.val * 64 + x.val, by omega⟩ : Fin 256)) (fun x y e => Fin.ext ?_) _ _ (fun x hx => ?_) (fun x => ?_)
  · have := congrArg Fin.val e; simp only at this; omega
  · rw [if_neg]
    intro e
    exact hx ⟨⟨x.val - g.val * 64, by omega⟩, Fin.ext (by simp only; omega)⟩
  · rw [if_pos (by simp only; omega)]

theorem stepPool_real (h : Ins R B t w2 w3 w4 x0 x1 x2 x3 x4 x5 x6 x7) (hc : Carried R B t s0 s1) (b : Fin 2) (i : Fin 128) (n : Fin 256) :
    stepPool (BitVec.ofNat 32 t) x0 x3 x4 s1 b (ix2 i n) = poolOf R w3 w4 b (128 * t + i.val) n := by
  have hn := n.isLt
  unfold stepPool
  rw [pool_real (L := us R b) t h.ht (halo b s1) (cut b 0 x0) (fun j k => hc.halo b j k) (fun i k => cut_real h b 0 0 (by omega) rfl i k) x3 x4 i n, h.x4]
  unfold poolOf
  refine congrArg₂ (fun a b : EReal => a * b) ?_ rfl
  refine Eq.trans (Finset.sum_congr rfl fun x _ => ?_) ((sum_group (fun x => w3 (ix3 (⟨n.val / 64, by omega⟩ : Fin 4) (⟨x.val % 64, by omega⟩ : Fin 64) (⟨n.val % 64, by omega⟩ : Fin 64)) * ((dw R b (win n.val) (128 * t + i.val) x : ℝ) : EReal)) ⟨n.val / 64, by omega⟩).trans (Finset.sum_congr rfl fun x _ => ?_))
  · rw [h.x3]
    simp only []
    split_ifs with e
    · rw [mul_comm]
      refine congrArg₂ (fun a b : EReal => a * b) rfl ?_
      have ew : wn x.val = win n.val := by unfold wn win; split_ifs <;> omega
      rw [ew]; rfl
    · rw [mul_zero]
  · have hx := x.isLt
    have e : (n.val / 64 * 64 + x.val) % 64 = x.val := by omega
    simp only [e]

end Cert.KernelIdeal.Mix
-- ==== Proof.MixHost4.lean ====
/- The windows' blocks at a grid point, entry by entry. -/
module

public import proofs.«01_k».proof.Proof.MixHost3
public import proofs.«01_k».proof.Proof.MixPoint

@[expose] public section

set_option maxRecDepth 16384

noncomputable section

open Idealize.ShloMosaic Idealize.ShloMosaic.TcCoe Idealize.SL.Sem

namespace Cert.KernelIdeal.Mix

open Cert.KernelIdeal Cert.KernelIdeal.Gen Cert.KernelIdeal.Value

variable (m : (l : Loc nD τ sig) → Buf (Elt Ideal) l)

theorem V_0 (c : Dev nD) : V m c main_v0 = fun j => (m ((c : Thread nD τ).loc main_arg1) : FVec Ideal S256 .f32) (ix1 (j 1)) := by
  rw [V_eq, k6_v0, k5_v0, k4_v0, k3_v0, k2_v0, k1_v0, a0_0]

theorem V_4 (c : Dev nD) : V m c main_v4 = fun j => (m ((c : Thread nD τ).loc main_arg2) : FVec Ideal S64 .f32) (ix1 (⟨(j 1).val % 64, by omega⟩ : Fin 64)) := by
  rw [V_eq, k6_v4, k5_v4, k4_v4, k3_v4, k2_v4, k1_v4, a0_4]

theorem V_31 (c : Dev nD) : V m c main_v31 = fun j => (m ((c : Thread nD τ).loc main_arg4) : FVec Ideal S256 .f32) (ix1 (j 1)) := by
  rw [V_eq, k6_v31, k5_v31, k4_v31, k3_v31, k2_v31, k1_v31, a0_31]

theorem V_30 (c : Dev nD) (r n : Fin 256) : (V m c main_v30 : FVec Ideal S256x256 .bf16) (ix2 r n)
    = if r.val / 64 = n.val / 64 then (m ((c : Thread nD τ).loc main_arg3) : FVec Ideal S4x64x64 .f32) (ix3 (⟨n.val / 64, by omega⟩ : Fin 4) (⟨r.val % 64, by omega⟩ : Fin 64) (⟨n.val % 64, by omega⟩ : Fin 64)) else (0 : EReal) := by
  rw [V_eq, k6_v30, k5_v30, k4_v30, k3_v30, k2_v30, k1_v30, a0_30]
  exact diag _ r n

theorem div48 (W : Valuation τ sig (Elt Ideal)) (i : Fin 256) : ((StableHlo.after hostOps0_5 (StableHlo.after hostOps0_4 W)) (Proc.devRef .tc main_v48) : IVec S256 32) (ix1 i) = BitVec.ofNat 32 (i.val / 64) := by
  rw [a5_48, a4_47, a4_9]
  exact f48 i

theorem same_num (i j : Fin 256) : num (IntOp.cmpi .eq (BitVec.ofNat 32 (i.val / 64)) (BitVec.ofNat 32 (j.val / 64))) = ((same i j : ℝ) : EReal) := by
  have e := bits4 ⟨i.val / 64, by omega⟩ ⟨j.val / 64, by omega⟩
  refine (congrArg num e).trans ?_
  unfold same
  by_cases h : i.val / 64 = j.val / 64
  · rw [if_pos h, if_pos h]; exact num_one
  · rw [if_neg h, if_neg h]; exact num_zero

theorem V_54 (c : Dev nD) (i j : Fin 256) : (V m c main_v54 : FVec Ideal S256x256 .f32) (ix2 i j) = ((same i j : ℝ) : EReal) := by
  rw [V_eq]
  refine (a6_54 _ i j).trans ?_
  rw [div48, div48]
  exact same_num i j

theorem V_56 (c : Dev nD) (i j : Fin 256) : (V m c main_v56 : FVec Ideal S256x256 .bf16) (ix2 i j) = ((same i j : ℝ) : EReal) := by
  rw [V_eq]
  refine (a6_56 _ i j).trans ?_
  rw [div48, div48]
  exact same_num i j

theorem V_55 (c : Dev nD) (i j : Fin 128) : (V m c main_v55 : FVec Ideal S128x128 .bf16) (ix2 i j) = (((if j.val / 16 = i.val / 16 ∧ j.val ≤ i.val then (1 : ℝ) else 0) : ℝ) : EReal) := by
  rw [V_eq, a6_55]
  refine (trunc_at' _ _).trans ?_
  rw [k5_v46]
  refine (a4_46 _ i j).trans ?_
  rw [k3_v34, k2_v34, a1_34, a0_33, a0_7, a3_36, a2_8, a2_35, k1_v32, a0_32, k3_v32, k2_v32, k1_v32, a0_32]
  refine (congrArg num ?_ : num _ = num (IntOp.andi (IntOp.cmpi .eq (BitVec.ofNat 32 (i.val / 16)) (BitVec.ofNat 32 (j.val / 16))) (IntOp.cmpi .sle (BitVec.ofNat 32 j.val) (BitVec.ofNat 32 i.val)))).trans ?_
  · exact congrArg₂ IntOp.andi (congrArg₂ (IntOp.cmpi .eq) (f34 i) (f36 j)) rfl
  · rw [bits128]
    by_cases h : j.val / 16 = i.val / 16 ∧ j.val ≤ i.val
    · rw [if_pos h, if_pos h]; exact num_one
    · rw [if_neg h, if_neg h]; exact num_zero

/-- Every window's block index at point `t`. -/
theorem idx : ∀ t : Fin cfg0.N, win0_0.index t = ![0, t.val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem blk_0 (c : Dev nD) (t : Fin cfg0.N) (b : Fin 2) (i : Fin 128) (k : Fin 1280) : (iblk m c 0 t : Vec Ideal S2x128x1280 .f32) (ix3 b i k)
    = m ((c : Thread nD τ).loc main_arg0) (ix3 b ⟨128 * t.val + i.val, by have : t.val < 64 := t.isLt; have := i.isLt; omega⟩ k) := by
  unfold iblk
  change ((cfg0.win 0).blk t).view.read (Elt Ideal) (V m c main_arg0) (ix3 b i k) = _
  rw [V_main_arg0]
  blk_ext! [idx t]

theorem blk_1 (c : Dev nD) (t : Fin cfg0.N) (k : Fin 256) : (iblk m c 1 t : Vec Ideal S1x256 .f32) (ix2 0 k) = m ((c : Thread nD τ).loc main_arg1) (ix1 k) := by
  unfold iblk
  change ((cfg0.win 1).blk t).view.read (Elt Ideal) (V m c main_v0) (ix2 0 k) = _
  rw [V_0]
  blk_ext! [idx t]

theorem blk_2 (c : Dev nD) (t : Fin cfg0.N) (k : Fin 256) : (iblk m c 2 t : Vec Ideal S1x256 .f32) (ix2 0 k) = m ((c : Thread nD τ).loc main_arg2) (ix1 (⟨k.val % 64, by omega⟩ : Fin 64)) := by
  unfold iblk
  change ((cfg0.win 2).blk t).view.read (Elt Ideal) (V m c main_v4) (ix2 0 k) = _
  rw [V_4]
  blk_ext! [idx t]

theorem blk_4 (c : Dev nD) (t : Fin cfg0.N) (k : Fin 256) : (iblk m c 4 t : Vec Ideal S1x256 .f32) (ix2 0 k) = m ((c : Thread nD τ).loc main_arg4) (ix1 k) := by
  unfold iblk
  change ((cfg0.win 4).blk t).view.read (Elt Ideal) (V m c main_v31) (ix2 0 k) = _
  rw [V_31]
  blk_ext! [idx t]

theorem blk_3 (c : Dev nD) (t : Fin cfg0.N) (r n : Fin 256) : (iblk m c 3 t : Vec Ideal S256x256 .bf16) (ix2 r n) = (V m c main_v30 : FVec Ideal S256x256 .bf16) (ix2 r n) := by
  unfold iblk
  change ((cfg0.win 3).blk t).view.read (Elt Ideal) (V m c main_v30) (ix2 r n) = _
  generalize (V m c main_v30 : FVec Ideal S256x256 .bf16) = f
  blk_ext! [idx t]

theorem blk_5 (c : Dev nD) (t : Fin cfg0.N) (r n : Fin 128) : (iblk m c 5 t : Vec Ideal S128x128 .bf16) (ix2 r n) = (V m c main_v55 : FVec Ideal S128x128 .bf16) (ix2 r n) := by
  unfold iblk
  change ((cfg0.win 5).blk t).view.read (Elt Ideal) (V m c main_v55) (ix2 r n) = _
  generalize (V m c main_v55 : FVec Ideal S128x128 .bf16) = f
  blk_ext! [idx t]

theorem blk_6 (c : Dev nD) (t : Fin cfg0.N) (r n : Fin 256) : (iblk m c 6 t : Vec Ideal S256x256 .bf16) (ix2 r n) = (V m c main_v56 : FVec Ideal S256x256 .bf16) (ix2 r n) := by
  unfold iblk
  change ((cfg0.win 6).blk t).view.read (Elt Ideal) (V m c main_v56) (ix2 r n) = _
  generalize (V m c main_v56 : FVec Ideal S256x256 .bf16) = f
  blk_ext! [idx t]

theorem blk_7 (c : Dev nD) (t : Fin cfg0.N) (r n : Fin 256) : (iblk m c 7 t : Vec Ideal S256x256 .f32) (ix2 r n) = (V m c main_v54 : FVec Ideal S256x256 .f32) (ix2 r n) := by
  unfold iblk
  change ((cfg0.win 7).blk t).view.read (Elt Ideal) (V m c main_v54) (ix2 r n) = _
  generalize (V m c main_v54 : FVec Ideal S256x256 .f32) = f
  blk_ext! [idx t]

/-- What is asked of the arguments: finite projections, a recurrence bound in [0, 1), gates at most 40. -/
structure Given (c : Dev nD) (R : Fin 2 → Fin 8192 → Fin 1280 → ℝ) (B : Fin 256 → ℝ) : Prop where
  a0 : ∀ b s k, (m ((c : Thread nD τ).loc main_arg0) : FVec Ideal S2x8192x1280 .f32) (ix3 b s k) = ((R b s k : ℝ) : EReal)
  a1 : ∀ k, (m ((c : Thread nD τ).loc main_arg1) : FVec Ideal S256 .f32) (ix1 k) = ((B k : ℝ) : EReal)
  b0 : ∀ k, 0 ≤ B k
  b1 : ∀ k, B k < 1
  z : ∀ b s (k : Fin 256), R b s ⟨512 + k.val, by omega⟩ ≤ 40

theorem ins {c : Dev nD} {R : Fin 2 → Fin 8192 → Fin 1280 → ℝ} {B : Fin 256 → ℝ} (h : Given m c R B) (t : Fin cfg0.N) :
    Ins R B t.val (m ((c : Thread nD τ).loc main_arg2)) (m ((c : Thread nD τ).loc main_arg3)) (m ((c : Thread nD τ).loc main_arg4))
      (iblk m c 0 t) (iblk m c 1 t) (iblk m c 2 t) (iblk m c 3 t) (iblk m c 4 t) (iblk m c 5 t) (iblk m c 6 t) (iblk m c 7 t) where
  b0 := h.b0
  b1 := h.b1
  z := h.z
  ht := t.isLt
  x0 b i k s e := by
    refine (blk_0 m c t b i k).trans ((h.a0 b _ k).trans ?_)
    exact congrArg (fun s => ((R b s k : ℝ) : EReal)) (Fin.ext e.symm)
  x1 k := (blk_1 m c t k).trans (h.a1 k)
  x2 k := blk_2 m c t k
  x3 r n := (blk_3 m c t r n).trans (V_30 m c r n)
  x4 k := blk_4 m c t k
  x5 i j := (blk_5 m c t i j).trans (V_55 m c i j)
  x6 i j := (blk_6 m c t i j).trans (V_56 m c i j)
  x7 i j := (blk_7 m c t i j).trans ((V_54 m c i j).trans (by unfold same; simp only [eq_comm]))

end Cert.KernelIdeal.Mix
-- ==== Proof.MixRunA.lean ====
/- The grid point's named values are the functions of the body (case A). -/
module

public import proofs.«01_k».proof.Proof.MixBody

@[expose] public section

set_option maxRecDepth 16384

noncomputable section

open Idealize.ShloMosaic Idealize.ShloMosaic.TcCoe Idealize.SL.Sem

namespace Cert.KernelIdeal.MixA

open Cert.KernelIdeal Cert.KernelIdeal.Gen Cert.KernelIdeal.Mix

variable {F : FTy → Type} [FloatOps F] [Named F]

/-- The key. -/
theorem key0 (c : Dev nD) (arg1 : Memref sig .tc .vmem S2x128x1280 .f32) (harg1 : arg1.IsWhole) (arg2 : Memref sig .tc .vmem S1x256 .f32) (harg2 : arg2.IsWhole) (x0 : Vec F S2x128x1280 .f32) (x1 : Vec F S1x256 .f32) :
    (kernelRun0_A.sl.r (F := F) c arg1 harg1 arg2 harg2 x0 x1) =
      keyF (kernelRun0_A.sl.v8 (F := F) c arg1 harg1 x0) (kernelRun0_A.sl.v68 (F := F) c arg2 harg2 x1) := rfl

/-- The query. -/
theorem qry0 (c : Dev nD) (arg1 : Memref sig .tc .vmem S2x128x1280 .f32) (harg1 : arg1.IsWhole) (x0 : Vec F S2x128x1280 .f32) :
    (kernelRun0_A.sl.r_1 (F := F) c arg1 harg1 x0) =
      queryF (kernelRun0_A.sl.v6 (F := F) c arg1 harg1 x0) := rfl

/-- The sums of the logs. -/
theorem cum0 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (x0 : Vec F S2x128x1280 .f32) (x1 : Vec F S1x256 .f32) (x5 : Vec F S128x128 .bf16) :
    (kernelRun0_A.sl.v121 (F := F) c arg1 harg1 arg2 harg2 arg6 harg6 x0 x1 x5) =
      cumF (shapeCast S128x128 (View.readAt (Elt F) arg6.view (Rect.unit ![0, 0] S128x128.size inb_S128x128_S128x128_0_0).toLoadRect (harg6.unread x5)) shapeCasts_S128x128_S128x128) (logF (kernelRun0_A.sl.v8 (F := F) c arg1 harg1 x0) (kernelRun0_A.sl.v68 (F := F) c arg2 harg2 x1)) := rfl

/-- The state after stretch 0. -/
theorem st0_0 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x7 : Vec F S256x256 .f32) :
    (kernelRun0_A.sl.v546 (F := F) c arg1 harg1 arg2 harg2 arg6 harg6 arg8 harg8 arg10 x0 x1 x5 x7) =
      st0 (kernelRun0_A.sl.v158 (F := F) c arg8 harg8 x7) (kernelRun0_A.sl.v121 (F := F) c arg1 harg1 arg2 harg2 arg6 harg6 x0 x1 x5) (kernelRun0_A.sl.r (F := F) c arg1 harg1 arg2 harg2 x0 x1) (kernelRun0_A.sl.v10 (F := F) c arg1 harg1 x0) (kernelRun0_A.sl.v164 (F := F) c arg10) := rfl

/-- The state after stretch 1. -/
theorem st0_1 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x7 : Vec F S256x256 .f32) :
    (kernelRun0_A.sl.v928 (F := F) c arg1 harg1 arg2 harg2 arg6 harg6 arg8 harg8 arg10 x0 x1 x5 x7) =
      st1 (kernelRun0_A.sl.v158 (F := F) c arg8 harg8 x7) (kernelRun0_A.sl.v121 (F := F) c arg1 harg1 arg2 harg2 arg6 harg6 x0 x1 x5) (kernelRun0_A.sl.r (F := F) c arg1 harg1 arg2 harg2 x0 x1) (kernelRun0_A.sl.v10 (F := F) c arg1 harg1 x0) (kernelRun0_A.sl.v546 (F := F) c arg1 harg1 arg2 harg2 arg6 harg6 arg8 harg8 arg10 x0 x1 x5 x7) := rfl

/-- The state after stretch 2. -/
theorem st0_2 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x7 : Vec F S256x256 .f32) :
    (kernelRun0_A.sl.v1310 (F := F) c arg1 harg1 arg2 harg2 arg6 harg6 arg8 harg8 arg10 x0 x1 x5 x7) =
      st2 (kernelRun0_A.sl.v158 (F := F) c arg8 harg8 x7) (kernelRun0_A.sl.v121 (F := F) c arg1 harg1 arg2 harg2 arg6 harg6 x0 x1 x5) (kernelRun0_A.sl.r (F := F) c arg1 harg1 arg2 harg2 x0 x1) (kernelRun0_A.sl.v10 (F := F) c arg1 harg1 x0) (kernelRun0_A.sl.v928 (F := F) c arg1 harg1 arg2 harg2 arg6 harg6 arg8 harg8 arg10 x0 x1 x5 x7) := rfl

/-- The state after stretch 3. -/
theorem st0_3 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x7 : Vec F S256x256 .f32) :
    (kernelRun0_A.sl.v1692 (F := F) c arg1 harg1 arg2 harg2 arg6 harg6 arg8 harg8 arg10 x0 x1 x5 x7) =
      st3 (kernelRun0_A.sl.v158 (F := F) c arg8 harg8 x7) (kernelRun0_A.sl.v121 (F := F) c arg1 harg1 arg2 harg2 arg6 harg6 x0 x1 x5) (kernelRun0_A.sl.r (F := F) c arg1 harg1 arg2 harg2 x0 x1) (kernelRun0_A.sl.v10 (F := F) c arg1 harg1 x0) (kernelRun0_A.sl.v1310 (F := F) c arg1 harg1 arg2 harg2 arg6 harg6 arg8 harg8 arg10 x0 x1 x5 x7) := rfl

/-- The state after stretch 4. -/
theorem st0_4 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x7 : Vec F S256x256 .f32) :
    (kernelRun0_A.sl.v2074 (F := F) c arg1 harg1 arg2 harg2 arg6 harg6 arg8 harg8 arg10 x0 x1 x5 x7) =
      st4 (kernelRun0_A.sl.v158 (F := F) c arg8 harg8 x7) (kernelRun0_A.sl.v121 (F := F) c arg1 harg1 arg2 harg2 arg6 harg6 x0 x1 x5) (kernelRun0_A.sl.r (F := F) c arg1 harg1 arg2 harg2 x0 x1) (kernelRun0_A.sl.v10 (F := F) c arg1 harg1 x0) (kernelRun0_A.sl.v1692 (F := F) c arg1 harg1 arg2 harg2 arg6 harg6 arg8 harg8 arg10 x0 x1 x5 x7) := rfl

/-- The state after stretch 5. -/
theorem st0_5 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x7 : Vec F S256x256 .f32) :
    (kernelRun0_A.sl.v2456 (F := F) c arg1 harg1 arg2 harg2 arg6 harg6 arg8 harg8 arg10 x0 x1 x5 x7) =
      st5 (kernelRun0_A.sl.v158 (F := F) c arg8 harg8 x7) (kernelRun0_A.sl.v121 (F := F) c arg1 harg1 arg2 harg2 arg6 harg6 x0 x1 x5) (kernelRun0_A.sl.r (F := F) c arg1 harg1 arg2 harg2 x0 x1) (kernelRun0_A.sl.v10 (F := F) c arg1 harg1 x0) (kernelRun0_A.sl.v2074 (F := F) c arg1 harg1 arg2 harg2 arg6 harg6 arg8 harg8 arg10 x0 x1 x5 x7) := rfl

/-- The state after stretch 6. -/
theorem st0_6 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x7 : Vec F S256x256 .f32) :
    (kernelRun0_A.sl.v2838 (F := F) c arg1 harg1 arg2 harg2 arg6 harg6 arg8 harg8 arg10 x0 x1 x5 x7) =
      st6 (kernelRun0_A.sl.v158 (F := F) c arg8 harg8 x7) (kernelRun0_A.sl.v121 (F := F) c arg1 harg1 arg2 harg2 arg6 harg6 x0 x1 x5) (kernelRun0_A.sl.r (F := F) c arg1 harg1 arg2 harg2 x0 x1) (kernelRun0_A.sl.v10 (F := F) c arg1 harg1 x0) (kernelRun0_A.sl.v2456 (F := F) c arg1 harg1 arg2 harg2 arg6 harg6 arg8 harg8 arg10 x0 x1 x5 x7) := rfl

/-- The state after stretch 7. -/
theorem st0_7 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x7 : Vec F S256x256 .f32) :
    (kernelRun0_A.sl.v3220 (F := F) c arg1 harg1 arg2 harg2 arg6 harg6 arg8 harg8 arg10 x0 x1 x5 x7) =
      st7 (kernelRun0_A.sl.v158 (F := F) c arg8 harg8 x7) (kernelRun0_A.sl.v121 (F := F) c arg1 harg1 arg2 harg2 arg6 harg6 x0 x1 x5) (kernelRun0_A.sl.r (F := F) c arg1 harg1 arg2 harg2 x0 x1) (kernelRun0_A.sl.v10 (F := F) c arg1 harg1 x0) (kernelRun0_A.sl.v2838 (F := F) c arg1 harg1 arg2 harg2 arg6 harg6 arg8 harg8 arg10 x0 x1 x5 x7) := rfl

/-- The output of stretch 0. -/
theorem out0_0 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg10 : Memref sig .tc .vmem S2x256x256 .f32) (x0 : Vec F S2x128x1280 .f32) (x1 : Vec F S1x256 .f32) (x5 : Vec F S128x128 .bf16) (x6 : Vec F S256x256 .bf16) :
    (kernelRun0_A.sl.v538 (F := F) c arg1 harg1 arg2 harg2 arg6 harg6 arg7 harg7 arg10 x0 x1 x5 x6) =
      out0 (kernelRun0_A.sl.v156 (F := F) c arg7 harg7 x6) (kernelRun0_A.sl.v121 (F := F) c arg1 harg1 arg2 harg2 arg6 harg6 x0 x1 x5) (kernelRun0_A.sl.r_1 (F := F) c arg1 harg1 x0) (kernelRun0_A.sl.r (F := F) c arg1 harg1 arg2 harg2 x0 x1) (kernelRun0_A.sl.v10 (F := F) c arg1 harg1 x0) (kernelRun0_A.sl.v164 (F := F) c arg10) := rfl

/-- The output of stretch 1. -/
theorem out0_1 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x6 : Vec F S256x256 .bf16) (x7 : Vec F S256x256 .f32) :
    (kernelRun0_A.sl.v920 (F := F) c arg1 harg1 arg2 harg2 arg6 harg6 arg7 harg7 arg8 harg8 arg10 x0 x1 x5 x6 x7) =
      out1 (kernelRun0_A.sl.v156 (F := F) c arg7 harg7 x6) (kernelRun0_A.sl.v121 (F := F) c arg1 harg1 arg2 harg2 arg6 harg6 x0 x1 x5) (kernelRun0_A.sl.r_1 (F := F) c arg1 harg1 x0) (kernelRun0_A.sl.r (F := F) c arg1 harg1 arg2 harg2 x0 x1) (kernelRun0_A.sl.v10 (F := F) c arg1 harg1 x0) (kernelRun0_A.sl.v546 (F := F) c arg1 harg1 arg2 harg2 arg6 harg6 arg8 harg8 arg10 x0 x1 x5 x7) := rfl

/-- The output of stretch 2. -/
theorem out0_2 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x6 : Vec F S256x256 .bf16) (x7 : Vec F S256x256 .f32) :
    (kernelRun0_A.sl.v1302 (F := F) c arg1 harg1 arg2 harg2 arg6 harg6 arg7 harg7 arg8 harg8 arg10 x0 x1 x5 x6 x7) =
      out2 (kernelRun0_A.sl.v156 (F := F) c arg7 harg7 x6) (kernelRun0_A.sl.v121 (F := F) c arg1 harg1 arg2 harg2 arg6 harg6 x0 x1 x5) (kernelRun0_A.sl.r_1 (F := F) c arg1 harg1 x0) (kernelRun0_A.sl.r (F := F) c arg1 harg1 arg2 harg2 x0 x1) (kernelRun0_A.sl.v10 (F := F) c arg1 harg1 x0) (kernelRun0_A.sl.v928 (F := F) c arg1 harg1 arg2 harg2 arg6 harg6 arg8 harg8 arg10 x0 x1 x5 x7) := rfl

/-- The output of stretch 3. -/
theorem out0_3 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x6 : Vec F S256x256 .bf16) (x7 : Vec F S256x256 .f32) :
    (kernelRun0_A.sl.v1684 (F := F) c arg1 harg1 arg2 harg2 arg6 harg6 arg7 harg7 arg8 harg8 arg10 x0 x1 x5 x6 x7) =
      out3 (kernelRun0_A.sl.v156 (F := F) c arg7 harg7 x6) (kernelRun0_A.sl.v121 (F := F) c arg1 harg1 arg2 harg2 arg6 harg6 x0 x1 x5) (kernelRun0_A.sl.r_1 (F := F) c arg1 harg1 x0) (kernelRun0_A.sl.r (F := F) c arg1 harg1 arg2 harg2 x0 x1) (kernelRun0_A.sl.v10 (F := F) c arg1 harg1 x0) (kernelRun0_A.sl.v1310 (F := F) c arg1 harg1 arg2 harg2 arg6 harg6 arg8 harg8 arg10 x0 x1 x5 x7) := rfl

/-- The output of stretch 4. -/
theorem out0_4 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x6 : Vec F S256x256 .bf16) (x7 : Vec F S256x256 .f32) :
    (kernelRun0_A.sl.v2066 (F := F) c arg1 harg1 arg2 harg2 arg6 harg6 arg7 harg7 arg8 harg8 arg10 x0 x1 x5 x6 x7) =
      out4 (kernelRun0_A.sl.v156 (F := F) c arg7 harg7 x6) (kernelRun0_A.sl.v121 (F := F) c arg1 harg1 arg2 harg2 arg6 harg6 x0 x1 x5) (kernelRun0_A.sl.r_1 (F := F) c arg1 harg1 x0) (kernelRun0_A.sl.r (F := F) c arg1 harg1 arg2 harg2 x0 x1) (kernelRun0_A.sl.v10 (F := F) c arg1 harg1 x0) (kernelRun0_A.sl.v1692 (F := F) c arg1 harg1 arg2 harg2 arg6 harg6 arg8 harg8 arg10 x0 x1 x5 x7) := rfl

/-- The output of stretch 5. -/
theorem out0_5 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x6 : Vec F S256x256 .bf16) (x7 : Vec F S256x256 .f32) :
    (kernelRun0_A.sl.v2448 (F := F) c arg1 harg1 arg2 harg2 arg6 harg6 arg7 harg7 arg8 harg8 arg10 x0 x1 x5 x6 x7) =
      out5 (kernelRun0_A.sl.v156 (F := F) c arg7 harg7 x6) (kernelRun0_A.sl.v121 (F := F) c arg1 harg1 arg2 harg2 arg6 harg6 x0 x1 x5) (kernelRun0_A.sl.r_1 (F := F) c arg1 harg1 x0) (kernelRun0_A.sl.r (F := F) c arg1 harg1 arg2 harg2 x0 x1) (kernelRun0_A.sl.v10 (F := F) c arg1 harg1 x0) (kernelRun0_A.sl.v2074 (F := F) c arg1 harg1 arg2 harg2 arg6 harg6 arg8 harg8 arg10 x0 x1 x5 x7) := rfl

/-- The output of stretch 6. -/
theorem out0_6 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x6 : Vec F S256x256 .bf16) (x7 : Vec F S256x256 .f32) :
    (kernelRun0_A.sl.v2830 (F := F) c arg1 harg1 arg2 harg2 arg6 harg6 arg7 harg7 arg8 harg8 arg10 x0 x1 x5 x6 x7) =
      out6 (kernelRun0_A.sl.v156 (F := F) c arg7 harg7 x6) (kernelRun0_A.sl.v121 (F := F) c arg1 harg1 arg2 harg2 arg6 harg6 x0 x1 x5) (kernelRun0_A.sl.r_1 (F := F) c arg1 harg1 x0) (kernelRun0_A.sl.r (F := F) c arg1 harg1 arg2 harg2 x0 x1) (kernelRun0_A.sl.v10 (F := F) c arg1 harg1 x0) (kernelRun0_A.sl.v2456 (F := F) c arg1 harg1 arg2 harg2 arg6 harg6 arg8 harg8 arg10 x0 x1 x5 x7) := rfl

/-- The output of stretch 7. -/
theorem out0_7 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x6 : Vec F S256x256 .bf16) (x7 : Vec F S256x256 .f32) :
    (kernelRun0_A.sl.v3212 (F := F) c arg1 harg1 arg2 harg2 arg6 harg6 arg7 harg7 arg8 harg8 arg10 x0 x1 x5 x6 x7) =
      out7 (kernelRun0_A.sl.v156 (F := F) c arg7 harg7 x6) (kernelRun0_A.sl.v121 (F := F) c arg1 harg1 arg2 harg2 arg6 harg6 x0 x1 x5) (kernelRun0_A.sl.r_1 (F := F) c arg1 harg1 x0) (kernelRun0_A.sl.r (F := F) c arg1 harg1 arg2 harg2 x0 x1) (kernelRun0_A.sl.v10 (F := F) c arg1 harg1 x0) (kernelRun0_A.sl.v2838 (F := F) c arg1 harg1 arg2 harg2 arg6 harg6 arg8 harg8 arg10 x0 x1 x5 x7) := rfl

/-- The output before the norm. -/
theorem cat0 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x6 : Vec F S256x256 .bf16) (x7 : Vec F S256x256 .f32) :
    (kernelRun0_A.sl.v3224 (F := F) c arg1 harg1 arg2 harg2 arg6 harg6 arg7 harg7 arg8 harg8 arg10 x0 x1 x5 x6 x7) =
      (oCat (kernelRun0_A.sl.v156 (F := F) c arg7 harg7 x6) (kernelRun0_A.sl.v121 (F := F) c arg1 harg1 arg2 harg2 arg6 harg6 x0 x1 x5) (kernelRun0_A.sl.r_1 (F := F) c arg1 harg1 x0) (kernelRun0_A.sl.r (F := F) c arg1 harg1 arg2 harg2 x0 x1) (kernelRun0_A.sl.v10 (F := F) c arg1 harg1 x0) (kernelRun0_A.sl.v164 (F := F) c arg10) (kernelRun0_A.sl.v546 (F := F) c arg1 harg1 arg2 harg2 arg6 harg6 arg8 harg8 arg10 x0 x1 x5 x7) (kernelRun0_A.sl.v928 (F := F) c arg1 harg1 arg2 harg2 arg6 harg6 arg8 harg8 arg10 x0 x1 x5 x7) (kernelRun0_A.sl.v1310 (F := F) c arg1 harg1 arg2 harg2 arg6 harg6 arg8 harg8 arg10 x0 x1 x5 x7) (kernelRun0_A.sl.v1692 (F := F) c arg1 harg1 arg2 harg2 arg6 harg6 arg8 harg8 arg10 x0 x1 x5 x7) (kernelRun0_A.sl.v2074 (F := F) c arg1 harg1 arg2 harg2 arg6 harg6 arg8 harg8 arg10 x0 x1 x5 x7) (kernelRun0_A.sl.v2456 (F := F) c arg1 harg1 arg2 harg2 arg6 harg6 arg8 harg8 arg10 x0 x1 x5 x7) (kernelRun0_A.sl.v2838 (F := F) c arg1 harg1 arg2 harg2 arg6 harg6 arg8 harg8 arg10 x0 x1 x5 x7)) := rfl

/-- The output. -/
theorem fin0 (c : Dev nD) (arg1 : Memref sig .tc .vmem S2x128x1280 .f32) (harg1 : arg1.IsWhole) (arg2 : Memref sig .tc .vmem S1x256 .f32) (harg2 : arg2.IsWhole) (arg3 : Memref sig .tc .vmem S1x256 .f32) (harg3 : arg3.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (x0 : Vec F S2x128x1280 .f32) (x1 : Vec F S1x256 .f32) (x2 : Vec F S1x256 .f32) (x5 : Vec F S128x128 .bf16) (x6 : Vec F S256x256 .bf16) (x7 : Vec F S256x256 .f32) :
    (kernelRun0_A.sl.v3245 (F := F) c arg1 harg1 arg2 harg2 arg3 harg3 arg6 harg6 arg7 harg7 arg8 harg8 arg10 x0 x1 x2 x5 x6 x7) =
      fin (kernelRun0_A.sl.v156 (F := F) c arg7 harg7 x6) (kernelRun0_A.sl.v3224 (F := F) c arg1 harg1 arg2 harg2 arg6 harg6 arg7 harg7 arg8 harg8 arg10 x0 x1 x5 x6 x7) (shapeCast S1x256 (View.readAt (Elt F) arg3.view (Rect.unit ![0, 0] S1x256.size inb_S1x256_S1x256_0_0).toLoadRect (harg3.unread x2)) shapeCasts_S1x256_S1x256) (kernelRun0_A.sl.v12 (F := F) c arg1 harg1 x0) := rfl

/-- The stored output. -/
theorem pay0 (c : Dev nD) (arg1 : Memref sig .tc .vmem S2x128x1280 .f32) (harg1 : arg1.IsWhole) (arg2 : Memref sig .tc .vmem S1x256 .f32) (harg2 : arg2.IsWhole) (arg3 : Memref sig .tc .vmem S1x256 .f32) (harg3 : arg3.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (x0 : Vec F S2x128x1280 .f32) (x1 : Vec F S1x256 .f32) (x2 : Vec F S1x256 .f32) (x5 : Vec F S128x128 .bf16) (x6 : Vec F S256x256 .bf16) (x7 : Vec F S256x256 .f32) :
    (kernelRun0_A.sl.v3253 (F := F) c arg1 harg1 arg2 harg2 arg3 harg3 arg6 harg6 arg7 harg7 arg8 harg8 arg10 x0 x1 x2 x5 x6 x7) =
      shapeCast S1x128x256 (truncf .bf16 (kernelRun0_A.sl.v3245 (F := F) c arg1 harg1 arg2 harg2 arg3 harg3 arg6 harg6 arg7 harg7 arg8 harg8 arg10 x0 x1 x2 x5 x6 x7) bitsLt_bf16_f32) shapeCasts_S128x256_S1x128x256 := rfl

/-- The stored pool. -/
theorem pay0p (c : Dev nD) (i : grid0.Coords) (arg1 : Memref sig .tc .vmem S2x128x1280 .f32) (harg1 : arg1.IsWhole) (arg4 : Memref sig .tc .vmem S256x256 .bf16) (harg4 : arg4.IsWhole) (arg5 : Memref sig .tc .vmem S1x256 .f32) (harg5 : arg5.IsWhole) (arg11 : Memref sig .tc .vmem S2x16x256 .f32) (x0 : Vec F S2x128x1280 .f32) (x3 : Vec F S256x256 .bf16) (x4 : Vec F S1x256 .f32) :
    (kernelRun0_A.sl.v3249 (F := F) c i arg1 harg1 arg4 harg4 arg5 harg5 arg11 x0 x3 x4) =
      shapeCast S1x128x256 (truncf .bf16 (kernelRun0_A.sl.v62 (F := F) c i arg1 harg1 arg4 harg4 arg5 harg5 arg11 x0 x3 x4) bitsLt_bf16_f32) shapeCasts_S128x256_S1x128x256 := rfl

/-- The pool. -/
theorem pool0 (c : Dev nD) (i : grid0.Coords) (arg1 : Memref sig .tc .vmem S2x128x1280 .f32) (harg1 : arg1.IsWhole) (arg4 : Memref sig .tc .vmem S256x256 .bf16) (harg4 : arg4.IsWhole) (arg5 : Memref sig .tc .vmem S1x256 .f32) (harg5 : arg5.IsWhole) (arg11 : Memref sig .tc .vmem S2x16x256 .f32) (x0 : Vec F S2x128x1280 .f32) (x3 : Vec F S256x256 .bf16) (x4 : Vec F S1x256 .f32) :
    (kernelRun0_A.sl.v62 (F := F) c i arg1 harg1 arg4 harg4 arg5 harg5 arg11 x0 x3 x4) =
      pool (BitVec.ofNat 32 (i 0).val) (kernelRun0_A.sl.v16 (F := F) c arg11) (kernelRun0_A.sl.v4 (F := F) c arg1 harg1 x0) (shapeCast S256x256 (View.readAt (Elt F) arg4.view (Rect.unit ![0, 0] S256x256.size inb_S256x256_S256x256_0_0).toLoadRect (harg4.unread x3)) shapeCasts_S256x256_S256x256) (shapeCast S1x256 (View.readAt (Elt F) arg5.view (Rect.unit ![0, 0] S1x256.size inb_S1x256_S1x256_0_0).toLoadRect (harg5.unread x4)) shapeCasts_S1x256_S1x256) := rfl

/-- The key. -/
theorem key1 (c : Dev nD) (arg1 : Memref sig .tc .vmem S2x128x1280 .f32) (harg1 : arg1.IsWhole) (arg2 : Memref sig .tc .vmem S1x256 .f32) (harg2 : arg2.IsWhole) (x0 : Vec F S2x128x1280 .f32) (x1 : Vec F S1x256 .f32) :
    (kernelRun0_A.sl.r_3 (F := F) c arg1 harg1 arg2 harg2 x0 x1) =
      keyF (kernelRun0_A.sl.v3259 (F := F) c arg1 harg1 x0) (kernelRun0_A.sl.v68 (F := F) c arg2 harg2 x1) := rfl

/-- The query. -/
theorem qry1 (c : Dev nD) (arg1 : Memref sig .tc .vmem S2x128x1280 .f32) (harg1 : arg1.IsWhole) (x0 : Vec F S2x128x1280 .f32) :
    (kernelRun0_A.sl.r_4 (F := F) c arg1 harg1 x0) =
      queryF (kernelRun0_A.sl.v3257 (F := F) c arg1 harg1 x0) := rfl

/-- The sums of the logs. -/
theorem cum1 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (x0 : Vec F S2x128x1280 .f32) (x1 : Vec F S1x256 .f32) (x5 : Vec F S128x128 .bf16) :
    (kernelRun0_A.sl.r_5 (F := F) c arg1 harg1 arg2 harg2 arg6 harg6 x0 x1 x5) =
      cumF (shapeCast S128x128 (View.readAt (Elt F) arg6.view (Rect.unit ![0, 0] S128x128.size inb_S128x128_S128x128_0_0).toLoadRect (harg6.unread x5)) shapeCasts_S128x128_S128x128) (logF (kernelRun0_A.sl.v3259 (F := F) c arg1 harg1 x0) (kernelRun0_A.sl.v68 (F := F) c arg2 harg2 x1)) := rfl

/-- The state after stretch 0. -/
theorem st1_0 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x7 : Vec F S256x256 .f32) :
    (kernelRun0_A.sl.v3797 (F := F) c arg1 harg1 arg2 harg2 arg6 harg6 arg8 harg8 arg10 x0 x1 x5 x7) =
      st0 (kernelRun0_A.sl.v158 (F := F) c arg8 harg8 x7) (kernelRun0_A.sl.r_5 (F := F) c arg1 harg1 arg2 harg2 arg6 harg6 x0 x1 x5) (kernelRun0_A.sl.r_3 (F := F) c arg1 harg1 arg2 harg2 x0 x1) (kernelRun0_A.sl.v3261 (F := F) c arg1 harg1 x0) (kernelRun0_A.sl.v3415 (F := F) c arg1 harg1 arg2 harg2 arg6 harg6 arg8 harg8 arg10 x0 x1 x5 x7) := rfl

/-- The state after stretch 1. -/
theorem st1_1 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x7 : Vec F S256x256 .f32) :
    (kernelRun0_A.sl.v4179 (F := F) c arg1 harg1 arg2 harg2 arg6 harg6 arg8 harg8 arg10 x0 x1 x5 x7) =
      st1 (kernelRun0_A.sl.v158 (F := F) c arg8 harg8 x7) (kernelRun0_A.sl.r_5 (F := F) c arg1 harg1 arg2 harg2 arg6 harg6 x0 x1 x5) (kernelRun0_A.sl.r_3 (F := F) c arg1 harg1 arg2 harg2 x0 x1) (kernelRun0_A.sl.v3261 (F := F) c arg1 harg1 x0) (kernelRun0_A.sl.v3797 (F := F) c arg1 harg1 arg2 harg2 arg6 harg6 arg8 harg8 arg10 x0 x1 x5 x7) := rfl

/-- The state after stretch 2. -/
theorem st1_2 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x7 : Vec F S256x256 .f32) :
    (kernelRun0_A.sl.v4561 (F := F) c arg1 harg1 arg2 harg2 arg6 harg6 arg8 harg8 arg10 x0 x1 x5 x7) =
      st2 (kernelRun0_A.sl.v158 (F := F) c arg8 harg8 x7) (kernelRun0_A.sl.r_5 (F := F) c arg1 harg1 arg2 harg2 arg6 harg6 x0 x1 x5) (kernelRun0_A.sl.r_3 (F := F) c arg1 harg1 arg2 harg2 x0 x1) (kernelRun0_A.sl.v3261 (F := F) c arg1 harg1 x0) (kernelRun0_A.sl.v4179 (F := F) c arg1 harg1 arg2 harg2 arg6 harg6 arg8 harg8 arg10 x0 x1 x5 x7) := rfl

/-- The state after stretch 3. -/
theorem st1_3 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x7 : Vec F S256x256 .f32) :
    (kernelRun0_A.sl.v4943 (F := F) c arg1 harg1 arg2 harg2 arg6 harg6 arg8 harg8 arg10 x0 x1 x5 x7) =
      st3 (kernelRun0_A.sl.v158 (F := F) c arg8 harg8 x7) (kernelRun0_A.sl.r_5 (F := F) c arg1 harg1 arg2 harg2 arg6 harg6 x0 x1 x5) (kernelRun0_A.sl.r_3 (F := F) c arg1 harg1 arg2 harg2 x0 x1) (kernelRun0_A.sl.v3261 (F := F) c arg1 harg1 x0) (kernelRun0_A.sl.v4561 (F := F) c arg1 harg1 arg2 harg2 arg6 harg6 arg8 harg8 arg10 x0 x1 x5 x7) := rfl

/-- The state after stretch 4. -/
theorem st1_4 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x7 : Vec F S256x256 .f32) :
    (kernelRun0_A.sl.v5325 (F := F) c arg1 harg1 arg2 harg2 arg6 harg6 arg8 harg8 arg10 x0 x1 x5 x7) =
      st4 (kernelRun0_A.sl.v158 (F := F) c arg8 harg8 x7) (kernelRun0_A.sl.r_5 (F := F) c arg1 harg1 arg2 harg2 arg6 harg6 x0 x1 x5) (kernelRun0_A.sl.r_3 (F := F) c arg1 harg1 arg2 harg2 x0 x1) (kernelRun0_A.sl.v3261 (F := F) c arg1 harg1 x0) (kernelRun0_A.sl.v4943 (F := F) c arg1 harg1 arg2 harg2 arg6 harg6 arg8 harg8 arg10 x0 x1 x5 x7) := rfl

/-- The state after stretch 5. -/
theorem st1_5 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x7 : Vec F S256x256 .f32) :
    (kernelRun0_A.sl.v5707 (F := F) c arg1 harg1 arg2 harg2 arg6 harg6 arg8 harg8 arg10 x0 x1 x5 x7) =
      st5 (kernelRun0_A.sl.v158 (F := F) c arg8 harg8 x7) (kernelRun0_A.sl.r_5 (F := F) c arg1 harg1 arg2 harg2 arg6 harg6 x0 x1 x5) (kernelRun0_A.sl.r_3 (F := F) c arg1 harg1 arg2 harg2 x0 x1) (kernelRun0_A.sl.v3261 (F := F) c arg1 harg1 x0) (kernelRun0_A.sl.v5325 (F := F) c arg1 harg1 arg2 harg2 arg6 harg6 arg8 harg8 arg10 x0 x1 x5 x7) := rfl

/-- The state after stretch 6. -/
theorem st1_6 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x7 : Vec F S256x256 .f32) :
    (kernelRun0_A.sl.v6089 (F := F) c arg1 harg1 arg2 harg2 arg6 harg6 arg8 harg8 arg10 x0 x1 x5 x7) =
      st6 (kernelRun0_A.sl.v158 (F := F) c arg8 harg8 x7) (kernelRun0_A.sl.r_5 (F := F) c arg1 harg1 arg2 harg2 arg6 harg6 x0 x1 x5) (kernelRun0_A.sl.r_3 (F := F) c arg1 harg1 arg2 harg2 x0 x1) (kernelRun0_A.sl.v3261 (F := F) c arg1 harg1 x0) (kernelRun0_A.sl.v5707 (F := F) c arg1 harg1 arg2 harg2 arg6 harg6 arg8 harg8 arg10 x0 x1 x5 x7) := rfl

/-- The output of stretch 0. -/
theorem out1_0 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x6 : Vec F S256x256 .bf16) (x7 : Vec F S256x256 .f32) :
    (kernelRun0_A.sl.v3789 (F := F) c arg1 harg1 arg2 harg2 arg6 harg6 arg7 harg7 arg8 harg8 arg10 x0 x1 x5 x6 x7) =
      out0 (kernelRun0_A.sl.v156 (F := F) c arg7 harg7 x6) (kernelRun0_A.sl.r_5 (F := F) c arg1 harg1 arg2 harg2 arg6 harg6 x0 x1 x5) (kernelRun0_A.sl.r_4 (F := F) c arg1 harg1 x0) (kernelRun0_A.sl.r_3 (F := F) c arg1 harg1 arg2 harg2 x0 x1) (kernelRun0_A.sl.v3261 (F := F) c arg1 harg1 x0) (kernelRun0_A.sl.v3415 (F := F) c arg1 harg1 arg2 harg2 arg6 harg6 arg8 harg8 arg10 x0 x1 x5 x7) := rfl

/-- The output of stretch 1. -/
theorem out1_1 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x6 : Vec F S256x256 .bf16) (x7 : Vec F S256x256 .f32) :
    (kernelRun0_A.sl.v4171 (F := F) c arg1 harg1 arg2 harg2 arg6 harg6 arg7 harg7 arg8 harg8 arg10 x0 x1 x5 x6 x7) =
      out1 (kernelRun0_A.sl.v156 (F := F) c arg7 harg7 x6) (kernelRun0_A.sl.r_5 (F := F) c arg1 harg1 arg2 harg2 arg6 harg6 x0 x1 x5) (kernelRun0_A.sl.r_4 (F := F) c arg1 harg1 x0) (kernelRun0_A.sl.r_3 (F := F) c arg1 harg1 arg2 harg2 x0 x1) (kernelRun0_A.sl.v3261 (F := F) c arg1 harg1 x0) (kernelRun0_A.sl.v3797 (F := F) c arg1 harg1 arg2 harg2 arg6 harg6 arg8 harg8 arg10 x0 x1 x5 x7) := rfl

/-- The output of stretch 2. -/
theorem out1_2 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x6 : Vec F S256x256 .bf16) (x7 : Vec F S256x256 .f32) :
    (kernelRun0_A.sl.v4553 (F := F) c arg1 harg1 arg2 harg2 arg6 harg6 arg7 harg7 arg8 harg8 arg10 x0 x1 x5 x6 x7) =
      out2 (kernelRun0_A.sl.v156 (F := F) c arg7 harg7 x6) (kernelRun0_A.sl.r_5 (F := F) c arg1 harg1 arg2 harg2 arg6 harg6 x0 x1 x5) (kernelRun0_A.sl.r_4 (F := F) c arg1 harg1 x0) (kernelRun0_A.sl.r_3 (F := F) c arg1 harg1 arg2 harg2 x0 x1) (kernelRun0_A.sl.v3261 (F := F) c arg1 harg1 x0) (kernelRun0_A.sl.v4179 (F := F) c arg1 harg1 arg2 harg2 arg6 harg6 arg8 harg8 arg10 x0 x1 x5 x7) := rfl

/-- The output of stretch 3. -/
theorem out1_3 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x6 : Vec F S256x256 .bf16) (x7 : Vec F S256x256 .f32) :
    (kernelRun0_A.sl.v4935 (F := F) c arg1 harg1 arg2 harg2 arg6 harg6 arg7 harg7 arg8 harg8 arg10 x0 x1 x5 x6 x7) =
      out3 (kernelRun0_A.sl.v156 (F := F) c arg7 harg7 x6) (kernelRun0_A.sl.r_5 (F := F) c arg1 harg1 arg2 harg2 arg6 harg6 x0 x1 x5) (kernelRun0_A.sl.r_4 (F := F) c arg1 harg1 x0) (kernelRun0_A.sl.r_3 (F := F) c arg1 harg1 arg2 harg2 x0 x1) (kernelRun0_A.sl.v3261 (F := F) c arg1 harg1 x0) (kernelRun0_A.sl.v4561 (F := F) c arg1 harg1 arg2 harg2 arg6 harg6 arg8 harg8 arg10 x0 x1 x5 x7) := rfl

/-- The output of stretch 4. -/
theorem out1_4 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x6 : Vec F S256x256 .bf16) (x7 : Vec F S256x256 .f32) :
    (kernelRun0_A.sl.v5317 (F := F) c arg1 harg1 arg2 harg2 arg6 harg6 arg7 harg7 arg8 harg8 arg10 x0 x1 x5 x6 x7) =
      out4 (kernelRun0_A.sl.v156 (F := F) c arg7 harg7 x6) (kernelRun0_A.sl.r_5 (F := F) c arg1 harg1 arg2 harg2 arg6 harg6 x0 x1 x5) (kernelRun0_A.sl.r_4 (F := F) c arg1 harg1 x0) (kernelRun0_A.sl.r_3 (F := F) c arg1 harg1 arg2 harg2 x0 x1) (kernelRun0_A.sl.v3261 (F := F) c arg1 harg1 x0) (kernelRun0_A.sl.v4943 (F := F) c arg1 harg1 arg2 harg2 arg6 harg6 arg8 harg8 arg10 x0 x1 x5 x7) := rfl

/-- The output of stretch 5. -/
theorem out1_5 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x6 : Vec F S256x256 .bf16) (x7 : Vec F S256x256 .f32) :
    (kernelRun0_A.sl.v5699 (F := F) c arg1 harg1 arg2 harg2 arg6 harg6 arg7 harg7 arg8 harg8 arg10 x0 x1 x5 x6 x7) =
      out5 (kernelRun0_A.sl.v156 (F := F) c arg7 harg7 x6) (kernelRun0_A.sl.r_5 (F := F) c arg1 harg1 arg2 harg2 arg6 harg6 x0 x1 x5) (kernelRun0_A.sl.r_4 (F := F) c arg1 harg1 x0) (kernelRun0_A.sl.r_3 (F := F) c arg1 harg1 arg2 harg2 x0 x1) (kernelRun0_A.sl.v3261 (F := F) c arg1 harg1 x0) (kernelRun0_A.sl.v5325 (F := F) c arg1 harg1 arg2 harg2 arg6 harg6 arg8 harg8 arg10 x0 x1 x5 x7) := rfl

/-- The output of stretch 6. -/
theorem out1_6 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (x0 : Vec F S2x128x1280 .f32) (x1 : Vec F S1x256 .f32) (x5 : Vec F S128x128 .bf16) (x6 : Vec F S256x256 .bf16) (x7 : Vec F S256x256 .f32) :
    (kernelRun0_A.sl.v6081 (F := F) c arg1 harg1 arg2 harg2 arg6 harg6 arg7 harg7 arg8 harg8 arg10 x0 x1 x5 x6 x7) =
      out6 (kernelRun0_A.sl.v156 (F := F) c arg7 harg7 x6) (kernelRun0_A.sl.r_5 (F := F) c arg1 harg1 arg2 harg2 arg6 harg6 x0 x1 x5) (kernelRun0_A.sl.r_4 (F := F) c arg1 harg1 x0) (kernelRun0_A.sl.r_3 (F := F) c arg1 harg1 arg2 harg2 x0 x1) (kernelRun0_A.sl.v3261 (F := F) c arg1 harg1 x0) (kernelRun0_A.sl.v5707 (F := F) c arg1 harg1 arg2 harg2 arg6 harg6 arg8 harg8 arg10 x0 x1 x5 x7) := rfl

/-- The stored output. -/
theorem pay1 (c : Dev nD) (arg1 : Memref sig .tc .vmem S2x128x1280 .f32) (harg1 : arg1.IsWhole) (arg2 : Memref sig .tc .vmem S1x256 .f32) (harg2 : arg2.IsWhole) (arg3 : Memref sig .tc .vmem S1x256 .f32) (harg3 : arg3.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (x0 : Vec F S2x128x1280 .f32) (x1 : Vec F S1x256 .f32) (x2 : Vec F S1x256 .f32) (x5 : Vec F S128x128 .bf16) (x6 : Vec F S256x256 .bf16) (x7 : Vec F S256x256 .f32) :
    k0_pay2 (kernelRun0_A.sl.v3263 (F := F) c arg1 harg1 x0) (kernelRun0_A.sl.r_36 (F := F) c arg1 harg1 arg2 harg2 arg6 harg6 arg7 harg7 arg8 harg8 arg10 x0 x1 x5 x6 x7) (kernelRun0_A.sl.r_37 (F := F) c arg3 harg3 x2) =
      shapeCast S1x128x256 (truncf .bf16 (fin (kernelRun0_A.sl.v156 (F := F) c arg7 harg7 x6) (oCat (kernelRun0_A.sl.v156 (F := F) c arg7 harg7 x6) (kernelRun0_A.sl.r_5 (F := F) c arg1 harg1 arg2 harg2 arg6 harg6 x0 x1 x5) (kernelRun0_A.sl.r_4 (F := F) c arg1 harg1 x0) (kernelRun0_A.sl.r_3 (F := F) c arg1 harg1 arg2 harg2 x0 x1) (kernelRun0_A.sl.v3261 (F := F) c arg1 harg1 x0) (kernelRun0_A.sl.v3415 (F := F) c arg1 harg1 arg2 harg2 arg6 harg6 arg8 harg8 arg10 x0 x1 x5 x7) (kernelRun0_A.sl.v3797 (F := F) c arg1 harg1 arg2 harg2 arg6 harg6 arg8 harg8 arg10 x0 x1 x5 x7) (kernelRun0_A.sl.v4179 (F := F) c arg1 harg1 arg2 harg2 arg6 harg6 arg8 harg8 arg10 x0 x1 x5 x7) (kernelRun0_A.sl.v4561 (F := F) c arg1 harg1 arg2 harg2 arg6 harg6 arg8 harg8 arg10 x0 x1 x5 x7) (kernelRun0_A.sl.v4943 (F := F) c arg1 harg1 arg2 harg2 arg6 harg6 arg8 harg8 arg10 x0 x1 x5 x7) (kernelRun0_A.sl.v5325 (F := F) c arg1 harg1 arg2 harg2 arg6 harg6 arg8 harg8 arg10 x0 x1 x5 x7) (kernelRun0_A.sl.v5707 (F := F) c arg1 harg1 arg2 harg2 arg6 harg6 arg8 harg8 arg10 x0 x1 x5 x7) (kernelRun0_A.sl.v6089 (F := F) c arg1 harg1 arg2 harg2 arg6 harg6 arg8 harg8 arg10 x0 x1 x5 x7)) (shapeCast S1x256 (View.readAt (Elt F) arg3.view (Rect.unit ![0, 0] S1x256.size inb_S1x256_S1x256_0_0).toLoadRect (harg3.unread x2)) shapeCasts_S1x256_S1x256) (kernelRun0_A.sl.v3263 (F := F) c arg1 harg1 x0)) bitsLt_bf16_f32) shapeCasts_S128x256_S1x128x256 := rfl

/-- The pool. -/
theorem pool1 (c : Dev nD) (i : grid0.Coords) (arg1 : Memref sig .tc .vmem S2x128x1280 .f32) (harg1 : arg1.IsWhole) (arg4 : Memref sig .tc .vmem S256x256 .bf16) (harg4 : arg4.IsWhole) (arg5 : Memref sig .tc .vmem S1x256 .f32) (harg5 : arg5.IsWhole) (arg11 : Memref sig .tc .vmem S2x16x256 .f32) (x0 : Vec F S2x128x1280 .f32) (x3 : Vec F S256x256 .bf16) (x4 : Vec F S1x256 .f32) :
    (kernelRun0_A.sl.v3313 (F := F) c i arg1 harg1 arg4 harg4 arg5 harg5 arg11 x0 x3 x4) =
      pool (BitVec.ofNat 32 (i 0).val) (kernelRun0_A.sl.v3267 (F := F) c arg1 harg1 arg11 x0) (kernelRun0_A.sl.v3255 (F := F) c arg1 harg1 x0) (shapeCast S256x256 (View.readAt (Elt F) arg4.view (Rect.unit ![0, 0] S256x256.size inb_S256x256_S256x256_0_0).toLoadRect (harg4.unread x3)) shapeCasts_S256x256_S256x256) (shapeCast S1x256 (View.readAt (Elt F) arg5.view (Rect.unit ![0, 0] S1x256.size inb_S1x256_S1x256_0_0).toLoadRect (harg5.unread x4)) shapeCasts_S1x256_S1x256) := rfl

end Cert.KernelIdeal.MixA
-- ==== Proof.MixAtA.lean ====
/- The grid point's named values at the extended reals (case A). -/
module

public import proofs.«01_k».proof.Proof.MixStep
public import proofs.«01_k».proof.Proof.MixRunA
public import Idealize.ShloMosaic.Lib.Pipeline.ReadBack

@[expose] public section

set_option maxRecDepth 16384

noncomputable section

open Idealize.ShloMosaic Idealize.ShloMosaic.TcCoe Idealize.SL.Sem

namespace Cert.KernelIdeal.MixA

open Cert.KernelIdeal Cert.KernelIdeal.Gen Cert.KernelIdeal.Mix

/-- Column group 0 of batch 0. -/
theorem in0_0 (c : Dev nD) (arg1 : Memref sig .tc .vmem S2x128x1280 .f32) (harg1 : arg1.IsWhole) (x0 : Vec Ideal S2x128x1280 .f32) : (kernelRun0_A.sl.v4 (F := Ideal) c arg1 harg1 x0) = cut 0 0 x0 := by
  unfold kernelRun0_A.sl.v4
  rw [View.readAt_eq_ld, harg1.read_unread]
  funext j; unfold cut; pointwise

/-- Column group 1 of batch 0. -/
theorem in0_1 (c : Dev nD) (arg1 : Memref sig .tc .vmem S2x128x1280 .f32) (harg1 : arg1.IsWhole) (x0 : Vec Ideal S2x128x1280 .f32) : (kernelRun0_A.sl.v6 (F := Ideal) c arg1 harg1 x0) = cut 0 1 x0 := by
  unfold kernelRun0_A.sl.v6
  rw [View.readAt_eq_ld, harg1.read_unread]
  funext j; unfold cut; pointwise

/-- Column group 2 of batch 0. -/
theorem in0_2 (c : Dev nD) (arg1 : Memref sig .tc .vmem S2x128x1280 .f32) (harg1 : arg1.IsWhole) (x0 : Vec Ideal S2x128x1280 .f32) : (kernelRun0_A.sl.v8 (F := Ideal) c arg1 harg1 x0) = cut 0 2 x0 := by
  unfold kernelRun0_A.sl.v8
  rw [View.readAt_eq_ld, harg1.read_unread]
  funext j; unfold cut; pointwise

/-- Column group 3 of batch 0. -/
theorem in0_3 (c : Dev nD) (arg1 : Memref sig .tc .vmem S2x128x1280 .f32) (harg1 : arg1.IsWhole) (x0 : Vec Ideal S2x128x1280 .f32) : (kernelRun0_A.sl.v10 (F := Ideal) c arg1 harg1 x0) = cut 0 3 x0 := by
  unfold kernelRun0_A.sl.v10
  rw [View.readAt_eq_ld, harg1.read_unread]
  funext j; unfold cut; pointwise

/-- Column group 4 of batch 0. -/
theorem in0_4 (c : Dev nD) (arg1 : Memref sig .tc .vmem S2x128x1280 .f32) (harg1 : arg1.IsWhole) (x0 : Vec Ideal S2x128x1280 .f32) : (kernelRun0_A.sl.v12 (F := Ideal) c arg1 harg1 x0) = cut 0 4 x0 := by
  unfold kernelRun0_A.sl.v12
  rw [View.readAt_eq_ld, harg1.read_unread]
  funext j; unfold cut; pointwise

/-- Column group 0 of batch 1. -/
theorem in1_0 (c : Dev nD) (arg1 : Memref sig .tc .vmem S2x128x1280 .f32) (harg1 : arg1.IsWhole) (x0 : Vec Ideal S2x128x1280 .f32) : (kernelRun0_A.sl.v3255 (F := Ideal) c arg1 harg1 x0) = cut 1 0 x0 := by
  unfold kernelRun0_A.sl.v3255
  rw [View.readAt_eq_ld, harg1.read_unread]
  funext j; unfold cut; pointwise

/-- Column group 1 of batch 1. -/
theorem in1_1 (c : Dev nD) (arg1 : Memref sig .tc .vmem S2x128x1280 .f32) (harg1 : arg1.IsWhole) (x0 : Vec Ideal S2x128x1280 .f32) : (kernelRun0_A.sl.v3257 (F := Ideal) c arg1 harg1 x0) = cut 1 1 x0 := by
  unfold kernelRun0_A.sl.v3257
  rw [View.readAt_eq_ld, harg1.read_unread]
  funext j; unfold cut; pointwise

/-- Column group 2 of batch 1. -/
theorem in1_2 (c : Dev nD) (arg1 : Memref sig .tc .vmem S2x128x1280 .f32) (harg1 : arg1.IsWhole) (x0 : Vec Ideal S2x128x1280 .f32) : (kernelRun0_A.sl.v3259 (F := Ideal) c arg1 harg1 x0) = cut 1 2 x0 := by
  unfold kernelRun0_A.sl.v3259
  rw [View.readAt_eq_ld, harg1.read_unread]
  funext j; unfold cut; pointwise

/-- Column group 3 of batch 1. -/
theorem in1_3 (c : Dev nD) (arg1 : Memref sig .tc .vmem S2x128x1280 .f32) (harg1 : arg1.IsWhole) (x0 : Vec Ideal S2x128x1280 .f32) : (kernelRun0_A.sl.v3261 (F := Ideal) c arg1 harg1 x0) = cut 1 3 x0 := by
  unfold kernelRun0_A.sl.v3261
  rw [View.readAt_eq_ld, harg1.read_unread]
  funext j; unfold cut; pointwise

/-- Column group 4 of batch 1. -/
theorem in1_4 (c : Dev nD) (arg1 : Memref sig .tc .vmem S2x128x1280 .f32) (harg1 : arg1.IsWhole) (x0 : Vec Ideal S2x128x1280 .f32) : (kernelRun0_A.sl.v3263 (F := Ideal) c arg1 harg1 x0) = cut 1 4 x0 := by
  unfold kernelRun0_A.sl.v3263
  rw [View.readAt_eq_ld, harg1.read_unread]
  funext j; unfold cut; pointwise

/-- The lower bound. -/
theorem at_v68 (c : Dev nD) (arg2 : Memref sig .tc .vmem S1x256 .f32) (harg2 : arg2.IsWhole) (x1 : Vec Ideal S1x256 .f32) : (kernelRun0_A.sl.v68 (F := Ideal) c arg2 harg2 x1) = x1 := by
  unfold kernelRun0_A.sl.v68
  rw [View.readAt_eq_ld, harg2.read_unread]
  funext j; pointwise
  all_goals exact row_eq _ j

/-- The head matrix. -/
theorem at_v156 (c : Dev nD) (arg7 : Memref sig .tc .vmem S256x256 .bf16) (harg7 : arg7.IsWhole) (x6 : Vec Ideal S256x256 .bf16) : (kernelRun0_A.sl.v156 (F := Ideal) c arg7 harg7 x6) = x6 := by
  unfold kernelRun0_A.sl.v156
  rw [View.readAt_eq_ld, harg7.read_unread]
  funext j; pointwise
  all_goals exact row_eq _ j

/-- The head mask. -/
theorem at_v158 (c : Dev nD) (arg8 : Memref sig .tc .vmem S256x256 .f32) (harg8 : arg8.IsWhole) (x7 : Vec Ideal S256x256 .f32) : (kernelRun0_A.sl.v158 (F := Ideal) c arg8 harg8 x7) = x7 := by
  unfold kernelRun0_A.sl.v158
  rw [View.readAt_eq_ld, harg8.read_unread]
  funext j; pointwise
  all_goals exact row_eq _ j

/-- The tri, read. -/
theorem at_tri (arg6 : Memref sig .tc .vmem S128x128 .bf16) (harg6 : arg6.IsWhole) (x5 : Vec Ideal S128x128 .bf16) : shapeCast S128x128 (View.readAt (Elt Ideal) arg6.view (Rect.unit ![0, 0] S128x128.size inb_S128x128_S128x128_0_0).toLoadRect (harg6.unread x5)) shapeCasts_S128x128_S128x128 = x5 := by
  rw [View.readAt_eq_ld, harg6.read_unread]
  funext j; pointwise
  all_goals exact row_eq _ j

/-- The weight, read. -/
theorem at_weight (arg4 : Memref sig .tc .vmem S256x256 .bf16) (harg4 : arg4.IsWhole) (x3 : Vec Ideal S256x256 .bf16) : shapeCast S256x256 (View.readAt (Elt Ideal) arg4.view (Rect.unit ![0, 0] S256x256.size inb_S256x256_S256x256_0_0).toLoadRect (harg4.unread x3)) shapeCasts_S256x256_S256x256 = x3 := by
  rw [View.readAt_eq_ld, harg4.read_unread]
  funext j; pointwise
  all_goals exact row_eq _ j

/-- The scale, read. -/
theorem at_scale (arg5 : Memref sig .tc .vmem S1x256 .f32) (harg5 : arg5.IsWhole) (x4 : Vec Ideal S1x256 .f32) : shapeCast S1x256 (View.readAt (Elt Ideal) arg5.view (Rect.unit ![0, 0] S1x256.size inb_S1x256_S1x256_0_0).toLoadRect (harg5.unread x4)) shapeCasts_S1x256_S1x256 = x4 := by
  rw [View.readAt_eq_ld, harg5.read_unread]
  funext j; pointwise
  all_goals exact row_eq _ j

/-- The gain, read. -/
theorem at_gain (arg3 : Memref sig .tc .vmem S1x256 .f32) (harg3 : arg3.IsWhole) (x2 : Vec Ideal S1x256 .f32) : shapeCast S1x256 (View.readAt (Elt Ideal) arg3.view (Rect.unit ![0, 0] S1x256.size inb_S1x256_S1x256_0_0).toLoadRect (harg3.unread x2)) shapeCasts_S1x256_S1x256 = x2 := by
  rw [View.readAt_eq_ld, harg3.read_unread]
  funext j; pointwise
  all_goals exact row_eq _ j

/-- What the start fills, batch 0. -/
theorem slab0 (c : Dev nD) (arg10 : Memref sig .tc .vmem S2x256x256 .f32) : (kernelRun0_A.sl.v164 (F := Ideal) c arg10) = slab 0 (fun _ => (0 : EReal)) := by
  unfold kernelRun0_A.sl.v164 kernelRun0_A.sl.v163 kernelRun0_A.sl.HS0_1
  rw [View.readCov_fill _ _ _ _ _ (by intro a; fin_cases a <;> rfl)]
  unfold kernelRun0_A.sl.v6508 kernelRun0_A.sl.v6505 kernelRun0_A.sl.cst_979
  funext j; unfold slab; pointwise

/-- What the start fills, batch 0. -/
theorem halo0 (c : Dev nD) (arg11 : Memref sig .tc .vmem S2x16x256 .f32) : (kernelRun0_A.sl.v16 (F := Ideal) c arg11) = halo 0 (fun _ => (0 : EReal)) := by
  unfold kernelRun0_A.sl.v16 kernelRun0_A.sl.v15 kernelRun0_A.sl.HS1_1
  rw [View.readCov_fill _ _ _ _ _ (by intro a; fin_cases a <;> rfl)]
  unfold kernelRun0_A.sl.v6512 kernelRun0_A.sl.v6509 kernelRun0_A.sl.cst_979
  funext j; unfold halo; pointwise

/-- What the start fills, batch 1. -/
theorem slab1 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec Ideal S2x128x1280 .f32) (x1 : Vec Ideal S1x256 .f32) (x5 : Vec Ideal S128x128 .bf16) (x7 : Vec Ideal S256x256 .f32) : (kernelRun0_A.sl.v3415 (F := Ideal) c arg1 harg1 arg2 harg2 arg6 harg6 arg8 harg8 arg10 x0 x1 x5 x7) = slab 1 (fun _ => (0 : EReal)) := by
  unfold kernelRun0_A.sl.v3415 kernelRun0_A.sl.v3414 kernelRun0_A.sl.HS0_2
  rw [View.readCov_skip _ _ _ _ _ (by decide)]
  unfold kernelRun0_A.sl.HS0_1
  rw [View.readCov_fill _ _ _ _ _ (by intro a; fin_cases a <;> rfl)]
  unfold kernelRun0_A.sl.v6508 kernelRun0_A.sl.v6505 kernelRun0_A.sl.cst_979
  funext j; unfold slab; pointwise

/-- What the start fills, batch 1. -/
theorem halo1 (c : Dev nD) (arg1 : Memref sig .tc .vmem S2x128x1280 .f32) (harg1 : arg1.IsWhole) (arg11 : Memref sig .tc .vmem S2x16x256 .f32) (x0 : Vec Ideal S2x128x1280 .f32) : (kernelRun0_A.sl.v3267 (F := Ideal) c arg1 harg1 arg11 x0) = halo 1 (fun _ => (0 : EReal)) := by
  unfold kernelRun0_A.sl.v3267 kernelRun0_A.sl.v3266 kernelRun0_A.sl.HS1_2
  rw [View.readCov_skip _ _ _ _ _ (by decide)]
  unfold kernelRun0_A.sl.HS1_1
  rw [View.readCov_fill _ _ _ _ _ (by intro a; fin_cases a <;> rfl)]
  unfold kernelRun0_A.sl.v6512 kernelRun0_A.sl.v6509 kernelRun0_A.sl.cst_979
  funext j; unfold halo; pointwise

end Cert.KernelIdeal.MixA
-- ==== Proof.MixOutA.lean ====
/- The blocks the grid point stores (case A). -/
module

public import proofs.«01_k».proof.Proof.MixAtA

@[expose] public section

set_option maxRecDepth 16384

noncomputable section

open Idealize.ShloMosaic Idealize.ShloMosaic.TcCoe Idealize.SL.Sem

namespace Cert.KernelIdeal.MixA

open Cert.KernelIdeal Cert.KernelIdeal.Gen Cert.KernelIdeal.Mix

/-- The sums of the logs, batch 0. -/
theorem C0 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (x0 : Vec Ideal S2x128x1280 .f32) (x1 : Vec Ideal S1x256 .f32) (x5 : Vec Ideal S128x128 .bf16) : (kernelRun0_A.sl.v121 (F := Ideal) c arg1 harg1 arg2 harg2 arg6 harg6 x0 x1 x5) = (cumF x5 (logF (cut 0 2 x0) x1)) := by
  rw [cum0, at_tri, in0_2, at_v68]

/-- The keys, batch 0. -/
theorem K0 (c : Dev nD) (arg1 : Memref sig .tc .vmem S2x128x1280 .f32) (harg1 : arg1.IsWhole) (arg2 : Memref sig .tc .vmem S1x256 .f32) (harg2 : arg2.IsWhole) (x0 : Vec Ideal S2x128x1280 .f32) (x1 : Vec Ideal S1x256 .f32) : (kernelRun0_A.sl.r (F := Ideal) c arg1 harg1 arg2 harg2 x0 x1) = (keyF (cut 0 2 x0) x1) := by
  rw [key0, in0_2, at_v68]

/-- The queries, batch 0. -/
theorem Q0 (c : Dev nD) (arg1 : Memref sig .tc .vmem S2x128x1280 .f32) (harg1 : arg1.IsWhole) (x0 : Vec Ideal S2x128x1280 .f32) : (kernelRun0_A.sl.r_1 (F := Ideal) c arg1 harg1 x0) = (queryF (cut 0 1 x0)) := by
  rw [qry0, in0_1]

/-- The state after stretch 0, batch 0. -/
theorem S0_0 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec Ideal S2x128x1280 .f32) (x1 : Vec Ideal S1x256 .f32) (x5 : Vec Ideal S128x128 .bf16) (x7 : Vec Ideal S256x256 .f32) : (kernelRun0_A.sl.v546 (F := Ideal) c arg1 harg1 arg2 harg2 arg6 harg6 arg8 harg8 arg10 x0 x1 x5 x7) = stAt x7 (cumF x5 (logF (cut 0 2 x0) x1)) (keyF (cut 0 2 x0) x1) (cut 0 3 x0) (slab 0 (fun _ => (0 : EReal))) 1 := by
  rw [st0_0, at_v158, C0, K0, in0_3, slab0]
  rfl

/-- The state after stretch 1, batch 0. -/
theorem S0_1 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec Ideal S2x128x1280 .f32) (x1 : Vec Ideal S1x256 .f32) (x5 : Vec Ideal S128x128 .bf16) (x7 : Vec Ideal S256x256 .f32) : (kernelRun0_A.sl.v928 (F := Ideal) c arg1 harg1 arg2 harg2 arg6 harg6 arg8 harg8 arg10 x0 x1 x5 x7) = stAt x7 (cumF x5 (logF (cut 0 2 x0) x1)) (keyF (cut 0 2 x0) x1) (cut 0 3 x0) (slab 0 (fun _ => (0 : EReal))) 2 := by
  rw [st0_1, at_v158, C0, K0, in0_3, S0_0]
  rfl

/-- The state after stretch 2, batch 0. -/
theorem S0_2 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec Ideal S2x128x1280 .f32) (x1 : Vec Ideal S1x256 .f32) (x5 : Vec Ideal S128x128 .bf16) (x7 : Vec Ideal S256x256 .f32) : (kernelRun0_A.sl.v1310 (F := Ideal) c arg1 harg1 arg2 harg2 arg6 harg6 arg8 harg8 arg10 x0 x1 x5 x7) = stAt x7 (cumF x5 (logF (cut 0 2 x0) x1)) (keyF (cut 0 2 x0) x1) (cut 0 3 x0) (slab 0 (fun _ => (0 : EReal))) 3 := by
  rw [st0_2, at_v158, C0, K0, in0_3, S0_1]
  rfl

/-- The state after stretch 3, batch 0. -/
theorem S0_3 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec Ideal S2x128x1280 .f32) (x1 : Vec Ideal S1x256 .f32) (x5 : Vec Ideal S128x128 .bf16) (x7 : Vec Ideal S256x256 .f32) : (kernelRun0_A.sl.v1692 (F := Ideal) c arg1 harg1 arg2 harg2 arg6 harg6 arg8 harg8 arg10 x0 x1 x5 x7) = stAt x7 (cumF x5 (logF (cut 0 2 x0) x1)) (keyF (cut 0 2 x0) x1) (cut 0 3 x0) (slab 0 (fun _ => (0 : EReal))) 4 := by
  rw [st0_3, at_v158, C0, K0, in0_3, S0_2]
  rfl

/-- The state after stretch 4, batch 0. -/
theorem S0_4 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec Ideal S2x128x1280 .f32) (x1 : Vec Ideal S1x256 .f32) (x5 : Vec Ideal S128x128 .bf16) (x7 : Vec Ideal S256x256 .f32) : (kernelRun0_A.sl.v2074 (F := Ideal) c arg1 harg1 arg2 harg2 arg6 harg6 arg8 harg8 arg10 x0 x1 x5 x7) = stAt x7 (cumF x5 (logF (cut 0 2 x0) x1)) (keyF (cut 0 2 x0) x1) (cut 0 3 x0) (slab 0 (fun _ => (0 : EReal))) 5 := by
  rw [st0_4, at_v158, C0, K0, in0_3, S0_3]
  rfl

/-- The state after stretch 5, batch 0. -/
theorem S0_5 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec Ideal S2x128x1280 .f32) (x1 : Vec Ideal S1x256 .f32) (x5 : Vec Ideal S128x128 .bf16) (x7 : Vec Ideal S256x256 .f32) : (kernelRun0_A.sl.v2456 (F := Ideal) c arg1 harg1 arg2 harg2 arg6 harg6 arg8 harg8 arg10 x0 x1 x5 x7) = stAt x7 (cumF x5 (logF (cut 0 2 x0) x1)) (keyF (cut 0 2 x0) x1) (cut 0 3 x0) (slab 0 (fun _ => (0 : EReal))) 6 := by
  rw [st0_5, at_v158, C0, K0, in0_3, S0_4]
  rfl

/-- The state after stretch 6, batch 0. -/
theorem S0_6 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec Ideal S2x128x1280 .f32) (x1 : Vec Ideal S1x256 .f32) (x5 : Vec Ideal S128x128 .bf16) (x7 : Vec Ideal S256x256 .f32) : (kernelRun0_A.sl.v2838 (F := Ideal) c arg1 harg1 arg2 harg2 arg6 harg6 arg8 harg8 arg10 x0 x1 x5 x7) = stAt x7 (cumF x5 (logF (cut 0 2 x0) x1)) (keyF (cut 0 2 x0) x1) (cut 0 3 x0) (slab 0 (fun _ => (0 : EReal))) 7 := by
  rw [st0_6, at_v158, C0, K0, in0_3, S0_5]
  rfl

/-- The state after stretch 7, batch 0. -/
theorem S0_7 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec Ideal S2x128x1280 .f32) (x1 : Vec Ideal S1x256 .f32) (x5 : Vec Ideal S128x128 .bf16) (x7 : Vec Ideal S256x256 .f32) : (kernelRun0_A.sl.v3220 (F := Ideal) c arg1 harg1 arg2 harg2 arg6 harg6 arg8 harg8 arg10 x0 x1 x5 x7) = stAt x7 (cumF x5 (logF (cut 0 2 x0) x1)) (keyF (cut 0 2 x0) x1) (cut 0 3 x0) (slab 0 (fun _ => (0 : EReal))) 8 := by
  rw [st0_7, at_v158, C0, K0, in0_3, S0_6]
  rfl

/-- The recurrence, batch 0. -/
theorem hg0 (c : Dev nD) (arg1 : Memref sig .tc .vmem S2x128x1280 .f32) (harg1 : arg1.IsWhole) (arg2 : Memref sig .tc .vmem S1x256 .f32) (harg2 : arg2.IsWhole) (arg3 : Memref sig .tc .vmem S1x256 .f32) (harg3 : arg3.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (x0 : Vec Ideal S2x128x1280 .f32) (x1 : Vec Ideal S1x256 .f32) (x2 : Vec Ideal S1x256 .f32) (x5 : Vec Ideal S128x128 .bf16) (x6 : Vec Ideal S256x256 .bf16) (x7 : Vec Ideal S256x256 .f32) : (kernelRun0_A.sl.v3253 (F := Ideal) c arg1 harg1 arg2 harg2 arg3 harg3 arg6 harg6 arg7 harg7 arg8 harg8 arg10 x0 x1 x2 x5 x6 x7) = shapeCast S1x128x256 (truncf .bf16 (stepHg x0 x1 x2 x5 x6 x7 (fun _ => (0 : EReal)) 0) bitsLt_bf16_f32) shapeCasts_S128x256_S1x128x256 := by
  rw [pay0, fin0, cat0, S0_6, S0_5, S0_4, S0_3, S0_2, S0_1, S0_0, slab0, C0, Q0, K0, in0_3, in0_4, at_v156, at_gain]
  rfl

/-- The pool, batch 0. -/
theorem po0 (c : Dev nD) (i : grid0.Coords) (arg1 : Memref sig .tc .vmem S2x128x1280 .f32) (harg1 : arg1.IsWhole) (arg4 : Memref sig .tc .vmem S256x256 .bf16) (harg4 : arg4.IsWhole) (arg5 : Memref sig .tc .vmem S1x256 .f32) (harg5 : arg5.IsWhole) (arg11 : Memref sig .tc .vmem S2x16x256 .f32) (x0 : Vec Ideal S2x128x1280 .f32) (x3 : Vec Ideal S256x256 .bf16) (x4 : Vec Ideal S1x256 .f32) : (kernelRun0_A.sl.v3249 (F := Ideal) c i arg1 harg1 arg4 harg4 arg5 harg5 arg11 x0 x3 x4) = shapeCast S1x128x256 (truncf .bf16 (stepPool (BitVec.ofNat 32 (i 0).val) x0 x3 x4 (fun _ => (0 : EReal)) 0) bitsLt_bf16_f32) shapeCasts_S128x256_S1x128x256 := by
  rw [pay0p, pool0, in0_0, at_weight, at_scale, halo0]
  rfl

/-- The state, batch 0. -/
theorem sn0 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec Ideal S2x128x1280 .f32) (x1 : Vec Ideal S1x256 .f32) (x5 : Vec Ideal S128x128 .bf16) (x7 : Vec Ideal S256x256 .f32) : (kernelRun0_A.sl.v3223 (F := Ideal) c arg1 harg1 arg2 harg2 arg6 harg6 arg8 harg8 arg10 x0 x1 x5 x7) = shapeCast S1x256x256 (stepSt x0 x1 x5 x7 (fun _ => (0 : EReal)) 0) shapeCasts_S256x256_S1x256x256 := by
  have e : (kernelRun0_A.sl.v3223 (F := Ideal) c arg1 harg1 arg2 harg2 arg6 harg6 arg8 harg8 arg10 x0 x1 x5 x7) = shapeCast S1x256x256 (kernelRun0_A.sl.v3220 (F := Ideal) c arg1 harg1 arg2 harg2 arg6 harg6 arg8 harg8 arg10 x0 x1 x5 x7) shapeCasts_S256x256_S1x256x256 := rfl
  rw [e, S0_7]
  rfl

/-- The last rows, batch 0. -/
theorem hl0 (c : Dev nD) (arg1 : Memref sig .tc .vmem S2x128x1280 .f32) (harg1 : arg1.IsWhole) (x0 : Vec Ideal S2x128x1280 .f32) (x : S1x16x256.Idx) : (kernelRun0_A.sl.v66 (F := Ideal) c arg1 harg1 x0) x = cut 0 0 x0 (ix2 ⟨112 + (x 1).val, by have := (x 1).isLt; simp at *; omega⟩ (x 2)) := by
  unfold kernelRun0_A.sl.v66 kernelRun0_A.sl.v63
  rw [in0_0]
  pointwise

/-- The sums of the logs, batch 1. -/
theorem C1 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (x0 : Vec Ideal S2x128x1280 .f32) (x1 : Vec Ideal S1x256 .f32) (x5 : Vec Ideal S128x128 .bf16) : (kernelRun0_A.sl.r_5 (F := Ideal) c arg1 harg1 arg2 harg2 arg6 harg6 x0 x1 x5) = (cumF x5 (logF (cut 1 2 x0) x1)) := by
  rw [cum1, at_tri, in1_2, at_v68]

/-- The keys, batch 1. -/
theorem K1 (c : Dev nD) (arg1 : Memref sig .tc .vmem S2x128x1280 .f32) (harg1 : arg1.IsWhole) (arg2 : Memref sig .tc .vmem S1x256 .f32) (harg2 : arg2.IsWhole) (x0 : Vec Ideal S2x128x1280 .f32) (x1 : Vec Ideal S1x256 .f32) : (kernelRun0_A.sl.r_3 (F := Ideal) c arg1 harg1 arg2 harg2 x0 x1) = (keyF (cut 1 2 x0) x1) := by
  rw [key1, in1_2, at_v68]

/-- The queries, batch 1. -/
theorem Q1 (c : Dev nD) (arg1 : Memref sig .tc .vmem S2x128x1280 .f32) (harg1 : arg1.IsWhole) (x0 : Vec Ideal S2x128x1280 .f32) : (kernelRun0_A.sl.r_4 (F := Ideal) c arg1 harg1 x0) = (queryF (cut 1 1 x0)) := by
  rw [qry1, in1_1]

/-- The state after stretch 0, batch 1. -/
theorem S1_0 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec Ideal S2x128x1280 .f32) (x1 : Vec Ideal S1x256 .f32) (x5 : Vec Ideal S128x128 .bf16) (x7 : Vec Ideal S256x256 .f32) : (kernelRun0_A.sl.v3797 (F := Ideal) c arg1 harg1 arg2 harg2 arg6 harg6 arg8 harg8 arg10 x0 x1 x5 x7) = stAt x7 (cumF x5 (logF (cut 1 2 x0) x1)) (keyF (cut 1 2 x0) x1) (cut 1 3 x0) (slab 1 (fun _ => (0 : EReal))) 1 := by
  rw [st1_0, at_v158, C1, K1, in1_3, slab1]
  rfl

/-- The state after stretch 1, batch 1. -/
theorem S1_1 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec Ideal S2x128x1280 .f32) (x1 : Vec Ideal S1x256 .f32) (x5 : Vec Ideal S128x128 .bf16) (x7 : Vec Ideal S256x256 .f32) : (kernelRun0_A.sl.v4179 (F := Ideal) c arg1 harg1 arg2 harg2 arg6 harg6 arg8 harg8 arg10 x0 x1 x5 x7) = stAt x7 (cumF x5 (logF (cut 1 2 x0) x1)) (keyF (cut 1 2 x0) x1) (cut 1 3 x0) (slab 1 (fun _ => (0 : EReal))) 2 := by
  rw [st1_1, at_v158, C1, K1, in1_3, S1_0]
  rfl

/-- The state after stretch 2, batch 1. -/
theorem S1_2 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec Ideal S2x128x1280 .f32) (x1 : Vec Ideal S1x256 .f32) (x5 : Vec Ideal S128x128 .bf16) (x7 : Vec Ideal S256x256 .f32) : (kernelRun0_A.sl.v4561 (F := Ideal) c arg1 harg1 arg2 harg2 arg6 harg6 arg8 harg8 arg10 x0 x1 x5 x7) = stAt x7 (cumF x5 (logF (cut 1 2 x0) x1)) (keyF (cut 1 2 x0) x1) (cut 1 3 x0) (slab 1 (fun _ => (0 : EReal))) 3 := by
  rw [st1_2, at_v158, C1, K1, in1_3, S1_1]
  rfl

/-- The state after stretch 3, batch 1. -/
theorem S1_3 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec Ideal S2x128x1280 .f32) (x1 : Vec Ideal S1x256 .f32) (x5 : Vec Ideal S128x128 .bf16) (x7 : Vec Ideal S256x256 .f32) : (kernelRun0_A.sl.v4943 (F := Ideal) c arg1 harg1 arg2 harg2 arg6 harg6 arg8 harg8 arg10 x0 x1 x5 x7) = stAt x7 (cumF x5 (logF (cut 1 2 x0) x1)) (keyF (cut 1 2 x0) x1) (cut 1 3 x0) (slab 1 (fun _ => (0 : EReal))) 4 := by
  rw [st1_3, at_v158, C1, K1, in1_3, S1_2]
  rfl

/-- The state after stretch 4, batch 1. -/
theorem S1_4 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec Ideal S2x128x1280 .f32) (x1 : Vec Ideal S1x256 .f32) (x5 : Vec Ideal S128x128 .bf16) (x7 : Vec Ideal S256x256 .f32) : (kernelRun0_A.sl.v5325 (F := Ideal) c arg1 harg1 arg2 harg2 arg6 harg6 arg8 harg8 arg10 x0 x1 x5 x7) = stAt x7 (cumF x5 (logF (cut 1 2 x0) x1)) (keyF (cut 1 2 x0) x1) (cut 1 3 x0) (slab 1 (fun _ => (0 : EReal))) 5 := by
  rw [st1_4, at_v158, C1, K1, in1_3, S1_3]
  rfl

/-- The state after stretch 5, batch 1. -/
theorem S1_5 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec Ideal S2x128x1280 .f32) (x1 : Vec Ideal S1x256 .f32) (x5 : Vec Ideal S128x128 .bf16) (x7 : Vec Ideal S256x256 .f32) : (kernelRun0_A.sl.v5707 (F := Ideal) c arg1 harg1 arg2 harg2 arg6 harg6 arg8 harg8 arg10 x0 x1 x5 x7) = stAt x7 (cumF x5 (logF (cut 1 2 x0) x1)) (keyF (cut 1 2 x0) x1) (cut 1 3 x0) (slab 1 (fun _ => (0 : EReal))) 6 := by
  rw [st1_5, at_v158, C1, K1, in1_3, S1_4]
  rfl

/-- The state after stretch 6, batch 1. -/
theorem S1_6 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec Ideal S2x128x1280 .f32) (x1 : Vec Ideal S1x256 .f32) (x5 : Vec Ideal S128x128 .bf16) (x7 : Vec Ideal S256x256 .f32) : (kernelRun0_A.sl.v6089 (F := Ideal) c arg1 harg1 arg2 harg2 arg6 harg6 arg8 harg8 arg10 x0 x1 x5 x7) = stAt x7 (cumF x5 (logF (cut 1 2 x0) x1)) (keyF (cut 1 2 x0) x1) (cut 1 3 x0) (slab 1 (fun _ => (0 : EReal))) 7 := by
  rw [st1_6, at_v158, C1, K1, in1_3, S1_5]
  rfl

/-- The recurrence, batch 1. -/
theorem hg1 (c : Dev nD) (arg1 : Memref sig .tc .vmem S2x128x1280 .f32) (harg1 : arg1.IsWhole) (arg2 : Memref sig .tc .vmem S1x256 .f32) (harg2 : arg2.IsWhole) (arg3 : Memref sig .tc .vmem S1x256 .f32) (harg3 : arg3.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (x0 : Vec Ideal S2x128x1280 .f32) (x1 : Vec Ideal S1x256 .f32) (x2 : Vec Ideal S1x256 .f32) (x5 : Vec Ideal S128x128 .bf16) (x6 : Vec Ideal S256x256 .bf16) (x7 : Vec Ideal S256x256 .f32) : k0_pay2 (kernelRun0_A.sl.v3263 (F := Ideal) c arg1 harg1 x0) (kernelRun0_A.sl.r_36 (F := Ideal) c arg1 harg1 arg2 harg2 arg6 harg6 arg7 harg7 arg8 harg8 arg10 x0 x1 x5 x6 x7) (kernelRun0_A.sl.r_37 (F := Ideal) c arg3 harg3 x2) = shapeCast S1x128x256 (truncf .bf16 (stepHg x0 x1 x2 x5 x6 x7 (fun _ => (0 : EReal)) 1) bitsLt_bf16_f32) shapeCasts_S128x256_S1x128x256 := by
  rw [pay1, S1_6, S1_5, S1_4, S1_3, S1_2, S1_1, S1_0, slab1, C1, Q1, K1, in1_3, in1_4, at_v156, at_gain]
  rfl

/-- The pool, batch 1. -/
theorem po1 (c : Dev nD) (i : grid0.Coords) (arg1 : Memref sig .tc .vmem S2x128x1280 .f32) (harg1 : arg1.IsWhole) (arg4 : Memref sig .tc .vmem S256x256 .bf16) (harg4 : arg4.IsWhole) (arg5 : Memref sig .tc .vmem S1x256 .f32) (harg5 : arg5.IsWhole) (arg11 : Memref sig .tc .vmem S2x16x256 .f32) (x0 : Vec Ideal S2x128x1280 .f32) (x3 : Vec Ideal S256x256 .bf16) (x4 : Vec Ideal S1x256 .f32) : k0_pay1 (kernelRun0_A.sl.v3313 (F := Ideal) c i arg1 harg1 arg4 harg4 arg5 harg5 arg11 x0 x3 x4) = shapeCast S1x128x256 (truncf .bf16 (stepPool (BitVec.ofNat 32 (i 0).val) x0 x3 x4 (fun _ => (0 : EReal)) 1) bitsLt_bf16_f32) shapeCasts_S128x256_S1x128x256 := by
  rw [pool1, in1_0, at_weight, at_scale, halo1]
  rfl

/-- The state, batch 1. -/
theorem sn1 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (x0 : Vec Ideal S2x128x1280 .f32) (x1 : Vec Ideal S1x256 .f32) (x5 : Vec Ideal S128x128 .bf16) (x7 : Vec Ideal S256x256 .f32) : k0_pay681 (kernelRun0_A.sl.r_13 (F := Ideal) c arg1 harg1 arg2 harg2 arg6 harg6 x0 x1 x5) (kernelRun0_A.sl.v3401 (F := Ideal) c arg1 harg1 arg2 harg2 arg6 harg6 x0 x1 x5) (kernelRun0_A.sl.v3405 (F := Ideal) c arg1 harg1 x0) (kernelRun0_A.sl.v158 (F := Ideal) c arg8 harg8 x7) (kernelRun0_A.sl.v6089 (F := Ideal) c arg1 harg1 arg2 harg2 arg6 harg6 arg8 harg8 arg10 x0 x1 x5 x7) = shapeCast S1x256x256 (stepSt x0 x1 x5 x7 (fun _ => (0 : EReal)) 1) shapeCasts_S256x256_S1x256x256 := by
  have e : k0_pay681 (kernelRun0_A.sl.r_13 (F := Ideal) c arg1 harg1 arg2 harg2 arg6 harg6 x0 x1 x5) (kernelRun0_A.sl.v3401 (F := Ideal) c arg1 harg1 arg2 harg2 arg6 harg6 x0 x1 x5) (kernelRun0_A.sl.v3405 (F := Ideal) c arg1 harg1 x0) (kernelRun0_A.sl.v158 (F := Ideal) c arg8 harg8 x7) (kernelRun0_A.sl.v6089 (F := Ideal) c arg1 harg1 arg2 harg2 arg6 harg6 arg8 harg8 arg10 x0 x1 x5 x7) = shapeCast S1x256x256 (st7 (kernelRun0_A.sl.v158 (F := Ideal) c arg8 harg8 x7) (kernelRun0_A.sl.r_5 (F := Ideal) c arg1 harg1 arg2 harg2 arg6 harg6 x0 x1 x5) (kernelRun0_A.sl.r_3 (F := Ideal) c arg1 harg1 arg2 harg2 x0 x1) (kernelRun0_A.sl.v3261 (F := Ideal) c arg1 harg1 x0) (kernelRun0_A.sl.v6089 (F := Ideal) c arg1 harg1 arg2 harg2 arg6 harg6 arg8 harg8 arg10 x0 x1 x5 x7)) shapeCasts_S256x256_S1x256x256 := rfl
  rw [e, at_v158, C1, K1, in1_3, S1_6]
  rfl

/-- The last rows, batch 1. -/
theorem hl1 (c : Dev nD) (arg1 : Memref sig .tc .vmem S2x128x1280 .f32) (harg1 : arg1.IsWhole) (x0 : Vec Ideal S2x128x1280 .f32) (x : S1x16x256.Idx) : (kernelRun0_A.sl.v3317 (F := Ideal) c arg1 harg1 x0) x = cut 1 0 x0 (ix2 ⟨112 + (x 1).val, by have := (x 1).isLt; simp at *; omega⟩ (x 2)) := by
  unfold kernelRun0_A.sl.v3317 kernelRun0_A.sl.v3314
  rw [in1_0]
  pointwise

theorem out0_8  (c : Dev nD) (i : grid0.Coords) (arg1 : Memref sig .tc .vmem S2x128x1280 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg9 : Memref sig .tc .vmem S2x128x512 .bf16) (harg9 : arg9.IsWhole) (arg10 : Memref sig .tc .vmem S2x256x256 .f32) (harg10 : arg10.IsWhole) (arg11 : Memref sig .tc .vmem S2x16x256 .f32) (harg11 : arg11.IsWhole) (hc0 : cond0_0 i)     (x0 : Vec Ideal S2x128x1280 .f32) (x1 : Vec Ideal S1x256 .f32) (x2 : Vec Ideal S1x256 .f32) (x3 : Vec Ideal S256x256 .bf16) (x4 : Vec Ideal S1x256 .f32) (x5 : Vec Ideal S128x128 .bf16) (x6 : Vec Ideal S256x256 .bf16) (x7 : Vec Ideal S256x256 .f32)  (y : S2x128x512.Idx) : (out0_A_8 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7) y = stepOut (BitVec.ofNat 32 (i 0).val) x0 x1 x2 x3 x4 x5 x6 x7 (fun _ => (0 : EReal)) (fun _ => (0 : EReal)) y := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  canon_tiles x h
  · rw [hg1, lift_apply]; refine hg_at _ _ _ _ _ _ _ _ ?_ ?_ ?_ <;> simp at * <;> omega
  · rw [po1, lift_apply]; refine pool_at _ _ _ _ _ _ _ _ _ _ ?_ ?_ ?_ <;> simp at * <;> omega
  · rw [hg0, lift_apply]; refine hg_at _ _ _ _ _ _ _ _ ?_ ?_ ?_ <;> simp at * <;> omega
  · rw [po0, lift_apply]; refine pool_at _ _ _ _ _ _ _ _ _ _ ?_ ?_ ?_ <;> simp at * <;> omega

theorem sout0_0  (c : Dev nD) (i : grid0.Coords) (arg1 : Memref sig .tc .vmem S2x128x1280 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg9 : Memref sig .tc .vmem S2x128x512 .bf16) (harg9 : arg9.IsWhole) (arg10 : Memref sig .tc .vmem S2x256x256 .f32) (harg10 : arg10.IsWhole) (arg11 : Memref sig .tc .vmem S2x16x256 .f32) (harg11 : arg11.IsWhole) (hc0 : cond0_0 i)     (x0 : Vec Ideal S2x128x1280 .f32) (x1 : Vec Ideal S1x256 .f32) (x2 : Vec Ideal S1x256 .f32) (x3 : Vec Ideal S256x256 .bf16) (x4 : Vec Ideal S1x256 .f32) (x5 : Vec Ideal S128x128 .bf16) (x6 : Vec Ideal S256x256 .bf16) (x7 : Vec Ideal S256x256 .f32)  (y : S2x256x256.Idx) : (sout0_A_0 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7) y = stepSt x0 x1 x5 x7 (fun _ => (0 : EReal)) (y 0) (ix2 (y 1) (y 2)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 x0 x1 x2 x3 x4 x5 x6 x7)]
  unfold kernelRun0_A kernelRun0_A.sl.HS0_2 kernelRun0_A.sl.HS0_1
  dsimp only
  refine View.canon_append_of_piecesOf (Val := Elt Ideal) (e := .f32) (fun y : S2x256x256.Idx => (stepSt x0 x1 x5 x7 (fun _ => (0 : EReal)) (y 0) (ix2 (y 1) (y 2)))) [_] [_, _] ⟨fun x => ?_, fun x => ?_, trivial⟩ y ?_
  · refine (congrFun (sn1 ..) x).trans ?_; refine (lift_st_apply _ _).trans ?_; refine st_at _ _ _ _ ?_ ?_ ?_ <;> (refine at_emb inb_S2x256x256_S1x256x256_1_0_0 _ _ _ ?_; have := (x 0).isLt; simp at *; try omega)
  · refine (congrFun (sn0 ..) x).trans ?_; refine (lift_st_apply _ _).trans ?_; refine st_at _ _ _ _ ?_ ?_ ?_ <;> (refine at_emb inb_S2x256x256_S1x256x256_0_0_0 _ _ _ ?_; have := (x 0).isLt; simp at *; try omega)
  · exact View.cover_of_tiledL (s := S2x256x256) _ S1x256x256.size (by sl_kernel_rfl) y

theorem sout0_1  (c : Dev nD) (i : grid0.Coords) (arg1 : Memref sig .tc .vmem S2x128x1280 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg9 : Memref sig .tc .vmem S2x128x512 .bf16) (harg9 : arg9.IsWhole) (arg10 : Memref sig .tc .vmem S2x256x256 .f32) (harg10 : arg10.IsWhole) (arg11 : Memref sig .tc .vmem S2x16x256 .f32) (harg11 : arg11.IsWhole) (hc0 : cond0_0 i)     (x0 : Vec Ideal S2x128x1280 .f32) (x1 : Vec Ideal S1x256 .f32) (x2 : Vec Ideal S1x256 .f32) (x3 : Vec Ideal S256x256 .bf16) (x4 : Vec Ideal S1x256 .f32) (x5 : Vec Ideal S128x128 .bf16) (x6 : Vec Ideal S256x256 .bf16) (x7 : Vec Ideal S256x256 .f32)  (y : S2x16x256.Idx) : (sout0_A_1 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7) y = cut (y 0) 0 x0 (ix2 ⟨112 + (y 1).val, by have := (y 1).isLt; simp at *; omega⟩ (y 2)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 x0 x1 x2 x3 x4 x5 x6 x7)]
  unfold kernelRun0_A kernelRun0_A.sl.HS1_2 kernelRun0_A.sl.HS1_1
  dsimp only
  refine View.canon_append_of_piecesOf (Val := Elt Ideal) (e := .f32) (fun y : S2x16x256.Idx => (cut (y 0) 0 x0 (ix2 ⟨112 + (y 1).val, by have := (y 1).isLt; simp at *; omega⟩ (y 2)))) [_] [_, _] ⟨fun x => ?_, fun x => ?_, trivial⟩ y ?_
  · refine (hl1 _ _ _ _ x).trans ?_; refine halo_at _ _ _ _ _ ?_ ?_ ?_ <;> (refine at_emb inb_S2x16x256_S1x16x256_1_0_0 _ _ _ ?_; have := (x 0).isLt; simp at *; try omega)
  · refine (hl0 _ _ _ _ x).trans ?_; refine halo_at _ _ _ _ _ ?_ ?_ ?_ <;> (refine at_emb inb_S2x16x256_S1x16x256_0_0_0 _ _ _ ?_; have := (x 0).isLt; simp at *; try omega)
  · exact View.cover_of_tiledL (s := S2x16x256) _ S1x16x256.size (by sl_kernel_rfl) y

end Cert.KernelIdeal.MixA
-- ==== Proof.MixRunB.lean ====
/- The grid point's named values are the functions of the body (case B). -/
module

public import proofs.«01_k».proof.Proof.MixBody

@[expose] public section

set_option maxRecDepth 16384

noncomputable section

open Idealize.ShloMosaic Idealize.ShloMosaic.TcCoe Idealize.SL.Sem

namespace Cert.KernelIdeal.MixB

open Cert.KernelIdeal Cert.KernelIdeal.Gen Cert.KernelIdeal.Mix

variable {F : FTy → Type} [FloatOps F] [Named F]

/-- The key. -/
theorem key0 (c : Dev nD) (arg1 : Memref sig .tc .vmem S2x128x1280 .f32) (harg1 : arg1.IsWhole) (arg2 : Memref sig .tc .vmem S1x256 .f32) (harg2 : arg2.IsWhole) (x0 : Vec F S2x128x1280 .f32) (x1 : Vec F S1x256 .f32) :
    (kernelRun0_B.sl.r (F := F) c arg1 harg1 arg2 harg2 x0 x1) =
      keyF (kernelRun0_B.sl.v8 (F := F) c arg1 harg1 x0) (kernelRun0_B.sl.v68 (F := F) c arg2 harg2 x1) := rfl

/-- The query. -/
theorem qry0 (c : Dev nD) (arg1 : Memref sig .tc .vmem S2x128x1280 .f32) (harg1 : arg1.IsWhole) (x0 : Vec F S2x128x1280 .f32) :
    (kernelRun0_B.sl.r_1 (F := F) c arg1 harg1 x0) =
      queryF (kernelRun0_B.sl.v6 (F := F) c arg1 harg1 x0) := rfl

/-- The sums of the logs. -/
theorem cum0 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (x0 : Vec F S2x128x1280 .f32) (x1 : Vec F S1x256 .f32) (x5 : Vec F S128x128 .bf16) :
    (kernelRun0_B.sl.v121 (F := F) c arg1 harg1 arg2 harg2 arg6 harg6 x0 x1 x5) =
      cumF (shapeCast S128x128 (View.readAt (Elt F) arg6.view (Rect.unit ![0, 0] S128x128.size inb_S128x128_S128x128_0_0).toLoadRect (harg6.unread x5)) shapeCasts_S128x128_S128x128) (logF (kernelRun0_B.sl.v8 (F := F) c arg1 harg1 x0) (kernelRun0_B.sl.v68 (F := F) c arg2 harg2 x1)) := rfl

/-- The state after stretch 0. -/
theorem st0_0 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x7 : Vec F S256x256 .f32) (xs0 : Vec F S2x256x256 .f32) :
    (kernelRun0_B.sl.v546 (F := F) c arg1 harg1 arg2 harg2 arg6 harg6 arg8 harg8 arg10 harg10 x0 x1 x5 x7 xs0) =
      st0 (kernelRun0_B.sl.v158 (F := F) c arg8 harg8 x7) (kernelRun0_B.sl.v121 (F := F) c arg1 harg1 arg2 harg2 arg6 harg6 x0 x1 x5) (kernelRun0_B.sl.r (F := F) c arg1 harg1 arg2 harg2 x0 x1) (kernelRun0_B.sl.v10 (F := F) c arg1 harg1 x0) (kernelRun0_B.sl.v164 (F := F) c arg10 harg10 xs0) := rfl

/-- The state after stretch 1. -/
theorem st0_1 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x7 : Vec F S256x256 .f32) (xs0 : Vec F S2x256x256 .f32) :
    (kernelRun0_B.sl.v928 (F := F) c arg1 harg1 arg2 harg2 arg6 harg6 arg8 harg8 arg10 harg10 x0 x1 x5 x7 xs0) =
      st1 (kernelRun0_B.sl.v158 (F := F) c arg8 harg8 x7) (kernelRun0_B.sl.v121 (F := F) c arg1 harg1 arg2 harg2 arg6 harg6 x0 x1 x5) (kernelRun0_B.sl.r (F := F) c arg1 harg1 arg2 harg2 x0 x1) (kernelRun0_B.sl.v10 (F := F) c arg1 harg1 x0) (kernelRun0_B.sl.v546 (F := F) c arg1 harg1 arg2 harg2 arg6 harg6 arg8 harg8 arg10 harg10 x0 x1 x5 x7 xs0) := rfl

/-- The state after stretch 2. -/
theorem st0_2 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x7 : Vec F S256x256 .f32) (xs0 : Vec F S2x256x256 .f32) :
    (kernelRun0_B.sl.v1310 (F := F) c arg1 harg1 arg2 harg2 arg6 harg6 arg8 harg8 arg10 harg10 x0 x1 x5 x7 xs0) =
      st2 (kernelRun0_B.sl.v158 (F := F) c arg8 harg8 x7) (kernelRun0_B.sl.v121 (F := F) c arg1 harg1 arg2 harg2 arg6 harg6 x0 x1 x5) (kernelRun0_B.sl.r (F := F) c arg1 harg1 arg2 harg2 x0 x1) (kernelRun0_B.sl.v10 (F := F) c arg1 harg1 x0) (kernelRun0_B.sl.v928 (F := F) c arg1 harg1 arg2 harg2 arg6 harg6 arg8 harg8 arg10 harg10 x0 x1 x5 x7 xs0) := rfl

/-- The state after stretch 3. -/
theorem st0_3 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x7 : Vec F S256x256 .f32) (xs0 : Vec F S2x256x256 .f32) :
    (kernelRun0_B.sl.v1692 (F := F) c arg1 harg1 arg2 harg2 arg6 harg6 arg8 harg8 arg10 harg10 x0 x1 x5 x7 xs0) =
      st3 (kernelRun0_B.sl.v158 (F := F) c arg8 harg8 x7) (kernelRun0_B.sl.v121 (F := F) c arg1 harg1 arg2 harg2 arg6 harg6 x0 x1 x5) (kernelRun0_B.sl.r (F := F) c arg1 harg1 arg2 harg2 x0 x1) (kernelRun0_B.sl.v10 (F := F) c arg1 harg1 x0) (kernelRun0_B.sl.v1310 (F := F) c arg1 harg1 arg2 harg2 arg6 harg6 arg8 harg8 arg10 harg10 x0 x1 x5 x7 xs0) := rfl

/-- The state after stretch 4. -/
theorem st0_4 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x7 : Vec F S256x256 .f32) (xs0 : Vec F S2x256x256 .f32) :
    (kernelRun0_B.sl.v2074 (F := F) c arg1 harg1 arg2 harg2 arg6 harg6 arg8 harg8 arg10 harg10 x0 x1 x5 x7 xs0) =
      st4 (kernelRun0_B.sl.v158 (F := F) c arg8 harg8 x7) (kernelRun0_B.sl.v121 (F := F) c arg1 harg1 arg2 harg2 arg6 harg6 x0 x1 x5) (kernelRun0_B.sl.r (F := F) c arg1 harg1 arg2 harg2 x0 x1) (kernelRun0_B.sl.v10 (F := F) c arg1 harg1 x0) (kernelRun0_B.sl.v1692 (F := F) c arg1 harg1 arg2 harg2 arg6 harg6 arg8 harg8 arg10 harg10 x0 x1 x5 x7 xs0) := rfl

/-- The state after stretch 5. -/
theorem st0_5 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x7 : Vec F S256x256 .f32) (xs0 : Vec F S2x256x256 .f32) :
    (kernelRun0_B.sl.v2456 (F := F) c arg1 harg1 arg2 harg2 arg6 harg6 arg8 harg8 arg10 harg10 x0 x1 x5 x7 xs0) =
      st5 (kernelRun0_B.sl.v158 (F := F) c arg8 harg8 x7) (kernelRun0_B.sl.v121 (F := F) c arg1 harg1 arg2 harg2 arg6 harg6 x0 x1 x5) (kernelRun0_B.sl.r (F := F) c arg1 harg1 arg2 harg2 x0 x1) (kernelRun0_B.sl.v10 (F := F) c arg1 harg1 x0) (kernelRun0_B.sl.v2074 (F := F) c arg1 harg1 arg2 harg2 arg6 harg6 arg8 harg8 arg10 harg10 x0 x1 x5 x7 xs0) := rfl

/-- The state after stretch 6. -/
theorem st0_6 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x7 : Vec F S256x256 .f32) (xs0 : Vec F S2x256x256 .f32) :
    (kernelRun0_B.sl.v2838 (F := F) c arg1 harg1 arg2 harg2 arg6 harg6 arg8 harg8 arg10 harg10 x0 x1 x5 x7 xs0) =
      st6 (kernelRun0_B.sl.v158 (F := F) c arg8 harg8 x7) (kernelRun0_B.sl.v121 (F := F) c arg1 harg1 arg2 harg2 arg6 harg6 x0 x1 x5) (kernelRun0_B.sl.r (F := F) c arg1 harg1 arg2 harg2 x0 x1) (kernelRun0_B.sl.v10 (F := F) c arg1 harg1 x0) (kernelRun0_B.sl.v2456 (F := F) c arg1 harg1 arg2 harg2 arg6 harg6 arg8 harg8 arg10 harg10 x0 x1 x5 x7 xs0) := rfl

/-- The state after stretch 7. -/
theorem st0_7 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x7 : Vec F S256x256 .f32) (xs0 : Vec F S2x256x256 .f32) :
    (kernelRun0_B.sl.v3220 (F := F) c arg1 harg1 arg2 harg2 arg6 harg6 arg8 harg8 arg10 harg10 x0 x1 x5 x7 xs0) =
      st7 (kernelRun0_B.sl.v158 (F := F) c arg8 harg8 x7) (kernelRun0_B.sl.v121 (F := F) c arg1 harg1 arg2 harg2 arg6 harg6 x0 x1 x5) (kernelRun0_B.sl.r (F := F) c arg1 harg1 arg2 harg2 x0 x1) (kernelRun0_B.sl.v10 (F := F) c arg1 harg1 x0) (kernelRun0_B.sl.v2838 (F := F) c arg1 harg1 arg2 harg2 arg6 harg6 arg8 harg8 arg10 harg10 x0 x1 x5 x7 xs0) := rfl

/-- The output of stretch 0. -/
theorem out0_0 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg10 : Memref sig .tc .vmem S2x256x256 .f32) (harg10 : arg10.IsWhole) (x0 : Vec F S2x128x1280 .f32) (x1 : Vec F S1x256 .f32) (x5 : Vec F S128x128 .bf16) (x6 : Vec F S256x256 .bf16) (xs0 : Vec F S2x256x256 .f32) :
    (kernelRun0_B.sl.v538 (F := F) c arg1 harg1 arg2 harg2 arg6 harg6 arg7 harg7 arg10 harg10 x0 x1 x5 x6 xs0) =
      out0 (kernelRun0_B.sl.v156 (F := F) c arg7 harg7 x6) (kernelRun0_B.sl.v121 (F := F) c arg1 harg1 arg2 harg2 arg6 harg6 x0 x1 x5) (kernelRun0_B.sl.r_1 (F := F) c arg1 harg1 x0) (kernelRun0_B.sl.r (F := F) c arg1 harg1 arg2 harg2 x0 x1) (kernelRun0_B.sl.v10 (F := F) c arg1 harg1 x0) (kernelRun0_B.sl.v164 (F := F) c arg10 harg10 xs0) := rfl

/-- The output of stretch 1. -/
theorem out0_1 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x6 : Vec F S256x256 .bf16) (x7 : Vec F S256x256 .f32) (xs0 : Vec F S2x256x256 .f32) :
    (kernelRun0_B.sl.v920 (F := F) c arg1 harg1 arg2 harg2 arg6 harg6 arg7 harg7 arg8 harg8 arg10 harg10 x0 x1 x5 x6 x7 xs0) =
      out1 (kernelRun0_B.sl.v156 (F := F) c arg7 harg7 x6) (kernelRun0_B.sl.v121 (F := F) c arg1 harg1 arg2 harg2 arg6 harg6 x0 x1 x5) (kernelRun0_B.sl.r_1 (F := F) c arg1 harg1 x0) (kernelRun0_B.sl.r (F := F) c arg1 harg1 arg2 harg2 x0 x1) (kernelRun0_B.sl.v10 (F := F) c arg1 harg1 x0) (kernelRun0_B.sl.v546 (F := F) c arg1 harg1 arg2 harg2 arg6 harg6 arg8 harg8 arg10 harg10 x0 x1 x5 x7 xs0) := rfl

/-- The output of stretch 2. -/
theorem out0_2 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x6 : Vec F S256x256 .bf16) (x7 : Vec F S256x256 .f32) (xs0 : Vec F S2x256x256 .f32) :
    (kernelRun0_B.sl.v1302 (F := F) c arg1 harg1 arg2 harg2 arg6 harg6 arg7 harg7 arg8 harg8 arg10 harg10 x0 x1 x5 x6 x7 xs0) =
      out2 (kernelRun0_B.sl.v156 (F := F) c arg7 harg7 x6) (kernelRun0_B.sl.v121 (F := F) c arg1 harg1 arg2 harg2 arg6 harg6 x0 x1 x5) (kernelRun0_B.sl.r_1 (F := F) c arg1 harg1 x0) (kernelRun0_B.sl.r (F := F) c arg1 harg1 arg2 harg2 x0 x1) (kernelRun0_B.sl.v10 (F := F) c arg1 harg1 x0) (kernelRun0_B.sl.v928 (F := F) c arg1 harg1 arg2 harg2 arg6 harg6 arg8 harg8 arg10 harg10 x0 x1 x5 x7 xs0) := rfl

/-- The output of stretch 3. -/
theorem out0_3 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x6 : Vec F S256x256 .bf16) (x7 : Vec F S256x256 .f32) (xs0 : Vec F S2x256x256 .f32) :
    (kernelRun0_B.sl.v1684 (F := F) c arg1 harg1 arg2 harg2 arg6 harg6 arg7 harg7 arg8 harg8 arg10 harg10 x0 x1 x5 x6 x7 xs0) =
      out3 (kernelRun0_B.sl.v156 (F := F) c arg7 harg7 x6) (kernelRun0_B.sl.v121 (F := F) c arg1 harg1 arg2 harg2 arg6 harg6 x0 x1 x5) (kernelRun0_B.sl.r_1 (F := F) c arg1 harg1 x0) (kernelRun0_B.sl.r (F := F) c arg1 harg1 arg2 harg2 x0 x1) (kernelRun0_B.sl.v10 (F := F) c arg1 harg1 x0) (kernelRun0_B.sl.v1310 (F := F) c arg1 harg1 arg2 harg2 arg6 harg6 arg8 harg8 arg10 harg10 x0 x1 x5 x7 xs0) := rfl

/-- The output of stretch 4. -/
theorem out0_4 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x6 : Vec F S256x256 .bf16) (x7 : Vec F S256x256 .f32) (xs0 : Vec F S2x256x256 .f32) :
    (kernelRun0_B.sl.v2066 (F := F) c arg1 harg1 arg2 harg2 arg6 harg6 arg7 harg7 arg8 harg8 arg10 harg10 x0 x1 x5 x6 x7 xs0) =
      out4 (kernelRun0_B.sl.v156 (F := F) c arg7 harg7 x6) (kernelRun0_B.sl.v121 (F := F) c arg1 harg1 arg2 harg2 arg6 harg6 x0 x1 x5) (kernelRun0_B.sl.r_1 (F := F) c arg1 harg1 x0) (kernelRun0_B.sl.r (F := F) c arg1 harg1 arg2 harg2 x0 x1) (kernelRun0_B.sl.v10 (F := F) c arg1 harg1 x0) (kernelRun0_B.sl.v1692 (F := F) c arg1 harg1 arg2 harg2 arg6 harg6 arg8 harg8 arg10 harg10 x0 x1 x5 x7 xs0) := rfl

/-- The output of stretch 5. -/
theorem out0_5 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x6 : Vec F S256x256 .bf16) (x7 : Vec F S256x256 .f32) (xs0 : Vec F S2x256x256 .f32) :
    (kernelRun0_B.sl.v2448 (F := F) c arg1 harg1 arg2 harg2 arg6 harg6 arg7 harg7 arg8 harg8 arg10 harg10 x0 x1 x5 x6 x7 xs0) =
      out5 (kernelRun0_B.sl.v156 (F := F) c arg7 harg7 x6) (kernelRun0_B.sl.v121 (F := F) c arg1 harg1 arg2 harg2 arg6 harg6 x0 x1 x5) (kernelRun0_B.sl.r_1 (F := F) c arg1 harg1 x0) (kernelRun0_B.sl.r (F := F) c arg1 harg1 arg2 harg2 x0 x1) (kernelRun0_B.sl.v10 (F := F) c arg1 harg1 x0) (kernelRun0_B.sl.v2074 (F := F) c arg1 harg1 arg2 harg2 arg6 harg6 arg8 harg8 arg10 harg10 x0 x1 x5 x7 xs0) := rfl

/-- The output of stretch 6. -/
theorem out0_6 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x6 : Vec F S256x256 .bf16) (x7 : Vec F S256x256 .f32) (xs0 : Vec F S2x256x256 .f32) :
    (kernelRun0_B.sl.v2830 (F := F) c arg1 harg1 arg2 harg2 arg6 harg6 arg7 harg7 arg8 harg8 arg10 harg10 x0 x1 x5 x6 x7 xs0) =
      out6 (kernelRun0_B.sl.v156 (F := F) c arg7 harg7 x6) (kernelRun0_B.sl.v121 (F := F) c arg1 harg1 arg2 harg2 arg6 harg6 x0 x1 x5) (kernelRun0_B.sl.r_1 (F := F) c arg1 harg1 x0) (kernelRun0_B.sl.r (F := F) c arg1 harg1 arg2 harg2 x0 x1) (kernelRun0_B.sl.v10 (F := F) c arg1 harg1 x0) (kernelRun0_B.sl.v2456 (F := F) c arg1 harg1 arg2 harg2 arg6 harg6 arg8 harg8 arg10 harg10 x0 x1 x5 x7 xs0) := rfl

/-- The output of stretch 7. -/
theorem out0_7 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x6 : Vec F S256x256 .bf16) (x7 : Vec F S256x256 .f32) (xs0 : Vec F S2x256x256 .f32) :
    (kernelRun0_B.sl.v3212 (F := F) c arg1 harg1 arg2 harg2 arg6 harg6 arg7 harg7 arg8 harg8 arg10 harg10 x0 x1 x5 x6 x7 xs0) =
      out7 (kernelRun0_B.sl.v156 (F := F) c arg7 harg7 x6) (kernelRun0_B.sl.v121 (F := F) c arg1 harg1 arg2 harg2 arg6 harg6 x0 x1 x5) (kernelRun0_B.sl.r_1 (F := F) c arg1 harg1 x0) (kernelRun0_B.sl.r (F := F) c arg1 harg1 arg2 harg2 x0 x1) (kernelRun0_B.sl.v10 (F := F) c arg1 harg1 x0) (kernelRun0_B.sl.v2838 (F := F) c arg1 harg1 arg2 harg2 arg6 harg6 arg8 harg8 arg10 harg10 x0 x1 x5 x7 xs0) := rfl

/-- The output before the norm. -/
theorem cat0 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x6 : Vec F S256x256 .bf16) (x7 : Vec F S256x256 .f32) (xs0 : Vec F S2x256x256 .f32) :
    (kernelRun0_B.sl.v3224 (F := F) c arg1 harg1 arg2 harg2 arg6 harg6 arg7 harg7 arg8 harg8 arg10 harg10 x0 x1 x5 x6 x7 xs0) =
      (oCat (kernelRun0_B.sl.v156 (F := F) c arg7 harg7 x6) (kernelRun0_B.sl.v121 (F := F) c arg1 harg1 arg2 harg2 arg6 harg6 x0 x1 x5) (kernelRun0_B.sl.r_1 (F := F) c arg1 harg1 x0) (kernelRun0_B.sl.r (F := F) c arg1 harg1 arg2 harg2 x0 x1) (kernelRun0_B.sl.v10 (F := F) c arg1 harg1 x0) (kernelRun0_B.sl.v164 (F := F) c arg10 harg10 xs0) (kernelRun0_B.sl.v546 (F := F) c arg1 harg1 arg2 harg2 arg6 harg6 arg8 harg8 arg10 harg10 x0 x1 x5 x7 xs0) (kernelRun0_B.sl.v928 (F := F) c arg1 harg1 arg2 harg2 arg6 harg6 arg8 harg8 arg10 harg10 x0 x1 x5 x7 xs0) (kernelRun0_B.sl.v1310 (F := F) c arg1 harg1 arg2 harg2 arg6 harg6 arg8 harg8 arg10 harg10 x0 x1 x5 x7 xs0) (kernelRun0_B.sl.v1692 (F := F) c arg1 harg1 arg2 harg2 arg6 harg6 arg8 harg8 arg10 harg10 x0 x1 x5 x7 xs0) (kernelRun0_B.sl.v2074 (F := F) c arg1 harg1 arg2 harg2 arg6 harg6 arg8 harg8 arg10 harg10 x0 x1 x5 x7 xs0) (kernelRun0_B.sl.v2456 (F := F) c arg1 harg1 arg2 harg2 arg6 harg6 arg8 harg8 arg10 harg10 x0 x1 x5 x7 xs0) (kernelRun0_B.sl.v2838 (F := F) c arg1 harg1 arg2 harg2 arg6 harg6 arg8 harg8 arg10 harg10 x0 x1 x5 x7 xs0)) := rfl

/-- The output. -/
theorem fin0 (c : Dev nD) (arg1 : Memref sig .tc .vmem S2x128x1280 .f32) (harg1 : arg1.IsWhole) (arg2 : Memref sig .tc .vmem S1x256 .f32) (harg2 : arg2.IsWhole) (arg3 : Memref sig .tc .vmem S1x256 .f32) (harg3 : arg3.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x2 : Vec F S1x256 .f32) (x5 : Vec F S128x128 .bf16) (x6 : Vec F S256x256 .bf16) (x7 : Vec F S256x256 .f32) (xs0 : Vec F S2x256x256 .f32) :
    (kernelRun0_B.sl.v3245 (F := F) c arg1 harg1 arg2 harg2 arg3 harg3 arg6 harg6 arg7 harg7 arg8 harg8 arg10 harg10 x0 x1 x2 x5 x6 x7 xs0) =
      fin (kernelRun0_B.sl.v156 (F := F) c arg7 harg7 x6) (kernelRun0_B.sl.v3224 (F := F) c arg1 harg1 arg2 harg2 arg6 harg6 arg7 harg7 arg8 harg8 arg10 harg10 x0 x1 x5 x6 x7 xs0) (shapeCast S1x256 (View.readAt (Elt F) arg3.view (Rect.unit ![0, 0] S1x256.size inb_S1x256_S1x256_0_0).toLoadRect (harg3.unread x2)) shapeCasts_S1x256_S1x256) (kernelRun0_B.sl.v12 (F := F) c arg1 harg1 x0) := rfl

/-- The stored output. -/
theorem pay0 (c : Dev nD) (arg1 : Memref sig .tc .vmem S2x128x1280 .f32) (harg1 : arg1.IsWhole) (arg2 : Memref sig .tc .vmem S1x256 .f32) (harg2 : arg2.IsWhole) (arg3 : Memref sig .tc .vmem S1x256 .f32) (harg3 : arg3.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x2 : Vec F S1x256 .f32) (x5 : Vec F S128x128 .bf16) (x6 : Vec F S256x256 .bf16) (x7 : Vec F S256x256 .f32) (xs0 : Vec F S2x256x256 .f32) :
    (kernelRun0_B.sl.v3253 (F := F) c arg1 harg1 arg2 harg2 arg3 harg3 arg6 harg6 arg7 harg7 arg8 harg8 arg10 harg10 x0 x1 x2 x5 x6 x7 xs0) =
      shapeCast S1x128x256 (truncf .bf16 (kernelRun0_B.sl.v3245 (F := F) c arg1 harg1 arg2 harg2 arg3 harg3 arg6 harg6 arg7 harg7 arg8 harg8 arg10 harg10 x0 x1 x2 x5 x6 x7 xs0) bitsLt_bf16_f32) shapeCasts_S128x256_S1x128x256 := rfl

/-- The stored pool. -/
theorem pay0p (c : Dev nD) (i : grid0.Coords) (arg1 : Memref sig .tc .vmem S2x128x1280 .f32) (harg1 : arg1.IsWhole) (arg4 : Memref sig .tc .vmem S256x256 .bf16) (harg4 : arg4.IsWhole) (arg5 : Memref sig .tc .vmem S1x256 .f32) (harg5 : arg5.IsWhole) (arg11 : Memref sig .tc .vmem S2x16x256 .f32) (harg11 : arg11.IsWhole) (x0 : Vec F S2x128x1280 .f32) (x3 : Vec F S256x256 .bf16) (x4 : Vec F S1x256 .f32) (xs1 : Vec F S2x16x256 .f32) :
    (kernelRun0_B.sl.v3249 (F := F) c i arg1 harg1 arg4 harg4 arg5 harg5 arg11 harg11 x0 x3 x4 xs1) =
      shapeCast S1x128x256 (truncf .bf16 (kernelRun0_B.sl.v62 (F := F) c i arg1 harg1 arg4 harg4 arg5 harg5 arg11 harg11 x0 x3 x4 xs1) bitsLt_bf16_f32) shapeCasts_S128x256_S1x128x256 := rfl

/-- The pool. -/
theorem pool0 (c : Dev nD) (i : grid0.Coords) (arg1 : Memref sig .tc .vmem S2x128x1280 .f32) (harg1 : arg1.IsWhole) (arg4 : Memref sig .tc .vmem S256x256 .bf16) (harg4 : arg4.IsWhole) (arg5 : Memref sig .tc .vmem S1x256 .f32) (harg5 : arg5.IsWhole) (arg11 : Memref sig .tc .vmem S2x16x256 .f32) (harg11 : arg11.IsWhole) (x0 : Vec F S2x128x1280 .f32) (x3 : Vec F S256x256 .bf16) (x4 : Vec F S1x256 .f32) (xs1 : Vec F S2x16x256 .f32) :
    (kernelRun0_B.sl.v62 (F := F) c i arg1 harg1 arg4 harg4 arg5 harg5 arg11 harg11 x0 x3 x4 xs1) =
      pool (BitVec.ofNat 32 (i 0).val) (kernelRun0_B.sl.v16 (F := F) c arg11 harg11 xs1) (kernelRun0_B.sl.v4 (F := F) c arg1 harg1 x0) (shapeCast S256x256 (View.readAt (Elt F) arg4.view (Rect.unit ![0, 0] S256x256.size inb_S256x256_S256x256_0_0).toLoadRect (harg4.unread x3)) shapeCasts_S256x256_S256x256) (shapeCast S1x256 (View.readAt (Elt F) arg5.view (Rect.unit ![0, 0] S1x256.size inb_S1x256_S1x256_0_0).toLoadRect (harg5.unread x4)) shapeCasts_S1x256_S1x256) := rfl

/-- The key. -/
theorem key1 (c : Dev nD) (arg1 : Memref sig .tc .vmem S2x128x1280 .f32) (harg1 : arg1.IsWhole) (arg2 : Memref sig .tc .vmem S1x256 .f32) (harg2 : arg2.IsWhole) (x0 : Vec F S2x128x1280 .f32) (x1 : Vec F S1x256 .f32) :
    (kernelRun0_B.sl.r_3 (F := F) c arg1 harg1 arg2 harg2 x0 x1) =
      keyF (kernelRun0_B.sl.v3259 (F := F) c arg1 harg1 x0) (kernelRun0_B.sl.v68 (F := F) c arg2 harg2 x1) := rfl

/-- The query. -/
theorem qry1 (c : Dev nD) (arg1 : Memref sig .tc .vmem S2x128x1280 .f32) (harg1 : arg1.IsWhole) (x0 : Vec F S2x128x1280 .f32) :
    (kernelRun0_B.sl.r_4 (F := F) c arg1 harg1 x0) =
      queryF (kernelRun0_B.sl.v3257 (F := F) c arg1 harg1 x0) := rfl

/-- The sums of the logs. -/
theorem cum1 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (x0 : Vec F S2x128x1280 .f32) (x1 : Vec F S1x256 .f32) (x5 : Vec F S128x128 .bf16) :
    (kernelRun0_B.sl.r_5 (F := F) c arg1 harg1 arg2 harg2 arg6 harg6 x0 x1 x5) =
      cumF (shapeCast S128x128 (View.readAt (Elt F) arg6.view (Rect.unit ![0, 0] S128x128.size inb_S128x128_S128x128_0_0).toLoadRect (harg6.unread x5)) shapeCasts_S128x128_S128x128) (logF (kernelRun0_B.sl.v3259 (F := F) c arg1 harg1 x0) (kernelRun0_B.sl.v68 (F := F) c arg2 harg2 x1)) := rfl

/-- The state after stretch 0. -/
theorem st1_0 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x7 : Vec F S256x256 .f32) (xs0 : Vec F S2x256x256 .f32) :
    (kernelRun0_B.sl.v3797 (F := F) c arg1 harg1 arg2 harg2 arg6 harg6 arg8 harg8 arg10 harg10 x0 x1 x5 x7 xs0) =
      st0 (kernelRun0_B.sl.v158 (F := F) c arg8 harg8 x7) (kernelRun0_B.sl.r_5 (F := F) c arg1 harg1 arg2 harg2 arg6 harg6 x0 x1 x5) (kernelRun0_B.sl.r_3 (F := F) c arg1 harg1 arg2 harg2 x0 x1) (kernelRun0_B.sl.v3261 (F := F) c arg1 harg1 x0) (kernelRun0_B.sl.v3415 (F := F) c arg10 harg10 xs0) := rfl

/-- The state after stretch 1. -/
theorem st1_1 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x7 : Vec F S256x256 .f32) (xs0 : Vec F S2x256x256 .f32) :
    (kernelRun0_B.sl.v4179 (F := F) c arg1 harg1 arg2 harg2 arg6 harg6 arg8 harg8 arg10 harg10 x0 x1 x5 x7 xs0) =
      st1 (kernelRun0_B.sl.v158 (F := F) c arg8 harg8 x7) (kernelRun0_B.sl.r_5 (F := F) c arg1 harg1 arg2 harg2 arg6 harg6 x0 x1 x5) (kernelRun0_B.sl.r_3 (F := F) c arg1 harg1 arg2 harg2 x0 x1) (kernelRun0_B.sl.v3261 (F := F) c arg1 harg1 x0) (kernelRun0_B.sl.v3797 (F := F) c arg1 harg1 arg2 harg2 arg6 harg6 arg8 harg8 arg10 harg10 x0 x1 x5 x7 xs0) := rfl

/-- The state after stretch 2. -/
theorem st1_2 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x7 : Vec F S256x256 .f32) (xs0 : Vec F S2x256x256 .f32) :
    (kernelRun0_B.sl.v4561 (F := F) c arg1 harg1 arg2 harg2 arg6 harg6 arg8 harg8 arg10 harg10 x0 x1 x5 x7 xs0) =
      st2 (kernelRun0_B.sl.v158 (F := F) c arg8 harg8 x7) (kernelRun0_B.sl.r_5 (F := F) c arg1 harg1 arg2 harg2 arg6 harg6 x0 x1 x5) (kernelRun0_B.sl.r_3 (F := F) c arg1 harg1 arg2 harg2 x0 x1) (kernelRun0_B.sl.v3261 (F := F) c arg1 harg1 x0) (kernelRun0_B.sl.v4179 (F := F) c arg1 harg1 arg2 harg2 arg6 harg6 arg8 harg8 arg10 harg10 x0 x1 x5 x7 xs0) := rfl

/-- The state after stretch 3. -/
theorem st1_3 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x7 : Vec F S256x256 .f32) (xs0 : Vec F S2x256x256 .f32) :
    (kernelRun0_B.sl.v4943 (F := F) c arg1 harg1 arg2 harg2 arg6 harg6 arg8 harg8 arg10 harg10 x0 x1 x5 x7 xs0) =
      st3 (kernelRun0_B.sl.v158 (F := F) c arg8 harg8 x7) (kernelRun0_B.sl.r_5 (F := F) c arg1 harg1 arg2 harg2 arg6 harg6 x0 x1 x5) (kernelRun0_B.sl.r_3 (F := F) c arg1 harg1 arg2 harg2 x0 x1) (kernelRun0_B.sl.v3261 (F := F) c arg1 harg1 x0) (kernelRun0_B.sl.v4561 (F := F) c arg1 harg1 arg2 harg2 arg6 harg6 arg8 harg8 arg10 harg10 x0 x1 x5 x7 xs0) := rfl

/-- The state after stretch 4. -/
theorem st1_4 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x7 : Vec F S256x256 .f32) (xs0 : Vec F S2x256x256 .f32) :
    (kernelRun0_B.sl.v5325 (F := F) c arg1 harg1 arg2 harg2 arg6 harg6 arg8 harg8 arg10 harg10 x0 x1 x5 x7 xs0) =
      st4 (kernelRun0_B.sl.v158 (F := F) c arg8 harg8 x7) (kernelRun0_B.sl.r_5 (F := F) c arg1 harg1 arg2 harg2 arg6 harg6 x0 x1 x5) (kernelRun0_B.sl.r_3 (F := F) c arg1 harg1 arg2 harg2 x0 x1) (kernelRun0_B.sl.v3261 (F := F) c arg1 harg1 x0) (kernelRun0_B.sl.v4943 (F := F) c arg1 harg1 arg2 harg2 arg6 harg6 arg8 harg8 arg10 harg10 x0 x1 x5 x7 xs0) := rfl

/-- The state after stretch 5. -/
theorem st1_5 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x7 : Vec F S256x256 .f32) (xs0 : Vec F S2x256x256 .f32) :
    (kernelRun0_B.sl.v5707 (F := F) c arg1 harg1 arg2 harg2 arg6 harg6 arg8 harg8 arg10 harg10 x0 x1 x5 x7 xs0) =
      st5 (kernelRun0_B.sl.v158 (F := F) c arg8 harg8 x7) (kernelRun0_B.sl.r_5 (F := F) c arg1 harg1 arg2 harg2 arg6 harg6 x0 x1 x5) (kernelRun0_B.sl.r_3 (F := F) c arg1 harg1 arg2 harg2 x0 x1) (kernelRun0_B.sl.v3261 (F := F) c arg1 harg1 x0) (kernelRun0_B.sl.v5325 (F := F) c arg1 harg1 arg2 harg2 arg6 harg6 arg8 harg8 arg10 harg10 x0 x1 x5 x7 xs0) := rfl

/-- The state after stretch 6. -/
theorem st1_6 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x7 : Vec F S256x256 .f32) (xs0 : Vec F S2x256x256 .f32) :
    (kernelRun0_B.sl.v6089 (F := F) c arg1 harg1 arg2 harg2 arg6 harg6 arg8 harg8 arg10 harg10 x0 x1 x5 x7 xs0) =
      st6 (kernelRun0_B.sl.v158 (F := F) c arg8 harg8 x7) (kernelRun0_B.sl.r_5 (F := F) c arg1 harg1 arg2 harg2 arg6 harg6 x0 x1 x5) (kernelRun0_B.sl.r_3 (F := F) c arg1 harg1 arg2 harg2 x0 x1) (kernelRun0_B.sl.v3261 (F := F) c arg1 harg1 x0) (kernelRun0_B.sl.v5707 (F := F) c arg1 harg1 arg2 harg2 arg6 harg6 arg8 harg8 arg10 harg10 x0 x1 x5 x7 xs0) := rfl

/-- The output of stretch 0. -/
theorem out1_0 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg10 : Memref sig .tc .vmem S2x256x256 .f32) (harg10 : arg10.IsWhole) (x0 : Vec F S2x128x1280 .f32) (x1 : Vec F S1x256 .f32) (x5 : Vec F S128x128 .bf16) (x6 : Vec F S256x256 .bf16) (xs0 : Vec F S2x256x256 .f32) :
    (kernelRun0_B.sl.v3789 (F := F) c arg1 harg1 arg2 harg2 arg6 harg6 arg7 harg7 arg10 harg10 x0 x1 x5 x6 xs0) =
      out0 (kernelRun0_B.sl.v156 (F := F) c arg7 harg7 x6) (kernelRun0_B.sl.r_5 (F := F) c arg1 harg1 arg2 harg2 arg6 harg6 x0 x1 x5) (kernelRun0_B.sl.r_4 (F := F) c arg1 harg1 x0) (kernelRun0_B.sl.r_3 (F := F) c arg1 harg1 arg2 harg2 x0 x1) (kernelRun0_B.sl.v3261 (F := F) c arg1 harg1 x0) (kernelRun0_B.sl.v3415 (F := F) c arg10 harg10 xs0) := rfl

/-- The output of stretch 1. -/
theorem out1_1 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x6 : Vec F S256x256 .bf16) (x7 : Vec F S256x256 .f32) (xs0 : Vec F S2x256x256 .f32) :
    (kernelRun0_B.sl.v4171 (F := F) c arg1 harg1 arg2 harg2 arg6 harg6 arg7 harg7 arg8 harg8 arg10 harg10 x0 x1 x5 x6 x7 xs0) =
      out1 (kernelRun0_B.sl.v156 (F := F) c arg7 harg7 x6) (kernelRun0_B.sl.r_5 (F := F) c arg1 harg1 arg2 harg2 arg6 harg6 x0 x1 x5) (kernelRun0_B.sl.r_4 (F := F) c arg1 harg1 x0) (kernelRun0_B.sl.r_3 (F := F) c arg1 harg1 arg2 harg2 x0 x1) (kernelRun0_B.sl.v3261 (F := F) c arg1 harg1 x0) (kernelRun0_B.sl.v3797 (F := F) c arg1 harg1 arg2 harg2 arg6 harg6 arg8 harg8 arg10 harg10 x0 x1 x5 x7 xs0) := rfl

/-- The output of stretch 2. -/
theorem out1_2 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x6 : Vec F S256x256 .bf16) (x7 : Vec F S256x256 .f32) (xs0 : Vec F S2x256x256 .f32) :
    (kernelRun0_B.sl.v4553 (F := F) c arg1 harg1 arg2 harg2 arg6 harg6 arg7 harg7 arg8 harg8 arg10 harg10 x0 x1 x5 x6 x7 xs0) =
      out2 (kernelRun0_B.sl.v156 (F := F) c arg7 harg7 x6) (kernelRun0_B.sl.r_5 (F := F) c arg1 harg1 arg2 harg2 arg6 harg6 x0 x1 x5) (kernelRun0_B.sl.r_4 (F := F) c arg1 harg1 x0) (kernelRun0_B.sl.r_3 (F := F) c arg1 harg1 arg2 harg2 x0 x1) (kernelRun0_B.sl.v3261 (F := F) c arg1 harg1 x0) (kernelRun0_B.sl.v4179 (F := F) c arg1 harg1 arg2 harg2 arg6 harg6 arg8 harg8 arg10 harg10 x0 x1 x5 x7 xs0) := rfl

/-- The output of stretch 3. -/
theorem out1_3 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x6 : Vec F S256x256 .bf16) (x7 : Vec F S256x256 .f32) (xs0 : Vec F S2x256x256 .f32) :
    (kernelRun0_B.sl.v4935 (F := F) c arg1 harg1 arg2 harg2 arg6 harg6 arg7 harg7 arg8 harg8 arg10 harg10 x0 x1 x5 x6 x7 xs0) =
      out3 (kernelRun0_B.sl.v156 (F := F) c arg7 harg7 x6) (kernelRun0_B.sl.r_5 (F := F) c arg1 harg1 arg2 harg2 arg6 harg6 x0 x1 x5) (kernelRun0_B.sl.r_4 (F := F) c arg1 harg1 x0) (kernelRun0_B.sl.r_3 (F := F) c arg1 harg1 arg2 harg2 x0 x1) (kernelRun0_B.sl.v3261 (F := F) c arg1 harg1 x0) (kernelRun0_B.sl.v4561 (F := F) c arg1 harg1 arg2 harg2 arg6 harg6 arg8 harg8 arg10 harg10 x0 x1 x5 x7 xs0) := rfl

/-- The output of stretch 4. -/
theorem out1_4 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x6 : Vec F S256x256 .bf16) (x7 : Vec F S256x256 .f32) (xs0 : Vec F S2x256x256 .f32) :
    (kernelRun0_B.sl.v5317 (F := F) c arg1 harg1 arg2 harg2 arg6 harg6 arg7 harg7 arg8 harg8 arg10 harg10 x0 x1 x5 x6 x7 xs0) =
      out4 (kernelRun0_B.sl.v156 (F := F) c arg7 harg7 x6) (kernelRun0_B.sl.r_5 (F := F) c arg1 harg1 arg2 harg2 arg6 harg6 x0 x1 x5) (kernelRun0_B.sl.r_4 (F := F) c arg1 harg1 x0) (kernelRun0_B.sl.r_3 (F := F) c arg1 harg1 arg2 harg2 x0 x1) (kernelRun0_B.sl.v3261 (F := F) c arg1 harg1 x0) (kernelRun0_B.sl.v4943 (F := F) c arg1 harg1 arg2 harg2 arg6 harg6 arg8 harg8 arg10 harg10 x0 x1 x5 x7 xs0) := rfl

/-- The output of stretch 5. -/
theorem out1_5 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x6 : Vec F S256x256 .bf16) (x7 : Vec F S256x256 .f32) (xs0 : Vec F S2x256x256 .f32) :
    (kernelRun0_B.sl.v5699 (F := F) c arg1 harg1 arg2 harg2 arg6 harg6 arg7 harg7 arg8 harg8 arg10 harg10 x0 x1 x5 x6 x7 xs0) =
      out5 (kernelRun0_B.sl.v156 (F := F) c arg7 harg7 x6) (kernelRun0_B.sl.r_5 (F := F) c arg1 harg1 arg2 harg2 arg6 harg6 x0 x1 x5) (kernelRun0_B.sl.r_4 (F := F) c arg1 harg1 x0) (kernelRun0_B.sl.r_3 (F := F) c arg1 harg1 arg2 harg2 x0 x1) (kernelRun0_B.sl.v3261 (F := F) c arg1 harg1 x0) (kernelRun0_B.sl.v5325 (F := F) c arg1 harg1 arg2 harg2 arg6 harg6 arg8 harg8 arg10 harg10 x0 x1 x5 x7 xs0) := rfl

/-- The output of stretch 6. -/
theorem out1_6 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x5 : Vec F S128x128 .bf16) (x6 : Vec F S256x256 .bf16) (x7 : Vec F S256x256 .f32) (xs0 : Vec F S2x256x256 .f32) :
    (kernelRun0_B.sl.v6081 (F := F) c arg1 harg1 arg2 harg2 arg6 harg6 arg7 harg7 arg8 harg8 arg10 harg10 x0 x1 x5 x6 x7 xs0) =
      out6 (kernelRun0_B.sl.v156 (F := F) c arg7 harg7 x6) (kernelRun0_B.sl.r_5 (F := F) c arg1 harg1 arg2 harg2 arg6 harg6 x0 x1 x5) (kernelRun0_B.sl.r_4 (F := F) c arg1 harg1 x0) (kernelRun0_B.sl.r_3 (F := F) c arg1 harg1 arg2 harg2 x0 x1) (kernelRun0_B.sl.v3261 (F := F) c arg1 harg1 x0) (kernelRun0_B.sl.v5707 (F := F) c arg1 harg1 arg2 harg2 arg6 harg6 arg8 harg8 arg10 harg10 x0 x1 x5 x7 xs0) := rfl

/-- The stored output. -/
theorem pay1 (c : Dev nD) (arg1 : Memref sig .tc .vmem S2x128x1280 .f32) (harg1 : arg1.IsWhole) (arg2 : Memref sig .tc .vmem S1x256 .f32) (harg2 : arg2.IsWhole) (arg3 : Memref sig .tc .vmem S1x256 .f32) (harg3 : arg3.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (harg10 : arg10.IsWhole) (x0 : Vec F S2x128x1280 .f32) (x1 : Vec F S1x256 .f32) (x2 : Vec F S1x256 .f32) (x5 : Vec F S128x128 .bf16) (x6 : Vec F S256x256 .bf16) (x7 : Vec F S256x256 .f32) (xs0 : Vec F S2x256x256 .f32) :
    k0_pay2 (kernelRun0_B.sl.v3263 (F := F) c arg1 harg1 x0) (kernelRun0_B.sl.r_36 (F := F) c arg1 harg1 arg2 harg2 arg6 harg6 arg7 harg7 arg8 harg8 arg10 harg10 x0 x1 x5 x6 x7 xs0) (kernelRun0_B.sl.r_37 (F := F) c arg3 harg3 x2) =
      shapeCast S1x128x256 (truncf .bf16 (fin (kernelRun0_B.sl.v156 (F := F) c arg7 harg7 x6) (oCat (kernelRun0_B.sl.v156 (F := F) c arg7 harg7 x6) (kernelRun0_B.sl.r_5 (F := F) c arg1 harg1 arg2 harg2 arg6 harg6 x0 x1 x5) (kernelRun0_B.sl.r_4 (F := F) c arg1 harg1 x0) (kernelRun0_B.sl.r_3 (F := F) c arg1 harg1 arg2 harg2 x0 x1) (kernelRun0_B.sl.v3261 (F := F) c arg1 harg1 x0) (kernelRun0_B.sl.v3415 (F := F) c arg10 harg10 xs0) (kernelRun0_B.sl.v3797 (F := F) c arg1 harg1 arg2 harg2 arg6 harg6 arg8 harg8 arg10 harg10 x0 x1 x5 x7 xs0) (kernelRun0_B.sl.v4179 (F := F) c arg1 harg1 arg2 harg2 arg6 harg6 arg8 harg8 arg10 harg10 x0 x1 x5 x7 xs0) (kernelRun0_B.sl.v4561 (F := F) c arg1 harg1 arg2 harg2 arg6 harg6 arg8 harg8 arg10 harg10 x0 x1 x5 x7 xs0) (kernelRun0_B.sl.v4943 (F := F) c arg1 harg1 arg2 harg2 arg6 harg6 arg8 harg8 arg10 harg10 x0 x1 x5 x7 xs0) (kernelRun0_B.sl.v5325 (F := F) c arg1 harg1 arg2 harg2 arg6 harg6 arg8 harg8 arg10 harg10 x0 x1 x5 x7 xs0) (kernelRun0_B.sl.v5707 (F := F) c arg1 harg1 arg2 harg2 arg6 harg6 arg8 harg8 arg10 harg10 x0 x1 x5 x7 xs0) (kernelRun0_B.sl.v6089 (F := F) c arg1 harg1 arg2 harg2 arg6 harg6 arg8 harg8 arg10 harg10 x0 x1 x5 x7 xs0)) (shapeCast S1x256 (View.readAt (Elt F) arg3.view (Rect.unit ![0, 0] S1x256.size inb_S1x256_S1x256_0_0).toLoadRect (harg3.unread x2)) shapeCasts_S1x256_S1x256) (kernelRun0_B.sl.v3263 (F := F) c arg1 harg1 x0)) bitsLt_bf16_f32) shapeCasts_S128x256_S1x128x256 := rfl

/-- The pool. -/
theorem pool1 (c : Dev nD) (i : grid0.Coords) (arg1 : Memref sig .tc .vmem S2x128x1280 .f32) (harg1 : arg1.IsWhole) (arg4 : Memref sig .tc .vmem S256x256 .bf16) (harg4 : arg4.IsWhole) (arg5 : Memref sig .tc .vmem S1x256 .f32) (harg5 : arg5.IsWhole) (arg11 : Memref sig .tc .vmem S2x16x256 .f32) (harg11 : arg11.IsWhole) (x0 : Vec F S2x128x1280 .f32) (x3 : Vec F S256x256 .bf16) (x4 : Vec F S1x256 .f32) (xs1 : Vec F S2x16x256 .f32) :
    (kernelRun0_B.sl.v3313 (F := F) c i arg1 harg1 arg4 harg4 arg5 harg5 arg11 harg11 x0 x3 x4 xs1) =
      pool (BitVec.ofNat 32 (i 0).val) (kernelRun0_B.sl.v3267 (F := F) c arg11 harg11 xs1) (kernelRun0_B.sl.v3255 (F := F) c arg1 harg1 x0) (shapeCast S256x256 (View.readAt (Elt F) arg4.view (Rect.unit ![0, 0] S256x256.size inb_S256x256_S256x256_0_0).toLoadRect (harg4.unread x3)) shapeCasts_S256x256_S256x256) (shapeCast S1x256 (View.readAt (Elt F) arg5.view (Rect.unit ![0, 0] S1x256.size inb_S1x256_S1x256_0_0).toLoadRect (harg5.unread x4)) shapeCasts_S1x256_S1x256) := rfl

end Cert.KernelIdeal.MixB
-- ==== Proof.MixAtB.lean ====
/- The grid point's named values at the extended reals (case B). -/
module

public import proofs.«01_k».proof.Proof.MixStep
public import proofs.«01_k».proof.Proof.MixRunB
public import Idealize.ShloMosaic.Lib.Pipeline.ReadBack

@[expose] public section

set_option maxRecDepth 16384

noncomputable section

open Idealize.ShloMosaic Idealize.ShloMosaic.TcCoe Idealize.SL.Sem

namespace Cert.KernelIdeal.MixB

open Cert.KernelIdeal Cert.KernelIdeal.Gen Cert.KernelIdeal.Mix

/-- Column group 0 of batch 0. -/
theorem in0_0 (c : Dev nD) (arg1 : Memref sig .tc .vmem S2x128x1280 .f32) (harg1 : arg1.IsWhole) (x0 : Vec Ideal S2x128x1280 .f32) : (kernelRun0_B.sl.v4 (F := Ideal) c arg1 harg1 x0) = cut 0 0 x0 := by
  unfold kernelRun0_B.sl.v4
  rw [View.readAt_eq_ld, harg1.read_unread]
  funext j; unfold cut; pointwise

/-- Column group 1 of batch 0. -/
theorem in0_1 (c : Dev nD) (arg1 : Memref sig .tc .vmem S2x128x1280 .f32) (harg1 : arg1.IsWhole) (x0 : Vec Ideal S2x128x1280 .f32) : (kernelRun0_B.sl.v6 (F := Ideal) c arg1 harg1 x0) = cut 0 1 x0 := by
  unfold kernelRun0_B.sl.v6
  rw [View.readAt_eq_ld, harg1.read_unread]
  funext j; unfold cut; pointwise

/-- Column group 2 of batch 0. -/
theorem in0_2 (c : Dev nD) (arg1 : Memref sig .tc .vmem S2x128x1280 .f32) (harg1 : arg1.IsWhole) (x0 : Vec Ideal S2x128x1280 .f32) : (kernelRun0_B.sl.v8 (F := Ideal) c arg1 harg1 x0) = cut 0 2 x0 := by
  unfold kernelRun0_B.sl.v8
  rw [View.readAt_eq_ld, harg1.read_unread]
  funext j; unfold cut; pointwise

/-- Column group 3 of batch 0. -/
theorem in0_3 (c : Dev nD) (arg1 : Memref sig .tc .vmem S2x128x1280 .f32) (harg1 : arg1.IsWhole) (x0 : Vec Ideal S2x128x1280 .f32) : (kernelRun0_B.sl.v10 (F := Ideal) c arg1 harg1 x0) = cut 0 3 x0 := by
  unfold kernelRun0_B.sl.v10
  rw [View.readAt_eq_ld, harg1.read_unread]
  funext j; unfold cut; pointwise

/-- Column group 4 of batch 0. -/
theorem in0_4 (c : Dev nD) (arg1 : Memref sig .tc .vmem S2x128x1280 .f32) (harg1 : arg1.IsWhole) (x0 : Vec Ideal S2x128x1280 .f32) : (kernelRun0_B.sl.v12 (F := Ideal) c arg1 harg1 x0) = cut 0 4 x0 := by
  unfold kernelRun0_B.sl.v12
  rw [View.readAt_eq_ld, harg1.read_unread]
  funext j; unfold cut; pointwise

/-- Column group 0 of batch 1. -/
theorem in1_0 (c : Dev nD) (arg1 : Memref sig .tc .vmem S2x128x1280 .f32) (harg1 : arg1.IsWhole) (x0 : Vec Ideal S2x128x1280 .f32) : (kernelRun0_B.sl.v3255 (F := Ideal) c arg1 harg1 x0) = cut 1 0 x0 := by
  unfold kernelRun0_B.sl.v3255
  rw [View.readAt_eq_ld, harg1.read_unread]
  funext j; unfold cut; pointwise

/-- Column group 1 of batch 1. -/
theorem in1_1 (c : Dev nD) (arg1 : Memref sig .tc .vmem S2x128x1280 .f32) (harg1 : arg1.IsWhole) (x0 : Vec Ideal S2x128x1280 .f32) : (kernelRun0_B.sl.v3257 (F := Ideal) c arg1 harg1 x0) = cut 1 1 x0 := by
  unfold kernelRun0_B.sl.v3257
  rw [View.readAt_eq_ld, harg1.read_unread]
  funext j; unfold cut; pointwise

/-- Column group 2 of batch 1. -/
theorem in1_2 (c : Dev nD) (arg1 : Memref sig .tc .vmem S2x128x1280 .f32) (harg1 : arg1.IsWhole) (x0 : Vec Ideal S2x128x1280 .f32) : (kernelRun0_B.sl.v3259 (F := Ideal) c arg1 harg1 x0) = cut 1 2 x0 := by
  unfold kernelRun0_B.sl.v3259
  rw [View.readAt_eq_ld, harg1.read_unread]
  funext j; unfold cut; pointwise

/-- Column group 3 of batch 1. -/
theorem in1_3 (c : Dev nD) (arg1 : Memref sig .tc .vmem S2x128x1280 .f32) (harg1 : arg1.IsWhole) (x0 : Vec Ideal S2x128x1280 .f32) : (kernelRun0_B.sl.v3261 (F := Ideal) c arg1 harg1 x0) = cut 1 3 x0 := by
  unfold kernelRun0_B.sl.v3261
  rw [View.readAt_eq_ld, harg1.read_unread]
  funext j; unfold cut; pointwise

/-- Column group 4 of batch 1. -/
theorem in1_4 (c : Dev nD) (arg1 : Memref sig .tc .vmem S2x128x1280 .f32) (harg1 : arg1.IsWhole) (x0 : Vec Ideal S2x128x1280 .f32) : (kernelRun0_B.sl.v3263 (F := Ideal) c arg1 harg1 x0) = cut 1 4 x0 := by
  unfold kernelRun0_B.sl.v3263
  rw [View.readAt_eq_ld, harg1.read_unread]
  funext j; unfold cut; pointwise

/-- The lower bound. -/
theorem at_v68 (c : Dev nD) (arg2 : Memref sig .tc .vmem S1x256 .f32) (harg2 : arg2.IsWhole) (x1 : Vec Ideal S1x256 .f32) : (kernelRun0_B.sl.v68 (F := Ideal) c arg2 harg2 x1) = x1 := by
  unfold kernelRun0_B.sl.v68
  rw [View.readAt_eq_ld, harg2.read_unread]
  funext j; pointwise
  all_goals exact row_eq _ j

/-- The head matrix. -/
theorem at_v156 (c : Dev nD) (arg7 : Memref sig .tc .vmem S256x256 .bf16) (harg7 : arg7.IsWhole) (x6 : Vec Ideal S256x256 .bf16) : (kernelRun0_B.sl.v156 (F := Ideal) c arg7 harg7 x6) = x6 := by
  unfold kernelRun0_B.sl.v156
  rw [View.readAt_eq_ld, harg7.read_unread]
  funext j; pointwise
  all_goals exact row_eq _ j

/-- The head mask. -/
theorem at_v158 (c : Dev nD) (arg8 : Memref sig .tc .vmem S256x256 .f32) (harg8 : arg8.IsWhole) (x7 : Vec Ideal S256x256 .f32) : (kernelRun0_B.sl.v158 (F := Ideal) c arg8 harg8 x7) = x7 := by
  unfold kernelRun0_B.sl.v158
  rw [View.readAt_eq_ld, harg8.read_unread]
  funext j; pointwise
  all_goals exact row_eq _ j

/-- The tri, read. -/
theorem at_tri (arg6 : Memref sig .tc .vmem S128x128 .bf16) (harg6 : arg6.IsWhole) (x5 : Vec Ideal S128x128 .bf16) : shapeCast S128x128 (View.readAt (Elt Ideal) arg6.view (Rect.unit ![0, 0] S128x128.size inb_S128x128_S128x128_0_0).toLoadRect (harg6.unread x5)) shapeCasts_S128x128_S128x128 = x5 := by
  rw [View.readAt_eq_ld, harg6.read_unread]
  funext j; pointwise
  all_goals exact row_eq _ j

/-- The weight, read. -/
theorem at_weight (arg4 : Memref sig .tc .vmem S256x256 .bf16) (harg4 : arg4.IsWhole) (x3 : Vec Ideal S256x256 .bf16) : shapeCast S256x256 (View.readAt (Elt Ideal) arg4.view (Rect.unit ![0, 0] S256x256.size inb_S256x256_S256x256_0_0).toLoadRect (harg4.unread x3)) shapeCasts_S256x256_S256x256 = x3 := by
  rw [View.readAt_eq_ld, harg4.read_unread]
  funext j; pointwise
  all_goals exact row_eq _ j

/-- The scale, read. -/
theorem at_scale (arg5 : Memref sig .tc .vmem S1x256 .f32) (harg5 : arg5.IsWhole) (x4 : Vec Ideal S1x256 .f32) : shapeCast S1x256 (View.readAt (Elt Ideal) arg5.view (Rect.unit ![0, 0] S1x256.size inb_S1x256_S1x256_0_0).toLoadRect (harg5.unread x4)) shapeCasts_S1x256_S1x256 = x4 := by
  rw [View.readAt_eq_ld, harg5.read_unread]
  funext j; pointwise
  all_goals exact row_eq _ j

/-- The gain, read. -/
theorem at_gain (arg3 : Memref sig .tc .vmem S1x256 .f32) (harg3 : arg3.IsWhole) (x2 : Vec Ideal S1x256 .f32) : shapeCast S1x256 (View.readAt (Elt Ideal) arg3.view (Rect.unit ![0, 0] S1x256.size inb_S1x256_S1x256_0_0).toLoadRect (harg3.unread x2)) shapeCasts_S1x256_S1x256 = x2 := by
  rw [View.readAt_eq_ld, harg3.read_unread]
  funext j; pointwise
  all_goals exact row_eq _ j

/-- What was carried, batch 0. -/
theorem slab0 (c : Dev nD) (arg10 : Memref sig .tc .vmem S2x256x256 .f32) (harg10 : arg10.IsWhole) (xs0 : Vec Ideal S2x256x256 .f32) : (kernelRun0_B.sl.v164 (F := Ideal) c arg10 harg10 xs0) = slab 0 xs0 := by
  unfold kernelRun0_B.sl.v164
  rw [View.readAt_eq_ld, harg10.read_unread]
  funext j; unfold slab; pointwise

/-- What was carried, batch 1. -/
theorem slab1 (c : Dev nD) (arg10 : Memref sig .tc .vmem S2x256x256 .f32) (harg10 : arg10.IsWhole) (xs0 : Vec Ideal S2x256x256 .f32) : (kernelRun0_B.sl.v3415 (F := Ideal) c arg10 harg10 xs0) = slab 1 xs0 := by
  unfold kernelRun0_B.sl.v3415 kernelRun0_B.sl.v3414
  rw [View.readAt_eq_ld, harg10.read_unread]
  funext j; unfold slab; pointwise

/-- What was carried, batch 0. -/
theorem halo0 (c : Dev nD) (arg11 : Memref sig .tc .vmem S2x16x256 .f32) (harg11 : arg11.IsWhole) (xs1 : Vec Ideal S2x16x256 .f32) : (kernelRun0_B.sl.v16 (F := Ideal) c arg11 harg11 xs1) = halo 0 xs1 := by
  unfold kernelRun0_B.sl.v16
  rw [View.readAt_eq_ld, harg11.read_unread]
  funext j; unfold halo; pointwise

/-- What was carried, batch 1. -/
theorem halo1 (c : Dev nD) (arg11 : Memref sig .tc .vmem S2x16x256 .f32) (harg11 : arg11.IsWhole) (xs1 : Vec Ideal S2x16x256 .f32) : (kernelRun0_B.sl.v3267 (F := Ideal) c arg11 harg11 xs1) = halo 1 xs1 := by
  unfold kernelRun0_B.sl.v3267 kernelRun0_B.sl.v3266
  rw [View.readAt_eq_ld, harg11.read_unread]
  funext j; unfold halo; pointwise

end Cert.KernelIdeal.MixB
-- ==== Proof.MixOutB.lean ====
/- The blocks the grid point stores (case B). -/
module

public import proofs.«01_k».proof.Proof.MixAtB

@[expose] public section

set_option maxRecDepth 16384

noncomputable section

open Idealize.ShloMosaic Idealize.ShloMosaic.TcCoe Idealize.SL.Sem

namespace Cert.KernelIdeal.MixB

open Cert.KernelIdeal Cert.KernelIdeal.Gen Cert.KernelIdeal.Mix

/-- The sums of the logs, batch 0. -/
theorem C0 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (x0 : Vec Ideal S2x128x1280 .f32) (x1 : Vec Ideal S1x256 .f32) (x5 : Vec Ideal S128x128 .bf16) : (kernelRun0_B.sl.v121 (F := Ideal) c arg1 harg1 arg2 harg2 arg6 harg6 x0 x1 x5) = (cumF x5 (logF (cut 0 2 x0) x1)) := by
  rw [cum0, at_tri, in0_2, at_v68]

/-- The keys, batch 0. -/
theorem K0 (c : Dev nD) (arg1 : Memref sig .tc .vmem S2x128x1280 .f32) (harg1 : arg1.IsWhole) (arg2 : Memref sig .tc .vmem S1x256 .f32) (harg2 : arg2.IsWhole) (x0 : Vec Ideal S2x128x1280 .f32) (x1 : Vec Ideal S1x256 .f32) : (kernelRun0_B.sl.r (F := Ideal) c arg1 harg1 arg2 harg2 x0 x1) = (keyF (cut 0 2 x0) x1) := by
  rw [key0, in0_2, at_v68]

/-- The queries, batch 0. -/
theorem Q0 (c : Dev nD) (arg1 : Memref sig .tc .vmem S2x128x1280 .f32) (harg1 : arg1.IsWhole) (x0 : Vec Ideal S2x128x1280 .f32) : (kernelRun0_B.sl.r_1 (F := Ideal) c arg1 harg1 x0) = (queryF (cut 0 1 x0)) := by
  rw [qry0, in0_1]

/-- The state after stretch 0, batch 0. -/
theorem S0_0 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec Ideal S2x128x1280 .f32) (x1 : Vec Ideal S1x256 .f32) (x5 : Vec Ideal S128x128 .bf16) (x7 : Vec Ideal S256x256 .f32) (xs0 : Vec Ideal S2x256x256 .f32) : (kernelRun0_B.sl.v546 (F := Ideal) c arg1 harg1 arg2 harg2 arg6 harg6 arg8 harg8 arg10 harg10 x0 x1 x5 x7 xs0) = stAt x7 (cumF x5 (logF (cut 0 2 x0) x1)) (keyF (cut 0 2 x0) x1) (cut 0 3 x0) (slab 0 xs0) 1 := by
  rw [st0_0, at_v158, C0, K0, in0_3, slab0]
  rfl

/-- The state after stretch 1, batch 0. -/
theorem S0_1 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec Ideal S2x128x1280 .f32) (x1 : Vec Ideal S1x256 .f32) (x5 : Vec Ideal S128x128 .bf16) (x7 : Vec Ideal S256x256 .f32) (xs0 : Vec Ideal S2x256x256 .f32) : (kernelRun0_B.sl.v928 (F := Ideal) c arg1 harg1 arg2 harg2 arg6 harg6 arg8 harg8 arg10 harg10 x0 x1 x5 x7 xs0) = stAt x7 (cumF x5 (logF (cut 0 2 x0) x1)) (keyF (cut 0 2 x0) x1) (cut 0 3 x0) (slab 0 xs0) 2 := by
  rw [st0_1, at_v158, C0, K0, in0_3, S0_0]
  rfl

/-- The state after stretch 2, batch 0. -/
theorem S0_2 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec Ideal S2x128x1280 .f32) (x1 : Vec Ideal S1x256 .f32) (x5 : Vec Ideal S128x128 .bf16) (x7 : Vec Ideal S256x256 .f32) (xs0 : Vec Ideal S2x256x256 .f32) : (kernelRun0_B.sl.v1310 (F := Ideal) c arg1 harg1 arg2 harg2 arg6 harg6 arg8 harg8 arg10 harg10 x0 x1 x5 x7 xs0) = stAt x7 (cumF x5 (logF (cut 0 2 x0) x1)) (keyF (cut 0 2 x0) x1) (cut 0 3 x0) (slab 0 xs0) 3 := by
  rw [st0_2, at_v158, C0, K0, in0_3, S0_1]
  rfl

/-- The state after stretch 3, batch 0. -/
theorem S0_3 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec Ideal S2x128x1280 .f32) (x1 : Vec Ideal S1x256 .f32) (x5 : Vec Ideal S128x128 .bf16) (x7 : Vec Ideal S256x256 .f32) (xs0 : Vec Ideal S2x256x256 .f32) : (kernelRun0_B.sl.v1692 (F := Ideal) c arg1 harg1 arg2 harg2 arg6 harg6 arg8 harg8 arg10 harg10 x0 x1 x5 x7 xs0) = stAt x7 (cumF x5 (logF (cut 0 2 x0) x1)) (keyF (cut 0 2 x0) x1) (cut 0 3 x0) (slab 0 xs0) 4 := by
  rw [st0_3, at_v158, C0, K0, in0_3, S0_2]
  rfl

/-- The state after stretch 4, batch 0. -/
theorem S0_4 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec Ideal S2x128x1280 .f32) (x1 : Vec Ideal S1x256 .f32) (x5 : Vec Ideal S128x128 .bf16) (x7 : Vec Ideal S256x256 .f32) (xs0 : Vec Ideal S2x256x256 .f32) : (kernelRun0_B.sl.v2074 (F := Ideal) c arg1 harg1 arg2 harg2 arg6 harg6 arg8 harg8 arg10 harg10 x0 x1 x5 x7 xs0) = stAt x7 (cumF x5 (logF (cut 0 2 x0) x1)) (keyF (cut 0 2 x0) x1) (cut 0 3 x0) (slab 0 xs0) 5 := by
  rw [st0_4, at_v158, C0, K0, in0_3, S0_3]
  rfl

/-- The state after stretch 5, batch 0. -/
theorem S0_5 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec Ideal S2x128x1280 .f32) (x1 : Vec Ideal S1x256 .f32) (x5 : Vec Ideal S128x128 .bf16) (x7 : Vec Ideal S256x256 .f32) (xs0 : Vec Ideal S2x256x256 .f32) : (kernelRun0_B.sl.v2456 (F := Ideal) c arg1 harg1 arg2 harg2 arg6 harg6 arg8 harg8 arg10 harg10 x0 x1 x5 x7 xs0) = stAt x7 (cumF x5 (logF (cut 0 2 x0) x1)) (keyF (cut 0 2 x0) x1) (cut 0 3 x0) (slab 0 xs0) 6 := by
  rw [st0_5, at_v158, C0, K0, in0_3, S0_4]
  rfl

/-- The state after stretch 6, batch 0. -/
theorem S0_6 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec Ideal S2x128x1280 .f32) (x1 : Vec Ideal S1x256 .f32) (x5 : Vec Ideal S128x128 .bf16) (x7 : Vec Ideal S256x256 .f32) (xs0 : Vec Ideal S2x256x256 .f32) : (kernelRun0_B.sl.v2838 (F := Ideal) c arg1 harg1 arg2 harg2 arg6 harg6 arg8 harg8 arg10 harg10 x0 x1 x5 x7 xs0) = stAt x7 (cumF x5 (logF (cut 0 2 x0) x1)) (keyF (cut 0 2 x0) x1) (cut 0 3 x0) (slab 0 xs0) 7 := by
  rw [st0_6, at_v158, C0, K0, in0_3, S0_5]
  rfl

/-- The state after stretch 7, batch 0. -/
theorem S0_7 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec Ideal S2x128x1280 .f32) (x1 : Vec Ideal S1x256 .f32) (x5 : Vec Ideal S128x128 .bf16) (x7 : Vec Ideal S256x256 .f32) (xs0 : Vec Ideal S2x256x256 .f32) : (kernelRun0_B.sl.v3220 (F := Ideal) c arg1 harg1 arg2 harg2 arg6 harg6 arg8 harg8 arg10 harg10 x0 x1 x5 x7 xs0) = stAt x7 (cumF x5 (logF (cut 0 2 x0) x1)) (keyF (cut 0 2 x0) x1) (cut 0 3 x0) (slab 0 xs0) 8 := by
  rw [st0_7, at_v158, C0, K0, in0_3, S0_6]
  rfl

/-- The recurrence, batch 0. -/
theorem hg0 (c : Dev nD) (arg1 : Memref sig .tc .vmem S2x128x1280 .f32) (harg1 : arg1.IsWhole) (arg2 : Memref sig .tc .vmem S1x256 .f32) (harg2 : arg2.IsWhole) (arg3 : Memref sig .tc .vmem S1x256 .f32) (harg3 : arg3.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (harg10 : arg10.IsWhole) (x0 : Vec Ideal S2x128x1280 .f32) (x1 : Vec Ideal S1x256 .f32) (x2 : Vec Ideal S1x256 .f32) (x5 : Vec Ideal S128x128 .bf16) (x6 : Vec Ideal S256x256 .bf16) (x7 : Vec Ideal S256x256 .f32) (xs0 : Vec Ideal S2x256x256 .f32) : (kernelRun0_B.sl.v3253 (F := Ideal) c arg1 harg1 arg2 harg2 arg3 harg3 arg6 harg6 arg7 harg7 arg8 harg8 arg10 harg10 x0 x1 x2 x5 x6 x7 xs0) = shapeCast S1x128x256 (truncf .bf16 (stepHg x0 x1 x2 x5 x6 x7 xs0 0) bitsLt_bf16_f32) shapeCasts_S128x256_S1x128x256 := by
  rw [pay0, fin0, cat0, S0_6, S0_5, S0_4, S0_3, S0_2, S0_1, S0_0, slab0, C0, Q0, K0, in0_3, in0_4, at_v156, at_gain]
  rfl

/-- The pool, batch 0. -/
theorem po0 (c : Dev nD) (i : grid0.Coords) (arg1 : Memref sig .tc .vmem S2x128x1280 .f32) (harg1 : arg1.IsWhole) (arg4 : Memref sig .tc .vmem S256x256 .bf16) (harg4 : arg4.IsWhole) (arg5 : Memref sig .tc .vmem S1x256 .f32) (harg5 : arg5.IsWhole) (arg11 : Memref sig .tc .vmem S2x16x256 .f32) (harg11 : arg11.IsWhole) (x0 : Vec Ideal S2x128x1280 .f32) (x3 : Vec Ideal S256x256 .bf16) (x4 : Vec Ideal S1x256 .f32) (xs1 : Vec Ideal S2x16x256 .f32) : (kernelRun0_B.sl.v3249 (F := Ideal) c i arg1 harg1 arg4 harg4 arg5 harg5 arg11 harg11 x0 x3 x4 xs1) = shapeCast S1x128x256 (truncf .bf16 (stepPool (BitVec.ofNat 32 (i 0).val) x0 x3 x4 xs1 0) bitsLt_bf16_f32) shapeCasts_S128x256_S1x128x256 := by
  rw [pay0p, pool0, in0_0, at_weight, at_scale, halo0]
  rfl

/-- The state, batch 0. -/
theorem sn0 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec Ideal S2x128x1280 .f32) (x1 : Vec Ideal S1x256 .f32) (x5 : Vec Ideal S128x128 .bf16) (x7 : Vec Ideal S256x256 .f32) (xs0 : Vec Ideal S2x256x256 .f32) : (kernelRun0_B.sl.v3223 (F := Ideal) c arg1 harg1 arg2 harg2 arg6 harg6 arg8 harg8 arg10 harg10 x0 x1 x5 x7 xs0) = shapeCast S1x256x256 (stepSt x0 x1 x5 x7 xs0 0) shapeCasts_S256x256_S1x256x256 := by
  have e : (kernelRun0_B.sl.v3223 (F := Ideal) c arg1 harg1 arg2 harg2 arg6 harg6 arg8 harg8 arg10 harg10 x0 x1 x5 x7 xs0) = shapeCast S1x256x256 (kernelRun0_B.sl.v3220 (F := Ideal) c arg1 harg1 arg2 harg2 arg6 harg6 arg8 harg8 arg10 harg10 x0 x1 x5 x7 xs0) shapeCasts_S256x256_S1x256x256 := rfl
  rw [e, S0_7]
  rfl

/-- The last rows, batch 0. -/
theorem hl0 (c : Dev nD) (arg1 : Memref sig .tc .vmem S2x128x1280 .f32) (harg1 : arg1.IsWhole) (x0 : Vec Ideal S2x128x1280 .f32) (x : S1x16x256.Idx) : (kernelRun0_B.sl.v66 (F := Ideal) c arg1 harg1 x0) x = cut 0 0 x0 (ix2 ⟨112 + (x 1).val, by have := (x 1).isLt; simp at *; omega⟩ (x 2)) := by
  unfold kernelRun0_B.sl.v66 kernelRun0_B.sl.v63
  rw [in0_0]
  pointwise

/-- The sums of the logs, batch 1. -/
theorem C1 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (x0 : Vec Ideal S2x128x1280 .f32) (x1 : Vec Ideal S1x256 .f32) (x5 : Vec Ideal S128x128 .bf16) : (kernelRun0_B.sl.r_5 (F := Ideal) c arg1 harg1 arg2 harg2 arg6 harg6 x0 x1 x5) = (cumF x5 (logF (cut 1 2 x0) x1)) := by
  rw [cum1, at_tri, in1_2, at_v68]

/-- The keys, batch 1. -/
theorem K1 (c : Dev nD) (arg1 : Memref sig .tc .vmem S2x128x1280 .f32) (harg1 : arg1.IsWhole) (arg2 : Memref sig .tc .vmem S1x256 .f32) (harg2 : arg2.IsWhole) (x0 : Vec Ideal S2x128x1280 .f32) (x1 : Vec Ideal S1x256 .f32) : (kernelRun0_B.sl.r_3 (F := Ideal) c arg1 harg1 arg2 harg2 x0 x1) = (keyF (cut 1 2 x0) x1) := by
  rw [key1, in1_2, at_v68]

/-- The queries, batch 1. -/
theorem Q1 (c : Dev nD) (arg1 : Memref sig .tc .vmem S2x128x1280 .f32) (harg1 : arg1.IsWhole) (x0 : Vec Ideal S2x128x1280 .f32) : (kernelRun0_B.sl.r_4 (F := Ideal) c arg1 harg1 x0) = (queryF (cut 1 1 x0)) := by
  rw [qry1, in1_1]

/-- The state after stretch 0, batch 1. -/
theorem S1_0 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec Ideal S2x128x1280 .f32) (x1 : Vec Ideal S1x256 .f32) (x5 : Vec Ideal S128x128 .bf16) (x7 : Vec Ideal S256x256 .f32) (xs0 : Vec Ideal S2x256x256 .f32) : (kernelRun0_B.sl.v3797 (F := Ideal) c arg1 harg1 arg2 harg2 arg6 harg6 arg8 harg8 arg10 harg10 x0 x1 x5 x7 xs0) = stAt x7 (cumF x5 (logF (cut 1 2 x0) x1)) (keyF (cut 1 2 x0) x1) (cut 1 3 x0) (slab 1 xs0) 1 := by
  rw [st1_0, at_v158, C1, K1, in1_3, slab1]
  rfl

/-- The state after stretch 1, batch 1. -/
theorem S1_1 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec Ideal S2x128x1280 .f32) (x1 : Vec Ideal S1x256 .f32) (x5 : Vec Ideal S128x128 .bf16) (x7 : Vec Ideal S256x256 .f32) (xs0 : Vec Ideal S2x256x256 .f32) : (kernelRun0_B.sl.v4179 (F := Ideal) c arg1 harg1 arg2 harg2 arg6 harg6 arg8 harg8 arg10 harg10 x0 x1 x5 x7 xs0) = stAt x7 (cumF x5 (logF (cut 1 2 x0) x1)) (keyF (cut 1 2 x0) x1) (cut 1 3 x0) (slab 1 xs0) 2 := by
  rw [st1_1, at_v158, C1, K1, in1_3, S1_0]
  rfl

/-- The state after stretch 2, batch 1. -/
theorem S1_2 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec Ideal S2x128x1280 .f32) (x1 : Vec Ideal S1x256 .f32) (x5 : Vec Ideal S128x128 .bf16) (x7 : Vec Ideal S256x256 .f32) (xs0 : Vec Ideal S2x256x256 .f32) : (kernelRun0_B.sl.v4561 (F := Ideal) c arg1 harg1 arg2 harg2 arg6 harg6 arg8 harg8 arg10 harg10 x0 x1 x5 x7 xs0) = stAt x7 (cumF x5 (logF (cut 1 2 x0) x1)) (keyF (cut 1 2 x0) x1) (cut 1 3 x0) (slab 1 xs0) 3 := by
  rw [st1_2, at_v158, C1, K1, in1_3, S1_1]
  rfl

/-- The state after stretch 3, batch 1. -/
theorem S1_3 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec Ideal S2x128x1280 .f32) (x1 : Vec Ideal S1x256 .f32) (x5 : Vec Ideal S128x128 .bf16) (x7 : Vec Ideal S256x256 .f32) (xs0 : Vec Ideal S2x256x256 .f32) : (kernelRun0_B.sl.v4943 (F := Ideal) c arg1 harg1 arg2 harg2 arg6 harg6 arg8 harg8 arg10 harg10 x0 x1 x5 x7 xs0) = stAt x7 (cumF x5 (logF (cut 1 2 x0) x1)) (keyF (cut 1 2 x0) x1) (cut 1 3 x0) (slab 1 xs0) 4 := by
  rw [st1_3, at_v158, C1, K1, in1_3, S1_2]
  rfl

/-- The state after stretch 4, batch 1. -/
theorem S1_4 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec Ideal S2x128x1280 .f32) (x1 : Vec Ideal S1x256 .f32) (x5 : Vec Ideal S128x128 .bf16) (x7 : Vec Ideal S256x256 .f32) (xs0 : Vec Ideal S2x256x256 .f32) : (kernelRun0_B.sl.v5325 (F := Ideal) c arg1 harg1 arg2 harg2 arg6 harg6 arg8 harg8 arg10 harg10 x0 x1 x5 x7 xs0) = stAt x7 (cumF x5 (logF (cut 1 2 x0) x1)) (keyF (cut 1 2 x0) x1) (cut 1 3 x0) (slab 1 xs0) 5 := by
  rw [st1_4, at_v158, C1, K1, in1_3, S1_3]
  rfl

/-- The state after stretch 5, batch 1. -/
theorem S1_5 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec Ideal S2x128x1280 .f32) (x1 : Vec Ideal S1x256 .f32) (x5 : Vec Ideal S128x128 .bf16) (x7 : Vec Ideal S256x256 .f32) (xs0 : Vec Ideal S2x256x256 .f32) : (kernelRun0_B.sl.v5707 (F := Ideal) c arg1 harg1 arg2 harg2 arg6 harg6 arg8 harg8 arg10 harg10 x0 x1 x5 x7 xs0) = stAt x7 (cumF x5 (logF (cut 1 2 x0) x1)) (keyF (cut 1 2 x0) x1) (cut 1 3 x0) (slab 1 xs0) 6 := by
  rw [st1_5, at_v158, C1, K1, in1_3, S1_4]
  rfl

/-- The state after stretch 6, batch 1. -/
theorem S1_6 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec Ideal S2x128x1280 .f32) (x1 : Vec Ideal S1x256 .f32) (x5 : Vec Ideal S128x128 .bf16) (x7 : Vec Ideal S256x256 .f32) (xs0 : Vec Ideal S2x256x256 .f32) : (kernelRun0_B.sl.v6089 (F := Ideal) c arg1 harg1 arg2 harg2 arg6 harg6 arg8 harg8 arg10 harg10 x0 x1 x5 x7 xs0) = stAt x7 (cumF x5 (logF (cut 1 2 x0) x1)) (keyF (cut 1 2 x0) x1) (cut 1 3 x0) (slab 1 xs0) 7 := by
  rw [st1_6, at_v158, C1, K1, in1_3, S1_5]
  rfl

/-- The recurrence, batch 1. -/
theorem hg1 (c : Dev nD) (arg1 : Memref sig .tc .vmem S2x128x1280 .f32) (harg1 : arg1.IsWhole) (arg2 : Memref sig .tc .vmem S1x256 .f32) (harg2 : arg2.IsWhole) (arg3 : Memref sig .tc .vmem S1x256 .f32) (harg3 : arg3.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg10 : Memref sig .tc .vmem S2x256x256 .f32) (harg10 : arg10.IsWhole) (x0 : Vec Ideal S2x128x1280 .f32) (x1 : Vec Ideal S1x256 .f32) (x2 : Vec Ideal S1x256 .f32) (x5 : Vec Ideal S128x128 .bf16) (x6 : Vec Ideal S256x256 .bf16) (x7 : Vec Ideal S256x256 .f32) (xs0 : Vec Ideal S2x256x256 .f32) : k0_pay2 (kernelRun0_B.sl.v3263 (F := Ideal) c arg1 harg1 x0) (kernelRun0_B.sl.r_36 (F := Ideal) c arg1 harg1 arg2 harg2 arg6 harg6 arg7 harg7 arg8 harg8 arg10 harg10 x0 x1 x5 x6 x7 xs0) (kernelRun0_B.sl.r_37 (F := Ideal) c arg3 harg3 x2) = shapeCast S1x128x256 (truncf .bf16 (stepHg x0 x1 x2 x5 x6 x7 xs0 1) bitsLt_bf16_f32) shapeCasts_S128x256_S1x128x256 := by
  rw [pay1, S1_6, S1_5, S1_4, S1_3, S1_2, S1_1, S1_0, slab1, C1, Q1, K1, in1_3, in1_4, at_v156, at_gain]
  rfl

/-- The pool, batch 1. -/
theorem po1 (c : Dev nD) (i : grid0.Coords) (arg1 : Memref sig .tc .vmem S2x128x1280 .f32) (harg1 : arg1.IsWhole) (arg4 : Memref sig .tc .vmem S256x256 .bf16) (harg4 : arg4.IsWhole) (arg5 : Memref sig .tc .vmem S1x256 .f32) (harg5 : arg5.IsWhole) (arg11 : Memref sig .tc .vmem S2x16x256 .f32) (harg11 : arg11.IsWhole) (x0 : Vec Ideal S2x128x1280 .f32) (x3 : Vec Ideal S256x256 .bf16) (x4 : Vec Ideal S1x256 .f32) (xs1 : Vec Ideal S2x16x256 .f32) : k0_pay1 (kernelRun0_B.sl.v3313 (F := Ideal) c i arg1 harg1 arg4 harg4 arg5 harg5 arg11 harg11 x0 x3 x4 xs1) = shapeCast S1x128x256 (truncf .bf16 (stepPool (BitVec.ofNat 32 (i 0).val) x0 x3 x4 xs1 1) bitsLt_bf16_f32) shapeCasts_S128x256_S1x128x256 := by
  rw [pool1, in1_0, at_weight, at_scale, halo1]
  rfl

/-- The state, batch 1. -/
theorem sn1 (c : Dev nD) (arg1 : Memref sig .tc .vmem S2x128x1280 .f32) (harg1 : arg1.IsWhole) (arg2 : Memref sig .tc .vmem S1x256 .f32) (harg2 : arg2.IsWhole) (arg6 : Memref sig .tc .vmem S128x128 .bf16) (harg6 : arg6.IsWhole) (arg8 : Memref sig .tc .vmem S256x256 .f32) (harg8 : arg8.IsWhole) (arg10 : Memref sig .tc .vmem S2x256x256 .f32) (harg10 : arg10.IsWhole) (x0 : Vec Ideal S2x128x1280 .f32) (x1 : Vec Ideal S1x256 .f32) (x5 : Vec Ideal S128x128 .bf16) (x7 : Vec Ideal S256x256 .f32) (xs0 : Vec Ideal S2x256x256 .f32) : k0_pay681 (kernelRun0_B.sl.r_13 (F := Ideal) c arg1 harg1 arg2 harg2 arg6 harg6 x0 x1 x5) (kernelRun0_B.sl.v3401 (F := Ideal) c arg1 harg1 arg2 harg2 arg6 harg6 x0 x1 x5) (kernelRun0_B.sl.v3405 (F := Ideal) c arg1 harg1 x0) (kernelRun0_B.sl.v158 (F := Ideal) c arg8 harg8 x7) (kernelRun0_B.sl.v6089 (F := Ideal) c arg1 harg1 arg2 harg2 arg6 harg6 arg8 harg8 arg10 harg10 x0 x1 x5 x7 xs0) = shapeCast S1x256x256 (stepSt x0 x1 x5 x7 xs0 1) shapeCasts_S256x256_S1x256x256 := by
  have e : k0_pay681 (kernelRun0_B.sl.r_13 (F := Ideal) c arg1 harg1 arg2 harg2 arg6 harg6 x0 x1 x5) (kernelRun0_B.sl.v3401 (F := Ideal) c arg1 harg1 arg2 harg2 arg6 harg6 x0 x1 x5) (kernelRun0_B.sl.v3405 (F := Ideal) c arg1 harg1 x0) (kernelRun0_B.sl.v158 (F := Ideal) c arg8 harg8 x7) (kernelRun0_B.sl.v6089 (F := Ideal) c arg1 harg1 arg2 harg2 arg6 harg6 arg8 harg8 arg10 harg10 x0 x1 x5 x7 xs0) = shapeCast S1x256x256 (st7 (kernelRun0_B.sl.v158 (F := Ideal) c arg8 harg8 x7) (kernelRun0_B.sl.r_5 (F := Ideal) c arg1 harg1 arg2 harg2 arg6 harg6 x0 x1 x5) (kernelRun0_B.sl.r_3 (F := Ideal) c arg1 harg1 arg2 harg2 x0 x1) (kernelRun0_B.sl.v3261 (F := Ideal) c arg1 harg1 x0) (kernelRun0_B.sl.v6089 (F := Ideal) c arg1 harg1 arg2 harg2 arg6 harg6 arg8 harg8 arg10 harg10 x0 x1 x5 x7 xs0)) shapeCasts_S256x256_S1x256x256 := rfl
  rw [e, at_v158, C1, K1, in1_3, S1_6]
  rfl

/-- The last rows, batch 1. -/
theorem hl1 (c : Dev nD) (arg1 : Memref sig .tc .vmem S2x128x1280 .f32) (harg1 : arg1.IsWhole) (x0 : Vec Ideal S2x128x1280 .f32) (x : S1x16x256.Idx) : (kernelRun0_B.sl.v3317 (F := Ideal) c arg1 harg1 x0) x = cut 1 0 x0 (ix2 ⟨112 + (x 1).val, by have := (x 1).isLt; simp at *; omega⟩ (x 2)) := by
  unfold kernelRun0_B.sl.v3317 kernelRun0_B.sl.v3314
  rw [in1_0]
  pointwise

theorem out0_8  (c : Dev nD) (i : grid0.Coords) (arg1 : Memref sig .tc .vmem S2x128x1280 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg9 : Memref sig .tc .vmem S2x128x512 .bf16) (harg9 : arg9.IsWhole) (arg10 : Memref sig .tc .vmem S2x256x256 .f32) (harg10 : arg10.IsWhole) (arg11 : Memref sig .tc .vmem S2x16x256 .f32) (harg11 : arg11.IsWhole) (hc0 : ¬cond0_0 i)     (x0 : Vec Ideal S2x128x1280 .f32) (x1 : Vec Ideal S1x256 .f32) (x2 : Vec Ideal S1x256 .f32) (x3 : Vec Ideal S256x256 .bf16) (x4 : Vec Ideal S1x256 .f32) (x5 : Vec Ideal S128x128 .bf16) (x6 : Vec Ideal S256x256 .bf16) (x7 : Vec Ideal S256x256 .f32) (xs0 : Vec Ideal S2x256x256 .f32) (xs1 : Vec Ideal S2x16x256 .f32)  (y : S2x128x512.Idx) : (out0_B_8 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 xs0 xs1) y = stepOut (BitVec.ofNat 32 (i 0).val) x0 x1 x2 x3 x4 x5 x6 x7 xs0 xs1 y := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 x0 x1 x2 x3 x4 x5 x6 x7 xs0 xs1)]
  unfold kernelRun0_B
  dsimp only
  canon_tiles x h
  · rw [hg1, lift_apply]; refine hg_at _ _ _ _ _ _ _ _ ?_ ?_ ?_ <;> simp at * <;> omega
  · rw [po1, lift_apply]; refine pool_at _ _ _ _ _ _ _ _ _ _ ?_ ?_ ?_ <;> simp at * <;> omega
  · rw [hg0, lift_apply]; refine hg_at _ _ _ _ _ _ _ _ ?_ ?_ ?_ <;> simp at * <;> omega
  · rw [po0, lift_apply]; refine pool_at _ _ _ _ _ _ _ _ _ _ ?_ ?_ ?_ <;> simp at * <;> omega

theorem sout0_0  (c : Dev nD) (i : grid0.Coords) (arg1 : Memref sig .tc .vmem S2x128x1280 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg9 : Memref sig .tc .vmem S2x128x512 .bf16) (harg9 : arg9.IsWhole) (arg10 : Memref sig .tc .vmem S2x256x256 .f32) (harg10 : arg10.IsWhole) (arg11 : Memref sig .tc .vmem S2x16x256 .f32) (harg11 : arg11.IsWhole) (hc0 : ¬cond0_0 i)     (x0 : Vec Ideal S2x128x1280 .f32) (x1 : Vec Ideal S1x256 .f32) (x2 : Vec Ideal S1x256 .f32) (x3 : Vec Ideal S256x256 .bf16) (x4 : Vec Ideal S1x256 .f32) (x5 : Vec Ideal S128x128 .bf16) (x6 : Vec Ideal S256x256 .bf16) (x7 : Vec Ideal S256x256 .f32) (xs0 : Vec Ideal S2x256x256 .f32) (xs1 : Vec Ideal S2x16x256 .f32)  (y : S2x256x256.Idx) : (sout0_B_0 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 xs0 xs1) y = stepSt x0 x1 x5 x7 xs0 (y 0) (ix2 (y 1) (y 2)) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 x0 x1 x2 x3 x4 x5 x6 x7 xs0 xs1)]
  unfold kernelRun0_B
  dsimp only
  canon_tiles x h
  · rw [sn1, lift_st_apply]; refine st_at _ _ _ _ ?_ ?_ ?_ <;> simp at * <;> omega
  · rw [sn0, lift_st_apply]; refine st_at _ _ _ _ ?_ ?_ ?_ <;> simp at * <;> omega

theorem sout0_1  (c : Dev nD) (i : grid0.Coords) (arg1 : Memref sig .tc .vmem S2x128x1280 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S128x128 .bf16) (harg6 : arg6.IsWhole) (arg7 : Memref sig .tc .vmem S256x256 .bf16) (harg7 : arg7.IsWhole) (arg8 : Memref sig .tc .vmem S256x256 .f32) (harg8 : arg8.IsWhole) (arg9 : Memref sig .tc .vmem S2x128x512 .bf16) (harg9 : arg9.IsWhole) (arg10 : Memref sig .tc .vmem S2x256x256 .f32) (harg10 : arg10.IsWhole) (arg11 : Memref sig .tc .vmem S2x16x256 .f32) (harg11 : arg11.IsWhole) (hc0 : ¬cond0_0 i)     (x0 : Vec Ideal S2x128x1280 .f32) (x1 : Vec Ideal S1x256 .f32) (x2 : Vec Ideal S1x256 .f32) (x3 : Vec Ideal S256x256 .bf16) (x4 : Vec Ideal S1x256 .f32) (x5 : Vec Ideal S128x128 .bf16) (x6 : Vec Ideal S256x256 .bf16) (x7 : Vec Ideal S256x256 .f32) (xs0 : Vec Ideal S2x256x256 .f32) (xs1 : Vec Ideal S2x16x256 .f32)  (y : S2x16x256.Idx) : (sout0_B_1 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 xs0 xs1) y = cut (y 0) 0 x0 (ix2 ⟨112 + (y 1).val, by have := (y 1).isLt; simp at *; omega⟩ (y 2)) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 x0 x1 x2 x3 x4 x5 x6 x7 xs0 xs1)]
  unfold kernelRun0_B
  dsimp only
  canon_tiles x h
  · rw [hl1]; refine halo_at _ _ _ _ _ ?_ ?_ ?_ <;> simp at * <;> omega
  · rw [hl0]; refine halo_at _ _ _ _ _ ?_ ?_ ?_ <;> simp at * <;> omega

end Cert.KernelIdeal.MixB
-- ==== Proof.MixInv.lean ====
/- The carried state and the written block at every grid point. -/
module

public import proofs.«01_k».proof.Proof.MixHost4
public import proofs.«01_k».proof.Proof.MixOutA
public import proofs.«01_k».proof.Proof.MixOutB

@[expose] public section

set_option maxRecDepth 16384

noncomputable section

open Idealize.ShloMosaic Idealize.ShloMosaic.TcCoe Idealize.SL.Sem

namespace Cert.KernelIdeal.Mix

open Cert.KernelIdeal Cert.KernelIdeal.Gen Cert.KernelIdeal.Value
open Cert.ReferenceIdeal.RefValue (gs qs ks vs os us dw win hg poolOf)

variable (m : (l : Loc nD τ sig) → Buf (Elt Ideal) l)
variable {c : Dev nD} {R : Fin 2 → Fin 8192 → Fin 1280 → ℝ} {B : Fin 256 → ℝ}

/-- One entry of the result, of the arguments. -/
def entry (R : Fin 2 → Fin 8192 → Fin 1280 → ℝ) (B : Fin 256 → ℝ) (w0 : Vec Ideal S2x8192x1280 .f32) (w2 : Vec Ideal S64 .f32) (w3 : Vec Ideal S4x64x64 .f32) (w4 : Vec Ideal S256 .f32)
    (b : Fin 2) (s : Fin 8192) (n : Fin 512) : EReal :=
  if hn : n.val < 256 then poolOf R w3 w4 b s.val ⟨n.val, hn⟩
  else hg (os R B b s.val) (w2 (ix1 (⟨(n.val - 256) % 64, by omega⟩ : Fin 64))) (w0 (ix3 b s (⟨1024 + (n.val - 256), by have := n.isLt; omega⟩ : Fin 1280))) ⟨n.val - 256, by have := n.isLt; omega⟩

theorem coord : ∀ t : Fin cfg0.N, (grid0.coords t 0).val = t.val := (by decide +kernel : ∀ t : Fin grid0.N, _)

/-- The block written at a point. -/
theorem block_real (h : Given m c R B) (t : Fin cfg0.N) {s0 : Vec Ideal S2x256x256 .f32} {s1 : Vec Ideal S2x16x256 .f32} (hc : Carried R B t.val s0 s1)
    (b : Fin 2) (i : Fin 128) (n : Fin 512) :
    stepOut (BitVec.ofNat 32 (grid0.coords t 0).val) (iblk m c 0 t) (iblk m c 1 t) (iblk m c 2 t) (iblk m c 3 t) (iblk m c 4 t) (iblk m c 5 t) (iblk m c 6 t) (iblk m c 7 t) s0 s1 (ix3 b i n)
      = entry R B (m ((c : Thread nD τ).loc main_arg0)) (m ((c : Thread nD τ).loc main_arg2)) (m ((c : Thread nD τ).loc main_arg3)) (m ((c : Thread nD τ).loc main_arg4))
        b ⟨128 * t.val + i.val, by have : t.val < 64 := t.isLt; have := i.isLt; omega⟩ n := by
  have hn := n.isLt
  have I := ins m h t
  rw [coord t]
  unfold stepOut entry
  by_cases q : n.val < 256
  · rw [dif_pos q]
    refine (dif_pos (show ((ix3 b i n : S2x128x512.Idx) 2).val < 256 from q)).trans ?_
    exact stepPool_real I hc b i ⟨n.val, q⟩
  · rw [dif_neg q]
    refine (dif_neg (show ¬ ((ix3 b i n : S2x128x512.Idx) 2).val < 256 from q)).trans ?_
    refine stepHg_real I hc b i ⟨n.val - 256, by omega⟩ _ ?_
    refine Eq.trans ?_ (blk_0 m c t b i ⟨1024 + (n.val - 256), by omega⟩)
    rfl

/-- One point: what it leaves, given what it found. -/
theorem point (h : Given m c R B) (t : Fin cfg0.N) (acc : Vec Ideal S2x128x512 .bf16 × Vec Ideal S2x256x256 .f32 × Vec Ideal S2x16x256 .f32)
    (hc : t.val ≠ 0 → Carried R B t.val acc.2.1 acc.2.2) :
    Carried R B (t.val + 1) (stAt0 m c t.val t.isLt acc).2.1 (stAt0 m c t.val t.isLt acc).2.2
      ∧ ∀ (b : Fin 2) (i : Fin 128) (n : Fin 512), (stAt0 m c t.val t.isLt acc).1 (ix3 b i n)
        = entry R B (m ((c : Thread nD τ).loc main_arg0)) (m ((c : Thread nD τ).loc main_arg2)) (m ((c : Thread nD τ).loc main_arg3)) (m ((c : Thread nD τ).loc main_arg4))
          b ⟨128 * t.val + i.val, by have : t.val < 64 := t.isLt; have := i.isLt; omega⟩ n := by
  have hlt : t.val < 64 := t.isLt
  have I := ins m h t
  by_cases h0 : t.val % 64 = 0
  · have hz : t.val = 0 := by omega
    have hc' : Carried R B t.val (fun _ => (0 : EReal)) (fun _ => (0 : EReal)) := by rw [hz]; exact carried_zero
    rw [stAt0_A m c t acc h0]
    dsimp only
    refine ⟨⟨fun b n x => ?_, fun b j k => ?_⟩, fun b i n => ?_⟩
    · refine (MixA.sout0_0 ..).trans ?_
      exact stepSt_real I hc' b n x
    · refine (MixA.sout0_1 ..).trans ?_
      exact halo_real I b j k
    · refine (MixA.out0_8 ..).trans ?_
      exact block_real m h t hc' b i n
  · have hc' := hc (by omega)
    rw [stAt0_B m c t acc h0]
    dsimp only
    refine ⟨⟨fun b n x => ?_, fun b j k => ?_⟩, fun b i n => ?_⟩
    · refine (MixB.sout0_0 ..).trans ?_
      exact stepSt_real I hc' b n x
    · refine (MixB.sout0_1 ..).trans ?_
      exact halo_real I b j k
    · refine (MixB.out0_8 ..).trans ?_
      exact block_real m h t hc' b i n

/-- Every point, one after another. -/
theorem points (h : Given m c R B) (n : ℕ) (hn : n < cfg0.N) :
    Carried R B (n + 1) (outsAt0 m c n hn).2.1 (outsAt0 m c n hn).2.2
      ∧ ∀ (b : Fin 2) (i : Fin 128) (k : Fin 512), (outsAt0 m c n hn).1 (ix3 b i k)
        = entry R B (m ((c : Thread nD τ).loc main_arg0)) (m ((c : Thread nD τ).loc main_arg2)) (m ((c : Thread nD τ).loc main_arg3)) (m ((c : Thread nD τ).loc main_arg4))
          b ⟨128 * n + i.val, by have : n < 64 := hn; have := i.isLt; omega⟩ k := by
  induction n with
  | zero =>
    rw [outsAt0_zero m c hn]
    exact point m h ⟨0, hn⟩ junk0 (fun q => absurd rfl q)
  | succ n ih =>
    rw [outsAt0_succ m c n hn]
    exact point m h ⟨n + 1, hn⟩ _ (fun _ => (ih (Nat.lt_of_succ_lt hn)).1)

/-- The result array, entry by entry. -/
theorem result (h : Given m c R B) (b : Fin 2) (s : Fin 8192) (n : Fin 512) : (G8 m c : Vec Ideal S2x8192x512 .bf16) (ix3 b s n)
    = entry R B (m ((c : Thread nD τ).loc main_arg0)) (m ((c : Thread nD τ).loc main_arg2)) (m ((c : Thread nD τ).loc main_arg3)) (m ((c : Thread nD τ).loc main_arg4)) b s n := by
  have hb := b.isLt
  have hs := s.isLt
  have hn := n.isLt
  have hp : pt8Of (ix3 b s n) = s.val / 128 := by
    show 64 * (b.val / 2 - 0) + 1 * (s.val / 128 - 0) + 1 * (n.val / 512 - 0) = _
    omega
  have hl : pt8Of (ix3 b s n) < cfg0.N := by rw [hp]; exact (show s.val / 128 < 64 by omega)
  unfold G8
  refine (dif_pos hl).trans ?_
  rw [← outsAt0_sweep m c _ hl]
  have e : (loc8Of (ix3 b s n) : S2x128x512.Idx) = ix3 b ⟨s.val % 128, by omega⟩ n := by
    funext a
    match a with
    | ⟨0, _⟩ => exact Fin.ext (Nat.mod_eq_of_lt hb)
    | ⟨1, _⟩ => rfl
    | ⟨2, _⟩ => exact Fin.ext (Nat.mod_eq_of_lt hn)
  rw [e]
  refine ((points m h _ hl).2 b ⟨s.val % 128, by omega⟩ n).trans ?_
  exact congrArg (fun s => entry R B _ _ _ _ b s n) (Fin.ext (by show 128 * pt8Of (ix3 b s n) + s.val % 128 = s.val; rw [hp]; omega))

end Cert.KernelIdeal.Mix
-- ==== Proof.MixPre.lean ====
/- What the precondition says of the arguments. -/
module

public import proofs.«01_k».proof.Proof.MixHost4
public import proofs.«01_k».proof.Defs
public import proofs.«01_k».proof.Proof.Gen.Pre_finite_gates

@[expose] public section

set_option maxRecDepth 16384

noncomputable section

open Idealize.ShloMosaic Idealize.ShloMosaic.TcCoe Idealize.SL.Sem

namespace Cert.KernelIdeal.Mix

open Cert.KernelIdeal Cert.KernelIdeal.Gen

theorem lt_of (x y : EReal) (h : FloatOps.cmpf (F := Ideal) (φ := .f32) .olt x y = 1#1) : x < y := by
  by_contra q
  have : FloatOps.cmpf (F := Ideal) (φ := .f32) .olt x y = 0#1 := by
    show BitVec.ofBool (decide (x < y)) = 0#1
    rw [decide_eq_false q]
    rfl
  rw [this] at h
  exact absurd h (by decide)

theorem le_of (x y : EReal) (h : FloatOps.cmpf (F := Ideal) (φ := .f32) .ole x y = 1#1) : x ≤ y := by
  by_contra q
  have : FloatOps.cmpf (F := Ideal) (φ := .f32) .ole x y = 0#1 := by
    show BitVec.ofBool (decide (x ≤ y)) = 0#1
    rw [decide_eq_false q]
    rfl
  rw [this] at h
  exact absurd h (by decide)

theorem ge_of (x y : EReal) (h : FloatOps.cmpf (F := Ideal) (φ := .f32) .oge x y = 1#1) : y ≤ x := by
  by_contra q
  have : FloatOps.cmpf (F := Ideal) (φ := .f32) .oge x y = 0#1 := by
    show BitVec.ofBool (decide (y ≤ x)) = 0#1
    rw [decide_eq_false q]
    rfl
  rw [this] at h
  exact absurd h (by decide)

theorem c_top : Ideal.ofBits .f32 0x7F800000#32 = ⊤ := by simp [Ideal.ofBits, Ideal.ieee]
theorem c_forty : Ideal.ofBits .f32 0x42200000#32 = ((40 : ℝ) : EReal) := by
  simp [Ideal.ofBits, Ideal.ieee]; rw [← EReal.coe_mul]; norm_num
theorem c_zero : Ideal.ofBits .f32 0x00000000#32 = ((0 : ℝ) : EReal) := by simp [Ideal.ofBits, Ideal.ieee]
theorem c_one : Ideal.ofBits .f32 0x3F800000#32 = ((1 : ℝ) : EReal) := by
  simp [Ideal.ofBits, Ideal.ieee]; rw [← EReal.coe_mul]; norm_num

variable (m : (l : Loc nD τ sig) → Buf (Elt Ideal) l)

theorem real_of (x : EReal) (h : max x (-x) < ⊤) : x = ((x.toReal : ℝ) : EReal) := by
  have h1 : x ≠ ⊤ := fun e => by rw [e] at h; simp at h
  have h2 : x ≠ ⊥ := fun e => by rw [e] at h; simp at h
  exact (EReal.coe_toReal h1 h2).symm

theorem given (h : Cert.Pre_KernelIdeal_finite_gates m) (c : Dev nD) :
    Given m c (fun b s k => ((m ((c : Thread nD τ).loc main_arg0) : FVec Ideal S2x8192x1280 .f32) (ix3 b s k)).toReal)
      (fun k => ((m ((c : Thread nD τ).loc main_arg1) : FVec Ideal S256 .f32) (ix1 k)).toReal) := by
  obtain ⟨p0, p1, p2, p3⟩ := h c
  have q0 : ∀ b s k, (m ((c : Thread nD τ).loc main_arg0) : FVec Ideal S2x8192x1280 .f32) (ix3 b s k) = ((((m ((c : Thread nD τ).loc main_arg0) : FVec Ideal S2x8192x1280 .f32) (ix3 b s k)).toReal : ℝ) : EReal) := fun b s k => by
    refine real_of _ ?_
    have := lt_of _ _ (congrFun p0 (ix3 b s k))
    refine lt_of_lt_of_eq (this : _ < Ideal.ofBits .f32 0x7F800000#32) c_top
  have q2 : ∀ k, ((0 : ℝ) : EReal) ≤ (m ((c : Thread nD τ).loc main_arg1) : FVec Ideal S256 .f32) (ix1 k) := fun k =>
    le_of_eq_of_le c_zero.symm (ge_of _ _ (congrFun p2 (ix1 k)) : Ideal.ofBits .f32 0x00000000#32 ≤ _)
  have q3 : ∀ k, @LT.lt EReal _ ((m ((c : Thread nD τ).loc main_arg1) : FVec Ideal S256 .f32) (ix1 k)) ((1 : ℝ) : EReal) := fun k =>
    lt_of_lt_of_eq (lt_of _ _ (congrFun p3 (ix1 k)) : _ < Ideal.ofBits .f32 0x3F800000#32) c_one
  have q1 : ∀ k, (m ((c : Thread nD τ).loc main_arg1) : FVec Ideal S256 .f32) (ix1 k) = ((((m ((c : Thread nD τ).loc main_arg1) : FVec Ideal S256 .f32) (ix1 k)).toReal : ℝ) : EReal) := fun k =>
    (EReal.coe_toReal (fun e => by have := q3 k; rw [e] at this; simp at this) (fun e => by have := q2 k; rw [e] at this; simp at this)).symm
  refine ⟨q0, q1, fun k => ?_, fun k => ?_, fun b s k => ?_⟩
  · have := q2 k
    rw [q1 k] at this
    exact EReal.coe_le_coe_iff.1 this
  · have := q3 k
    rw [q1 k] at this
    exact EReal.coe_lt_coe_iff.1 this
  · have e := congrFun p1 (ix3 b s k)
    have : @LE.le EReal _ ((m ((c : Thread nD τ).loc main_arg0) : FVec Ideal S2x8192x1280 .f32) (ix3 b s ⟨512 + k.val, by omega⟩)) ((40 : ℝ) : EReal) := by
      rw [← c_forty]
      refine le_of _ _ (Eq.trans ?_ e)
      unfold Cert.Pre_finite_gates.fn
      pointwise
    rw [q0] at this
    exact EReal.coe_le_coe_iff.1 this

end Cert.KernelIdeal.Mix
-- ==== Proof.Mix.lean ====
/- The claim of the pool and recurrence. -/
module

public import proofs.«01_k».proof.Proof.MixInv
public import proofs.«01_k».proof.Proof.MixPre

@[expose] public section

set_option maxRecDepth 16384

noncomputable section

open Idealize.ShloMosaic Idealize.ShloMosaic.TcCoe Idealize.SL.Sem
open Idealize.ShloMosaic.Pipeline (Dat)

namespace Cert.Proof.Mix

open Cert.KernelIdeal Cert.KernelIdeal.Gen Cert.KernelIdeal.Value Cert.KernelIdeal.Mix

/-- The reference's result is the kernel's. -/
theorem same_result (m : (l : Loc nD τ sig) → Buf (Elt Ideal) l) (m' : (l : Loc Cert.ReferenceIdeal.nD Cert.ReferenceIdeal.τ Cert.ReferenceIdeal.sig) → Buf (Elt Ideal) l) (c : Dev nD)
    (hp : Cert.Pre_KernelIdeal_finite_gates m)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4)) :
    (truncf .bf16 (Cert.ReferenceIdeal.Value.res_main_v158 (StableHlo.launchContents m' c) : FVec Ideal S2x8192x512 .f32) Cert.KernelIdeal.Gen.bitsLt_bf16_f32 : FVec Ideal S2x8192x512 .bf16) = (G8 m c : FVec Ideal S2x8192x512 .bf16) := by
  have g := given m hp c
  funext y
  obtain ⟨b, s, n, rfl⟩ : ∃ b s n, y = ix3 b s n := ⟨y 0, y 1, y 2, eq_ix3 y⟩
  refine Eq.trans ?_ (result m g b s n).symm
  have a : Cert.ReferenceIdeal.RefValue.Args _ _ (StableHlo.launchContents m' c) :=
    { a0 := fun b s k => (congrFun h0 _).trans (g.a0 b s k)
      a1 := fun k => (congrFun h1 _).trans (g.a1 k)
      b0 := g.b0
      b1 := g.b1
      z := g.z }
  refine Eq.trans (b := (Cert.ReferenceIdeal.Value.res_main_v158 (StableHlo.launchContents m' c) : FVec Ideal S2x8192x512 .f32) (ix3 b s n)) (by pointwise) ?_
  refine (Cert.ReferenceIdeal.RefValue.v158_real a b s n).trans ?_
  unfold entry
  rw [← h0, ← h2, ← h3, ← h4]

theorem algebraic : Cert.algebraic_KernelIdeal_ReferenceIdeal_pre_finite_gates := by
  pair_intro
  · run_from Cert.KernelIdeal.Value.run m g
  · run_from Cert.ReferenceIdeal.Value.run m' g'
    obtain ⟨h0, h1, h2, h3, h4⟩ := hagree c
    exact same_result m m' c hpre h0 h1 h2 h3 h4

end Cert.Proof.Mix
-- ==== Proof.ProjBlk.lean ====
/- The projection call: the norm, the input projection, and the norm and rotary embedding of each head. -/
module

public import proofs.«01_k».proof.Proof.Row
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Pipeline.Value
public import Idealize.ShloMosaic.Lib.Claim
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Row

/-- A head's 64 entries, divided by their root mean square (with the small constant added) and scaled by the gain. -/
def headNorm (t gain : Fin 64 → EReal) (d : Fin 64) : EReal :=
  t d * Ideal.rsqrt (Ideal.div (∑ k, t k * t k) (Ideal.ofBits .f32 0x42800000#32) + Ideal.ofBits .f32 0x358637BD#32) * gain d

/-- The normed head's halves, turned by the angles whose cosines and sines are `c` and `s`. -/
def rope (t gain : Fin 64 → EReal) (c s : Fin 32 → EReal) (d : Fin 64) : EReal :=
  if h : d.val < 32 then headNorm t gain d * c ⟨d.val, h⟩ - headNorm t gain ⟨32 + d.val, by omega⟩ * s ⟨d.val, h⟩
  else headNorm t gain d * c ⟨d.val - 32, by omega⟩ + headNorm t gain ⟨d.val - 32, by omega⟩ * s ⟨d.val - 32, by omega⟩

/-- One entry of the projection of the normed row. -/
def col (x gain w : Fin 1024 → EReal) : EReal := ∑ l, norm x gain l * w l

end Cert.Row

namespace Cert.Kernel4Ideal.Block

open Cert.Kernel4Ideal Cert.Kernel4Ideal.Gen

/-- A head after its norm, positions last. -/
def normed {F : FTy → Type} [FloatOps F] (t : FVec F S64x512 .f32) (g : FVec F S64x1 .f32) : FVec F S64x512 .f32 :=
  mulf (mulf t (broadcastTo S64x512 (rsqrt (addf (divf (shapeCast S1x512 (multiReduction .add [0] S512 (mulf t t) 0x00000000#32 reduces_S64x512_S512 (.inl rfl) rfl) shapeCasts_S512_S1x512)
    (broadcast S1x512 (Scalar.ofBits .f32 0x42800000#32))) (broadcast S1x512 (Scalar.ofBits .f32 0x358637BD#32)))) broadcasts_S1x512_S64x512))
    (broadcastTo S64x512 g broadcasts_S64x1_S64x512)

/-- A head after its norm and its rotary embedding, positions last. -/
def head {F : FTy → Type} [FloatOps F] (t : FVec F S64x512 .f32) (g : FVec F S64x1 .f32) (c s : FVec F S32x512 .f32) : FVec F S64x512 .f32 :=
  concatenate S64x512 0 [⟨S32x512, subf (mulf (extractStridedSlice S32x512 ![0, 0] (normed t g) slices_S64x512_o0_0_S32x512) c) (mulf (extractStridedSlice S32x512 ![32, 0] (normed t g) slices_S64x512_o32_0_S32x512) s)⟩,
    ⟨S32x512, addf (mulf (extractStridedSlice S32x512 ![32, 0] (normed t g) slices_S64x512_o32_0_S32x512) c) (mulf (extractStridedSlice S32x512 ![0, 0] (normed t g) slices_S64x512_o0_0_S32x512) s)⟩] concatenates_S32x512_S32x512_S64x512_d0

/-- Two heads, one over the other. -/
def pair {F : FTy → Type} [FloatOps F] (a b : FVec F S64x512 .f32) (g : FVec F S64x1 .f32) (c s : FVec F S32x512 .f32) : FVec F S128x512 .f32 :=
  concatenate S128x512 0 [⟨S64x512, head a g c s⟩, ⟨S64x512, head b g c s⟩] concatenates_S64x512_S64x512_S128x512_d0

/-- The normed head at one entry. -/
theorem normed_apply (t : FVec Ideal S64x512 .f32) (g : FVec Ideal S64x1 .f32) (j : S64x512.Idx) :
    normed t g j = Row.headNorm (fun d => t (ix2 d (j 1))) (fun d => g (ix2 d 0)) (j 0) := by
  unfold normed Row.headNorm
  pointwise

/-- The head at one entry. -/
theorem head_apply (t : FVec Ideal S64x512 .f32) (g : FVec Ideal S64x1 .f32) (c s : FVec Ideal S32x512 .f32) (j : S64x512.Idx) :
    head t g c s j = Row.rope (fun d => t (ix2 d (j 1))) (fun d => g (ix2 d 0)) (fun d => c (ix2 d (j 1))) (fun d => s (ix2 d (j 1))) (j 0) := by
  have e : ∀ i, normed t g i = _ := normed_apply t g
  unfold head Row.rope
  generalize normed t g = n at e
  pointwise
  simp only [e]
  by_cases h : (j 0).val < 32
  · simp only [dif_pos h]
    pointwise
  · simp only [dif_neg h]
    have hlt : (j 0).val < 64 := (j 0).isLt
    have hj : (⟨32 + ((j 0).val - 32), by omega⟩ : Fin 64) = j 0 := Fin.ext (by simp only; omega)
    pointwise
    rw [hj]

/-- Two heads at one entry: the entry's own head, turned. -/
theorem pair_apply (a b : FVec Ideal S64x512 .f32) (g : FVec Ideal S64x1 .f32) (c s : FVec Ideal S32x512 .f32) (T : Fin 2 → Fin 64 → Fin 512 → EReal)
    (ha : ∀ d k, a (ix2 d k) = T 0 d k) (hb : ∀ d k, b (ix2 d k) = T 1 d k) (j : S128x512.Idx) :
    pair a b g c s j = Row.rope (fun d => T ⟨(j 0).val / 64, by have := (j 0).isLt; simp at this; omega⟩ d (j 1)) (fun d => g (ix2 d 0)) (fun d => c (ix2 d (j 1))) (fun d => s (ix2 d (j 1)))
      ⟨(j 0).val % 64, by omega⟩ := by
  have h1 : ∀ i, head a g c s i = Row.rope (fun d => T 0 d (i 1)) (fun d => g (ix2 d 0)) (fun d => c (ix2 d (i 1))) (fun d => s (ix2 d (i 1))) (i 0) := fun i => by
    rw [head_apply]
    congr 1
    funext d
    exact ha d _
  have h2 : ∀ i, head b g c s i = Row.rope (fun d => T 1 d (i 1)) (fun d => g (ix2 d 0)) (fun d => c (ix2 d (i 1))) (fun d => s (ix2 d (i 1))) (i 0) := fun i => by
    rw [head_apply]
    congr 1
    funext d
    exact hb d _
  unfold pair
  generalize head a g c s = ya at h1
  generalize head b g c s = yb at h2
  have hlt : (j 0).val < 128 := (j 0).isLt
  pointwise
  simp only [h1, h2]
  by_cases h : (j 0).val < 64
  · rw [dif_pos h]
    have e1 : (⟨(j 0).val / 64, by omega⟩ : Fin 2) = 0 := Fin.ext (by simp only [Fin.val_zero]; omega)
    have e2 : (⟨(j 0).val % 64, by omega⟩ : Fin 64) = ⟨(j 0).val, h⟩ := Fin.ext (by simp only; omega)
    rw [e1, e2]
    rfl
  · rw [dif_neg h]
    have e1 : (⟨(j 0).val / 64, by omega⟩ : Fin 2) = 1 := Fin.ext (by simp only [Fin.val_one]; omega)
    have e2 : (⟨(j 0).val % 64, by omega⟩ : Fin 64) = ⟨(j 0).val - 64, by omega⟩ := Fin.ext (by simp only; omega)
    rw [e1, e2]
    rfl

theorem pay65_eq {F : FTy → Type} [FloatOps F] (x0 : Vec F S1x512x1024 .f32) (x1 : Vec F S1x1024 .f32) (x2 : Vec F S1536x1024 .bf16) (x3 : Vec F S1024x1280 .bf16) (x4 x5 : Vec F S64x1 .f32) (x6 x7 : Vec F S32x512 .f32) :
    k0_pay65 x0 x1 x2 x3 x4 x5 x6 x7 = pair (extractStridedSlice S64x512 ![0, 0] (k0_pay62 x0 x1 x2 x3 x4 x5 x6 x7) slices_S1536x512_o0_0_S64x512)
      (extractStridedSlice S64x512 ![64, 0] (k0_pay62 x0 x1 x2 x3 x4 x5 x6 x7) slices_S1536x512_o64_0_S64x512) (k0_pay8 (View.ld x4 r0_6)) (k0_pay5 (View.ld x6 r0_5)) (k0_pay6 (View.ld x7 r0_5)) := rfl

/-- The four pairs of query heads. -/
def qpair {F : FTy → Type} [FloatOps F] (Q : FVec F S1536x512 .f32) (g : FVec F S64x1 .f32) (c s : FVec F S32x512 .f32) : Fin 4 → FVec F S128x512 .f32 :=
  ![pair (extractStridedSlice S64x512 ![0, 0] Q slices_S1536x512_o0_0_S64x512) (extractStridedSlice S64x512 ![64, 0] Q slices_S1536x512_o64_0_S64x512) g c s,
    pair (extractStridedSlice S64x512 ![128, 0] Q slices_S1536x512_o128_0_S64x512) (extractStridedSlice S64x512 ![192, 0] Q slices_S1536x512_o192_0_S64x512) g c s,
    pair (extractStridedSlice S64x512 ![256, 0] Q slices_S1536x512_o256_0_S64x512) (extractStridedSlice S64x512 ![320, 0] Q slices_S1536x512_o320_0_S64x512) g c s,
    pair (extractStridedSlice S64x512 ![384, 0] Q slices_S1536x512_o384_0_S64x512) (extractStridedSlice S64x512 ![448, 0] Q slices_S1536x512_o448_0_S64x512) g c s]

/-- The four pairs of key heads. -/
def kpair {F : FTy → Type} [FloatOps F] (Q : FVec F S1536x512 .f32) (g : FVec F S64x1 .f32) (c s : FVec F S32x512 .f32) : Fin 4 → FVec F S128x512 .f32 :=
  ![pair (extractStridedSlice S64x512 ![512, 0] Q slices_S1536x512_o512_0_S64x512) (extractStridedSlice S64x512 ![576, 0] Q slices_S1536x512_o576_0_S64x512) g c s,
    pair (extractStridedSlice S64x512 ![640, 0] Q slices_S1536x512_o640_0_S64x512) (extractStridedSlice S64x512 ![704, 0] Q slices_S1536x512_o704_0_S64x512) g c s,
    pair (extractStridedSlice S64x512 ![768, 0] Q slices_S1536x512_o768_0_S64x512) (extractStridedSlice S64x512 ![832, 0] Q slices_S1536x512_o832_0_S64x512) g c s,
    pair (extractStridedSlice S64x512 ![896, 0] Q slices_S1536x512_o896_0_S64x512) (extractStridedSlice S64x512 ![960, 0] Q slices_S1536x512_o960_0_S64x512) g c s]

/-- Half of a pair's positions as one block of 256. -/
def lo {F : FTy → Type} (φ : FTy) (v : FVec F S128x512 φ) : FVec F S1x1x1x128x256 φ :=
  shapeCast S1x1x1x128x256 (extractStridedSlice S128x256 ![0, 0] v slices_S128x512_o0_0_S128x256) shapeCasts_S128x256_S1x1x1x128x256

/-- The other half. -/
def hi {F : FTy → Type} (φ : FTy) (v : FVec F S128x512 φ) : FVec F S1x1x1x128x256 φ :=
  shapeCast S1x1x1x128x256 (extractStridedSlice S128x256 ![0, 256] v slices_S128x512_o0_256_S128x256) shapeCasts_S128x256_S1x1x1x128x256

theorem out8_eq {F : FTy → Type} [FloatOps F] (x0 : Vec F S1x512x1024 .f32) (x1 : Vec F S1x1024 .f32) (x2 : Vec F S1536x1024 .bf16) (x3 : Vec F S1024x1280 .bf16) (x4 x5 : Vec F S64x1 .f32) (x6 x7 : Vec F S32x512 .f32) :
    out0_8 x0 x1 x2 x3 x4 x5 x6 x7 =
      (let q := qpair (k0_pay62 x0 x1 x2 x3 x4 x5 x6 x7) (k0_pay8 (View.ld x4 r0_6)) (k0_pay5 (View.ld x6 r0_5)) (k0_pay6 (View.ld x7 r0_5))
      View.canon [⟨r0_18, hi .f32 (q 3)⟩, ⟨r0_17, lo .f32 (q 3)⟩, ⟨r0_15, hi .f32 (q 2)⟩, ⟨r0_14, lo .f32 (q 2)⟩, ⟨r0_12, hi .f32 (q 1)⟩, ⟨r0_11, lo .f32 (q 1)⟩, ⟨r0_9, hi .f32 (q 0)⟩, ⟨r0_8, lo .f32 (q 0)⟩]) := rfl

/-- A pair of key heads, transposed back, positions first. -/
def tr {F : FTy → Type} [FloatOps F] (v : FVec F S128x512 .f32) : FVec F S1x512x128 .bf16 :=
  shapeCast S1x512x128 (truncf .bf16 (transpose S512x128 [1, 0] v transposes_S128x512_p1_0_S512x128) bitsLt_bf16_f32) shapeCasts_S512x128_S1x512x128

theorem out9_eq {F : FTy → Type} [FloatOps F] (x0 : Vec F S1x512x1024 .f32) (x1 : Vec F S1x1024 .f32) (x2 : Vec F S1536x1024 .bf16) (x3 : Vec F S1024x1280 .bf16) (x4 x5 : Vec F S64x1 .f32) (x6 x7 : Vec F S32x512 .f32) :
    out0_9 x0 x1 x2 x3 x4 x5 x6 x7 =
      (let q := kpair (k0_pay62 x0 x1 x2 x3 x4 x5 x6 x7) (k0_pay8 (View.ld x5 r0_6)) (k0_pay5 (View.ld x6 r0_5)) (k0_pay6 (View.ld x7 r0_5))
      View.canon [⟨r0_16, tr (q 3)⟩, ⟨r0_13, tr (q 2)⟩, ⟨r0_10, tr (q 1)⟩, ⟨r0_7, tr (q 0)⟩]) := rfl

/-- Two value heads. -/
def vpair {F : FTy → Type} [FloatOps F] (Q : FVec F S1536x512 .f32) : Fin 4 → FVec F S128x512 .bf16 :=
  ![truncf .bf16 (extractStridedSlice S128x512 ![1024, 0] Q slices_S1536x512_o1024_0_S128x512) bitsLt_bf16_f32,
    truncf .bf16 (extractStridedSlice S128x512 ![1152, 0] Q slices_S1536x512_o1152_0_S128x512) bitsLt_bf16_f32,
    truncf .bf16 (extractStridedSlice S128x512 ![1280, 0] Q slices_S1536x512_o1280_0_S128x512) bitsLt_bf16_f32,
    truncf .bf16 (extractStridedSlice S128x512 ![1408, 0] Q slices_S1536x512_o1408_0_S128x512) bitsLt_bf16_f32]

theorem out10_eq {F : FTy → Type} [FloatOps F] (x0 : Vec F S1x512x1024 .f32) (x1 : Vec F S1x1024 .f32) (x2 : Vec F S1536x1024 .bf16) (x3 : Vec F S1024x1280 .bf16) (x4 x5 : Vec F S64x1 .f32) (x6 x7 : Vec F S32x512 .f32) :
    out0_10 x0 x1 x2 x3 x4 x5 x6 x7 =
      (let q := vpair (k0_pay62 x0 x1 x2 x3 x4 x5 x6 x7)
      View.canon [⟨r0_18, hi .bf16 (q 3)⟩, ⟨r0_17, lo .bf16 (q 3)⟩, ⟨r0_15, hi .bf16 (q 2)⟩, ⟨r0_14, lo .bf16 (q 2)⟩, ⟨r0_12, hi .bf16 (q 1)⟩, ⟨r0_11, lo .bf16 (q 1)⟩, ⟨r0_9, hi .bf16 (q 0)⟩, ⟨r0_8, lo .bf16 (q 0)⟩]) := rfl

/-- An entry of a query pair. -/
theorem qpair_apply (Q : FVec Ideal S1536x512 .f32) (g : FVec Ideal S64x1 .f32) (c s : FVec Ideal S32x512 .f32) (p : Fin 4) (r : Fin 128) (k : Fin 512) :
    qpair Q g c s p (ix2 r k) = Row.rope (fun d => Q (ix2 ⟨0 + (p.val * 2 + r.val / 64) * 64 + d.val, by omega⟩ k)) (fun d => g (ix2 d 0)) (fun d => c (ix2 d k)) (fun d => s (ix2 d k)) ⟨r.val % 64, by omega⟩ := by
  fin_cases p
  · refine (pair_apply _ _ g c s (fun e d k => Q (ix2 ⟨0 + (0 * 2 + e.val) * 64 + d.val, by omega⟩ k)) (fun d k => ?_) (fun d k => ?_) (ix2 r k)).trans rfl
    · pointwise
    · pointwise
  · refine (pair_apply _ _ g c s (fun e d k => Q (ix2 ⟨0 + (1 * 2 + e.val) * 64 + d.val, by omega⟩ k)) (fun d k => ?_) (fun d k => ?_) (ix2 r k)).trans rfl
    · pointwise
    · pointwise
  · refine (pair_apply _ _ g c s (fun e d k => Q (ix2 ⟨0 + (2 * 2 + e.val) * 64 + d.val, by omega⟩ k)) (fun d k => ?_) (fun d k => ?_) (ix2 r k)).trans rfl
    · pointwise
    · pointwise
  · refine (pair_apply _ _ g c s (fun e d k => Q (ix2 ⟨0 + (3 * 2 + e.val) * 64 + d.val, by omega⟩ k)) (fun d k => ?_) (fun d k => ?_) (ix2 r k)).trans rfl
    · pointwise
    · pointwise

/-- An entry of a key pair. -/
theorem kpair_apply (Q : FVec Ideal S1536x512 .f32) (g : FVec Ideal S64x1 .f32) (c s : FVec Ideal S32x512 .f32) (p : Fin 4) (r : Fin 128) (k : Fin 512) :
    kpair Q g c s p (ix2 r k) = Row.rope (fun d => Q (ix2 ⟨512 + (p.val * 2 + r.val / 64) * 64 + d.val, by omega⟩ k)) (fun d => g (ix2 d 0)) (fun d => c (ix2 d k)) (fun d => s (ix2 d k)) ⟨r.val % 64, by omega⟩ := by
  fin_cases p
  · refine (pair_apply _ _ g c s (fun e d k => Q (ix2 ⟨512 + (0 * 2 + e.val) * 64 + d.val, by omega⟩ k)) (fun d k => ?_) (fun d k => ?_) (ix2 r k)).trans rfl
    · pointwise
    · pointwise
  · refine (pair_apply _ _ g c s (fun e d k => Q (ix2 ⟨512 + (1 * 2 + e.val) * 64 + d.val, by omega⟩ k)) (fun d k => ?_) (fun d k => ?_) (ix2 r k)).trans rfl
    · pointwise
    · pointwise
  · refine (pair_apply _ _ g c s (fun e d k => Q (ix2 ⟨512 + (2 * 2 + e.val) * 64 + d.val, by omega⟩ k)) (fun d k => ?_) (fun d k => ?_) (ix2 r k)).trans rfl
    · pointwise
    · pointwise
  · refine (pair_apply _ _ g c s (fun e d k => Q (ix2 ⟨512 + (3 * 2 + e.val) * 64 + d.val, by omega⟩ k)) (fun d k => ?_) (fun d k => ?_) (ix2 r k)).trans rfl
    · pointwise
    · pointwise

/-- An entry of a value pair. -/
theorem vpair_apply (Q : FVec Ideal S1536x512 .f32) (p : Fin 4) (r : Fin 128) (k : Fin 512) :
    vpair Q p (ix2 r k) = Q (ix2 ⟨1024 + p.val * 128 + r.val, by omega⟩ k) := by
  fin_cases p <;> (unfold vpair; simp only []; pointwise)

theorem lo_apply (φ : FTy) (v : FVec Ideal S128x512 φ) (x : S1x1x1x128x256.Idx) : lo φ v x = v (ix2 (x 3) ⟨(x 4).val, by have := (x 4).isLt; simp at this; omega⟩) := by
  unfold lo; pointwise

theorem hi_apply (φ : FTy) (v : FVec Ideal S128x512 φ) (x : S1x1x1x128x256.Idx) : hi φ v x = v (ix2 (x 3) ⟨256 + (x 4).val, by have := (x 4).isLt; simp at this; omega⟩) := by
  unfold hi; pointwise

theorem tr_apply (v : FVec Ideal S128x512 .f32) (x : S1x512x128.Idx) : tr v x = v (ix2 (x 2) (x 1)) := by
  unfold tr; pointwise

theorem at_congr {φ : FTy} (q : Fin 4 → FVec Ideal S128x512 φ) {p p' : Fin 4} {r r' : Fin 128} {k k' : Fin 512} (hp : p.val = p'.val) (hr : r.val = r'.val) (hk : k.val = k'.val) :
    q p (ix2 r k) = q p' (ix2 r' k') := by
  obtain rfl := Fin.ext hp
  obtain rfl := Fin.ext hr
  obtain rfl := Fin.ext hk
  rfl

/-- The eight blocks of a result in blocks. -/
theorem canon_q (q : Fin 4 → FVec Ideal S128x512 .f32) (y : S1x4x2x128x256.Idx) :
    (View.canon [⟨r0_18, hi .f32 (q 3)⟩, ⟨r0_17, lo .f32 (q 3)⟩, ⟨r0_15, hi .f32 (q 2)⟩, ⟨r0_14, lo .f32 (q 2)⟩, ⟨r0_12, hi .f32 (q 1)⟩, ⟨r0_11, lo .f32 (q 1)⟩, ⟨r0_9, hi .f32 (q 0)⟩, ⟨r0_8, lo .f32 (q 0)⟩] : Vec Ideal S1x4x2x128x256 .f32) y
      = q (y 1) (ix2 (y 3) ⟨(y 2).val * 256 + (y 4).val, by have := (y 2).isLt; have := (y 4).isLt; simp at *; omega⟩) := by
  canon_tiles x h
  all_goals (first | rw [hi_apply] | rw [lo_apply])
  all_goals (refine at_congr q ?_ ?_ ?_ <;> first | omega | (simp only [Fin.val_zero, Fin.val_one, Fin.val_two, Fin.isValue] <;> omega))

/-- The eight blocks of a result in blocks. -/
theorem canon_v (q : Fin 4 → FVec Ideal S128x512 .bf16) (y : S1x4x2x128x256.Idx) :
    (View.canon [⟨r0_18, hi .bf16 (q 3)⟩, ⟨r0_17, lo .bf16 (q 3)⟩, ⟨r0_15, hi .bf16 (q 2)⟩, ⟨r0_14, lo .bf16 (q 2)⟩, ⟨r0_12, hi .bf16 (q 1)⟩, ⟨r0_11, lo .bf16 (q 1)⟩, ⟨r0_9, hi .bf16 (q 0)⟩, ⟨r0_8, lo .bf16 (q 0)⟩] : Vec Ideal S1x4x2x128x256 .bf16) y
      = q (y 1) (ix2 (y 3) ⟨(y 2).val * 256 + (y 4).val, by have := (y 2).isLt; have := (y 4).isLt; simp at *; omega⟩) := by
  canon_tiles x h
  all_goals (first | rw [hi_apply] | rw [lo_apply])
  all_goals (refine at_congr q ?_ ?_ ?_ <;> first | omega | (simp only [Fin.val_zero, Fin.val_one, Fin.val_two, Fin.isValue] <;> omega))

theorem canon_k (q : Fin 4 → FVec Ideal S128x512 .f32) (y : S1x512x512.Idx) :
    (View.canon [⟨r0_16, tr (q 3)⟩, ⟨r0_13, tr (q 2)⟩, ⟨r0_10, tr (q 1)⟩, ⟨r0_7, tr (q 0)⟩] : Vec Ideal S1x512x512 .bf16) y
      = q ⟨(y 2).val / 128, by have := (y 2).isLt; simp at *; omega⟩ (ix2 ⟨(y 2).val % 128, by omega⟩ (y 1)) := by
  canon_tiles x h
  all_goals (rw [tr_apply]; refine at_congr q ?_ ?_ ?_ <;> first | omega | (simp only [Fin.val_zero, Fin.val_one, Fin.val_two, Fin.isValue] <;> omega))

/-- A row of the first product at one position. -/
theorem Q_apply (x0 : Vec Ideal S1x512x1024 .f32) (x1 : Vec Ideal S1x1024 .f32) (x2 : Vec Ideal S1536x1024 .bf16) (x3 : Vec Ideal S1024x1280 .bf16) (x4 x5 : Vec Ideal S64x1 .f32) (x6 x7 : Vec Ideal S32x512 .f32) (n : Fin 1536) (k : Fin 512) :
    k0_pay62 x0 x1 x2 x3 x4 x5 x6 x7 (ix2 n k) = Row.col (fun l => x0 (ix3 0 k l)) (fun l => x1 (ix2 0 l)) (fun l => x2 (ix2 n l)) := by
  unfold k0_pay62 k0_pay4 k0_pay2 Row.col Row.norm
  pointwise
  exact Finset.sum_congr rfl fun l _ => mul_comm _ _

/-- The first result's block at one entry. -/
theorem out8_apply (x0 : Vec Ideal S1x512x1024 .f32) (x1 : Vec Ideal S1x1024 .f32) (x2 : Vec Ideal S1536x1024 .bf16) (x3 : Vec Ideal S1024x1280 .bf16) (x4 x5 : Vec Ideal S64x1 .f32) (x6 x7 : Vec Ideal S32x512 .f32) (y : S1x4x2x128x256.Idx) :
    out0_8 x0 x1 x2 x3 x4 x5 x6 x7 y = Row.rope (fun d => Row.col (fun l => x0 (ix3 0 ⟨(y 2).val * 256 + (y 4).val, by have := (y 2).isLt; have := (y 4).isLt; simp at *; omega⟩ l)) (fun l => x1 (ix2 0 l)) (fun l => x2 (ix2 ⟨0 + ((y 1).val * 2 + (y 3).val / 64) * 64 + d.val, by have := (y 1).isLt; have := (y 3).isLt; simp at *; omega⟩ l)))
      (fun d => x4 (ix2 d 0)) (fun d => x6 (ix2 d ⟨(y 2).val * 256 + (y 4).val, by have := (y 2).isLt; have := (y 4).isLt; simp at *; omega⟩)) (fun d => x7 (ix2 d ⟨(y 2).val * 256 + (y 4).val, by have := (y 2).isLt; have := (y 4).isLt; simp at *; omega⟩)) ⟨(y 3).val % 64, by omega⟩ := by
  rw [out8_eq]
  refine (canon_q _ y).trans ((qpair_apply ..).trans ?_)
  congr 1
  · funext d
    exact Q_apply ..
  · funext d
    unfold k0_pay8
    pointwise
  · funext d
    unfold k0_pay5
    pointwise
  · funext d
    unfold k0_pay6
    pointwise

/-- The second result's block at one entry. -/
theorem out9_apply (x0 : Vec Ideal S1x512x1024 .f32) (x1 : Vec Ideal S1x1024 .f32) (x2 : Vec Ideal S1536x1024 .bf16) (x3 : Vec Ideal S1024x1280 .bf16) (x4 x5 : Vec Ideal S64x1 .f32) (x6 x7 : Vec Ideal S32x512 .f32) (y : S1x512x512.Idx) :
    out0_9 x0 x1 x2 x3 x4 x5 x6 x7 y = Row.rope (fun d => Row.col (fun l => x0 (ix3 0 (y 1) l)) (fun l => x1 (ix2 0 l)) (fun l => x2 (ix2 ⟨512 + ((y 2).val / 128 * 2 + (y 2).val % 128 / 64) * 64 + d.val, by have := (y 2).isLt; simp at *; omega⟩ l)))
      (fun d => x5 (ix2 d 0)) (fun d => x6 (ix2 d (y 1))) (fun d => x7 (ix2 d (y 1))) ⟨(y 2).val % 128 % 64, by omega⟩ := by
  rw [out9_eq]
  refine (canon_k _ y).trans ((kpair_apply ..).trans ?_)
  congr 1
  · funext d
    exact Q_apply ..
  · funext d
    unfold k0_pay8
    pointwise
  · funext d
    unfold k0_pay5
    pointwise
  · funext d
    unfold k0_pay6
    pointwise

/-- The third result's block at one entry. -/
theorem out10_apply (x0 : Vec Ideal S1x512x1024 .f32) (x1 : Vec Ideal S1x1024 .f32) (x2 : Vec Ideal S1536x1024 .bf16) (x3 : Vec Ideal S1024x1280 .bf16) (x4 x5 : Vec Ideal S64x1 .f32) (x6 x7 : Vec Ideal S32x512 .f32) (y : S1x4x2x128x256.Idx) :
    out0_10 x0 x1 x2 x3 x4 x5 x6 x7 y = Row.col (fun l => x0 (ix3 0 ⟨(y 2).val * 256 + (y 4).val, by have := (y 2).isLt; have := (y 4).isLt; simp at *; omega⟩ l)) (fun l => x1 (ix2 0 l)) (fun l => x2 (ix2 ⟨1024 + (y 1).val * 128 + (y 3).val, by have := (y 1).isLt; have := (y 3).isLt; simp at *; omega⟩ l)) := by
  rw [out10_eq]
  exact (canon_v _ y).trans ((vpair_apply ..).trans (Q_apply ..))

/-- The fourth result's block at one entry. -/
theorem out11_apply (x0 : Vec Ideal S1x512x1024 .f32) (x1 : Vec Ideal S1x1024 .f32) (x2 : Vec Ideal S1536x1024 .bf16) (x3 : Vec Ideal S1024x1280 .bf16) (x4 x5 : Vec Ideal S64x1 .f32) (x6 x7 : Vec Ideal S32x512 .f32) (y : S1x512x1280.Idx) :
    out0_11 x0 x1 x2 x3 x4 x5 x6 x7 y = Row.col (fun l => x0 (ix3 0 (y 1) l)) (fun l => x1 (ix2 0 l)) (fun l => x3 (ix2 l (y 2))) := by
  unfold out0_11
  frame_out
  unfold k0_pay3 k0_pay2 Row.col Row.norm
  pointwise

end Cert.Kernel4Ideal.Block
-- ==== Proof.ProjKer.lean ====
/- The kernel's four result arrays of the projection, of its arguments. -/
module

public import proofs.«01_k».proof.Proof.ProjBlk

@[expose] public section

set_option maxRecDepth 16384

noncomputable section

open Idealize.ShloMosaic Idealize.ShloMosaic.TcCoe Idealize.SL.Sem
open Idealize.ShloMosaic.Pipeline (Dat)

namespace Cert.Kernel4Ideal.RefValue

open Cert.Kernel4Ideal Cert.Kernel4Ideal.Gen

variable (m : (ℓ : Loc nD τ sig) → Buf (Elt Ideal) ℓ)

/-- Every window's block index at point `t`. -/
theorem idx : ∀ t : Fin cfg0.N, win0_0.index t = ![t.val / 16, t.val % 16, 0] ∧ win0_1.index t = ![0, 0] ∧ win0_2.index t = ![0, 0]
    ∧ win0_3.index t = ![0, 0] ∧ win0_4.index t = ![0, 0] ∧ win0_5.index t = ![0, 0] ∧ win0_6.index t = ![0, t.val % 16] ∧ win0_7.index t = ![0, t.val % 16]
    ∧ win0_8.index t = ![t.val / 16, 0, t.val % 16, 0, 0] ∧ win0_9.index t = ![t.val / 16, t.val % 16, 0] ∧ win0_10.index t = ![t.val / 16, 0, t.val % 16, 0, 0]
    ∧ win0_11.index t = ![t.val / 16, t.val % 16, 0] :=
  (by decide +kernel : ∀ t : Fin grid0.N, _)

/-- A row of the projection. -/
def row (a0 : Vec Ideal S2x8192x1024 .f32) (a1 : Vec Ideal S1024 .f32) (a2 : Vec Ideal S1024x2816 .f32) (b : Fin 2) (p : Fin 8192) (n : Fin 2816) : EReal :=
  Row.col (fun l => a0 (ix3 b p l)) (fun l => a1 (ix1 l)) (fun l => a2 (ix2 l n))

/-- The first result, of the arguments and the cosines and sines. -/
def res8 (a0 : Vec Ideal S2x8192x1024 .f32) (a1 : Vec Ideal S1024 .f32) (a2 : Vec Ideal S1024x2816 .f32) (a3 : Vec Ideal S64 .f32) (C S : Fin 32 → Fin 8192 → EReal) : Vec Ideal S2x4x32x128x256 .f32 := fun y =>
  Row.rope (fun d => row a0 a1 a2 (y 0) ⟨(y 2).val * 256 + (y 4).val, by have := (y 2).isLt; have := (y 4).isLt; simp at *; omega⟩ ⟨((y 1).val * 2 + (y 3).val / 64) * 64 + d.val, by have := (y 1).isLt; have := (y 3).isLt; simp at *; omega⟩)
    (fun d => a3 (ix1 d)) (fun d => C d ⟨(y 2).val * 256 + (y 4).val, by have := (y 2).isLt; have := (y 4).isLt; simp at *; omega⟩) (fun d => S d ⟨(y 2).val * 256 + (y 4).val, by have := (y 2).isLt; have := (y 4).isLt; simp at *; omega⟩) ⟨(y 3).val % 64, by omega⟩

/-- The second result. -/
def res9 (a0 : Vec Ideal S2x8192x1024 .f32) (a1 : Vec Ideal S1024 .f32) (a2 : Vec Ideal S1024x2816 .f32) (a4 : Vec Ideal S64 .f32) (C S : Fin 32 → Fin 8192 → EReal) : Vec Ideal S2x8192x512 .bf16 := fun y =>
  Row.rope (fun d => row a0 a1 a2 (y 0) (y 1) ⟨512 + (y 2).val / 64 * 64 + d.val, by have := (y 2).isLt; simp at *; omega⟩)
    (fun d => a4 (ix1 d)) (fun d => C d (y 1)) (fun d => S d (y 1)) ⟨(y 2).val % 64, by omega⟩

/-- The third result. -/
def res10 (a0 : Vec Ideal S2x8192x1024 .f32) (a1 : Vec Ideal S1024 .f32) (a2 : Vec Ideal S1024x2816 .f32) : Vec Ideal S2x4x32x128x256 .bf16 := fun y =>
  row a0 a1 a2 (y 0) ⟨(y 2).val * 256 + (y 4).val, by have := (y 2).isLt; have := (y 4).isLt; simp at *; omega⟩ ⟨1024 + (y 1).val * 128 + (y 3).val, by have := (y 1).isLt; have := (y 3).isLt; simp at *; omega⟩

/-- The fourth result. -/
def res11 (a0 : Vec Ideal S2x8192x1024 .f32) (a1 : Vec Ideal S1024 .f32) (a2 : Vec Ideal S1024x2816 .f32) : Vec Ideal S2x8192x1280 .f32 := fun y =>
  row a0 a1 a2 (y 0) (y 1) ⟨1536 + (y 2).val, by have := (y 2).isLt; simp at *; omega⟩

/-- The angles: each position times each frequency. -/
def angles : FVec Ideal S8192x32 .f32 :=
  mulf (broadcastInDim S8192x32 ![0, 1] bcast_S8192x1_S8192x32_0_1 (broadcastInDim S8192x1 ![0] bcast_S8192_S8192x1_0 (sitofp .f32 (iotaInDim S8192 32 0))))
    (broadcastInDim S8192x32 ![0, 1] bcast_S1x32_S8192x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- Their cosines. -/
def C (d : Fin 32) (p : Fin 8192) : EReal := (Host.cos angles : FVec Ideal S8192x32 .f32) (ix2 p d)

/-- Their sines. -/
def S (d : Fin 32) (p : Fin 8192) : EReal := (Host.sin angles : FVec Ideal S8192x32 .f32) (ix2 p d)

set_option maxHeartbeats 2000000 in
theorem V_w (c : Dev nD) : V m c main_v19 = fun j => m ((c : Thread nD τ).loc main_arg2) (ix2 (j 1) ⟨(j 0).val, by have := (j 0).isLt; simp at *; omega⟩) := by
  entry_read
  funext j
  pointwise

set_option maxHeartbeats 2000000 in
theorem V_r (c : Dev nD) : V m c main_v20 = fun j => m ((c : Thread nD τ).loc main_arg2) (ix2 (j 0) ⟨1536 + (j 1).val, by have := (j 1).isLt; simp at *; omega⟩) := by
  entry_read
  funext j
  pointwise

set_option maxHeartbeats 2000000 in
theorem V_cos (c : Dev nD) : V m c main_v14 = fun j => C (j 0) (j 1) := by
  entry_read
  change transpose S32x8192 [1, 0] (Host.cos angles : FVec Ideal S8192x32 .f32) transposes_S8192x32_S32x8192_1_0 = _
  unfold C
  generalize (Host.cos angles : FVec Ideal S8192x32 .f32) = v
  funext j
  pointwise

set_option maxHeartbeats 2000000 in
theorem V_sin (c : Dev nD) : V m c main_v16 = fun j => S (j 0) (j 1) := by
  entry_read
  change transpose S32x8192 [1, 0] (Host.sin angles : FVec Ideal S8192x32 .f32) transposes_S8192x32_S32x8192_1_0 = _
  unfold S
  generalize (Host.sin angles : FVec Ideal S8192x32 .f32) = v
  funext j
  pointwise

set_option maxHeartbeats 2000000 in
theorem V_g (c : Dev nD) : V m c main_v21 = fun j => m ((c : Thread nD τ).loc main_arg1) (ix1 (j 1)) := by
  entry_read
  funext j
  pointwise

set_option maxHeartbeats 2000000 in
theorem V_q (c : Dev nD) : V m c main_v22 = fun j => m ((c : Thread nD τ).loc main_arg3) (ix1 (j 0)) := by
  entry_read
  funext j
  pointwise

set_option maxHeartbeats 2000000 in
theorem V_k (c : Dev nD) : V m c main_v23 = fun j => m ((c : Thread nD τ).loc main_arg4) (ix1 (j 0)) := by
  entry_read
  funext j
  pointwise

theorem blk_0 (c : Dev nD) (t : Fin cfg0.N) (j : S1x512x1024.Idx) : iblk m c 0 t j = m ((c : Thread nD τ).loc main_arg0) (ix3 ⟨t.val / 16, by have : t.val < 32 := t.isLt; omega⟩ ⟨t.val % 16 * 512 + (j 1).val, by have := (j 1).isLt; simp at *; omega⟩ (j 2)) := by
  unfold iblk
  change ((cfg0.win 0).blk t).view.read (Elt Ideal) (V m c main_arg0) j = _
  rw [V_main_arg0]
  blk_ext! [idx t]

theorem blk_1 (c : Dev nD) (t : Fin cfg0.N) (j : S1x1024.Idx) : iblk m c 1 t j = m ((c : Thread nD τ).loc main_arg1) (ix1 (j 1)) := by
  unfold iblk
  change ((cfg0.win 1).blk t).view.read (Elt Ideal) (V m c main_v21) j = _
  rw [V_g]
  blk_ext! [idx t]

theorem blk_2 (c : Dev nD) (t : Fin cfg0.N) (j : S1536x1024.Idx) : iblk m c 2 t j = m ((c : Thread nD τ).loc main_arg2) (ix2 (j 1) ⟨(j 0).val, by have := (j 0).isLt; simp at *; omega⟩) := by
  unfold iblk
  change ((cfg0.win 2).blk t).view.read (Elt Ideal) (V m c main_v19) j = _
  rw [V_w]
  blk_ext! [idx t]

theorem blk_3 (c : Dev nD) (t : Fin cfg0.N) (j : S1024x1280.Idx) : iblk m c 3 t j = m ((c : Thread nD τ).loc main_arg2) (ix2 (j 0) ⟨1536 + (j 1).val, by have := (j 1).isLt; simp at *; omega⟩) := by
  unfold iblk
  change ((cfg0.win 3).blk t).view.read (Elt Ideal) (V m c main_v20) j = _
  rw [V_r]
  blk_ext! [idx t]

theorem blk_4 (c : Dev nD) (t : Fin cfg0.N) (j : S64x1.Idx) : iblk m c 4 t j = m ((c : Thread nD τ).loc main_arg3) (ix1 (j 0)) := by
  unfold iblk
  change ((cfg0.win 4).blk t).view.read (Elt Ideal) (V m c main_v22) j = _
  rw [V_q]
  blk_ext! [idx t]

theorem blk_5 (c : Dev nD) (t : Fin cfg0.N) (j : S64x1.Idx) : iblk m c 5 t j = m ((c : Thread nD τ).loc main_arg4) (ix1 (j 0)) := by
  unfold iblk
  change ((cfg0.win 5).blk t).view.read (Elt Ideal) (V m c main_v23) j = _
  rw [V_k]
  blk_ext! [idx t]

theorem blk_6 (c : Dev nD) (t : Fin cfg0.N) (j : S32x512.Idx) : iblk m c 6 t j = C (j 0) ⟨t.val % 16 * 512 + (j 1).val, by have := (j 1).isLt; simp at *; omega⟩ := by
  unfold iblk
  change ((cfg0.win 6).blk t).view.read (Elt Ideal) (V m c main_v14) j = _
  rw [V_cos]
  generalize C = f
  refine congrArg₂ f (Fin.ext ?_) (Fin.ext ?_)
  · blk_simp
    simp [idx t]
  · blk_simp
    simp [idx t]

theorem blk_7 (c : Dev nD) (t : Fin cfg0.N) (j : S32x512.Idx) : iblk m c 7 t j = S (j 0) ⟨t.val % 16 * 512 + (j 1).val, by have := (j 1).isLt; simp at *; omega⟩ := by
  unfold iblk
  change ((cfg0.win 7).blk t).view.read (Elt Ideal) (V m c main_v16) j = _
  rw [V_sin]
  generalize S = f
  refine congrArg₂ f (Fin.ext ?_) (Fin.ext ?_)
  · blk_simp
    simp [idx t]
  · blk_simp
    simp [idx t]

end Cert.Kernel4Ideal.RefValue
-- ==== Proof.ProjFin.lean ====
/- The four result arrays after the run. -/
module

public import proofs.«01_k».proof.Proof.ProjKer

@[expose] public section

set_option maxRecDepth 16384

noncomputable section

open Idealize.ShloMosaic Idealize.ShloMosaic.TcCoe Idealize.SL.Sem
open Idealize.ShloMosaic.Pipeline (Dat)

namespace Cert.Kernel4Ideal.RefValue

open Cert.Kernel4Ideal Cert.Kernel4Ideal.Gen

variable (m : (ℓ : Loc nD τ sig) → Buf (Elt Ideal) ℓ)

theorem rope_congr {t t' g g' : Fin 64 → EReal} {c c' s s' : Fin 32 → EReal} {d d' : Fin 64} (ht : ∀ e, t e = t' e) (hg : ∀ e, g e = g' e) (hc : ∀ e, c e = c' e) (hs : ∀ e, s e = s' e) (hd : d.val = d'.val) :
    Row.rope t g c s d = Row.rope t' g' c' s' d' := by
  obtain rfl := funext ht
  obtain rfl := funext hg
  obtain rfl := funext hc
  obtain rfl := funext hs
  obtain rfl := Fin.ext hd
  rfl

theorem col_congr {x x' g g' w w' : Fin 1024 → EReal} (hx : ∀ l, x l = x' l) (hg : ∀ l, g l = g' l) (hw : ∀ l, w l = w' l) : Row.col x g w = Row.col x' g' w' := by
  obtain rfl := funext hx
  obtain rfl := funext hg
  obtain rfl := funext hw
  rfl

theorem at1 {n : ℕ} {α : Type} (f : Fin n → α) {a a' : Fin n} (h : a.val = a'.val) : f a = f a' := congrArg f (Fin.ext h)

/-- An entry of the input, of equal coordinates. -/
theorem at_x (f : S2x8192x1024.Idx → EReal) {a a' : Fin 2} {b b' : Fin 8192} {l l' : Fin 1024} (ha : a.val = a'.val) (hb : b.val = b'.val) (hl : l.val = l'.val) : f (ix3 a b l) = f (ix3 a' b' l') := by
  obtain rfl := Fin.ext ha
  obtain rfl := Fin.ext hb
  obtain rfl := Fin.ext hl
  rfl

/-- An entry of the weight, of equal coordinates. -/
theorem at_w (f : S1024x2816.Idx → EReal) {l l' : Fin 1024} {a a' : Fin 2816} (hl : l.val = l'.val) (ha : a.val = a'.val) : f (ix2 l a) = f (ix2 l' a') := by
  obtain rfl := Fin.ext ha
  obtain rfl := Fin.ext hl
  rfl

theorem at_0 (c : Dev nD) (t : Fin cfg0.N) (b : Fin 1) (r : Fin 512) (l : Fin 1024) : iblk m c 0 t (ix3 b r l) = m ((c : Thread nD τ).loc main_arg0) (ix3 ⟨t.val / 16, by have : t.val < 32 := t.isLt; omega⟩ ⟨t.val % 16 * 512 + r.val, by omega⟩ l) := blk_0 m c t (ix3 b r l)

theorem at_1 (c : Dev nD) (t : Fin cfg0.N) (b : Fin 1) (l : Fin 1024) : iblk m c 1 t (ix2 b l) = m ((c : Thread nD τ).loc main_arg1) (ix1 l) := blk_1 m c t (ix2 b l)

theorem at_2 (c : Dev nD) (t : Fin cfg0.N) (n : Fin 1536) (l : Fin 1024) : iblk m c 2 t (ix2 n l) = m ((c : Thread nD τ).loc main_arg2) (ix2 l ⟨n.val, by omega⟩) := blk_2 m c t (ix2 n l)

theorem at_3 (c : Dev nD) (t : Fin cfg0.N) (l : Fin 1024) (n : Fin 1280) : iblk m c 3 t (ix2 l n) = m ((c : Thread nD τ).loc main_arg2) (ix2 l ⟨1536 + n.val, by omega⟩) := blk_3 m c t (ix2 l n)

theorem at_4 (c : Dev nD) (t : Fin cfg0.N) (d : Fin 64) (b : Fin 1) : iblk m c 4 t (ix2 d b) = m ((c : Thread nD τ).loc main_arg3) (ix1 d) := blk_4 m c t (ix2 d b)

theorem at_5 (c : Dev nD) (t : Fin cfg0.N) (d : Fin 64) (b : Fin 1) : iblk m c 5 t (ix2 d b) = m ((c : Thread nD τ).loc main_arg4) (ix1 d) := blk_5 m c t (ix2 d b)

theorem at_6 (c : Dev nD) (t : Fin cfg0.N) (d : Fin 32) (r : Fin 512) : iblk m c 6 t (ix2 d r) = C d ⟨t.val % 16 * 512 + r.val, by omega⟩ := blk_6 m c t (ix2 d r)

theorem at_7 (c : Dev nD) (t : Fin cfg0.N) (d : Fin 32) (r : Fin 512) : iblk m c 7 t (ix2 d r) = S d ⟨t.val % 16 * 512 + r.val, by omega⟩ := blk_7 m c t (ix2 d r)

set_option maxHeartbeats 1000000 in
theorem final11 (c : Dev nD) : (dats m 0 c).arrAt 11 cfg0.N = res11 (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp
  rw [after0_11, Block.out11_apply]
  have e0 : ((win0_11.blk t).view.emb y 0).val = t.val / 16 := by blk_simp; simp [idx t]
  have e1 : ((win0_11.blk t).view.emb y 1).val = t.val % 16 * 512 + (y 1).val := by blk_simp; simp [idx t]
  have e2 : ((win0_11.blk t).view.emb y 2).val = (y 2).val := by blk_simp; simp [idx t]
  unfold res11 row
  refine col_congr (fun l => ?_) (fun l => ?_) (fun l => ?_)
  · refine (at_0 ..).trans ?_
    exact at_x _ (by simp only [e0, e1, e2]) (by simp only [e0, e1, e2] <;> omega) rfl
  · exact at_1 ..
  · refine (at_3 ..).trans ?_
    exact at_w _ rfl (by simp only [e0, e1, e2] <;> omega)

set_option maxHeartbeats 1000000 in
theorem final10 (c : Dev nD) : (dats m 0 c).arrAt 10 cfg0.N = res10 (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10, Block.out10_apply]
  have e0 : ((win0_10.blk t).view.emb y 0).val = t.val / 16 := by blk_simp; simp [idx t]
  have e1 : ((win0_10.blk t).view.emb y 1).val = (y 1).val := by blk_simp; simp [idx t]
  have e2 : ((win0_10.blk t).view.emb y 2).val = t.val % 16 * 2 + (y 2).val := by blk_simp; simp [idx t]
  have e3 : ((win0_10.blk t).view.emb y 3).val = (y 3).val := by blk_simp; simp [idx t]
  have e4 : ((win0_10.blk t).view.emb y 4).val = (y 4).val := by blk_simp; simp [idx t]
  unfold res10 row
  refine col_congr (fun l => ?_) (fun l => ?_) (fun l => ?_)
  · refine (at_0 ..).trans ?_
    exact at_x _ (by simp only [e0, e1, e2, e3, e4]) (by simp only [e0, e1, e2, e3, e4] <;> omega) rfl
  · exact at_1 ..
  · refine (at_2 ..).trans ?_
    exact at_w _ rfl (by simp only [e0, e1, e2, e3, e4] <;> omega)

set_option maxHeartbeats 1000000 in
theorem final8 (c : Dev nD) : (dats m 0 c).arrAt 8 cfg0.N = res8 (m ((c : Thread nD τ).loc main_arg0)) (m ((c : Thread nD τ).loc main_arg1)) (m ((c : Thread nD τ).loc main_arg2)) (m ((c : Thread nD τ).loc main_arg3)) C S := by
  refine (dats m 0 c).arrAt_eq_of_covers 8 _ (by decide +kernel) fun t hf y => ?_
  blk_simp
  rw [after0_8, Block.out8_apply]
  have e0 : ((win0_8.blk t).view.emb y 0).val = t.val / 16 := by blk_simp; simp [idx t]
  have e1 : ((win0_8.blk t).view.emb y 1).val = (y 1).val := by blk_simp; simp [idx t]
  have e2 : ((win0_8.blk t).view.emb y 2).val = t.val % 16 * 2 + (y 2).val := by blk_simp; simp [idx t]
  have e3 : ((win0_8.blk t).view.emb y 3).val = (y 3).val := by blk_simp; simp [idx t]
  have e4 : ((win0_8.blk t).view.emb y 4).val = (y 4).val := by blk_simp; simp [idx t]
  unfold res8 row
  refine rope_congr (fun d => ?_) (fun d => ?_) (fun d => ?_) (fun d => ?_) ?_
  · refine col_congr (fun l => ?_) (fun l => ?_) (fun l => ?_)
    · refine (at_0 ..).trans ?_
      exact at_x _ (by simp only [e0, e1, e2, e3, e4]) (by simp only [e0, e1, e2, e3, e4] <;> omega) rfl
    · exact at_1 ..
    · refine (at_2 ..).trans ?_
      exact at_w _ rfl (by simp only [e0, e1, e2, e3, e4] <;> omega)
  · exact at_4 ..
  · refine (at_6 ..).trans ?_
    exact at1 _ (by simp only [e0, e1, e2, e3, e4] <;> omega)
  · refine (at_7 ..).trans ?_
    exact at1 _ (by simp only [e0, e1, e2, e3, e4] <;> omega)
  · simp only [e0, e1, e2, e3, e4]

set_option maxHeartbeats 1000000 in
theorem final9 (c : Dev nD) : (dats m 0 c).arrAt 9 cfg0.N = res9 (m ((c : Thread nD τ).loc main_arg0)) (m ((c : Thread nD τ).loc main_arg1)) (m ((c : Thread nD τ).loc main_arg2)) (m ((c : Thread nD τ).loc main_arg4)) C S := by
  refine (dats m 0 c).arrAt_eq_of_covers 9 _ (by decide +kernel) fun t hf y => ?_
  blk_simp
  rw [after0_9, Block.out9_apply]
  have e0 : ((win0_9.blk t).view.emb y 0).val = t.val / 16 := by blk_simp; simp [idx t]
  have e1 : ((win0_9.blk t).view.emb y 1).val = t.val % 16 * 512 + (y 1).val := by blk_simp; simp [idx t]
  have e2 : ((win0_9.blk t).view.emb y 2).val = (y 2).val := by blk_simp; simp [idx t]
  unfold res9 row
  refine rope_congr (fun d => ?_) (fun d => ?_) (fun d => ?_) (fun d => ?_) ?_
  · refine col_congr (fun l => ?_) (fun l => ?_) (fun l => ?_)
    · refine (at_0 ..).trans ?_
      exact at_x _ (by simp only [e0, e1, e2]) (by simp only [e0, e1, e2] <;> omega) rfl
    · exact at_1 ..
    · refine (at_2 ..).trans ?_
      exact at_w _ rfl (by simp only [e0, e1, e2] <;> omega)
  · exact at_5 ..
  · refine (at_6 ..).trans ?_
    exact at1 _ (by simp only [e0, e1, e2] <;> omega)
  · refine (at_7 ..).trans ?_
    exact at1 _ (by simp only [e0, e1, e2] <;> omega)
  · simp only [e0, e1, e2]
    omega

end Cert.Kernel4Ideal.RefValue
-- ==== Proof.Proj.lean ====
/- The reference's four results of the projection, and the claim. -/
module

public import proofs.«01_k».proof.Proof.ProjFin
public import proofs.«01_k».proof.Defs

@[expose] public section

set_option maxRecDepth 16384

noncomputable section

open Idealize.ShloMosaic Idealize.ShloMosaic.TcCoe Idealize.SL.Sem
open Idealize.ShloMosaic.Pipeline (Dat)

namespace Cert.Reference4Ideal.RefValue

open Cert.Reference4Ideal Cert.Reference4Ideal.Gen Cert.Reference4Ideal.Value

/-- The reference's projection of the normed rows. -/
def pr (a0 : Vec Ideal S2x8192x1024 .f32) (a1 : Vec Ideal S1024 .f32) (a2 : Vec Ideal S1024x2816 .f32) : FVec Ideal S2x8192x2816 .f32 :=
  Host.dotGeneral (φ₂ := .f32) dot_S2x8192x1024_S1024x2816_S2x8192x2816_2_0_01_1_n_n none (mulf (mulf a0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf a0 a0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 a1))) a2

/-- The query heads. -/
def hq (P : FVec Ideal S2x8192x2816 .f32) : FVec Ideal S2x8x8192x64 .f32 :=
  transpose S2x8x8192x64 [0, 2, 1, 3] (shapeCast _ (extractStridedSlice S2x8192x512 ![0, 0, 0] P slices_S2x8192x2816_S2x8192x512_0_0_0) shapeCasts_S2x8192x512_S2x8192x8x64) transposes_S2x8192x8x64_S2x8x8192x64_0_2_1_3

/-- The key heads. -/
def hk (P : FVec Ideal S2x8192x2816 .f32) : FVec Ideal S2x8x8192x64 .f32 :=
  transpose S2x8x8192x64 [0, 2, 1, 3] (shapeCast _ (extractStridedSlice S2x8192x512 ![0, 0, 512] P slices_S2x8192x2816_S2x8192x512_0_0_512) shapeCasts_S2x8192x512_S2x8192x8x64) transposes_S2x8192x8x64_S2x8x8192x64_0_2_1_3

/-- The value heads. -/
def hv (P : FVec Ideal S2x8192x2816 .f32) : FVec Ideal S2x8x8192x64 .f32 :=
  transpose S2x8x8192x64 [0, 2, 1, 3] (shapeCast _ (extractStridedSlice S2x8192x512 ![0, 0, 1024] P slices_S2x8192x2816_S2x8192x512_0_0_1024) shapeCasts_S2x8192x512_S2x8192x8x64) transposes_S2x8192x8x64_S2x8x8192x64_0_2_1_3

/-- The heads after their norm. -/
def nm (T : FVec Ideal S2x8x8192x64 .f32) (g : Vec Ideal S64 .f32) : FVec Ideal S2x8x8192x64 .f32 :=
  mulf (mulf T (broadcastInDim S2x8x8192x64 ![0, 1, 2, 3] bcast_S2x8x8192x1_S2x8x8192x64_0_1_2_3 (Host.rsqrt (addf (Host.divf (broadcastInDim S2x8x8192x1 ![0, 1, 2] bcast_S2x8x8192_S2x8x8192x1_0_1_2 (Host.reduceAdd (mulf T T) (constant S_ .f32 0x00000000#32) reducesTo_S2x8x8192x64_S2x8x8192_d3 h_S_)) (broadcastInDim S2x8x8192x1 ![] bcast_S_S2x8x8192x1 (constant S_ .f32 0x42800000#32))) (broadcastInDim S2x8x8192x1 ![] bcast_S_S2x8x8192x1 (constant S_ .f32 0x358637BD#32)))))) (broadcastInDim S2x8x8192x64 ![0, 1, 2, 3] bcast_S1x1x1x64_S2x8x8192x64_0_1_2_3 (broadcastInDim S1x1x1x64 ![3] bcast_S64_S1x1x1x64_3 g))

/-- The normed heads, turned. -/
def ro (N : FVec Ideal S2x8x8192x64 .f32) (co si : FVec Ideal S8192x32 .f32) : FVec Ideal S2x8x8192x64 .f32 :=
  concatenate S2x8x8192x64 3 [⟨S2x8x8192x32, (subf (mulf (extractStridedSlice S2x8x8192x32 ![0, 0, 0, 0] N slices_S2x8x8192x64_S2x8x8192x32_0_0_0_0) (broadcastInDim S2x8x8192x32 ![0, 1, 2, 3] bcast_S1x1x8192x32_S2x8x8192x32_0_1_2_3 (broadcastInDim S1x1x8192x32 ![2, 3] bcast_S8192x32_S1x1x8192x32_2_3 co))) (mulf (extractStridedSlice S2x8x8192x32 ![0, 0, 0, 32] N slices_S2x8x8192x64_S2x8x8192x32_0_0_0_32) (broadcastInDim S2x8x8192x32 ![0, 1, 2, 3] bcast_S1x1x8192x32_S2x8x8192x32_0_1_2_3 (broadcastInDim S1x1x8192x32 ![2, 3] bcast_S8192x32_S1x1x8192x32_2_3 si))))⟩, ⟨S2x8x8192x32, (addf (mulf (extractStridedSlice S2x8x8192x32 ![0, 0, 0, 32] N slices_S2x8x8192x64_S2x8x8192x32_0_0_0_32) (broadcastInDim S2x8x8192x32 ![0, 1, 2, 3] bcast_S1x1x8192x32_S2x8x8192x32_0_1_2_3 (broadcastInDim S1x1x8192x32 ![2, 3] bcast_S8192x32_S1x1x8192x32_2_3 co))) (mulf (extractStridedSlice S2x8x8192x32 ![0, 0, 0, 0] N slices_S2x8x8192x64_S2x8x8192x32_0_0_0_0) (broadcastInDim S2x8x8192x32 ![0, 1, 2, 3] bcast_S1x1x8192x32_S2x8x8192x32_0_1_2_3 (broadcastInDim S1x1x8192x32 ![2, 3] bcast_S8192x32_S1x1x8192x32_2_3 si))))⟩] concatenates_S2x8x8192x32_S2x8x8192x32_S2x8x8192x64_d3

/-- Heads in blocks. -/
def bl (T : FVec Ideal S2x8x8192x64 .f32) : FVec Ideal S2x4x32x128x256 .f32 :=
  shapeCast _ (transpose S2x4x32x2x64x256 [0, 1, 3, 2, 5, 4] (shapeCast _ T shapeCasts_S2x8x8192x64_S2x4x2x32x256x64) transposes_S2x4x2x32x256x64_S2x4x32x2x64x256_0_1_3_2_5_4) shapeCasts_S2x4x32x2x64x256_S2x4x32x128x256

/-- Heads side by side. -/
def fl (T : FVec Ideal S2x8x8192x64 .f32) : FVec Ideal S2x8192x512 .f32 :=
  shapeCast _ (transpose S2x8192x8x64 [0, 2, 1, 3] T transposes_S2x8x8192x64_S2x8192x8x64_0_2_1_3) shapeCasts_S2x8192x8x64_S2x8192x512

theorem pr_apply (a0 : Vec Ideal S2x8192x1024 .f32) (a1 : Vec Ideal S1024 .f32) (a2 : Vec Ideal S1024x2816 .f32) (b : Fin 2) (s : Fin 8192) (n : Fin 2816) :
    pr a0 a1 a2 (ix3 b s n) = Cert.Kernel4Ideal.RefValue.row a0 a1 a2 b s n := by
  unfold pr Cert.Kernel4Ideal.RefValue.row Row.col Row.norm
  pointwise

theorem hq_apply (P : FVec Ideal S2x8192x2816 .f32) (b : Fin 2) (h : Fin 8) (s : Fin 8192) (d : Fin 64) : hq P (ix4 b h s d) = P (ix3 b s ⟨h.val * 64 + d.val, by omega⟩) := by
  unfold hq
  pointwise

theorem hk_apply (P : FVec Ideal S2x8192x2816 .f32) (b : Fin 2) (h : Fin 8) (s : Fin 8192) (d : Fin 64) : hk P (ix4 b h s d) = P (ix3 b s ⟨512 + (h.val * 64 + d.val), by omega⟩) := by
  unfold hk
  pointwise

theorem hv_apply (P : FVec Ideal S2x8192x2816 .f32) (b : Fin 2) (h : Fin 8) (s : Fin 8192) (d : Fin 64) : hv P (ix4 b h s d) = P (ix3 b s ⟨1024 + (h.val * 64 + d.val), by omega⟩) := by
  unfold hv
  pointwise

theorem nm_apply (T : FVec Ideal S2x8x8192x64 .f32) (g : Vec Ideal S64 .f32) (b : Fin 2) (h : Fin 8) (s : Fin 8192) (d : Fin 64) :
    nm T g (ix4 b h s d) = Row.headNorm (fun e => T (ix4 b h s e)) (fun e => g (ix1 e)) d := by
  unfold nm Row.headNorm
  pointwise

theorem ro_apply (T : FVec Ideal S2x8x8192x64 .f32) (g : Vec Ideal S64 .f32) (co si : FVec Ideal S8192x32 .f32) (b : Fin 2) (h : Fin 8) (s : Fin 8192) (d : Fin 64) :
    ro (nm T g) co si (ix4 b h s d) = Row.rope (fun e => T (ix4 b h s e)) (fun e => g (ix1 e)) (fun e => co (ix2 s e)) (fun e => si (ix2 s e)) d := by
  have e : ∀ x, nm T g (ix4 b h s x) = _ := nm_apply T g b h s
  unfold ro Row.rope
  generalize nm T g = n at e
  pointwise
  simp only [e]
  by_cases hd : d.val < 32
  · simp only [dif_pos hd]
  · simp only [dif_neg hd]
    have hj : (⟨32 + (d.val - 32), by omega⟩ : Fin 64) = d := Fin.ext (by simp only; omega)
    rw [hj]

theorem bl_apply (T : FVec Ideal S2x8x8192x64 .f32) (b : Fin 2) (p : Fin 4) (k : Fin 32) (r : Fin 128) (l : Fin 256) :
    bl T (ix5 b p k r l) = T (ix4 b ⟨p.val * 2 + r.val / 64, by omega⟩ ⟨k.val * 256 + l.val, by omega⟩ ⟨r.val % 64, by omega⟩) := by
  unfold bl
  pointwise

theorem fl_apply (T : FVec Ideal S2x8x8192x64 .f32) (b : Fin 2) (s : Fin 8192) (n : Fin 512) :
    fl T (ix3 b s n) = T (ix4 b ⟨n.val / 64, by omega⟩ s ⟨n.val % 64, by omega⟩) := by
  unfold fl
  pointwise

end Cert.Reference4Ideal.RefValue

namespace Cert.Proof.Proj

open Cert.Reference4Ideal Cert.Reference4Ideal.Gen Cert.Reference4Ideal.RefValue Cert.Kernel4Ideal.RefValue

theorem narrow_apply {s : Shape} (v : FVec Ideal s .f32) (j : s.Idx) : truncf .bf16 v bitsLt_bf16_f32 j = v j := by
  pointwise

/-- The first result. -/
theorem ref_q (a0 : Vec Ideal S2x8192x1024 .f32) (a1 : Vec Ideal S1024 .f32) (a2 : Vec Ideal S1024x2816 .f32) (a3 : Vec Ideal S64 .f32) :
    bl (ro (nm (hq (pr a0 a1 a2)) a3) (Host.cos angles) (Host.sin angles)) = res8 a0 a1 a2 a3 C S := by
  funext j
  obtain ⟨b, p, k, r, l, rfl⟩ : ∃ b p k r l, j = ix5 b p k r l := ⟨j 0, j 1, j 2, j 3, j 4, by funext k; fin_cases k <;> rfl⟩
  rw [bl_apply, ro_apply]
  unfold res8
  refine rope_congr (fun d => ?_) (fun d => rfl) (fun d => rfl) (fun d => rfl) rfl
  exact (hq_apply ..).trans (pr_apply ..)

/-- The second result. -/
theorem ref_k (a0 : Vec Ideal S2x8192x1024 .f32) (a1 : Vec Ideal S1024 .f32) (a2 : Vec Ideal S1024x2816 .f32) (a4 : Vec Ideal S64 .f32) :
    truncf .bf16 (fl (ro (nm (hk (pr a0 a1 a2)) a4) (Host.cos angles) (Host.sin angles))) bitsLt_bf16_f32 = res9 a0 a1 a2 a4 C S := by
  funext j
  obtain ⟨b, s, n, rfl⟩ : ∃ b s n, j = ix3 b s n := ⟨j 0, j 1, j 2, by funext k; fin_cases k <;> rfl⟩
  refine (narrow_apply ..).trans ?_
  rw [fl_apply, ro_apply]
  unfold res9
  refine rope_congr (fun d => ?_) (fun d => rfl) (fun d => rfl) (fun d => rfl) rfl
  refine ((hk_apply ..).trans (pr_apply ..)).trans (congrArg _ (Fin.ext ?_))
  show 512 + (n.val / 64 * 64 + d.val) = 512 + n.val / 64 * 64 + d.val
  omega

/-- The third result. -/
theorem ref_v (a0 : Vec Ideal S2x8192x1024 .f32) (a1 : Vec Ideal S1024 .f32) (a2 : Vec Ideal S1024x2816 .f32) :
    truncf .bf16 (bl (hv (pr a0 a1 a2))) bitsLt_bf16_f32 = res10 a0 a1 a2 := by
  funext j
  obtain ⟨b, p, k, r, l, rfl⟩ : ∃ b p k r l, j = ix5 b p k r l := ⟨j 0, j 1, j 2, j 3, j 4, by funext k; fin_cases k <;> rfl⟩
  refine (narrow_apply ..).trans ?_
  rw [bl_apply]
  unfold res10
  refine ((hv_apply ..).trans (pr_apply ..)).trans (congrArg _ (Fin.ext ?_))
  show 1024 + ((p.val * 2 + r.val / 64) * 64 + r.val % 64) = 1024 + p.val * 128 + r.val
  omega

/-- The fourth result. -/
theorem ref_r (a0 : Vec Ideal S2x8192x1024 .f32) (a1 : Vec Ideal S1024 .f32) (a2 : Vec Ideal S1024x2816 .f32) :
    extractStridedSlice S2x8192x1280 ![0, 0, 1536] (pr a0 a1 a2) slices_S2x8192x2816_S2x8192x1280_0_0_1536 = res11 a0 a1 a2 := by
  funext j
  obtain ⟨b, s, n, rfl⟩ : ∃ b s n, j = ix3 b s n := ⟨j 0, j 1, j 2, by funext k; fin_cases k <;> rfl⟩
  have e : ∀ n, pr a0 a1 a2 (ix3 b s n) = _ := pr_apply a0 a1 a2 b s
  unfold res11
  generalize pr a0 a1 a2 = P at e
  pointwise
  exact e _

/-- Over the extended reals the kernel's four result arrays are the reference's. -/
theorem algebraic : Cert.algebraic_Kernel4Ideal_Reference4Ideal := by
  pair_intro
  · run_from Cert.Kernel4Ideal.Value.run_blocks m g
  · run_from Cert.Reference4Ideal.Value.run m' g'
    · rw [final8 m c]
      obtain ⟨h0, h1, h2, h3, h4⟩ := hagree c
      refine ((ref_q ..).symm.trans ?_ : _ = _).symm
      rw [← h0, ← h1, ← h2, ← h3]
      rfl
    · rw [final9 m c]
      obtain ⟨h0, h1, h2, h3, h4⟩ := hagree c
      refine ((ref_k ..).symm.trans ?_ : _ = _).symm
      rw [← h0, ← h1, ← h2, ← h4]
      rfl
    · rw [final10 m c]
      exact ref_v ..
    · rw [final11 m c]
      exact ref_r ..

end Cert.Proof.Proj
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Ffn3
public import proofs.«01_k».proof.Proof.Gen.Pre_finite_gates
public import proofs.«01_k».proof.Proof.Mix
public import proofs.«01_k».proof.Proof.Proj
public import Idealize.ShloMosaic.Adequacy
public import Idealize.ShloMosaic.Init

@[expose] public section

noncomputable section

namespace Cert.Proof

open Idealize.ShloMosaic Idealize.SL.Sem

/-- The reference's arguments are unchanged by its run, and no semaphore is left. -/
theorem ref : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

/-- The reference's arguments are unchanged by its run, and no semaphore is left. -/
theorem ref2 : Cert.quiescent_Reference2Ideal := fun m ρ _ =>
  (θ_run Cert.Reference2Ideal.defs _ _).mono (fun r h => ⟨fun c => (h c).2, sem_eq_zero_of_no_sems rfl r.2⟩) (Cert.Reference2Ideal.Value.run (F := Ideal) m ρ)

/-- The reference's arguments are unchanged by its run, and no semaphore is left. -/
theorem ref3 : Cert.quiescent_Reference3Ideal := fun m ρ _ =>
  (θ_run Cert.Reference3Ideal.defs _ _).mono (fun r h => ⟨fun c => (h c).2.2.2.2, sem_eq_zero_of_no_sems rfl r.2⟩) (Cert.Reference3Ideal.Value.run (F := Ideal) m ρ)

/-- The reference's arguments are unchanged by its run, and no semaphore is left. -/
theorem ref4 : Cert.quiescent_Reference4Ideal := fun m ρ _ =>
  (θ_run Cert.Reference4Ideal.defs _ _).mono (fun r h => ⟨fun c => (h c).2.2.2.2, sem_eq_zero_of_no_sems rfl r.2⟩) (Cert.Reference4Ideal.Value.run (F := Ideal) m ρ)

/-- The one named constant is the number it stands for. -/
theorem preserves_log2_e : Cert.preserves_Kernel_KernelIdeal :=
  IdealRules.named_const.statement Cert.KernelIdeal.κ "log2_e" .f32 0x3FB8AA3B#32 (((Real.log 2)⁻¹ : ℝ) : EReal) rfl

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite_gates.Gen.facts,
    fun m ρ _ => Cert.Kernel.Gen.frame m ρ,
    fun m ρ _ => Cert.KernelIdeal.Gen.frame m ρ,
    fun m ρ _ => Cert.KernelIdeal.Gen.frame m ρ,
    ref,
    fun m ρ _ => ref m ρ trivial,
    fun m ρ _ => Cert.Kernel2.Gen.frame m ρ,
    fun m ρ _ => Cert.Kernel2Ideal.Gen.frame m ρ,
    ref2,
    fun m ρ _ => Cert.Kernel3.Gen.frame m ρ,
    fun m ρ _ => Cert.Kernel3Ideal.Gen.frame m ρ,
    ref3,
    fun m ρ _ => Cert.Kernel4.Gen.frame m ρ,
    fun m ρ _ => Cert.Kernel4Ideal.Gen.frame m ρ,
    ref4,
    preserves_log2_e, Mix.algebraic, trivial, Ffn2.algebraic, trivial, Ffn3.algebraic, trivial, Proj.algebraic⟩

end Cert.Proof

end
